-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v294) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8x8448x80 : Shape := ⟨3, ![8, 8448, 80]⟩
abbrev S8x8448x4 : Shape := ⟨3, ![8, 8448, 4]⟩
abbrev S8x8448x68 : Shape := ⟨3, ![8, 8448, 68]⟩
abbrev S8448x2 : Shape := ⟨2, ![8448, 2]⟩
abbrev S8x50x4 : Shape := ⟨3, ![8, 50, 4]⟩
abbrev S8x50x1 : Shape := ⟨3, ![8, 50, 1]⟩
abbrev S1x8448x1x2 : Shape := ⟨4, ![1, 8448, 1, 2]⟩
abbrev S8x50x2 : Shape := ⟨3, ![8, 50, 2]⟩
abbrev S8x1x50x2 : Shape := ⟨4, ![8, 1, 50, 2]⟩
abbrev S8x8448x50x2 : Shape := ⟨4, ![8, 8448, 50, 2]⟩
abbrev S8x8448x50x4 : Shape := ⟨4, ![8, 8448, 50, 4]⟩
abbrev S_ : Shape := ⟨0, ![]⟩
abbrev S8x8448x50 : Shape := ⟨3, ![8, 8448, 50]⟩
abbrev S8x50 : Shape := ⟨2, ![8, 50]⟩
abbrev S8x1x50 : Shape := ⟨3, ![8, 1, 50]⟩
abbrev S8x8448x50x1 : Shape := ⟨4, ![8, 8448, 50, 1]⟩
abbrev S8x8448x1 : Shape := ⟨3, ![8, 8448, 1]⟩
abbrev S8x8448 : Shape := ⟨2, ![8, 8448]⟩
abbrev S8x50x8448 : Shape := ⟨3, ![8, 50, 8448]⟩
abbrev S8x50x14 : Shape := ⟨3, ![8, 50, 14]⟩
abbrev S8x50x13 : Shape := ⟨3, ![8, 50, 13]⟩
abbrev S8x50x13x1 : Shape := ⟨4, ![8, 50, 13, 1]⟩
abbrev S8448 : Shape := ⟨1, ![8448]⟩
abbrev S1x1x1x8448 : Shape := ⟨4, ![1, 1, 1, 8448]⟩
abbrev S8x50x13x8448 : Shape := ⟨4, ![8, 50, 13, 8448]⟩
abbrev S50 : Shape := ⟨1, ![50]⟩
abbrev S8x50x1x8448 : Shape := ⟨4, ![8, 50, 1, 8448]⟩
abbrev S8x1x50x8448 : Shape := ⟨4, ![8, 1, 50, 8448]⟩
abbrev S8x50x50x8448 : Shape := ⟨4, ![8, 50, 50, 8448]⟩
abbrev S50x1 : Shape := ⟨2, ![50, 1]⟩
abbrev S1x50 : Shape := ⟨2, ![1, 50]⟩
abbrev S50x50 : Shape := ⟨2, ![50, 50]⟩
abbrev S1x50x50x1 : Shape := ⟨4, ![1, 50, 50, 1]⟩
abbrev S8x50x50 : Shape := ⟨3, ![8, 50, 50]⟩
abbrev S8x50x50x1 : Shape := ⟨4, ![8, 50, 50, 1]⟩
abbrev S8x49 : Shape := ⟨2, ![8, 49]⟩

class Facts : Prop where
  bcast_S8448x2_S1x8448x1x2_1_3 : S8448x2.BroadcastsInDim S1x8448x1x2 (![1, 3] : Fin 2 → Fin S1x8448x1x2.rank)
  slices_S8x50x4_S8x50x2_0_0_0 : S8x50x4.Slices ![0, 0, 0] S8x50x2
  bcast_S8x50x2_S8x1x50x2_0_2_3 : S8x50x2.BroadcastsInDim S8x1x50x2 (![0, 2, 3] : Fin 3 → Fin S8x1x50x2.rank)
  bcast_S1x8448x1x2_S8x8448x50x2_0_1_2_3 : S1x8448x1x2.BroadcastsInDim S8x8448x50x2 (![0, 1, 2, 3] : Fin 4 → Fin S8x8448x50x2.rank)
  bcast_S8x1x50x2_S8x8448x50x2_0_1_2_3 : S8x1x50x2.BroadcastsInDim S8x8448x50x2 (![0, 1, 2, 3] : Fin 4 → Fin S8x8448x50x2.rank)
  slices_S8x50x4_S8x50x2_0_0_2 : S8x50x4.Slices ![0, 0, 2] S8x50x2
  concatenates_S8x8448x50x2_S8x8448x50x2_S8x8448x50x4_d3 : Shape.Concatenates [S8x8448x50x2, S8x8448x50x2] S8x8448x50x4 3
  reducesTo_S8x8448x50x4_S8x8448x50_d3 : S8x8448x50x4.ReducesTo [3] S8x8448x50
  h_S_ : 0 < S_.numel
  bcast_S_S8x8448x50 : S_.BroadcastsInDim S8x8448x50 (![] : Fin 0 → Fin S8x8448x50.rank)
  shapeCasts_S8x50x1_S8x50 : S8x50x1.ShapeCasts S8x50
  bcast_S_S8x50 : S_.BroadcastsInDim S8x50 (![] : Fin 0 → Fin S8x50.rank)
  bcast_S8x50_S8x1x50_0_2 : S8x50.BroadcastsInDim S8x1x50 (![0, 2] : Fin 2 → Fin S8x1x50.rank)
  bcast_S8x1x50_S8x8448x50_0_1_2 : S8x1x50.BroadcastsInDim S8x8448x50 (![0, 1, 2] : Fin 3 → Fin S8x8448x50.rank)
  shapeCasts_S8x8448x50_S8x8448x50x1 : S8x8448x50.ShapeCasts S8x8448x50x1
  slices_S8x8448x4_S8x8448x1_0_0_2 : S8x8448x4.Slices ![0, 0, 2] S8x8448x1
  shapeCasts_S8x8448x1_S8x8448 : S8x8448x1.ShapeCasts S8x8448
  slices_S8x8448x4_S8x8448x1_0_0_0 : S8x8448x4.Slices ![0, 0, 0] S8x8448x1
  slices_S8x8448x4_S8x8448x1_0_0_3 : S8x8448x4.Slices ![0, 0, 3] S8x8448x1
  slices_S8x8448x4_S8x8448x1_0_0_1 : S8x8448x4.Slices ![0, 0, 1] S8x8448x1
  slices_S8x50x4_S8x50x1_0_0_2 : S8x50x4.Slices ![0, 0, 2] S8x50x1
  slices_S8x50x4_S8x50x1_0_0_0 : S8x50x4.Slices ![0, 0, 0] S8x50x1
  slices_S8x50x4_S8x50x1_0_0_3 : S8x50x4.Slices ![0, 0, 3] S8x50x1
  slices_S8x50x4_S8x50x1_0_0_1 : S8x50x4.Slices ![0, 0, 1] S8x50x1
  bcast_S8x8448_S8x8448x1_0_1 : S8x8448.BroadcastsInDim S8x8448x1 (![0, 1] : Fin 2 → Fin S8x8448x1.rank)
  bcast_S8x8448x1_S8x8448x50_0_1_2 : S8x8448x1.BroadcastsInDim S8x8448x50 (![0, 1, 2] : Fin 3 → Fin S8x8448x50.rank)
  transposes_S8x50x1_S8x1x50_0_2_1 : S8x50x1.Transposes [0, 2, 1] S8x1x50
  transposes_S8x8448x50_S8x50x8448_0_2_1 : S8x8448x50.Transposes [0, 2, 1] S8x50x8448
  sliceFits_S8x50x8448_S8x50x14 : S8x50x8448.Slices (fun _ => 0) S8x50x14
  slices_S8x50x14_S8x50x13_0_0_0 : S8x50x14.Slices ![0, 0, 0] S8x50x13
  slices_S8x50x14_S8x50x13_0_0_1 : S8x50x14.Slices ![0, 0, 1] S8x50x13
  bcast_S_S8x50x13 : S_.BroadcastsInDim S8x50x13 (![] : Fin 0 → Fin S8x50x13.rank)
  sliceFits_S8x50x8448_S8x50x13 : S8x50x8448.Slices (fun _ => 0) S8x50x13
  bcast_S8x50x13_S8x50x13x1_0_1_2 : S8x50x13.BroadcastsInDim S8x50x13x1 (![0, 1, 2] : Fin 3 → Fin S8x50x13x1.rank)
  bcast_S8448_S1x1x1x8448_3 : S8448.BroadcastsInDim S1x1x1x8448 (![3] : Fin 1 → Fin S1x1x1x8448.rank)
  bcast_S8x50x13x1_S8x50x13x8448_0_1_2_3 : S8x50x13x1.BroadcastsInDim S8x50x13x8448 (![0, 1, 2, 3] : Fin 4 → Fin S8x50x13x8448.rank)
  bcast_S1x1x1x8448_S8x50x13x8448_0_1_2_3 : S1x1x1x8448.BroadcastsInDim S8x50x13x8448 (![0, 1, 2, 3] : Fin 4 → Fin S8x50x13x8448.rank)
  reducesTo_S8x50x13x8448_S8x50x8448_d2 : S8x50x13x8448.ReducesTo [2] S8x50x8448
  bcast_S_S8x50x8448 : S_.BroadcastsInDim S8x50x8448 (![] : Fin 0 → Fin S8x50x8448.rank)
  bcast_S8x50x8448_S8x50x1x8448_0_1_3 : S8x50x8448.BroadcastsInDim S8x50x1x8448 (![0, 1, 3] : Fin 3 → Fin S8x50x1x8448.rank)
  bcast_S8x50x8448_S8x1x50x8448_0_2_3 : S8x50x8448.BroadcastsInDim S8x1x50x8448 (![0, 2, 3] : Fin 3 → Fin S8x1x50x8448.rank)
  bcast_S8x50x1x8448_S8x50x50x8448_0_1_2_3 : S8x50x1x8448.BroadcastsInDim S8x50x50x8448 (![0, 1, 2, 3] : Fin 4 → Fin S8x50x50x8448.rank)
  bcast_S8x1x50x8448_S8x50x50x8448_0_1_2_3 : S8x1x50x8448.BroadcastsInDim S8x50x50x8448 (![0, 1, 2, 3] : Fin 4 → Fin S8x50x50x8448.rank)
  bcast_S_S8x50x1x8448 : S_.BroadcastsInDim S8x50x1x8448 (![] : Fin 0 → Fin S8x50x1x8448.rank)
  bcast_S50_S50x1_0 : S50.BroadcastsInDim S50x1 (![0] : Fin 1 → Fin S50x1.rank)
  bcast_S50_S1x50_1 : S50.BroadcastsInDim S1x50 (![1] : Fin 1 → Fin S1x50.rank)
  bcast_S50x1_S50x50_0_1 : S50x1.BroadcastsInDim S50x50 (![0, 1] : Fin 2 → Fin S50x50.rank)
  bcast_S1x50_S50x50_0_1 : S1x50.BroadcastsInDim S50x50 (![0, 1] : Fin 2 → Fin S50x50.rank)
  bcast_S50x50_S1x50x50x1_1_2 : S50x50.BroadcastsInDim S1x50x50x1 (![1, 2] : Fin 2 → Fin S1x50x50x1.rank)
  bcast_S1x50x50x1_S8x50x50x8448_0_1_2_3 : S1x50x50x1.BroadcastsInDim S8x50x50x8448 (![0, 1, 2, 3] : Fin 4 → Fin S8x50x50x8448.rank)
  reducesTo_S8x50x8448_S8x50_d2 : S8x50x8448.ReducesTo [2] S8x50
  bcast_S8x50_S8x50x1_0_1 : S8x50.BroadcastsInDim S8x50x1 (![0, 1] : Fin 2 → Fin S8x50x1.rank)
  bcast_S_S8x50x1 : S_.BroadcastsInDim S8x50x1 (![] : Fin 0 → Fin S8x50x1.rank)
  bcast_S8x50x1_S8x50x8448_0_1_2 : S8x50x1.BroadcastsInDim S8x50x8448 (![0, 1, 2] : Fin 3 → Fin S8x50x8448.rank)
  bcast_S8x50x1_S8x50x50_0_1_2 : S8x50x1.BroadcastsInDim S8x50x50 (![0, 1, 2] : Fin 3 → Fin S8x50x50.rank)
  bcast_S8x1x50_S8x50x50_0_1_2 : S8x1x50.BroadcastsInDim S8x50x50 (![0, 1, 2] : Fin 3 → Fin S8x50x50.rank)
  bcast_S8x50x50_S8x50x50x1_0_1_2 : S8x50x50.BroadcastsInDim S8x50x50x1 (![0, 1, 2] : Fin 3 → Fin S8x50x50x1.rank)
  bcast_S1x50x50x1_S8x50x50x1_0_1_2_3 : S1x50x50x1.BroadcastsInDim S8x50x50x1 (![0, 1, 2, 3] : Fin 4 → Fin S8x50x50x1.rank)
  bcast_S8x50x50x1_S8x50x50x8448_0_1_2_3 : S8x50x50x1.BroadcastsInDim S8x50x50x8448 (![0, 1, 2, 3] : Fin 4 → Fin S8x50x50x8448.rank)
  reducesTo_S8x8448x50_S_d0_1_2 : S8x8448x50.ReducesTo [0, 1, 2] S_
  reducesTo_S8x50x13_S_d0_1_2 : S8x50x13.ReducesTo [0, 1, 2] S_
  reducesTo_S8x50x50x8448_S_d0_1_2_3 : S8x50x50x8448.ReducesTo [0, 1, 2, 3] S_
  bcast_S_S8x8448x68 : S_.BroadcastsInDim S8x8448x68 (![] : Fin 0 → Fin S8x8448x68.rank)
  reducesTo_S8x8448x68_S_d0_1_2 : S8x8448x68.ReducesTo [0, 1, 2] S_
  slices_S8x50_S8x49_0_0 : S8x50.Slices ![0, 0] S8x49
  slices_S8x50_S8x49_0_1 : S8x50.Slices ![0, 1] S8x49
  reducesTo_S8x49_S_d0_1 : S8x49.ReducesTo [0, 1] S_
  bcast_S_S8x8448x80 : S_.BroadcastsInDim S8x8448x80 (![] : Fin 0 → Fin S8x8448x80.rank)
  reducesTo_S8x8448x80_S_d0_1_2 : S8x8448x80.ReducesTo [0, 1, 2] S_
  gather_S8x8448x80_S8x8448x50x1_S8x8448x50_n_2_01_01_2_3_111_wf : GatherDims.WF S8x8448x80 S8x8448x50x1 S8x8448x50 [] [2] [0, 1] [2] [0, 1] 3 ![1, 1, 1]

variable [Facts]

def gather_S8x8448x80_S8x8448x50x1_S8x8448x50_n_2_01_01_2_3_111 : GatherDims S8x8448x80 S8x8448x50x1 S8x8448x50 where
  offsetDims := []
  collapsedSliceDims := [2]
  operandBatchingDims := [0, 1]
  startIndicesBatchingDims := [0, 1]
  startIndexMap := [2]
  indexVectorDim := 3
  sliceSizes := ![1, 1, 1]
  wf := gather_S8x8448x80_S8x8448x50x1_S8x8448x50_n_2_01_01_2_3_111_wf
def fn_clip {F : FTy → Type} [FloatOps F] (arg0 : IVec S8x50 32) (arg1 : IVec S_ 32) (arg2 : IVec S_ 32) : IVec S8x50 32 :=
  let v0 : IVec S_ 32 := id arg1
  let v1 : IVec S8x50 32 := broadcastInDim S8x50 ![] bcast_S_S8x50 v0
  let v2 : IVec S8x50 32 := maxsi v1 arg0
  let v3 : IVec S_ 32 := id arg2
  let v4 : IVec S8x50 32 := broadcastInDim S8x50 ![] bcast_S_S8x50 v3
  let v5 : IVec S8x50 32 := minsi v4 v2
  v5

def fn_take_along_axis {F : FTy → Type} [FloatOps F] (arg0 : FVec F S8x8448x80 .f32) (arg1 : IVec S8x8448x50 32) : FVec F S8x8448x50 .f32 :=
  let c : IVec S_ 32 := constantI S_ 32 0#32
  let v0 : IVec S8x8448x50 32 := broadcastInDim S8x8448x50 ![] bcast_S_S8x8448x50 c
  let v1 : IVec S8x8448x50 1 := cmpi .slt arg1 v0
  let c_0 : IVec S_ 32 := constantI S_ 32 80#32
  let v2 : IVec S8x8448x50 32 := broadcastInDim S8x8448x50 ![] bcast_S_S8x8448x50 c_0
  let v3 : IVec S8x8448x50 32 := addi arg1 v2
  let v4 : IVec S8x8448x50 32 := select v1 v3 arg1
  let v5 : IVec S8x8448x50x1 32 := shapeCast S8x8448x50x1 v4 shapeCasts_S8x8448x50_S8x8448x50x1
  let v6 : FVec F S8x8448x50 .f32 := (fun x i => Host.gather gather_S8x8448x80_S8x8448x50x1_S8x8448x50_n_2_01_01_2_3_111 x i) arg0 v5
  v6

def fn_where {F : FTy → Type} [FloatOps F] (arg0 : IVec S8x50x8448 1) (arg1 : FVec F S8x50x8448 .f32) (arg2 : FVec F S_ .f32) : FVec F S8x50x8448 .f32 :=
  let v0 : FVec F S_ .f32 := id arg2
  let v1 : FVec F S8x50x8448 .f32 := broadcastInDim S8x50x8448 ![] bcast_S_S8x50x8448 v0
  let v2 : FVec F S8x50x8448 .f32 := select arg0 arg1 v1
  v2

def fn_part15 {F : FTy → Type} [FloatOps F] (main_arg0 : FVec F S8x8448x80 .f32) (main_v316 : IVec S_ 1) : IVec S_ 1 :=
  let main_cst_39 : FVec F S_ .f32 := constant S_ .f32 0x3F800000#32
  let main_v317 : FVec F S8x8448x80 .f32 := broadcastInDim S8x8448x80 ![] bcast_S_S8x8448x80 main_cst_39
  let main_v318 : IVec S8x8448x80 1 := cmpf .olt main_arg0 main_v317
  let main_c_40 : IVec S_ 1 := constantI S_ 1 1#1
  let main_v319 : IVec S_ 1 := (fun x v => Host.reduce IntOp.andi x v reducesTo_S8x8448x80_S_d0_1_2 h_S_) main_v318 main_c_40
  let main_v320 : IVec S_ 1 := andi main_v316 main_v319
  main_v320

def fn_part14 {F : FTy → Type} [FloatOps F] (main_arg0 : FVec F S8x8448x80 .f32) (main_arg2 : FVec F S8x8448x68 .f32) (main_v112 : IVec S8x50x13 1) (main_v250 : IVec S8x50x50x8448 1) (main_v252 : IVec S8x50 32) (main_v292 : IVec S8x50x50x8448 1) (main_v296 : IVec S_ 1) (main_v298 : IVec S8x8448x50 1) (main_c_32 : IVec S_ 1) : IVec S_ 1 :=
  let main_v299 : IVec S_ 1 := (fun x v => Host.reduce IntOp.andi x v reducesTo_S8x8448x50_S_d0_1_2 h_S_) main_v298 main_c_32
  let main_v300 : IVec S_ 1 := andi main_v296 main_v299
  let main_c_33 : IVec S_ 1 := constantI S_ 1 1#1
  let main_v301 : IVec S_ 1 := (fun x v => Host.reduce IntOp.andi x v reducesTo_S8x50x13_S_d0_1_2 h_S_) main_v112 main_c_33
  let main_v302 : IVec S_ 1 := andi main_v300 main_v301
  let main_c_34 : IVec S_ 1 := constantI S_ 1 1#1
  let main_v303 : IVec S_ 1 := (fun x v => Host.reduce IntOp.andi x v reducesTo_S8x50x50x8448_S_d0_1_2_3 h_S_) main_v250 main_c_34
  let main_v304 : IVec S_ 1 := andi main_v302 main_v303
  let main_v305 : FVec F S8x8448x68 .f32 := Host.absf main_arg2
  let main_cst_35 : FVec F S_ .f32 := constant S_ .f32 0x7F800000#32
  let main_v306 : FVec F S8x8448x68 .f32 := broadcastInDim S8x8448x68 ![] bcast_S_S8x8448x68 main_cst_35
  let main_v307 : IVec S8x8448x68 1 := cmpf .olt main_v305 main_v306
  let main_c_36 : IVec S_ 1 := constantI S_ 1 1#1
  let main_v308 : IVec S_ 1 := (fun x v => Host.reduce IntOp.andi x v reducesTo_S8x8448x68_S_d0_1_2 h_S_) main_v307 main_c_36
  let main_v309 : IVec S_ 1 := andi main_v304 main_v308
  let main_c_37 : IVec S_ 1 := constantI S_ 1 1#1
  let main_v310 : IVec S_ 1 := (fun x v => Host.reduce IntOp.andi x v reducesTo_S8x50x50x8448_S_d0_1_2_3 h_S_) main_v292 main_c_37
  let main_v311 : IVec S_ 1 := andi main_v309 main_v310
  let main_v312 : IVec S8x49 32 := (extractStridedSlice S8x49 ![0, 0] · slices_S8x50_S8x49_0_0) main_v252
  let main_v313 : IVec S8x49 32 := (extractStridedSlice S8x49 ![0, 1] · slices_S8x50_S8x49_0_1) main_v252
  let main_v314 : IVec S8x49 1 := cmpi .sle main_v312 main_v313
  let main_c_38 : IVec S_ 1 := constantI S_ 1 1#1
  let main_v315 : IVec S_ 1 := (fun x v => Host.reduce IntOp.andi x v reducesTo_S8x49_S_d0_1 h_S_) main_v314 main_c_38
  let main_v316 : IVec S_ 1 := andi main_v311 main_v315
  fn_part15 (F := F) main_arg0 main_v316

def fn_part13 {F : FTy → Type} [FloatOps F] (main_arg0 : FVec F S8x8448x80 .f32) (main_arg2 : FVec F S8x8448x68 .f32) (main_v95 : FVec F S8x8448x50 .f32) (main_v104 : FVec F S8x8448x50 .f32) (main_v112 : IVec S8x50x13 1) (main_v250 : IVec S8x50x50x8448 1) (main_v252 : IVec S8x50 32) (main_v266 : FVec F S8x50x8448 .f32) (main_v272 : IVec S8x50x50x1 1) (main_v279 : IVec S8x50x50x1 1) : IVec S_ 1 :=
  let main_v280 : IVec S8x50x50x1 1 := ori main_v272 main_v279
  let main_v281 : FVec F S8x50x1x8448 .f32 := broadcastInDim S8x50x1x8448 ![0, 1, 3] bcast_S8x50x8448_S8x50x1x8448_0_1_3 main_v266
  let main_v282 : FVec F S8x1x50x8448 .f32 := broadcastInDim S8x1x50x8448 ![0, 2, 3] bcast_S8x50x8448_S8x1x50x8448_0_2_3 main_v266
  let main_v283 : FVec F S8x50x50x8448 .f32 := broadcastInDim S8x50x50x8448 ![0, 1, 2, 3] bcast_S8x50x1x8448_S8x50x50x8448_0_1_2_3 main_v281
  let main_v284 : FVec F S8x50x50x8448 .f32 := broadcastInDim S8x50x50x8448 ![0, 1, 2, 3] bcast_S8x1x50x8448_S8x50x50x8448_0_1_2_3 main_v282
  let main_v285 : IVec S8x50x50x8448 1 := cmpf .une main_v283 main_v284
  let main_v286 : FVec F S8x50x1x8448 .f32 := broadcastInDim S8x50x1x8448 ![0, 1, 3] bcast_S8x50x8448_S8x50x1x8448_0_1_3 main_v266
  let main_cst_28 : FVec F S_ .f32 := constant S_ .f32 0x00000000#32
  let main_v287 : FVec F S8x50x1x8448 .f32 := broadcastInDim S8x50x1x8448 ![] bcast_S_S8x50x1x8448 main_cst_28
  let main_v288 : IVec S8x50x1x8448 1 := cmpf .ole main_v286 main_v287
  let main_v289 : IVec S8x50x50x8448 1 := broadcastInDim S8x50x50x8448 ![0, 1, 2, 3] bcast_S8x50x1x8448_S8x50x50x8448_0_1_2_3 main_v288
  let main_v290 : IVec S8x50x50x8448 1 := ori main_v285 main_v289
  let main_v291 : IVec S8x50x50x8448 1 := broadcastInDim S8x50x50x8448 ![0, 1, 2, 3] bcast_S8x50x50x1_S8x50x50x8448_0_1_2_3 main_v280
  let main_v292 : IVec S8x50x50x8448 1 := ori main_v290 main_v291
  let main_v293 : FVec F S8x8448x50 .f32 := Host.absf main_v95
  let main_cst_29 : FVec F S_ .f32 := constant S_ .f32 0x7F800000#32
  let main_v294 : FVec F S8x8448x50 .f32 := broadcastInDim S8x8448x50 ![] bcast_S_S8x8448x50 main_cst_29
  let main_v295 : IVec S8x8448x50 1 := cmpf .olt main_v293 main_v294
  let main_c_30 : IVec S_ 1 := constantI S_ 1 1#1
  let main_v296 : IVec S_ 1 := (fun x v => Host.reduce IntOp.andi x v reducesTo_S8x8448x50_S_d0_1_2 h_S_) main_v295 main_c_30
  let main_cst_31 : FVec F S_ .f32 := constant S_ .f32 0x40000000#32
  let main_v297 : FVec F S8x8448x50 .f32 := broadcastInDim S8x8448x50 ![] bcast_S_S8x8448x50 main_cst_31
  let main_v298 : IVec S8x8448x50 1 := cmpf .olt main_v104 main_v297
  let main_c_32 : IVec S_ 1 := constantI S_ 1 1#1
  fn_part14 (F := F) main_arg0 main_arg2 main_v112 main_v250 main_v252 main_v292 main_v296 main_v298 main_c_32

def fn_part12 {F : FTy → Type} [FloatOps F] (main_arg0 : FVec F S8x8448x80 .f32) (main_arg2 : FVec F S8x8448x68 .f32) (main_v95 : FVec F S8x8448x50 .f32) (main_v104 : FVec F S8x8448x50 .f32) (main_v112 : IVec S8x50x13 1) (main_v231 : FVec F S8x50x8448 .f32) (main_v232 : IVec S50 32) (main_v250 : IVec S8x50x50x8448 1) (main_v252 : IVec S8x50 32) (main_v253 : FVec F S8x50x8448 .f32) (main_v256 : FVec F S8x50 .f32) (main_cst_26 : FVec F S_ .f32) : IVec S_ 1 :=
  let main_v257 : FVec F S8x50 .f32 := (fun x v => Host.reduce FloatOps.maximumf x v reducesTo_S8x50x8448_S8x50_d2 h_S_) main_v231 main_cst_26
  let main_v258 : FVec F S8x50x1 .f32 := broadcastInDim S8x50x1 ![0, 1] bcast_S8x50_S8x50x1_0_1 main_v257
  let main_cst_27 : FVec F S_ .f32 := constant S_ .f32 0x3089705F#32
  let main_v259 : FVec F S8x50x1 .f32 := broadcastInDim S8x50x1 ![] bcast_S_S8x50x1 main_cst_27
  let main_v260 : FVec F S8x50x1 .f32 := addf main_v258 main_v259
  let main_v261 : FVec F S8x50x8448 .f32 := broadcastInDim S8x50x8448 ![0, 1, 2] bcast_S8x50x1_S8x50x8448_0_1_2 main_v260
  let main_v262 : FVec F S8x50x8448 .f32 := Host.divf main_v231 main_v261
  let main_v263 : FVec F S8x50x1 .f32 := broadcastInDim S8x50x1 ![0, 1] bcast_S8x50_S8x50x1_0_1 main_v256
  let main_v264 : FVec F S8x50x8448 .f32 := broadcastInDim S8x50x8448 ![0, 1, 2] bcast_S8x50x1_S8x50x8448_0_1_2 main_v263
  let main_v265 : FVec F S8x50x8448 .f32 := mulf main_v262 main_v264
  let main_v266 : FVec F S8x50x8448 .f32 := mulf main_v265 main_v253
  let main_v267 : IVec S8x50x1 32 := broadcastInDim S8x50x1 ![0, 1] bcast_S8x50_S8x50x1_0_1 main_v252
  let main_v268 : IVec S8x1x50 32 := broadcastInDim S8x1x50 ![0, 2] bcast_S8x50_S8x1x50_0_2 main_v252
  let main_v269 : IVec S8x50x50 32 := broadcastInDim S8x50x50 ![0, 1, 2] bcast_S8x50x1_S8x50x50_0_1_2 main_v267
  let main_v270 : IVec S8x50x50 32 := broadcastInDim S8x50x50 ![0, 1, 2] bcast_S8x1x50_S8x50x50_0_1_2 main_v268
  let main_v271 : IVec S8x50x50 1 := cmpi .ne main_v269 main_v270
  let main_v272 : IVec S8x50x50x1 1 := broadcastInDim S8x50x50x1 ![0, 1, 2] bcast_S8x50x50_S8x50x50x1_0_1_2 main_v271
  let main_v273 : IVec S50x1 32 := broadcastInDim S50x1 ![0] bcast_S50_S50x1_0 main_v232
  let main_v274 : IVec S1x50 32 := broadcastInDim S1x50 ![1] bcast_S50_S1x50_1 main_v232
  let main_v275 : IVec S50x50 32 := broadcastInDim S50x50 ![0, 1] bcast_S50x1_S50x50_0_1 main_v273
  let main_v276 : IVec S50x50 32 := broadcastInDim S50x50 ![0, 1] bcast_S1x50_S50x50_0_1 main_v274
  let main_v277 : IVec S50x50 1 := cmpi .eq main_v275 main_v276
  let main_v278 : IVec S1x50x50x1 1 := broadcastInDim S1x50x50x1 ![1, 2] bcast_S50x50_S1x50x50x1_1_2 main_v277
  let main_v279 : IVec S8x50x50x1 1 := broadcastInDim S8x50x50x1 ![0, 1, 2, 3] bcast_S1x50x50x1_S8x50x50x1_0_1_2_3 main_v278
  fn_part13 (F := F) main_arg0 main_arg2 main_v95 main_v104 main_v112 main_v250 main_v252 main_v266 main_v272 main_v279

def fn_part11 {F : FTy → Type} [FloatOps F] (main_arg0 : FVec F S8x8448x80 .f32) (main_arg2 : FVec F S8x8448x68 .f32) (main_arg6 : IVec S8x50x1 32) (main_v95 : FVec F S8x8448x50 .f32) (main_v104 : FVec F S8x8448x50 .f32) (main_v112 : IVec S8x50x13 1) (main_v208 : FVec F S8x8448x50 .f32) (main_v230 : IVec S8x50x8448 1) (main_v231 : FVec F S8x50x8448 .f32) (main_v232 : IVec S50 32) (main_v237 : IVec S8x50x50x8448 1) : IVec S_ 1 :=
  let main_v238 : FVec F S8x50x1x8448 .f32 := broadcastInDim S8x50x1x8448 ![0, 1, 3] bcast_S8x50x8448_S8x50x1x8448_0_1_3 main_v231
  let main_cst_22 : FVec F S_ .f32 := constant S_ .f32 0x00000000#32
  let main_v239 : FVec F S8x50x1x8448 .f32 := broadcastInDim S8x50x1x8448 ![] bcast_S_S8x50x1x8448 main_cst_22
  let main_v240 : IVec S8x50x1x8448 1 := cmpf .ole main_v238 main_v239
  let main_v241 : IVec S8x50x50x8448 1 := broadcastInDim S8x50x50x8448 ![0, 1, 2, 3] bcast_S8x50x1x8448_S8x50x50x8448_0_1_2_3 main_v240
  let main_v242 : IVec S8x50x50x8448 1 := ori main_v237 main_v241
  let main_v243 : IVec S50x1 32 := broadcastInDim S50x1 ![0] bcast_S50_S50x1_0 main_v232
  let main_v244 : IVec S1x50 32 := broadcastInDim S1x50 ![1] bcast_S50_S1x50_1 main_v232
  let main_v245 : IVec S50x50 32 := broadcastInDim S50x50 ![0, 1] bcast_S50x1_S50x50_0_1 main_v243
  let main_v246 : IVec S50x50 32 := broadcastInDim S50x50 ![0, 1] bcast_S1x50_S50x50_0_1 main_v244
  let main_v247 : IVec S50x50 1 := cmpi .eq main_v245 main_v246
  let main_v248 : IVec S1x50x50x1 1 := broadcastInDim S1x50x50x1 ![1, 2] bcast_S50x50_S1x50x50x1_1_2 main_v247
  let main_v249 : IVec S8x50x50x8448 1 := broadcastInDim S8x50x50x8448 ![0, 1, 2, 3] bcast_S1x50x50x1_S8x50x50x8448_0_1_2_3 main_v248
  let main_v250 : IVec S8x50x50x8448 1 := ori main_v242 main_v249
  let main_v251 : IVec S8x50 32 := shapeCast S8x50 main_arg6 shapeCasts_S8x50x1_S8x50
  let main_c_23 : IVec S_ 32 := constantI S_ 32 0#32
  let main_c_24 : IVec S_ 32 := constantI S_ 32 79#32
  let main_v252 : IVec S8x50 32 := fn_clip (F := F) main_v251 main_c_23 main_c_24
  let main_v253 : FVec F S8x50x8448 .f32 := uitofp .f32 main_v230
  let main_v254 : FVec F S8x50x8448 .f32 := (transpose S8x50x8448 [0, 2, 1] · transposes_S8x8448x50_S8x50x8448_0_2_1) main_v208
  let main_v255 : FVec F S8x50x8448 .f32 := mulf main_v254 main_v253
  let main_cst_25 : FVec F S_ .f32 := constant S_ .f32 0xFF800000#32
  let main_v256 : FVec F S8x50 .f32 := (fun x v => Host.reduce FloatOps.maximumf x v reducesTo_S8x50x8448_S8x50_d2 h_S_) main_v255 main_cst_25
  let main_cst_26 : FVec F S_ .f32 := constant S_ .f32 0xFF800000#32
  fn_part12 (F := F) main_arg0 main_arg2 main_v95 main_v104 main_v112 main_v231 main_v232 main_v250 main_v252 main_v253 main_v256 main_cst_26

def fn_part10 {F : FTy → Type} [FloatOps F] (main_arg0 : FVec F S8x8448x80 .f32) (main_arg2 : FVec F S8x8448x68 .f32) (main_arg6 : IVec S8x50x1 32) (main_v95 : FVec F S8x8448x50 .f32) (main_v104 : FVec F S8x8448x50 .f32) (main_v112 : IVec S8x50x13 1) (main_v208 : FVec F S8x8448x50 .f32) (main_v218 : FVec F S8x50x8448 .f32) : IVec S_ 1 :=
  let main_values_17 : FVec F S8x50x13 .f32 := (fun x => (Host.topK S8x50x13 2 (FloatOps.cmpfTotal .gt) x sliceFits_S8x50x8448_S8x50x13).1) main_v218
  let main_indices_18 : IVec S8x50x13 32 := (fun x => (Host.topK S8x50x13 2 (FloatOps.cmpfTotal .gt) x sliceFits_S8x50x8448_S8x50x13).2) main_v218
  let main_v219 : IVec S8x50x13x1 32 := broadcastInDim S8x50x13x1 ![0, 1, 2] bcast_S8x50x13_S8x50x13x1_0_1_2 main_indices_18
  let main_v220 : IVec S8448 32 := iotaInDim S8448 32 0
  let main_v221 : IVec S1x1x1x8448 32 := broadcastInDim S1x1x1x8448 ![3] bcast_S8448_S1x1x1x8448_3 main_v220
  let main_v222 : IVec S8x50x13x8448 32 := broadcastInDim S8x50x13x8448 ![0, 1, 2, 3] bcast_S8x50x13x1_S8x50x13x8448_0_1_2_3 main_v219
  let main_v223 : IVec S8x50x13x8448 32 := broadcastInDim S8x50x13x8448 ![0, 1, 2, 3] bcast_S1x1x1x8448_S8x50x13x8448_0_1_2_3 main_v221
  let main_v224 : IVec S8x50x13x8448 1 := cmpi .eq main_v222 main_v223
  let main_cst_19 : FVec F S_ .f32 := constant S_ .f32 0x00000000#32
  let main_v225 : FVec F S8x50x13 .f32 := broadcastInDim S8x50x13 ![] bcast_S_S8x50x13 main_cst_19
  let main_v226 : IVec S8x50x13 1 := cmpf .ogt main_values_17 main_v225
  let main_v227 : IVec S8x50x13x1 1 := broadcastInDim S8x50x13x1 ![0, 1, 2] bcast_S8x50x13_S8x50x13x1_0_1_2 main_v226
  let main_v228 : IVec S8x50x13x8448 1 := broadcastInDim S8x50x13x8448 ![0, 1, 2, 3] bcast_S8x50x13x1_S8x50x13x8448_0_1_2_3 main_v227
  let main_v229 : IVec S8x50x13x8448 1 := andi main_v224 main_v228
  let main_c_20 : IVec S_ 1 := constantI S_ 1 0#1
  let main_v230 : IVec S8x50x8448 1 := (fun x v => Host.reduce IntOp.ori x v reducesTo_S8x50x13x8448_S8x50x8448_d2 h_S_) main_v229 main_c_20
  let main_cst_21 : FVec F S_ .f32 := constant S_ .f32 0x00000000#32
  let main_v231 : FVec F S8x50x8448 .f32 := fn_where (F := F) main_v230 main_v218 main_cst_21
  let main_v232 : IVec S50 32 := iotaInDim S50 32 0
  let main_v233 : FVec F S8x50x1x8448 .f32 := broadcastInDim S8x50x1x8448 ![0, 1, 3] bcast_S8x50x8448_S8x50x1x8448_0_1_3 main_v231
  let main_v234 : FVec F S8x1x50x8448 .f32 := broadcastInDim S8x1x50x8448 ![0, 2, 3] bcast_S8x50x8448_S8x1x50x8448_0_2_3 main_v231
  let main_v235 : FVec F S8x50x50x8448 .f32 := broadcastInDim S8x50x50x8448 ![0, 1, 2, 3] bcast_S8x50x1x8448_S8x50x50x8448_0_1_2_3 main_v233
  let main_v236 : FVec F S8x50x50x8448 .f32 := broadcastInDim S8x50x50x8448 ![0, 1, 2, 3] bcast_S8x1x50x8448_S8x50x50x8448_0_1_2_3 main_v234
  let main_v237 : IVec S8x50x50x8448 1 := cmpf .une main_v235 main_v236
  fn_part11 (F := F) main_arg0 main_arg2 main_arg6 main_v95 main_v104 main_v112 main_v208 main_v230 main_v231 main_v232 main_v237

def fn_part9 {F : FTy → Type} [FloatOps F] (main_arg0 : FVec F S8x8448x80 .f32) (main_arg2 : FVec F S8x8448x68 .f32) (main_arg5 : FVec F S8x50x1 .f32) (main_arg6 : IVec S8x50x1 32) (main_v95 : FVec F S8x8448x50 .f32) (main_v104 : FVec F S8x8448x50 .f32) (main_v112 : IVec S8x50x13 1) (main_v129 : FVec F S8x8448x50 .f32) (main_v134 : FVec F S8x8448x50 .f32) (main_v145 : FVec F S8x8448 .f32) (main_v156 : FVec F S8x50 .f32) (main_v195 : FVec F S8x8448x50 .f32) (main_v196 : FVec F S8x8448x50 .f32) (main_v197 : FVec F S8x8448x50 .f32) : IVec S_ 1 :=
  let main_v198 : FVec F S8x8448x50 .f32 := maximumf main_v196 main_v197
  let main_v199 : FVec F S8x8448x50 .f32 := mulf main_v195 main_v198
  let main_v200 : FVec F S8x8448x1 .f32 := broadcastInDim S8x8448x1 ![0, 1] bcast_S8x8448_S8x8448x1_0_1 main_v145
  let main_v201 : FVec F S8x1x50 .f32 := broadcastInDim S8x1x50 ![0, 2] bcast_S8x50_S8x1x50_0_2 main_v156
  let main_v202 : FVec F S8x8448x50 .f32 := broadcastInDim S8x8448x50 ![0, 1, 2] bcast_S8x8448x1_S8x8448x50_0_1_2 main_v200
  let main_v203 : FVec F S8x8448x50 .f32 := broadcastInDim S8x8448x50 ![0, 1, 2] bcast_S8x1x50_S8x8448x50_0_1_2 main_v201
  let main_v204 : FVec F S8x8448x50 .f32 := addf main_v202 main_v203
  let main_v205 : FVec F S8x8448x50 .f32 := subf main_v204 main_v199
  let main_cst_14 : FVec F S_ .f32 := constant S_ .f32 0x3089705F#32
  let main_v206 : FVec F S8x8448x50 .f32 := broadcastInDim S8x8448x50 ![] bcast_S_S8x8448x50 main_cst_14
  let main_v207 : FVec F S8x8448x50 .f32 := addf main_v205 main_v206
  let main_v208 : FVec F S8x8448x50 .f32 := Host.divf main_v199 main_v207
  let main_cst_15 : FVec F S_ .f32 := constant S_ .f32 0x3F800000#32
  let main_v209 : FVec F S8x8448x50 .f32 := broadcastInDim S8x8448x50 ![] bcast_S_S8x8448x50 main_cst_15
  let main_v210 : FVec F S8x8448x50 .f32 := Host.powf main_v134 main_v209
  let main_cst_16 : FVec F S_ .f32 := constant S_ .f32 0x40C00000#32
  let main_v211 : FVec F S8x8448x50 .f32 := broadcastInDim S8x8448x50 ![] bcast_S_S8x8448x50 main_cst_16
  let main_v212 : FVec F S8x8448x50 .f32 := Host.powf main_v208 main_v211
  let main_v213 : FVec F S8x8448x50 .f32 := mulf main_v210 main_v212
  let main_v214 : FVec F S8x8448x50 .f32 := mulf main_v213 main_v129
  let main_v215 : FVec F S8x1x50 .f32 := (transpose S8x1x50 [0, 2, 1] · transposes_S8x50x1_S8x1x50_0_2_1) main_arg5
  let main_v216 : FVec F S8x8448x50 .f32 := broadcastInDim S8x8448x50 ![0, 1, 2] bcast_S8x1x50_S8x8448x50_0_1_2 main_v215
  let main_v217 : FVec F S8x8448x50 .f32 := mulf main_v214 main_v216
  let main_v218 : FVec F S8x50x8448 .f32 := (transpose S8x50x8448 [0, 2, 1] · transposes_S8x8448x50_S8x50x8448_0_2_1) main_v217
  fn_part10 (F := F) main_arg0 main_arg2 main_arg6 main_v95 main_v104 main_v112 main_v208 main_v218

def fn_part8 {F : FTy → Type} [FloatOps F] (main_arg0 : FVec F S8x8448x80 .f32) (main_arg1 : FVec F S8x8448x4 .f32) (main_arg2 : FVec F S8x8448x68 .f32) (main_arg4 : FVec F S8x50x4 .f32) (main_arg5 : FVec F S8x50x1 .f32) (main_arg6 : IVec S8x50x1 32) (main_v95 : FVec F S8x8448x50 .f32) (main_v104 : FVec F S8x8448x50 .f32) (main_v112 : IVec S8x50x13 1) (main_v129 : FVec F S8x8448x50 .f32) (main_v134 : FVec F S8x8448x50 .f32) (main_v145 : FVec F S8x8448 .f32) (main_v156 : FVec F S8x50 .f32) (main_v165 : FVec F S8x8448x50 .f32) (main_v174 : FVec F S8x8448x50 .f32) (main_v175 : FVec F S8x8448x1 .f32) : IVec S_ 1 :=
  let main_v176 : FVec F S8x8448 .f32 := shapeCast S8x8448 main_v175 shapeCasts_S8x8448x1_S8x8448
  let main_v177 : FVec F S8x8448x1 .f32 := broadcastInDim S8x8448x1 ![0, 1] bcast_S8x8448_S8x8448x1_0_1 main_v176
  let main_v178 : FVec F S8x50x1 .f32 := (extractStridedSlice S8x50x1 ![0, 0, 2] · slices_S8x50x4_S8x50x1_0_0_2) main_arg4
  let main_v179 : FVec F S8x50 .f32 := shapeCast S8x50 main_v178 shapeCasts_S8x50x1_S8x50
  let main_v180 : FVec F S8x1x50 .f32 := broadcastInDim S8x1x50 ![0, 2] bcast_S8x50_S8x1x50_0_2 main_v179
  let main_v181 : FVec F S8x8448x50 .f32 := broadcastInDim S8x8448x50 ![0, 1, 2] bcast_S8x8448x1_S8x8448x50_0_1_2 main_v177
  let main_v182 : FVec F S8x8448x50 .f32 := broadcastInDim S8x8448x50 ![0, 1, 2] bcast_S8x1x50_S8x8448x50_0_1_2 main_v180
  let main_v183 : FVec F S8x8448x50 .f32 := minimumf main_v181 main_v182
  let main_v184 : FVec F S8x8448x1 .f32 := (extractStridedSlice S8x8448x1 ![0, 0, 3] · slices_S8x8448x4_S8x8448x1_0_0_3) main_arg1
  let main_v185 : FVec F S8x8448 .f32 := shapeCast S8x8448 main_v184 shapeCasts_S8x8448x1_S8x8448
  let main_v186 : FVec F S8x8448x1 .f32 := broadcastInDim S8x8448x1 ![0, 1] bcast_S8x8448_S8x8448x1_0_1 main_v185
  let main_v187 : FVec F S8x50x1 .f32 := (extractStridedSlice S8x50x1 ![0, 0, 3] · slices_S8x50x4_S8x50x1_0_0_3) main_arg4
  let main_v188 : FVec F S8x50 .f32 := shapeCast S8x50 main_v187 shapeCasts_S8x50x1_S8x50
  let main_v189 : FVec F S8x1x50 .f32 := broadcastInDim S8x1x50 ![0, 2] bcast_S8x50_S8x1x50_0_2 main_v188
  let main_v190 : FVec F S8x8448x50 .f32 := broadcastInDim S8x8448x50 ![0, 1, 2] bcast_S8x8448x1_S8x8448x50_0_1_2 main_v186
  let main_v191 : FVec F S8x8448x50 .f32 := broadcastInDim S8x8448x50 ![0, 1, 2] bcast_S8x1x50_S8x8448x50_0_1_2 main_v189
  let main_v192 : FVec F S8x8448x50 .f32 := minimumf main_v190 main_v191
  let main_v193 : FVec F S8x8448x50 .f32 := subf main_v183 main_v165
  let main_cst_12 : FVec F S_ .f32 := constant S_ .f32 0x00000000#32
  let main_v194 : FVec F S8x8448x50 .f32 := broadcastInDim S8x8448x50 ![] bcast_S_S8x8448x50 main_cst_12
  let main_v195 : FVec F S8x8448x50 .f32 := maximumf main_v193 main_v194
  let main_v196 : FVec F S8x8448x50 .f32 := subf main_v192 main_v174
  let main_cst_13 : FVec F S_ .f32 := constant S_ .f32 0x00000000#32
  let main_v197 : FVec F S8x8448x50 .f32 := broadcastInDim S8x8448x50 ![] bcast_S_S8x8448x50 main_cst_13
  fn_part9 (F := F) main_arg0 main_arg2 main_arg5 main_arg6 main_v95 main_v104 main_v112 main_v129 main_v134 main_v145 main_v156 main_v195 main_v196 main_v197

def fn_part7 {F : FTy → Type} [FloatOps F] (main_arg0 : FVec F S8x8448x80 .f32) (main_arg1 : FVec F S8x8448x4 .f32) (main_arg2 : FVec F S8x8448x68 .f32) (main_arg4 : FVec F S8x50x4 .f32) (main_arg5 : FVec F S8x50x1 .f32) (main_arg6 : IVec S8x50x1 32) (main_v95 : FVec F S8x8448x50 .f32) (main_v104 : FVec F S8x8448x50 .f32) (main_v112 : IVec S8x50x13 1) (main_v129 : FVec F S8x8448x50 .f32) (main_v134 : FVec F S8x8448x50 .f32) (main_v145 : FVec F S8x8448 .f32) (main_v150 : FVec F S8x50 .f32) (main_v151 : FVec F S8x50x1 .f32) : IVec S_ 1 :=
  let main_v152 : FVec F S8x50 .f32 := shapeCast S8x50 main_v151 shapeCasts_S8x50x1_S8x50
  let main_v153 : FVec F S8x50x1 .f32 := (extractStridedSlice S8x50x1 ![0, 0, 1] · slices_S8x50x4_S8x50x1_0_0_1) main_arg4
  let main_v154 : FVec F S8x50 .f32 := shapeCast S8x50 main_v153 shapeCasts_S8x50x1_S8x50
  let main_v155 : FVec F S8x50 .f32 := subf main_v152 main_v154
  let main_v156 : FVec F S8x50 .f32 := mulf main_v150 main_v155
  let main_v157 : FVec F S8x8448x1 .f32 := (extractStridedSlice S8x8448x1 ![0, 0, 0] · slices_S8x8448x4_S8x8448x1_0_0_0) main_arg1
  let main_v158 : FVec F S8x8448 .f32 := shapeCast S8x8448 main_v157 shapeCasts_S8x8448x1_S8x8448
  let main_v159 : FVec F S8x8448x1 .f32 := broadcastInDim S8x8448x1 ![0, 1] bcast_S8x8448_S8x8448x1_0_1 main_v158
  let main_v160 : FVec F S8x50x1 .f32 := (extractStridedSlice S8x50x1 ![0, 0, 0] · slices_S8x50x4_S8x50x1_0_0_0) main_arg4
  let main_v161 : FVec F S8x50 .f32 := shapeCast S8x50 main_v160 shapeCasts_S8x50x1_S8x50
  let main_v162 : FVec F S8x1x50 .f32 := broadcastInDim S8x1x50 ![0, 2] bcast_S8x50_S8x1x50_0_2 main_v161
  let main_v163 : FVec F S8x8448x50 .f32 := broadcastInDim S8x8448x50 ![0, 1, 2] bcast_S8x8448x1_S8x8448x50_0_1_2 main_v159
  let main_v164 : FVec F S8x8448x50 .f32 := broadcastInDim S8x8448x50 ![0, 1, 2] bcast_S8x1x50_S8x8448x50_0_1_2 main_v162
  let main_v165 : FVec F S8x8448x50 .f32 := maximumf main_v163 main_v164
  let main_v166 : FVec F S8x8448x1 .f32 := (extractStridedSlice S8x8448x1 ![0, 0, 1] · slices_S8x8448x4_S8x8448x1_0_0_1) main_arg1
  let main_v167 : FVec F S8x8448 .f32 := shapeCast S8x8448 main_v166 shapeCasts_S8x8448x1_S8x8448
  let main_v168 : FVec F S8x8448x1 .f32 := broadcastInDim S8x8448x1 ![0, 1] bcast_S8x8448_S8x8448x1_0_1 main_v167
  let main_v169 : FVec F S8x50x1 .f32 := (extractStridedSlice S8x50x1 ![0, 0, 1] · slices_S8x50x4_S8x50x1_0_0_1) main_arg4
  let main_v170 : FVec F S8x50 .f32 := shapeCast S8x50 main_v169 shapeCasts_S8x50x1_S8x50
  let main_v171 : FVec F S8x1x50 .f32 := broadcastInDim S8x1x50 ![0, 2] bcast_S8x50_S8x1x50_0_2 main_v170
  let main_v172 : FVec F S8x8448x50 .f32 := broadcastInDim S8x8448x50 ![0, 1, 2] bcast_S8x8448x1_S8x8448x50_0_1_2 main_v168
  let main_v173 : FVec F S8x8448x50 .f32 := broadcastInDim S8x8448x50 ![0, 1, 2] bcast_S8x1x50_S8x8448x50_0_1_2 main_v171
  let main_v174 : FVec F S8x8448x50 .f32 := maximumf main_v172 main_v173
  let main_v175 : FVec F S8x8448x1 .f32 := (extractStridedSlice S8x8448x1 ![0, 0, 2] · slices_S8x8448x4_S8x8448x1_0_0_2) main_arg1
  fn_part8 (F := F) main_arg0 main_arg1 main_arg2 main_arg4 main_arg5 main_arg6 main_v95 main_v104 main_v112 main_v129 main_v134 main_v145 main_v156 main_v165 main_v174 main_v175

def fn_part6 {F : FTy → Type} [FloatOps F] (main_arg0 : FVec F S8x8448x80 .f32) (main_arg1 : FVec F S8x8448x4 .f32) (main_arg2 : FVec F S8x8448x68 .f32) (main_arg4 : FVec F S8x50x4 .f32) (main_arg5 : FVec F S8x50x1 .f32) (main_arg6 : IVec S8x50x1 32) (main_v95 : FVec F S8x8448x50 .f32) (main_v104 : FVec F S8x8448x50 .f32) (main_v112 : IVec S8x50x13 1) (main_v129 : FVec F S8x8448x50 .f32) : IVec S_ 1 :=
  let main_v130 : IVec S8x50 32 := shapeCast S8x50 main_arg6 shapeCasts_S8x50x1_S8x50
  let main_c_10 : IVec S_ 32 := constantI S_ 32 0#32
  let main_c_11 : IVec S_ 32 := constantI S_ 32 79#32
  let main_v131 : IVec S8x50 32 := fn_clip (F := F) main_v130 main_c_10 main_c_11
  let main_v132 : IVec S8x1x50 32 := broadcastInDim S8x1x50 ![0, 2] bcast_S8x50_S8x1x50_0_2 main_v131
  let main_v133 : IVec S8x8448x50 32 := broadcastInDim S8x8448x50 ![0, 1, 2] bcast_S8x1x50_S8x8448x50_0_1_2 main_v132
  let main_v134 : FVec F S8x8448x50 .f32 := fn_take_along_axis (F := F) main_arg0 main_v133
  let main_v135 : FVec F S8x8448x1 .f32 := (extractStridedSlice S8x8448x1 ![0, 0, 2] · slices_S8x8448x4_S8x8448x1_0_0_2) main_arg1
  let main_v136 : FVec F S8x8448 .f32 := shapeCast S8x8448 main_v135 shapeCasts_S8x8448x1_S8x8448
  let main_v137 : FVec F S8x8448x1 .f32 := (extractStridedSlice S8x8448x1 ![0, 0, 0] · slices_S8x8448x4_S8x8448x1_0_0_0) main_arg1
  let main_v138 : FVec F S8x8448 .f32 := shapeCast S8x8448 main_v137 shapeCasts_S8x8448x1_S8x8448
  let main_v139 : FVec F S8x8448 .f32 := subf main_v136 main_v138
  let main_v140 : FVec F S8x8448x1 .f32 := (extractStridedSlice S8x8448x1 ![0, 0, 3] · slices_S8x8448x4_S8x8448x1_0_0_3) main_arg1
  let main_v141 : FVec F S8x8448 .f32 := shapeCast S8x8448 main_v140 shapeCasts_S8x8448x1_S8x8448
  let main_v142 : FVec F S8x8448x1 .f32 := (extractStridedSlice S8x8448x1 ![0, 0, 1] · slices_S8x8448x4_S8x8448x1_0_0_1) main_arg1
  let main_v143 : FVec F S8x8448 .f32 := shapeCast S8x8448 main_v142 shapeCasts_S8x8448x1_S8x8448
  let main_v144 : FVec F S8x8448 .f32 := subf main_v141 main_v143
  let main_v145 : FVec F S8x8448 .f32 := mulf main_v139 main_v144
  let main_v146 : FVec F S8x50x1 .f32 := (extractStridedSlice S8x50x1 ![0, 0, 2] · slices_S8x50x4_S8x50x1_0_0_2) main_arg4
  let main_v147 : FVec F S8x50 .f32 := shapeCast S8x50 main_v146 shapeCasts_S8x50x1_S8x50
  let main_v148 : FVec F S8x50x1 .f32 := (extractStridedSlice S8x50x1 ![0, 0, 0] · slices_S8x50x4_S8x50x1_0_0_0) main_arg4
  let main_v149 : FVec F S8x50 .f32 := shapeCast S8x50 main_v148 shapeCasts_S8x50x1_S8x50
  let main_v150 : FVec F S8x50 .f32 := subf main_v147 main_v149
  let main_v151 : FVec F S8x50x1 .f32 := (extractStridedSlice S8x50x1 ![0, 0, 3] · slices_S8x50x4_S8x50x1_0_0_3) main_arg4
  fn_part7 (F := F) main_arg0 main_arg1 main_arg2 main_arg4 main_arg5 main_arg6 main_v95 main_v104 main_v112 main_v129 main_v134 main_v145 main_v150 main_v151

def fn_part5 {F : FTy → Type} [FloatOps F] (main_arg0 : FVec F S8x8448x80 .f32) (main_arg1 : FVec F S8x8448x4 .f32) (main_arg2 : FVec F S8x8448x68 .f32) (main_arg3 : FVec F S8448x2 .f32) (main_arg4 : FVec F S8x50x4 .f32) (main_arg5 : FVec F S8x50x1 .f32) (main_arg6 : IVec S8x50x1 32) (main_v95 : FVec F S8x8448x50 .f32) (main_v104 : FVec F S8x8448x50 .f32) (main_values : FVec F S8x50x14 .f32) (main_v108 : IVec S8x50x13 1) : IVec S_ 1 :=
  let main_v109 : FVec F S8x50x13 .f32 := (extractStridedSlice S8x50x13 ![0, 0, 1] · slices_S8x50x14_S8x50x13_0_0_1) main_values
  let main_cst_7 : FVec F S_ .f32 := constant S_ .f32 0x00000000#32
  let main_v110 : FVec F S8x50x13 .f32 := broadcastInDim S8x50x13 ![] bcast_S_S8x50x13 main_cst_7
  let main_v111 : IVec S8x50x13 1 := cmpf .ole main_v109 main_v110
  let main_v112 : IVec S8x50x13 1 := ori main_v108 main_v111
  let main_v113 : FVec F S1x8448x1x2 .f32 := broadcastInDim S1x8448x1x2 ![1, 3] bcast_S8448x2_S1x8448x1x2_1_3 main_arg3
  let main_v114 : FVec F S8x50x2 .f32 := (extractStridedSlice S8x50x2 ![0, 0, 0] · slices_S8x50x4_S8x50x2_0_0_0) main_arg4
  let main_v115 : FVec F S8x1x50x2 .f32 := broadcastInDim S8x1x50x2 ![0, 2, 3] bcast_S8x50x2_S8x1x50x2_0_2_3 main_v114
  let main_v116 : FVec F S8x8448x50x2 .f32 := broadcastInDim S8x8448x50x2 ![0, 1, 2, 3] bcast_S1x8448x1x2_S8x8448x50x2_0_1_2_3 main_v113
  let main_v117 : FVec F S8x8448x50x2 .f32 := broadcastInDim S8x8448x50x2 ![0, 1, 2, 3] bcast_S8x1x50x2_S8x8448x50x2_0_1_2_3 main_v115
  let main_v118 : FVec F S8x8448x50x2 .f32 := subf main_v116 main_v117
  let main_v119 : FVec F S8x50x2 .f32 := (extractStridedSlice S8x50x2 ![0, 0, 2] · slices_S8x50x4_S8x50x2_0_0_2) main_arg4
  let main_v120 : FVec F S8x1x50x2 .f32 := broadcastInDim S8x1x50x2 ![0, 2, 3] bcast_S8x50x2_S8x1x50x2_0_2_3 main_v119
  let main_v121 : FVec F S1x8448x1x2 .f32 := broadcastInDim S1x8448x1x2 ![1, 3] bcast_S8448x2_S1x8448x1x2_1_3 main_arg3
  let main_v122 : FVec F S8x8448x50x2 .f32 := broadcastInDim S8x8448x50x2 ![0, 1, 2, 3] bcast_S8x1x50x2_S8x8448x50x2_0_1_2_3 main_v120
  let main_v123 : FVec F S8x8448x50x2 .f32 := broadcastInDim S8x8448x50x2 ![0, 1, 2, 3] bcast_S1x8448x1x2_S8x8448x50x2_0_1_2_3 main_v121
  let main_v124 : FVec F S8x8448x50x2 .f32 := subf main_v122 main_v123
  let main_v125 : FVec F S8x8448x50x4 .f32 := (fun a b => concatenate S8x8448x50x4 3 [⟨S8x8448x50x2, a⟩, ⟨S8x8448x50x2, b⟩] concatenates_S8x8448x50x2_S8x8448x50x2_S8x8448x50x4_d3) main_v118 main_v124
  let main_cst_8 : FVec F S_ .f32 := constant S_ .f32 0x7F800000#32
  let main_v126 : FVec F S8x8448x50 .f32 := (fun x v => Host.reduce FloatOps.minimumf x v reducesTo_S8x8448x50x4_S8x8448x50_d3 h_S_) main_v125 main_cst_8
  let main_cst_9 : FVec F S_ .f32 := constant S_ .f32 0x3089705F#32
  let main_v127 : FVec F S8x8448x50 .f32 := broadcastInDim S8x8448x50 ![] bcast_S_S8x8448x50 main_cst_9
  let main_v128 : IVec S8x8448x50 1 := cmpf .ogt main_v126 main_v127
  let main_v129 : FVec F S8x8448x50 .f32 := uitofp .f32 main_v128
  fn_part6 (F := F) main_arg0 main_arg1 main_arg2 main_arg4 main_arg5 main_arg6 main_v95 main_v104 main_v112 main_v129

def fn_part4 {F : FTy → Type} [FloatOps F] (main_arg0 : FVec F S8x8448x80 .f32) (main_arg1 : FVec F S8x8448x4 .f32) (main_arg2 : FVec F S8x8448x68 .f32) (main_arg3 : FVec F S8448x2 .f32) (main_arg4 : FVec F S8x50x4 .f32) (main_arg5 : FVec F S8x50x1 .f32) (main_arg6 : IVec S8x50x1 32) (main_v16 : FVec F S8x8448x50 .f32) (main_v21 : FVec F S8x8448x50 .f32) (main_v86 : FVec F S8x8448x50 .f32) (main_v88 : FVec F S8x1x50 .f32) (main_v89 : FVec F S8x8448x50 .f32) : IVec S_ 1 :=
  let main_v90 : FVec F S8x8448x50 .f32 := broadcastInDim S8x8448x50 ![0, 1, 2] bcast_S8x1x50_S8x8448x50_0_1_2 main_v88
  let main_v91 : FVec F S8x8448x50 .f32 := addf main_v89 main_v90
  let main_v92 : FVec F S8x8448x50 .f32 := subf main_v91 main_v86
  let main_cst_4 : FVec F S_ .f32 := constant S_ .f32 0x3089705F#32
  let main_v93 : FVec F S8x8448x50 .f32 := broadcastInDim S8x8448x50 ![] bcast_S_S8x8448x50 main_cst_4
  let main_v94 : FVec F S8x8448x50 .f32 := addf main_v92 main_v93
  let main_v95 : FVec F S8x8448x50 .f32 := Host.divf main_v86 main_v94
  let main_cst_5 : FVec F S_ .f32 := constant S_ .f32 0x3F800000#32
  let main_v96 : FVec F S8x8448x50 .f32 := broadcastInDim S8x8448x50 ![] bcast_S_S8x8448x50 main_cst_5
  let main_v97 : FVec F S8x8448x50 .f32 := Host.powf main_v21 main_v96
  let main_cst_6 : FVec F S_ .f32 := constant S_ .f32 0x40C00000#32
  let main_v98 : FVec F S8x8448x50 .f32 := broadcastInDim S8x8448x50 ![] bcast_S_S8x8448x50 main_cst_6
  let main_v99 : FVec F S8x8448x50 .f32 := Host.powf main_v95 main_v98
  let main_v100 : FVec F S8x8448x50 .f32 := mulf main_v97 main_v99
  let main_v101 : FVec F S8x8448x50 .f32 := mulf main_v100 main_v16
  let main_v102 : FVec F S8x1x50 .f32 := (transpose S8x1x50 [0, 2, 1] · transposes_S8x50x1_S8x1x50_0_2_1) main_arg5
  let main_v103 : FVec F S8x8448x50 .f32 := broadcastInDim S8x8448x50 ![0, 1, 2] bcast_S8x1x50_S8x8448x50_0_1_2 main_v102
  let main_v104 : FVec F S8x8448x50 .f32 := mulf main_v101 main_v103
  let main_v105 : FVec F S8x50x8448 .f32 := (transpose S8x50x8448 [0, 2, 1] · transposes_S8x8448x50_S8x50x8448_0_2_1) main_v104
  let main_values : FVec F S8x50x14 .f32 := (fun x => (Host.topK S8x50x14 2 (FloatOps.cmpfTotal .gt) x sliceFits_S8x50x8448_S8x50x14).1) main_v105
  let main_indices : IVec S8x50x14 32 := (fun x => (Host.topK S8x50x14 2 (FloatOps.cmpfTotal .gt) x sliceFits_S8x50x8448_S8x50x14).2) main_v105
  let main_v106 : FVec F S8x50x13 .f32 := (extractStridedSlice S8x50x13 ![0, 0, 0] · slices_S8x50x14_S8x50x13_0_0_0) main_values
  let main_v107 : FVec F S8x50x13 .f32 := (extractStridedSlice S8x50x13 ![0, 0, 1] · slices_S8x50x14_S8x50x13_0_0_1) main_values
  let main_v108 : IVec S8x50x13 1 := cmpf .ogt main_v106 main_v107
  fn_part5 (F := F) main_arg0 main_arg1 main_arg2 main_arg3 main_arg4 main_arg5 main_arg6 main_v95 main_v104 main_values main_v108

def fn_part3 {F : FTy → Type} [FloatOps F] (main_arg0 : FVec F S8x8448x80 .f32) (main_arg1 : FVec F S8x8448x4 .f32) (main_arg2 : FVec F S8x8448x68 .f32) (main_arg3 : FVec F S8448x2 .f32) (main_arg4 : FVec F S8x50x4 .f32) (main_arg5 : FVec F S8x50x1 .f32) (main_arg6 : IVec S8x50x1 32) (main_v16 : FVec F S8x8448x50 .f32) (main_v21 : FVec F S8x8448x50 .f32) (main_v32 : FVec F S8x8448 .f32) (main_v43 : FVec F S8x50 .f32) (main_v52 : FVec F S8x8448x50 .f32) (main_v61 : FVec F S8x8448x50 .f32) (main_v64 : FVec F S8x8448x1 .f32) (main_v67 : FVec F S8x1x50 .f32) : IVec S_ 1 :=
  let main_v68 : FVec F S8x8448x50 .f32 := broadcastInDim S8x8448x50 ![0, 1, 2] bcast_S8x8448x1_S8x8448x50_0_1_2 main_v64
  let main_v69 : FVec F S8x8448x50 .f32 := broadcastInDim S8x8448x50 ![0, 1, 2] bcast_S8x1x50_S8x8448x50_0_1_2 main_v67
  let main_v70 : FVec F S8x8448x50 .f32 := minimumf main_v68 main_v69
  let main_v71 : FVec F S8x8448x1 .f32 := (extractStridedSlice S8x8448x1 ![0, 0, 3] · slices_S8x8448x4_S8x8448x1_0_0_3) main_arg1
  let main_v72 : FVec F S8x8448 .f32 := shapeCast S8x8448 main_v71 shapeCasts_S8x8448x1_S8x8448
  let main_v73 : FVec F S8x8448x1 .f32 := broadcastInDim S8x8448x1 ![0, 1] bcast_S8x8448_S8x8448x1_0_1 main_v72
  let main_v74 : FVec F S8x50x1 .f32 := (extractStridedSlice S8x50x1 ![0, 0, 3] · slices_S8x50x4_S8x50x1_0_0_3) main_arg4
  let main_v75 : FVec F S8x50 .f32 := shapeCast S8x50 main_v74 shapeCasts_S8x50x1_S8x50
  let main_v76 : FVec F S8x1x50 .f32 := broadcastInDim S8x1x50 ![0, 2] bcast_S8x50_S8x1x50_0_2 main_v75
  let main_v77 : FVec F S8x8448x50 .f32 := broadcastInDim S8x8448x50 ![0, 1, 2] bcast_S8x8448x1_S8x8448x50_0_1_2 main_v73
  let main_v78 : FVec F S8x8448x50 .f32 := broadcastInDim S8x8448x50 ![0, 1, 2] bcast_S8x1x50_S8x8448x50_0_1_2 main_v76
  let main_v79 : FVec F S8x8448x50 .f32 := minimumf main_v77 main_v78
  let main_v80 : FVec F S8x8448x50 .f32 := subf main_v70 main_v52
  let main_cst_2 : FVec F S_ .f32 := constant S_ .f32 0x00000000#32
  let main_v81 : FVec F S8x8448x50 .f32 := broadcastInDim S8x8448x50 ![] bcast_S_S8x8448x50 main_cst_2
  let main_v82 : FVec F S8x8448x50 .f32 := maximumf main_v80 main_v81
  let main_v83 : FVec F S8x8448x50 .f32 := subf main_v79 main_v61
  let main_cst_3 : FVec F S_ .f32 := constant S_ .f32 0x00000000#32
  let main_v84 : FVec F S8x8448x50 .f32 := broadcastInDim S8x8448x50 ![] bcast_S_S8x8448x50 main_cst_3
  let main_v85 : FVec F S8x8448x50 .f32 := maximumf main_v83 main_v84
  let main_v86 : FVec F S8x8448x50 .f32 := mulf main_v82 main_v85
  let main_v87 : FVec F S8x8448x1 .f32 := broadcastInDim S8x8448x1 ![0, 1] bcast_S8x8448_S8x8448x1_0_1 main_v32
  let main_v88 : FVec F S8x1x50 .f32 := broadcastInDim S8x1x50 ![0, 2] bcast_S8x50_S8x1x50_0_2 main_v43
  let main_v89 : FVec F S8x8448x50 .f32 := broadcastInDim S8x8448x50 ![0, 1, 2] bcast_S8x8448x1_S8x8448x50_0_1_2 main_v87
  fn_part4 (F := F) main_arg0 main_arg1 main_arg2 main_arg3 main_arg4 main_arg5 main_arg6 main_v16 main_v21 main_v86 main_v88 main_v89

def fn_part2 {F : FTy → Type} [FloatOps F] (main_arg0 : FVec F S8x8448x80 .f32) (main_arg1 : FVec F S8x8448x4 .f32) (main_arg2 : FVec F S8x8448x68 .f32) (main_arg3 : FVec F S8448x2 .f32) (main_arg4 : FVec F S8x50x4 .f32) (main_arg5 : FVec F S8x50x1 .f32) (main_arg6 : IVec S8x50x1 32) (main_v16 : FVec F S8x8448x50 .f32) (main_v21 : FVec F S8x8448x50 .f32) (main_v32 : FVec F S8x8448 .f32) (main_v43 : FVec F S8x50 .f32) : IVec S_ 1 :=
  let main_v44 : FVec F S8x8448x1 .f32 := (extractStridedSlice S8x8448x1 ![0, 0, 0] · slices_S8x8448x4_S8x8448x1_0_0_0) main_arg1
  let main_v45 : FVec F S8x8448 .f32 := shapeCast S8x8448 main_v44 shapeCasts_S8x8448x1_S8x8448
  let main_v46 : FVec F S8x8448x1 .f32 := broadcastInDim S8x8448x1 ![0, 1] bcast_S8x8448_S8x8448x1_0_1 main_v45
  let main_v47 : FVec F S8x50x1 .f32 := (extractStridedSlice S8x50x1 ![0, 0, 0] · slices_S8x50x4_S8x50x1_0_0_0) main_arg4
  let main_v48 : FVec F S8x50 .f32 := shapeCast S8x50 main_v47 shapeCasts_S8x50x1_S8x50
  let main_v49 : FVec F S8x1x50 .f32 := broadcastInDim S8x1x50 ![0, 2] bcast_S8x50_S8x1x50_0_2 main_v48
  let main_v50 : FVec F S8x8448x50 .f32 := broadcastInDim S8x8448x50 ![0, 1, 2] bcast_S8x8448x1_S8x8448x50_0_1_2 main_v46
  let main_v51 : FVec F S8x8448x50 .f32 := broadcastInDim S8x8448x50 ![0, 1, 2] bcast_S8x1x50_S8x8448x50_0_1_2 main_v49
  let main_v52 : FVec F S8x8448x50 .f32 := maximumf main_v50 main_v51
  let main_v53 : FVec F S8x8448x1 .f32 := (extractStridedSlice S8x8448x1 ![0, 0, 1] · slices_S8x8448x4_S8x8448x1_0_0_1) main_arg1
  let main_v54 : FVec F S8x8448 .f32 := shapeCast S8x8448 main_v53 shapeCasts_S8x8448x1_S8x8448
  let main_v55 : FVec F S8x8448x1 .f32 := broadcastInDim S8x8448x1 ![0, 1] bcast_S8x8448_S8x8448x1_0_1 main_v54
  let main_v56 : FVec F S8x50x1 .f32 := (extractStridedSlice S8x50x1 ![0, 0, 1] · slices_S8x50x4_S8x50x1_0_0_1) main_arg4
  let main_v57 : FVec F S8x50 .f32 := shapeCast S8x50 main_v56 shapeCasts_S8x50x1_S8x50
  let main_v58 : FVec F S8x1x50 .f32 := broadcastInDim S8x1x50 ![0, 2] bcast_S8x50_S8x1x50_0_2 main_v57
  let main_v59 : FVec F S8x8448x50 .f32 := broadcastInDim S8x8448x50 ![0, 1, 2] bcast_S8x8448x1_S8x8448x50_0_1_2 main_v55
  let main_v60 : FVec F S8x8448x50 .f32 := broadcastInDim S8x8448x50 ![0, 1, 2] bcast_S8x1x50_S8x8448x50_0_1_2 main_v58
  let main_v61 : FVec F S8x8448x50 .f32 := maximumf main_v59 main_v60
  let main_v62 : FVec F S8x8448x1 .f32 := (extractStridedSlice S8x8448x1 ![0, 0, 2] · slices_S8x8448x4_S8x8448x1_0_0_2) main_arg1
  let main_v63 : FVec F S8x8448 .f32 := shapeCast S8x8448 main_v62 shapeCasts_S8x8448x1_S8x8448
  let main_v64 : FVec F S8x8448x1 .f32 := broadcastInDim S8x8448x1 ![0, 1] bcast_S8x8448_S8x8448x1_0_1 main_v63
  let main_v65 : FVec F S8x50x1 .f32 := (extractStridedSlice S8x50x1 ![0, 0, 2] · slices_S8x50x4_S8x50x1_0_0_2) main_arg4
  let main_v66 : FVec F S8x50 .f32 := shapeCast S8x50 main_v65 shapeCasts_S8x50x1_S8x50
  let main_v67 : FVec F S8x1x50 .f32 := broadcastInDim S8x1x50 ![0, 2] bcast_S8x50_S8x1x50_0_2 main_v66
  fn_part3 (F := F) main_arg0 main_arg1 main_arg2 main_arg3 main_arg4 main_arg5 main_arg6 main_v16 main_v21 main_v32 main_v43 main_v52 main_v61 main_v64 main_v67

def fn_part1 {F : FTy → Type} [FloatOps F] (main_arg0 : FVec F S8x8448x80 .f32) (main_arg1 : FVec F S8x8448x4 .f32) (main_arg2 : FVec F S8x8448x68 .f32) (main_arg3 : FVec F S8448x2 .f32) (main_arg4 : FVec F S8x50x4 .f32) (main_arg5 : FVec F S8x50x1 .f32) (main_arg6 : IVec S8x50x1 32) (main_v16 : FVec F S8x8448x50 .f32) (main_v19 : IVec S8x1x50 32) : IVec S_ 1 :=
  let main_v20 : IVec S8x8448x50 32 := broadcastInDim S8x8448x50 ![0, 1, 2] bcast_S8x1x50_S8x8448x50_0_1_2 main_v19
  let main_v21 : FVec F S8x8448x50 .f32 := fn_take_along_axis (F := F) main_arg0 main_v20
  let main_v22 : FVec F S8x8448x1 .f32 := (extractStridedSlice S8x8448x1 ![0, 0, 2] · slices_S8x8448x4_S8x8448x1_0_0_2) main_arg1
  let main_v23 : FVec F S8x8448 .f32 := shapeCast S8x8448 main_v22 shapeCasts_S8x8448x1_S8x8448
  let main_v24 : FVec F S8x8448x1 .f32 := (extractStridedSlice S8x8448x1 ![0, 0, 0] · slices_S8x8448x4_S8x8448x1_0_0_0) main_arg1
  let main_v25 : FVec F S8x8448 .f32 := shapeCast S8x8448 main_v24 shapeCasts_S8x8448x1_S8x8448
  let main_v26 : FVec F S8x8448 .f32 := subf main_v23 main_v25
  let main_v27 : FVec F S8x8448x1 .f32 := (extractStridedSlice S8x8448x1 ![0, 0, 3] · slices_S8x8448x4_S8x8448x1_0_0_3) main_arg1
  let main_v28 : FVec F S8x8448 .f32 := shapeCast S8x8448 main_v27 shapeCasts_S8x8448x1_S8x8448
  let main_v29 : FVec F S8x8448x1 .f32 := (extractStridedSlice S8x8448x1 ![0, 0, 1] · slices_S8x8448x4_S8x8448x1_0_0_1) main_arg1
  let main_v30 : FVec F S8x8448 .f32 := shapeCast S8x8448 main_v29 shapeCasts_S8x8448x1_S8x8448
  let main_v31 : FVec F S8x8448 .f32 := subf main_v28 main_v30
  let main_v32 : FVec F S8x8448 .f32 := mulf main_v26 main_v31
  let main_v33 : FVec F S8x50x1 .f32 := (extractStridedSlice S8x50x1 ![0, 0, 2] · slices_S8x50x4_S8x50x1_0_0_2) main_arg4
  let main_v34 : FVec F S8x50 .f32 := shapeCast S8x50 main_v33 shapeCasts_S8x50x1_S8x50
  let main_v35 : FVec F S8x50x1 .f32 := (extractStridedSlice S8x50x1 ![0, 0, 0] · slices_S8x50x4_S8x50x1_0_0_0) main_arg4
  let main_v36 : FVec F S8x50 .f32 := shapeCast S8x50 main_v35 shapeCasts_S8x50x1_S8x50
  let main_v37 : FVec F S8x50 .f32 := subf main_v34 main_v36
  let main_v38 : FVec F S8x50x1 .f32 := (extractStridedSlice S8x50x1 ![0, 0, 3] · slices_S8x50x4_S8x50x1_0_0_3) main_arg4
  let main_v39 : FVec F S8x50 .f32 := shapeCast S8x50 main_v38 shapeCasts_S8x50x1_S8x50
  let main_v40 : FVec F S8x50x1 .f32 := (extractStridedSlice S8x50x1 ![0, 0, 1] · slices_S8x50x4_S8x50x1_0_0_1) main_arg4
  let main_v41 : FVec F S8x50 .f32 := shapeCast S8x50 main_v40 shapeCasts_S8x50x1_S8x50
  let main_v42 : FVec F S8x50 .f32 := subf main_v39 main_v41
  let main_v43 : FVec F S8x50 .f32 := mulf main_v37 main_v42
  fn_part2 (F := F) main_arg0 main_arg1 main_arg2 main_arg3 main_arg4 main_arg5 main_arg6 main_v16 main_v21 main_v32 main_v43

def fn {F : FTy → Type} [FloatOps F] (main_arg0 : FVec F S8x8448x80 .f32) (main_arg1 : FVec F S8x8448x4 .f32) (main_arg2 : FVec F S8x8448x68 .f32) (main_arg3 : FVec F S8448x2 .f32) (main_arg4 : FVec F S8x50x4 .f32) (main_arg5 : FVec F S8x50x1 .f32) (main_arg6 : IVec S8x50x1 32) : IVec S_ 1 :=
  let main_v0 : FVec F S1x8448x1x2 .f32 := broadcastInDim S1x8448x1x2 ![1, 3] bcast_S8448x2_S1x8448x1x2_1_3 main_arg3
  let main_v1 : FVec F S8x50x2 .f32 := (extractStridedSlice S8x50x2 ![0, 0, 0] · slices_S8x50x4_S8x50x2_0_0_0) main_arg4
  let main_v2 : FVec F S8x1x50x2 .f32 := broadcastInDim S8x1x50x2 ![0, 2, 3] bcast_S8x50x2_S8x1x50x2_0_2_3 main_v1
  let main_v3 : FVec F S8x8448x50x2 .f32 := broadcastInDim S8x8448x50x2 ![0, 1, 2, 3] bcast_S1x8448x1x2_S8x8448x50x2_0_1_2_3 main_v0
  let main_v4 : FVec F S8x8448x50x2 .f32 := broadcastInDim S8x8448x50x2 ![0, 1, 2, 3] bcast_S8x1x50x2_S8x8448x50x2_0_1_2_3 main_v2
  let main_v5 : FVec F S8x8448x50x2 .f32 := subf main_v3 main_v4
  let main_v6 : FVec F S8x50x2 .f32 := (extractStridedSlice S8x50x2 ![0, 0, 2] · slices_S8x50x4_S8x50x2_0_0_2) main_arg4
  let main_v7 : FVec F S8x1x50x2 .f32 := broadcastInDim S8x1x50x2 ![0, 2, 3] bcast_S8x50x2_S8x1x50x2_0_2_3 main_v6
  let main_v8 : FVec F S1x8448x1x2 .f32 := broadcastInDim S1x8448x1x2 ![1, 3] bcast_S8448x2_S1x8448x1x2_1_3 main_arg3
  let main_v9 : FVec F S8x8448x50x2 .f32 := broadcastInDim S8x8448x50x2 ![0, 1, 2, 3] bcast_S8x1x50x2_S8x8448x50x2_0_1_2_3 main_v7
  let main_v10 : FVec F S8x8448x50x2 .f32 := broadcastInDim S8x8448x50x2 ![0, 1, 2, 3] bcast_S1x8448x1x2_S8x8448x50x2_0_1_2_3 main_v8
  let main_v11 : FVec F S8x8448x50x2 .f32 := subf main_v9 main_v10
  let main_v12 : FVec F S8x8448x50x4 .f32 := (fun a b => concatenate S8x8448x50x4 3 [⟨S8x8448x50x2, a⟩, ⟨S8x8448x50x2, b⟩] concatenates_S8x8448x50x2_S8x8448x50x2_S8x8448x50x4_d3) main_v5 main_v11
  let main_cst : FVec F S_ .f32 := constant S_ .f32 0x7F800000#32
  let main_v13 : FVec F S8x8448x50 .f32 := (fun x v => Host.reduce FloatOps.minimumf x v reducesTo_S8x8448x50x4_S8x8448x50_d3 h_S_) main_v12 main_cst
  let main_cst_0 : FVec F S_ .f32 := constant S_ .f32 0x3089705F#32
  let main_v14 : FVec F S8x8448x50 .f32 := broadcastInDim S8x8448x50 ![] bcast_S_S8x8448x50 main_cst_0
  let main_v15 : IVec S8x8448x50 1 := cmpf .ogt main_v13 main_v14
  let main_v16 : FVec F S8x8448x50 .f32 := uitofp .f32 main_v15
  let main_v17 : IVec S8x50 32 := shapeCast S8x50 main_arg6 shapeCasts_S8x50x1_S8x50
  let main_c : IVec S_ 32 := constantI S_ 32 0#32
  let main_c_1 : IVec S_ 32 := constantI S_ 32 79#32
  let main_v18 : IVec S8x50 32 := fn_clip (F := F) main_v17 main_c main_c_1
  let main_v19 : IVec S8x1x50 32 := broadcastInDim S8x1x50 ![0, 2] bcast_S8x50_S8x1x50_0_2 main_v18
  fn_part1 (F := F) main_arg0 main_arg1 main_arg2 main_arg3 main_arg4 main_arg5 main_arg6 main_v16 main_v19
-- ==== Kernel.lean ====
abbrev S8x8448x80 : Shape := ⟨3, ![8, 8448, 80]⟩
abbrev S8x8448x4 : Shape := ⟨3, ![8, 8448, 4]⟩
abbrev S8x8448x68 : Shape := ⟨3, ![8, 8448, 68]⟩
abbrev S8448x2 : Shape := ⟨2, ![8448, 2]⟩
abbrev S8x50x4 : Shape := ⟨3, ![8, 50, 4]⟩
abbrev S8x50x1 : Shape := ⟨3, ![8, 50, 1]⟩
abbrev S8x50 : Shape := ⟨2, ![8, 50]⟩
abbrev S_ : Shape := ⟨0, ![]⟩
abbrev S8x80x8448 : Shape := ⟨3, ![8, 80, 8448]⟩
abbrev S8x4x8448 : Shape := ⟨3, ![8, 4, 8448]⟩
abbrev S2x8448 : Shape := ⟨2, ![2, 8448]⟩
abbrev S1x2x8448 : Shape := ⟨3, ![1, 2, 8448]⟩
abbrev S8x2x8448 : Shape := ⟨3, ![8, 2, 8448]⟩
abbrev S8x6x8448 : Shape := ⟨3, ![8, 6, 8448]⟩
abbrev S8x8448x4x17 : Shape := ⟨4, ![8, 8448, 4, 17]⟩
abbrev S8x4x17x8448 : Shape := ⟨4, ![8, 4, 17, 8448]⟩
abbrev S8x4x50 : Shape := ⟨3, ![8, 4, 50]⟩
abbrev S8x1x50 : Shape := ⟨3, ![8, 1, 50]⟩
abbrev S8x1x1 : Shape := ⟨3, ![8, 1, 1]⟩
abbrev S1x80x8448 : Shape := ⟨3, ![1, 80, 8448]⟩
abbrev S1x6x8448 : Shape := ⟨3, ![1, 6, 8448]⟩
abbrev S1x4x17x8448 : Shape := ⟨4, ![1, 4, 17, 8448]⟩
abbrev S1x50x4 : Shape := ⟨3, ![1, 50, 4]⟩
abbrev S1x4x50 : Shape := ⟨3, ![1, 4, 50]⟩
abbrev S1x50x1 : Shape := ⟨3, ![1, 50, 1]⟩
abbrev S1x1x50 : Shape := ⟨3, ![1, 1, 50]⟩
abbrev S1x1x1 : Shape := ⟨3, ![1, 1, 1]⟩
abbrev S50x8448 : Shape := ⟨2, ![50, 8448]⟩
abbrev S50x4 : Shape := ⟨2, ![50, 4]⟩
abbrev S4x50 : Shape := ⟨2, ![4, 50]⟩
abbrev S50x1 : Shape := ⟨2, ![50, 1]⟩
abbrev S1x50 : Shape := ⟨2, ![1, 50]⟩
abbrev S50x80 : Shape := ⟨2, ![50, 80]⟩
abbrev S80x50 : Shape := ⟨2, ![80, 50]⟩
abbrev S1x6x1408 : Shape := ⟨3, ![1, 6, 1408]⟩
abbrev S6x1408 : Shape := ⟨2, ![6, 1408]⟩
abbrev S1x1408 : Shape := ⟨2, ![1, 1408]⟩
abbrev S50x1408 : Shape := ⟨2, ![50, 1408]⟩
abbrev S1x80x1408 : Shape := ⟨3, ![1, 80, 1408]⟩
abbrev S80x1408 : Shape := ⟨2, ![80, 1408]⟩
abbrev S50 : Shape := ⟨1, ![50]⟩
abbrev S1x1 : Shape := ⟨2, ![1, 1]⟩
abbrev S49x1 : Shape := ⟨2, ![49, 1]⟩
abbrev S2x1 : Shape := ⟨2, ![2, 1]⟩
abbrev S48x1 : Shape := ⟨2, ![48, 1]⟩
abbrev S4x1 : Shape := ⟨2, ![4, 1]⟩
abbrev S46x1 : Shape := ⟨2, ![46, 1]⟩
abbrev S8x1 : Shape := ⟨2, ![8, 1]⟩
abbrev S42x1 : Shape := ⟨2, ![42, 1]⟩
abbrev S16x1 : Shape := ⟨2, ![16, 1]⟩
abbrev S34x1 : Shape := ⟨2, ![34, 1]⟩
abbrev S32x1 : Shape := ⟨2, ![32, 1]⟩
abbrev S18x1 : Shape := ⟨2, ![18, 1]⟩
abbrev S17x1408 : Shape := ⟨2, ![17, 1408]⟩
abbrev S1408 : Shape := ⟨1, ![1408]⟩
abbrev S4x1408 : Shape := ⟨2, ![4, 1408]⟩
abbrev S49x1408 : Shape := ⟨2, ![49, 1408]⟩
abbrev S2x1408 : Shape := ⟨2, ![2, 1408]⟩
abbrev S48x1408 : Shape := ⟨2, ![48, 1408]⟩
abbrev S46x1408 : Shape := ⟨2, ![46, 1408]⟩
abbrev S8x1408 : Shape := ⟨2, ![8, 1408]⟩
abbrev S42x1408 : Shape := ⟨2, ![42, 1408]⟩
abbrev S16x1408 : Shape := ⟨2, ![16, 1408]⟩
abbrev S34x1408 : Shape := ⟨2, ![34, 1408]⟩
abbrev S32x1408 : Shape := ⟨2, ![32, 1408]⟩
abbrev S18x1408 : Shape := ⟨2, ![18, 1408]⟩
abbrev S1x1x17x1408 : Shape := ⟨4, ![1, 1, 17, 1408]⟩
abbrev S1x1x1408 : Shape := ⟨3, ![1, 1, 1408]⟩
abbrev S1 : Shape := ⟨1, ![1]⟩

abbrev nBuf : Space → Nat
  | .hbm => 65
  | .vmem => 28
  | .smem => 0
  | _ => 0

abbrev bufTy : (tb : Table) → Fin (tcTables nBuf tb) → BufTy
  | .hbm, ⟨0, _⟩ => ⟨S8x8448x80, .f32⟩
  | .hbm, ⟨1, _⟩ => ⟨S8x8448x4, .f32⟩
  | .hbm, ⟨2, _⟩ => ⟨S8x8448x68, .f32⟩
  | .hbm, ⟨3, _⟩ => ⟨S8448x2, .f32⟩
  | .hbm, ⟨4, _⟩ => ⟨S8x50x4, .f32⟩
  | .hbm, ⟨5, _⟩ => ⟨S8x50x1, .f32⟩
  | .hbm, ⟨6, _⟩ => ⟨S8x50x1, .i32⟩
  | .hbm, ⟨7, _⟩ => ⟨S8x50, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S8x50, .i32⟩
  | .hbm, ⟨12, _⟩ => ⟨S8x50, .i32⟩
  | .hbm, ⟨13, _⟩ => ⟨S_, .i32⟩
  | .hbm, ⟨14, _⟩ => ⟨S8x50, .i32⟩
  | .hbm, ⟨15, _⟩ => ⟨S8x50, .i32⟩
  | .hbm, ⟨16, _⟩ => ⟨S8x50, .f32⟩
  | .hbm, ⟨17, _⟩ => ⟨S8x80x8448, .f32⟩
  | .hbm, ⟨18, _⟩ => ⟨S_, .i32⟩
  | .hbm, ⟨19, _⟩ => ⟨S_, .f32⟩
  | .hbm, ⟨20, _⟩ => ⟨S8x80x8448, .f32⟩
  | .hbm, ⟨21, _⟩ => ⟨S8x4x8448, .f32⟩
  | .hbm, ⟨22, _⟩ => ⟨S2x8448, .f32⟩
  | .hbm, ⟨23, _⟩ => ⟨S1x2x8448, .f32⟩
  | .hbm, ⟨24, _⟩ => ⟨S8x2x8448, .f32⟩
  | .hbm, ⟨25, _⟩ => ⟨S8x6x8448, .f32⟩
  | .hbm, ⟨26, _⟩ => ⟨S_, .i32⟩
  | .hbm, ⟨27, _⟩ => ⟨S_, .f32⟩
  | .hbm, ⟨28, _⟩ => ⟨S8x6x8448, .f32⟩
  | .hbm, ⟨29, _⟩ => ⟨S8x8448x4x17, .f32⟩
  | .hbm, ⟨30, _⟩ => ⟨S8x4x17x8448, .f32⟩
  | .hbm, ⟨31, _⟩ => ⟨S_, .i32⟩
  | .hbm, ⟨32, _⟩ => ⟨S_, .f32⟩
  | .hbm, ⟨33, _⟩ => ⟨S8x4x17x8448, .f32⟩
  | .hbm, ⟨34, _⟩ => ⟨S8x4x50, .f32⟩
  | .hbm, ⟨35, _⟩ => ⟨S8x50x1, .f32⟩
  | .hbm, ⟨36, _⟩ => ⟨S8x1x50, .f32⟩
  | .hbm, ⟨37, _⟩ => ⟨S8x1x1, .f32⟩
  | .hbm, ⟨38, _⟩ => ⟨S8x1x1, .f32⟩
  | .hbm, ⟨39, _⟩ => ⟨S8x1x1, .f32⟩
  | .hbm, ⟨40, _⟩ => ⟨S8x1x1, .f32⟩
  | .hbm, ⟨41, _⟩ => ⟨S8x1x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S1x80x8448, .f32⟩
  | .local _ .vmem, ⟨1, _⟩ => ⟨S1x80x8448, .f32⟩
  | .local _ .vmem, ⟨2, _⟩ => ⟨S1x6x8448, .f32⟩
  | .local _ .vmem, ⟨3, _⟩ => ⟨S1x6x8448, .f32⟩
  | .local _ .vmem, ⟨4, _⟩ => ⟨S1x4x17x8448, .f32⟩
  | .local _ .vmem, ⟨5, _⟩ => ⟨S1x4x17x8448, .f32⟩
  | .local _ .vmem, ⟨6, _⟩ => ⟨S1x50x4, .f32⟩
  | .local _ .vmem, ⟨7, _⟩ => ⟨S1x50x4, .f32⟩
  | .local _ .vmem, ⟨8, _⟩ => ⟨S1x4x50, .f32⟩
  | .local _ .vmem, ⟨9, _⟩ => ⟨S1x4x50, .f32⟩
  | .local _ .vmem, ⟨10, _⟩ => ⟨S1x50x1, .f32⟩
  | .local _ .vmem, ⟨11, _⟩ => ⟨S1x50x1, .f32⟩
  | .local _ .vmem, ⟨12, _⟩ => ⟨S1x1x50, .f32⟩
  | .local _ .vmem, ⟨13, _⟩ => ⟨S1x1x50, .f32⟩
  | .local _ .vmem, ⟨14, _⟩ => ⟨S1x50x1, .f32⟩
  | .local _ .vmem, ⟨15, _⟩ => ⟨S1x50x1, .f32⟩
  | .local _ .vmem, ⟨16, _⟩ => ⟨S1x1x1, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | .local _ .vmem, ⟨20, _⟩ => ⟨S1x1x1, .f32⟩
  | .local _ .vmem, ⟨21, _⟩ => ⟨S1x1x1, .f32⟩
  | .local _ .vmem, ⟨22, _⟩ => ⟨S1x1x1, .f32⟩
  | .local _ .vmem, ⟨23, _⟩ => ⟨S1x1x1, .f32⟩
  | .local _ .vmem, ⟨24, _⟩ => ⟨S1x1x1, .f32⟩
  | .local _ .vmem, ⟨25, _⟩ => ⟨S1x1x1, .f32⟩
  | .local _ .vmem, ⟨26, _⟩ => ⟨S50x8448, .f32⟩
  | .local _ .vmem, ⟨27, _⟩ => ⟨S50x8448, .f32⟩
  | _, _ => ⟨S8x8448x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_call1_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_call2_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_call3_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17_0 : Ref sig .tc := ⟨.hbm, 37, rfl⟩
abbrev main_v17_1 : Ref sig .tc := ⟨.hbm, 38, rfl⟩
abbrev main_v17_2 : Ref sig .tc := ⟨.hbm, 39, rfl⟩
abbrev main_v17_3 : Ref sig .tc := ⟨.hbm, 40, rfl⟩
abbrev main_v17_4 : Ref sig .tc := ⟨.hbm, 41, rfl⟩
abbrev main_cst : Ref sig .tc := ⟨.hbm, 42, rfl⟩
abbrev main_v18 : Ref sig .tc := ⟨.hbm, 43, rfl⟩
abbrev main_cst_4 : Ref sig .tc := ⟨.hbm, 44, rfl⟩
abbrev main_v19 : Ref sig .tc := ⟨.hbm, 45, rfl⟩
abbrev main_cst_5 : Ref sig .tc := ⟨.hbm, 46, rfl⟩
abbrev main_v20 : Ref sig .tc := ⟨.hbm, 47, rfl⟩
abbrev main_cst_6 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_cst_8 : Ref sig .tc := ⟨.hbm, 52, rfl⟩
abbrev main_v23 : Ref sig .tc := ⟨.hbm, 53, rfl⟩
abbrev main_cst_9 : Ref sig .tc := ⟨.hbm, 54, rfl⟩
abbrev main_v24 : Ref sig .tc := ⟨.hbm, 55, rfl⟩
abbrev main_v25 : Ref sig .tc := ⟨.hbm, 56, rfl⟩
abbrev main_cst_10 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_11 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x8448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x8448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x17x8448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x50x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x50x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x50 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x50x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8x8448x80 : Shape := ⟨3, ![8, 8448, 80]⟩
abbrev S8x8448x4 : Shape := ⟨3, ![8, 8448, 4]⟩
abbrev S8x8448x68 : Shape := ⟨3, ![8, 8448, 68]⟩
abbrev S8448x2 : Shape := ⟨2, ![8448, 2]⟩
abbrev S8x50x4 : Shape := ⟨3, ![8, 50, 4]⟩
abbrev S8x50x1 : Shape := ⟨3, ![8, 50, 1]⟩
abbrev S1x8448x1x2 : Shape := ⟨4, ![1, 8448, 1, 2]⟩
abbrev S8x50x2 : Shape := ⟨3, ![8, 50, 2]⟩
abbrev S8x1x50x2 : Shape := ⟨4, ![8, 1, 50, 2]⟩
abbrev S8x8448x50x2 : Shape := ⟨4, ![8, 8448, 50, 2]⟩
abbrev S8x8448x50x4 : Shape := ⟨4, ![8, 8448, 50, 4]⟩
abbrev S_ : Shape := ⟨0, ![]⟩
abbrev S8x8448x50 : Shape := ⟨3, ![8, 8448, 50]⟩
abbrev S8x50 : Shape := ⟨2, ![8, 50]⟩
abbrev S8x1x50 : Shape := ⟨3, ![8, 1, 50]⟩
abbrev S8x8448x50x1 : Shape := ⟨4, ![8, 8448, 50, 1]⟩
abbrev S8x8448x1 : Shape := ⟨3, ![8, 8448, 1]⟩
abbrev S8x8448 : Shape := ⟨2, ![8, 8448]⟩
abbrev S8x50x8448 : Shape := ⟨3, ![8, 50, 8448]⟩
abbrev S8x50x13 : Shape := ⟨3, ![8, 50, 13]⟩
abbrev S8x50x13x1 : Shape := ⟨4, ![8, 50, 13, 1]⟩
abbrev S8448 : Shape := ⟨1, ![8448]⟩
abbrev S1x1x1x8448 : Shape := ⟨4, ![1, 1, 1, 8448]⟩
abbrev S8x50x13x8448 : Shape := ⟨4, ![8, 50, 13, 8448]⟩
abbrev S1x8448x2 : Shape := ⟨3, ![1, 8448, 2]⟩
abbrev S8x8448x2 : Shape := ⟨3, ![8, 8448, 2]⟩
abbrev S8x8448x4x17 : Shape := ⟨4, ![8, 8448, 4, 17]⟩
abbrev S8x8448x4x1 : Shape := ⟨4, ![8, 8448, 4, 1]⟩
abbrev S8x8448x4x1x1 : Shape := ⟨5, ![8, 8448, 4, 1, 1]⟩
abbrev S8 : Shape := ⟨1, ![8]⟩
abbrev S8x1x1 : Shape := ⟨3, ![8, 1, 1]⟩
abbrev S80 : Shape := ⟨1, ![80]⟩
abbrev S1x1x80 : Shape := ⟨3, ![1, 1, 80]⟩
abbrev S8x50x80 : Shape := ⟨3, ![8, 50, 80]⟩
abbrev S8x50x80x1 : Shape := ⟨4, ![8, 50, 80, 1]⟩
abbrev S8x50x1x8448 : Shape := ⟨4, ![8, 50, 1, 8448]⟩
abbrev S8x50x80x8448 : Shape := ⟨4, ![8, 50, 80, 8448]⟩
abbrev S8x80x8448 : Shape := ⟨3, ![8, 80, 8448]⟩

abbrev nBuf : Space → Nat
  | .hbm => 448
  | .vmem => 0
  | .smem => 0
  | _ => 0

abbrev hbmTy0_0 (i : Nat) : BufTy := match i % 128 with
  | 0 => ⟨S8x8448x80, .f32⟩
  | 1 => ⟨S8x8448x4, .f32⟩
  | 2 => ⟨S8x8448x68, .f32⟩
  | 3 => ⟨S8448x2, .f32⟩
  | 4 => ⟨S8x50x4, .f32⟩
  | 5 => ⟨S8x50x1, .f32⟩
  | 6 => ⟨S8x50x1, .i32⟩
  | 7 => ⟨S1x8448x1x2, .f32⟩
  | 8 => ⟨S8x50x2, .f32⟩
  | 9 => ⟨S8x1x50x2, .f32⟩
  | 10 => ⟨S8x8448x50x2, .f32⟩
  | 11 => ⟨S8x8448x50x2, .f32⟩
  | 12 => ⟨S8x8448x50x2, .f32⟩
  | 13 => ⟨S8x50x2, .f32⟩
  | 14 => ⟨S8x1x50x2, .f32⟩
  | 15 => ⟨S1x8448x1x2, .f32⟩
  | 16 => ⟨S8x8448x50x2, .f32⟩
  | 17 => ⟨S8x8448x50x2, .f32⟩
  | 18 => ⟨S8x8448x50x2, .f32⟩
  | 19 => ⟨S8x8448x50x4, .f32⟩
  | 20 => ⟨S_, .f32⟩
  | 21 => ⟨S8x8448x50, .f32⟩
  | 22 => ⟨S_, .f32⟩
  | 23 => ⟨S8x8448x50, .f32⟩
  | 24 => ⟨S8x8448x50, .i1⟩
  | 25 => ⟨S8x8448x50, .f32⟩
  | 26 => ⟨S8x50, .i32⟩
  | 27 => ⟨S_, .i32⟩
  | 28 => ⟨S_, .i32⟩
  | 29 => ⟨S_, .i32⟩
  | 30 => ⟨S8x50, .i32⟩
  | 31 => ⟨S8x50, .i32⟩
  | 32 => ⟨S_, .i32⟩
  | 33 => ⟨S8x50, .i32⟩
  | 34 => ⟨S8x50, .i32⟩
  | 35 => ⟨S8x1x50, .i32⟩
  | 36 => ⟨S8x8448x50, .i32⟩
  | 37 => ⟨S_, .i32⟩
  | 38 => ⟨S8x8448x50, .i32⟩
  | 39 => ⟨S8x8448x50, .i1⟩
  | 40 => ⟨S_, .i32⟩
  | 41 => ⟨S8x8448x50, .i32⟩
  | 42 => ⟨S8x8448x50, .i32⟩
  | 43 => ⟨S8x8448x50, .i32⟩
  | 44 => ⟨S8x8448x50x1, .i32⟩
  | 45 => ⟨S8x8448x50, .f32⟩
  | 46 => ⟨S8x8448x1, .f32⟩
  | 47 => ⟨S8x8448, .f32⟩
  | 48 => ⟨S8x8448x1, .f32⟩
  | 49 => ⟨S8x8448, .f32⟩
  | 50 => ⟨S8x8448, .f32⟩
  | 51 => ⟨S8x8448x1, .f32⟩
  | 52 => ⟨S8x8448, .f32⟩
  | 53 => ⟨S8x8448x1, .f32⟩
  | 54 => ⟨S8x8448, .f32⟩
  | 55 => ⟨S8x8448, .f32⟩
  | 56 => ⟨S8x8448, .f32⟩
  | 57 => ⟨S8x50x1, .f32⟩
  | 58 => ⟨S8x50, .f32⟩
  | 59 => ⟨S8x50x1, .f32⟩
  | 60 => ⟨S8x50, .f32⟩
  | 61 => ⟨S8x50, .f32⟩
  | 62 => ⟨S8x50x1, .f32⟩
  | 63 => ⟨S8x50, .f32⟩
  | 64 => ⟨S8x50x1, .f32⟩
  | 65 => ⟨S8x50, .f32⟩
  | 66 => ⟨S8x50, .f32⟩
  | 67 => ⟨S8x50, .f32⟩
  | 68 => ⟨S8x8448x1, .f32⟩
  | 69 => ⟨S8x8448, .f32⟩
  | 70 => ⟨S8x8448x1, .f32⟩
  | 71 => ⟨S8x50x1, .f32⟩
  | 72 => ⟨S8x50, .f32⟩
  | 73 => ⟨S8x1x50, .f32⟩
  | 74 => ⟨S8x8448x50, .f32⟩
  | 75 => ⟨S8x8448x50, .f32⟩
  | 76 => ⟨S8x8448x50, .f32⟩
  | 77 => ⟨S8x8448x1, .f32⟩
  | 78 => ⟨S8x8448, .f32⟩
  | 79 => ⟨S8x8448x1, .f32⟩
  | 80 => ⟨S8x50x1, .f32⟩
  | 81 => ⟨S8x50, .f32⟩
  | 82 => ⟨S8x1x50, .f32⟩
  | 83 => ⟨S8x8448x50, .f32⟩
  | 84 => ⟨S8x8448x50, .f32⟩
  | 85 => ⟨S8x8448x50, .f32⟩
  | 86 => ⟨S8x8448x1, .f32⟩
  | 87 => ⟨S8x8448, .f32⟩
  | 88 => ⟨S8x8448x1, .f32⟩
  | 89 => ⟨S8x50x1, .f32⟩
  | 90 => ⟨S8x50, .f32⟩
  | 91 => ⟨S8x1x50, .f32⟩
  | 92 => ⟨S8x8448x50, .f32⟩
  | 93 => ⟨S8x8448x50, .f32⟩
  | 94 => ⟨S8x8448x50, .f32⟩
  | 95 => ⟨S8x8448x1, .f32⟩
  | 96 => ⟨S8x8448, .f32⟩
  | 97 => ⟨S8x8448x1, .f32⟩
  | 98 => ⟨S8x50x1, .f32⟩
  | 99 => ⟨S8x50, .f32⟩
  | 100 => ⟨S8x1x50, .f32⟩
  | 101 => ⟨S8x8448x50, .f32⟩
  | 102 => ⟨S8x8448x50, .f32⟩
  | 103 => ⟨S8x8448x50, .f32⟩
  | 104 => ⟨S8x8448x50, .f32⟩
  | 105 => ⟨S_, .f32⟩
  | 106 => ⟨S8x8448x50, .f32⟩
  | 107 => ⟨S8x8448x50, .f32⟩
  | 108 => ⟨S8x8448x50, .f32⟩
  | 109 => ⟨S_, .f32⟩
  | 110 => ⟨S8x8448x50, .f32⟩
  | 111 => ⟨S8x8448x50, .f32⟩
  | 112 => ⟨S8x8448x50, .f32⟩
  | 113 => ⟨S8x8448x1, .f32⟩
  | 114 => ⟨S8x1x50, .f32⟩
  | 115 => ⟨S8x8448x50, .f32⟩
  | 116 => ⟨S8x8448x50, .f32⟩
  | 117 => ⟨S8x8448x50, .f32⟩
  | 118 => ⟨S8x8448x50, .f32⟩
  | 119 => ⟨S_, .f32⟩
  | 120 => ⟨S8x8448x50, .f32⟩
  | 121 => ⟨S8x8448x50, .f32⟩
  | 122 => ⟨S8x8448x50, .f32⟩
  | 123 => ⟨S_, .f32⟩
  | 124 => ⟨S8x8448x50, .f32⟩
  | 125 => ⟨S8x8448x50, .f32⟩
  | 126 => ⟨S_, .f32⟩
  | 127 => ⟨S8x8448x50, .f32⟩
  | _ => ⟨S8x8448x80, .f32⟩

abbrev hbmTy0_1 (i : Nat) : BufTy := match i % 128 with
  | 0 => ⟨S8x8448x50, .f32⟩
  | 1 => ⟨S8x8448x50, .f32⟩
  | 2 => ⟨S8x8448x50, .f32⟩
  | 3 => ⟨S8x1x50, .f32⟩
  | 4 => ⟨S8x8448x50, .f32⟩
  | 5 => ⟨S8x8448x50, .f32⟩
  | 6 => ⟨S8x50x8448, .f32⟩
  | 7 => ⟨S8x50x13, .f32⟩
  | 8 => ⟨S8x50x13, .i32⟩
  | 9 => ⟨S8x50x13x1, .i32⟩
  | 10 => ⟨S8448, .i32⟩
  | 11 => ⟨S1x1x1x8448, .i32⟩
  | 12 => ⟨S8x50x13x8448, .i32⟩
  | 13 => ⟨S8x50x13x8448, .i32⟩
  | 14 => ⟨S8x50x13x8448, .i1⟩
  | 15 => ⟨S_, .f32⟩
  | 16 => ⟨S8x50x13, .f32⟩
  | 17 => ⟨S8x50x13, .i1⟩
  | 18 => ⟨S8x50x13x1, .i1⟩
  | 19 => ⟨S8x50x13x8448, .i1⟩
  | 20 => ⟨S8x50x13x8448, .i1⟩
  | 21 => ⟨S_, .i1⟩
  | 22 => ⟨S8x50x8448, .i1⟩
  | 23 => ⟨S_, .f32⟩
  | 24 => ⟨S_, .f32⟩
  | 25 => ⟨S8x50x8448, .f32⟩
  | 26 => ⟨S8x50x8448, .f32⟩
  | 27 => ⟨S_, .i1⟩
  | 28 => ⟨S8x8448, .i1⟩
  | 29 => ⟨S8x8448, .f32⟩
  | 30 => ⟨S8x8448x50, .f32⟩
  | 31 => ⟨S8x8448x1, .f32⟩
  | 32 => ⟨S8x8448x1, .i32⟩
  | 33 => ⟨S_, .i32⟩
  | 34 => ⟨S8x8448x1, .i32⟩
  | 35 => ⟨S8x8448x1, .i1⟩
  | 36 => ⟨S_, .i32⟩
  | 37 => ⟨S8x8448x1, .i32⟩
  | 38 => ⟨S8x8448x1, .i32⟩
  | 39 => ⟨S8x8448x1, .i32⟩
  | 40 => ⟨S8x8448x4, .f32⟩
  | 41 => ⟨S8x8448x1, .f32⟩
  | 42 => ⟨S8x8448x4, .f32⟩
  | 43 => ⟨S8x8448x4, .f32⟩
  | 44 => ⟨S8x8448x1, .f32⟩
  | 45 => ⟨S8x8448, .f32⟩
  | 46 => ⟨S8x8448x1, .f32⟩
  | 47 => ⟨S8x8448, .f32⟩
  | 48 => ⟨S8x8448x1, .f32⟩
  | 49 => ⟨S8x8448, .f32⟩
  | 50 => ⟨S8x8448x1, .f32⟩
  | 51 => ⟨S8x8448, .f32⟩
  | 52 => ⟨S8x8448x1, .f32⟩
  | 53 => ⟨S8x8448, .f32⟩
  | 54 => ⟨S8x8448x1, .f32⟩
  | 55 => ⟨S8x8448, .f32⟩
  | 56 => ⟨S8x8448x1, .f32⟩
  | 57 => ⟨S8x8448, .f32⟩
  | 58 => ⟨S8x8448x1, .f32⟩
  | 59 => ⟨S8x8448, .f32⟩
  | 60 => ⟨S8x8448, .f32⟩
  | 61 => ⟨S8x8448, .f32⟩
  | 62 => ⟨S8x8448, .f32⟩
  | 63 => ⟨S8x8448, .f32⟩
  | 64 => ⟨S8x8448, .f32⟩
  | 65 => ⟨S_, .f32⟩
  | 66 => ⟨S8x8448, .f32⟩
  | 67 => ⟨S8x8448, .f32⟩
  | 68 => ⟨S8x8448, .f32⟩
  | 69 => ⟨S_, .f32⟩
  | 70 => ⟨S8x8448, .f32⟩
  | 71 => ⟨S8x8448, .f32⟩
  | 72 => ⟨S8x8448, .f32⟩
  | 73 => ⟨S8x8448, .f32⟩
  | 74 => ⟨S8x8448, .f32⟩
  | 75 => ⟨S8x8448, .f32⟩
  | 76 => ⟨S8x8448, .f32⟩
  | 77 => ⟨S8x8448, .f32⟩
  | 78 => ⟨S8x8448, .f32⟩
  | 79 => ⟨S8x8448, .f32⟩
  | 80 => ⟨S8x8448, .f32⟩
  | 81 => ⟨S_, .f32⟩
  | 82 => ⟨S8x8448, .f32⟩
  | 83 => ⟨S8x8448, .f32⟩
  | 84 => ⟨S8x8448, .f32⟩
  | 85 => ⟨S8x8448, .f32⟩
  | 86 => ⟨S8x8448, .f32⟩
  | 87 => ⟨S8x8448, .f32⟩
  | 88 => ⟨S8x8448, .f32⟩
  | 89 => ⟨S8x8448, .f32⟩
  | 90 => ⟨S8x8448, .f32⟩
  | 91 => ⟨S8x8448, .f32⟩
  | 92 => ⟨S8x8448, .f32⟩
  | 93 => ⟨S_, .f32⟩
  | 94 => ⟨S8x8448, .f32⟩
  | 95 => ⟨S8x8448, .f32⟩
  | 96 => ⟨S8x8448, .f32⟩
  | 97 => ⟨S8x8448, .f32⟩
  | 98 => ⟨S1x8448x2, .f32⟩
  | 99 => ⟨S8x8448x2, .f32⟩
  | 100 => ⟨S8x8448x2, .f32⟩
  | 101 => ⟨S8x8448x2, .f32⟩
  | 102 => ⟨S_, .f32⟩
  | 103 => ⟨S8x8448x2, .f32⟩
  | 104 => ⟨S8x8448x2, .f32⟩
  | 105 => ⟨S8x8448x2, .f32⟩
  | 106 => ⟨S1x8448x2, .f32⟩
  | 107 => ⟨S8x8448x2, .f32⟩
  | 108 => ⟨S8x8448x2, .f32⟩
  | 109 => ⟨S_, .f32⟩
  | 110 => ⟨S8x8448x2, .f32⟩
  | 111 => ⟨S8x8448x2, .f32⟩
  | 112 => ⟨S8x8448x4, .f32⟩
  | 113 => ⟨S_, .f32⟩
  | 114 => ⟨S_, .f32⟩
  | 115 => ⟨S_, .f32⟩
  | 116 => ⟨S8x8448x4, .f32⟩
  | 117 => ⟨S8x8448x4, .f32⟩
  | 118 => ⟨S_, .f32⟩
  | 119 => ⟨S8x8448x4, .f32⟩
  | 120 => ⟨S8x8448x4, .f32⟩
  | 121 => ⟨S8x8448x4x17, .f32⟩
  | 122 => ⟨S8x8448x4, .i32⟩
  | 123 => ⟨S_, .i32⟩
  | 124 => ⟨S_, .i32⟩
  | 125 => ⟨S_, .i32⟩
  | 126 => ⟨S8x8448x4, .i32⟩
  | 127 => ⟨S8x8448x4, .i32⟩
  | _ => ⟨S8x8448x80, .f32⟩

abbrev hbmTy0_2 (i : Nat) : BufTy := match i % 128 with
  | 0 => ⟨S_, .i32⟩
  | 1 => ⟨S8x8448x4, .i32⟩
  | 2 => ⟨S8x8448x4, .i32⟩
  | 3 => ⟨S_, .i32⟩
  | 4 => ⟨S8x8448x4, .i32⟩
  | 5 => ⟨S8x8448x4, .i32⟩
  | 6 => ⟨S_, .i32⟩
  | 7 => ⟨S_, .i32⟩
  | 8 => ⟨S_, .i32⟩
  | 9 => ⟨S8x8448x4, .i32⟩
  | 10 => ⟨S8x8448x4, .i32⟩
  | 11 => ⟨S_, .i32⟩
  | 12 => ⟨S8x8448x4, .i32⟩
  | 13 => ⟨S8x8448x4, .i32⟩
  | 14 => ⟨S8x8448x4, .f32⟩
  | 15 => ⟨S8x8448x4, .f32⟩
  | 16 => ⟨S_, .f32⟩
  | 17 => ⟨S8x8448x4, .f32⟩
  | 18 => ⟨S8x8448x4, .f32⟩
  | 19 => ⟨S_, .f32⟩
  | 20 => ⟨S8x8448x4, .f32⟩
  | 21 => ⟨S_, .f32⟩
  | 22 => ⟨S8x8448x4, .f32⟩
  | 23 => ⟨S8x8448x4, .f32⟩
  | 24 => ⟨S8x8448x4x1, .f32⟩
  | 25 => ⟨S8x8448x4x17, .f32⟩
  | 26 => ⟨S8x8448x4x17, .f32⟩
  | 27 => ⟨S8x8448x4x17, .f32⟩
  | 28 => ⟨S_, .f32⟩
  | 29 => ⟨S8x8448x4, .f32⟩
  | 30 => ⟨S8x8448x4x1, .f32⟩
  | 31 => ⟨S8x8448x4x1, .f32⟩
  | 32 => ⟨S8x8448x4x17, .f32⟩
  | 33 => ⟨S8x8448x4x17, .f32⟩
  | 34 => ⟨S8x8448x4x1, .i32⟩
  | 35 => ⟨S_, .i32⟩
  | 36 => ⟨S8x8448x4x1, .i32⟩
  | 37 => ⟨S8x8448x4x1, .i1⟩
  | 38 => ⟨S_, .i32⟩
  | 39 => ⟨S8x8448x4x1, .i32⟩
  | 40 => ⟨S8x8448x4x1, .i32⟩
  | 41 => ⟨S8x8448x4x1, .i32⟩
  | 42 => ⟨S8x8448x4x1x1, .i32⟩
  | 43 => ⟨S8x8448x4x1, .f32⟩
  | 44 => ⟨S8x8448x4, .f32⟩
  | 45 => ⟨S8x8448x4, .f32⟩
  | 46 => ⟨S8x8448x4x1, .i32⟩
  | 47 => ⟨S_, .i32⟩
  | 48 => ⟨S8x8448x4x1, .i32⟩
  | 49 => ⟨S8x8448x4x1, .i1⟩
  | 50 => ⟨S_, .i32⟩
  | 51 => ⟨S8x8448x4x1, .i32⟩
  | 52 => ⟨S8x8448x4x1, .i32⟩
  | 53 => ⟨S8x8448x4x1, .i32⟩
  | 54 => ⟨S8x8448x4x1x1, .i32⟩
  | 55 => ⟨S8x8448x4x1, .f32⟩
  | 56 => ⟨S8x8448x4, .f32⟩
  | 57 => ⟨S8x8448x4, .f32⟩
  | 58 => ⟨S8x8448x4, .f32⟩
  | 59 => ⟨S8x8448x4, .f32⟩
  | 60 => ⟨S8x8448x4, .f32⟩
  | 61 => ⟨S_, .f32⟩
  | 62 => ⟨S8x8448, .f32⟩
  | 63 => ⟨S_, .f32⟩
  | 64 => ⟨S8x8448, .f32⟩
  | 65 => ⟨S8x8448, .f32⟩
  | 66 => ⟨S_, .f32⟩
  | 67 => ⟨S8x8448, .f32⟩
  | 68 => ⟨S8x8448, .f32⟩
  | 69 => ⟨S8x8448, .f32⟩
  | 70 => ⟨S_, .f32⟩
  | 71 => ⟨S8, .f32⟩
  | 72 => ⟨S8x1x1, .f32⟩
  | 73 => ⟨S_, .f32⟩
  | 74 => ⟨S8, .f32⟩
  | 75 => ⟨S8x1x1, .f32⟩
  | 76 => ⟨S8x8448, .f32⟩
  | 77 => ⟨S_, .f32⟩
  | 78 => ⟨S8, .f32⟩
  | 79 => ⟨S8x1x1, .f32⟩
  | 80 => ⟨S8x50, .i32⟩
  | 81 => ⟨S_, .i32⟩
  | 82 => ⟨S_, .i32⟩
  | 83 => ⟨S_, .i32⟩
  | 84 => ⟨S8x50, .i32⟩
  | 85 => ⟨S8x50, .i32⟩
  | 86 => ⟨S_, .i32⟩
  | 87 => ⟨S8x50, .i32⟩
  | 88 => ⟨S8x50, .i32⟩
  | 89 => ⟨S8x50x8448, .f32⟩
  | 90 => ⟨S8x50x8448, .f32⟩
  | 91 => ⟨S8x50x8448, .f32⟩
  | 92 => ⟨S_, .f32⟩
  | 93 => ⟨S8x50, .f32⟩
  | 94 => ⟨S_, .f32⟩
  | 95 => ⟨S8x50, .f32⟩
  | 96 => ⟨S8x50x1, .f32⟩
  | 97 => ⟨S_, .f32⟩
  | 98 => ⟨S8x50x1, .f32⟩
  | 99 => ⟨S8x50x1, .f32⟩
  | 100 => ⟨S8x50x8448, .f32⟩
  | 101 => ⟨S8x50x8448, .f32⟩
  | 102 => ⟨S8x50x1, .f32⟩
  | 103 => ⟨S8x50x8448, .f32⟩
  | 104 => ⟨S8x50x8448, .f32⟩
  | 105 => ⟨S8x50x8448, .f32⟩
  | 106 => ⟨S8x50x1, .i32⟩
  | 107 => ⟨S80, .i32⟩
  | 108 => ⟨S1x1x80, .i32⟩
  | 109 => ⟨S8x50x80, .i32⟩
  | 110 => ⟨S8x50x80, .i32⟩
  | 111 => ⟨S8x50x80, .i1⟩
  | 112 => ⟨S8x50x80x1, .i1⟩
  | 113 => ⟨S8x50x1x8448, .f32⟩
  | 114 => ⟨S_, .f32⟩
  | 115 => ⟨S_, .f32⟩
  | 116 => ⟨S8x50x80x8448, .i1⟩
  | 117 => ⟨S8x50x80x8448, .f32⟩
  | 118 => ⟨S8x50x80x8448, .f32⟩
  | 119 => ⟨S8x50x80x8448, .f32⟩
  | 120 => ⟨S_, .f32⟩
  | 121 => ⟨S8x80x8448, .f32⟩
  | 122 => ⟨S8x8448x80, .f32⟩
  | 123 => ⟨S_, .f32⟩
  | 124 => ⟨S8x8448, .f32⟩
  | 125 => ⟨S_, .f32⟩
  | 126 => ⟨S8, .f32⟩
  | 127 => ⟨S8x1x1, .f32⟩
  | _ => ⟨S8x8448x80, .f32⟩

abbrev hbmTy0_3 (i : Nat) : BufTy := match i % 128 with
  | 0 => ⟨S_, .f32⟩
  | 1 => ⟨S_, .f32⟩
  | 2 => ⟨S_, .f32⟩
  | 3 => ⟨S8x8448x80, .f32⟩
  | 4 => ⟨S8x8448x80, .f32⟩
  | 5 => ⟨S_, .f32⟩
  | 6 => ⟨S8x8448x80, .f32⟩
  | 7 => ⟨S8x8448x80, .f32⟩
  | 8 => ⟨S_, .f32⟩
  | 9 => ⟨S8x8448x80, .f32⟩
  | 10 => ⟨S8x8448x80, .i1⟩
  | 11 => ⟨S8x8448x80, .f32⟩
  | 12 => ⟨S_, .f32⟩
  | 13 => ⟨S8x8448x80, .f32⟩
  | 14 => ⟨S8x8448x80, .f32⟩
  | 15 => ⟨S_, .f32⟩
  | 16 => ⟨S8x8448x80, .f32⟩
  | 17 => ⟨S8x8448x80, .f32⟩
  | 18 => ⟨S_, .f32⟩
  | 19 => ⟨S8x8448x80, .f32⟩
  | 20 => ⟨S8x8448x80, .f32⟩
  | 21 => ⟨S8x8448x80, .f32⟩
  | 22 => ⟨S8x8448x80, .f32⟩
  | 23 => ⟨S8x8448x80, .f32⟩
  | 24 => ⟨S8x8448x80, .f32⟩
  | 25 => ⟨S_, .f32⟩
  | 26 => ⟨S8x8448x80, .f32⟩
  | 27 => ⟨S8x8448x80, .f32⟩
  | 28 => ⟨S_, .f32⟩
  | 29 => ⟨S8x8448x80, .f32⟩
  | 30 => ⟨S8x8448x80, .f32⟩
  | 31 => ⟨S8x8448x80, .f32⟩
  | 32 => ⟨S8x8448x80, .f32⟩
  | 33 => ⟨S8x8448x80, .f32⟩
  | 34 => ⟨S8x8448x80, .f32⟩
  | 35 => ⟨S8x8448x80, .f32⟩
  | 36 => ⟨S_, .f32⟩
  | 37 => ⟨S8x8448, .f32⟩
  | 38 => ⟨S_, .f32⟩
  | 39 => ⟨S8, .f32⟩
  | 40 => ⟨S8x1x1, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | _ => ⟨S8x8448x80, .f32⟩

abbrev hbmTy (i : Nat) : BufTy := match i / 128 with
  | 0 => hbmTy0_0 i
  | 1 => hbmTy0_1 i
  | 2 => hbmTy0_2 i
  | 3 => hbmTy0_3 i
  | _ => ⟨S8x8448x80, .f32⟩

abbrev bufTy : (tb : Table) → Fin (tcTables nBuf tb) → BufTy
  | .hbm, ⟨i, _⟩ => hbmTy i
  | _, _ => ⟨S8x8448x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_c_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_2 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_3 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_4 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_5 : Ref sig .tc := ⟨.hbm, 123, rfl⟩
abbrev main_v96 : Ref sig .tc := ⟨.hbm, 124, rfl⟩
abbrev main_v97 : Ref sig .tc := ⟨.hbm, 125, rfl⟩
abbrev main_cst_6 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_values : Ref sig .tc := ⟨.hbm, 135, rfl⟩
abbrev main_indices : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_7 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_c_8 : Ref sig .tc := ⟨.hbm, 149, rfl⟩
abbrev main_v117 : Ref sig .tc := ⟨.hbm, 150, rfl⟩
abbrev main_cst_9 : Ref sig .tc := ⟨.hbm, 151, rfl⟩
abbrev main_call2_v0 : Ref sig .tc := ⟨.hbm, 152, rfl⟩
abbrev main_call2_v1 : Ref sig .tc := ⟨.hbm, 153, rfl⟩
abbrev main_v118 : Ref sig .tc := ⟨.hbm, 154, rfl⟩
abbrev main_c_10 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_values_11 : Ref sig .tc := ⟨.hbm, 159, rfl⟩
abbrev main_indices_12 : Ref sig .tc := ⟨.hbm, 160, rfl⟩
abbrev main_call3_c : Ref sig .tc := ⟨.hbm, 161, rfl⟩
abbrev main_call3_v0 : Ref sig .tc := ⟨.hbm, 162, rfl⟩
abbrev main_call3_v1 : Ref sig .tc := ⟨.hbm, 163, rfl⟩
abbrev main_call3_c_0 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_13 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_14 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_cst_15 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_cst_16 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_cst_17 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_cst_18 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_cst_19 : Ref sig .tc := ⟨.hbm, 241, rfl⟩
abbrev main_cst_20 : Ref sig .tc := ⟨.hbm, 242, rfl⟩
abbrev main_call4_v0 : Ref sig .tc := ⟨.hbm, 243, rfl⟩
abbrev main_call4_v1 : Ref sig .tc := ⟨.hbm, 244, rfl⟩
abbrev main_call4_v2 : Ref sig .tc := ⟨.hbm, 245, rfl⟩
abbrev main_call4_v3 : Ref sig .tc := ⟨.hbm, 246, rfl⟩
abbrev main_call4_v4 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_c_21 : Ref sig .tc := ⟨.hbm, 251, rfl⟩
abbrev main_c_22 : Ref sig .tc := ⟨.hbm, 252, rfl⟩
abbrev main_call5_v0 : Ref sig .tc := ⟨.hbm, 253, rfl⟩
abbrev main_call5_v1 : Ref sig .tc := ⟨.hbm, 254, rfl⟩
abbrev main_call5_v2 : Ref sig .tc := ⟨.hbm, 255, rfl⟩
abbrev main_call5_v3 : Ref sig .tc := ⟨.hbm, 256, rfl⟩
abbrev main_call5_v4 : Ref sig .tc := ⟨.hbm, 257, rfl⟩
abbrev main_v192 : Ref sig .tc := ⟨.hbm, 258, rfl⟩
abbrev main_c_23 : Ref sig .tc := ⟨.hbm, 259, rfl⟩
abbrev main_v193 : Ref sig .tc := ⟨.hbm, 260, rfl⟩
abbrev main_v194 : Ref sig .tc := ⟨.hbm, 261, rfl⟩
abbrev main_c_24 : Ref sig .tc := ⟨.hbm, 262, rfl⟩
abbrev main_c_25 : Ref sig .tc := ⟨.hbm, 263, rfl⟩
abbrev main_call6_v0 : Ref sig .tc := ⟨.hbm, 264, rfl⟩
abbrev main_call6_v1 : Ref sig .tc := ⟨.hbm, 265, rfl⟩
abbrev main_call6_v2 : Ref sig .tc := ⟨.hbm, 266, rfl⟩
abbrev main_call6_v3 : Ref sig .tc := ⟨.hbm, 267, rfl⟩
abbrev main_call6_v4 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_cst_26 : Ref sig .tc := ⟨.hbm, 272, rfl⟩
abbrev main_v198 : Ref sig .tc := ⟨.hbm, 273, rfl⟩
abbrev main_v199 : Ref sig .tc := ⟨.hbm, 274, rfl⟩
abbrev main_call7_cst : Ref sig .tc := ⟨.hbm, 275, rfl⟩
abbrev main_call7_v0 : Ref sig .tc := ⟨.hbm, 276, rfl⟩
abbrev main_call7_cst_0 : Ref sig .tc := ⟨.hbm, 277, rfl⟩
abbrev main_call7_v1 : Ref sig .tc := ⟨.hbm, 278, rfl⟩
abbrev main_call7_v2 : Ref sig .tc := ⟨.hbm, 279, rfl⟩
abbrev main_call7_v3 : Ref sig .tc := ⟨.hbm, 280, rfl⟩
abbrev main_call7_v4 : Ref sig .tc := ⟨.hbm, 281, rfl⟩
abbrev main_call7_v5 : Ref sig .tc := ⟨.hbm, 282, rfl⟩
abbrev main_call7_v6 : Ref sig .tc := ⟨.hbm, 283, rfl⟩
abbrev main_call7_cst_1 : Ref sig .tc := ⟨.hbm, 284, rfl⟩
abbrev main_call7_v7 : Ref sig .tc := ⟨.hbm, 285, rfl⟩
abbrev main_call7_v8 : Ref sig .tc := ⟨.hbm, 286, rfl⟩
abbrev main_call7_v9 : Ref sig .tc := ⟨.hbm, 287, rfl⟩
abbrev main_call7_v10 : Ref sig .tc := ⟨.hbm, 288, rfl⟩
abbrev main_v200 : Ref sig .tc := ⟨.hbm, 289, rfl⟩
abbrev main_v201 : Ref sig .tc := ⟨.hbm, 290, rfl⟩
abbrev main_call8_c : Ref sig .tc := ⟨.hbm, 291, rfl⟩
abbrev main_call8_v0 : Ref sig .tc := ⟨.hbm, 292, rfl⟩
abbrev main_call8_v1 : Ref sig .tc := ⟨.hbm, 293, rfl⟩
abbrev main_call8_c_0 : Ref sig .tc := ⟨.hbm, 294, rfl⟩
abbrev main_call8_v2 : Ref sig .tc := ⟨.hbm, 295, rfl⟩
abbrev main_call8_v3 : Ref sig .tc := ⟨.hbm, 296, rfl⟩
abbrev main_call8_v4 : Ref sig .tc := ⟨.hbm, 297, rfl⟩
abbrev main_call8_v5 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_call9_c : Ref sig .tc := ⟨.hbm, 303, rfl⟩
abbrev main_call9_v0 : Ref sig .tc := ⟨.hbm, 304, rfl⟩
abbrev main_call9_v1 : Ref sig .tc := ⟨.hbm, 305, rfl⟩
abbrev main_call9_c_0 : Ref sig .tc := ⟨.hbm, 306, rfl⟩
abbrev main_call9_v2 : Ref sig .tc := ⟨.hbm, 307, rfl⟩
abbrev main_call9_v3 : Ref sig .tc := ⟨.hbm, 308, rfl⟩
abbrev main_call9_v4 : Ref sig .tc := ⟨.hbm, 309, rfl⟩
abbrev main_call9_v5 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_cst_27 : Ref sig .tc := ⟨.hbm, 317, rfl⟩
abbrev main_v212 : Ref sig .tc := ⟨.hbm, 318, rfl⟩
abbrev main_cst_28 : Ref sig .tc := ⟨.hbm, 319, rfl⟩
abbrev main_v213 : Ref sig .tc := ⟨.hbm, 320, rfl⟩
abbrev main_v214 : Ref sig .tc := ⟨.hbm, 321, rfl⟩
abbrev main_cst_29 : Ref sig .tc := ⟨.hbm, 322, rfl⟩
abbrev main_v215 : Ref sig .tc := ⟨.hbm, 323, rfl⟩
abbrev main_v216 : Ref sig .tc := ⟨.hbm, 324, rfl⟩
abbrev main_v217 : Ref sig .tc := ⟨.hbm, 325, rfl⟩
abbrev main_cst_30 : Ref sig .tc := ⟨.hbm, 326, rfl⟩
abbrev main_v218 : Ref sig .tc := ⟨.hbm, 327, rfl⟩
abbrev main_v219 : Ref sig .tc := ⟨.hbm, 328, rfl⟩
abbrev main_cst_31 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_cst_32 : Ref sig .tc := ⟨.hbm, 333, rfl⟩
abbrev main_v223 : Ref sig .tc := ⟨.hbm, 334, rfl⟩
abbrev main_v224 : Ref sig .tc := ⟨.hbm, 335, rfl⟩
abbrev main_v225 : Ref sig .tc := ⟨.hbm, 336, rfl⟩
abbrev main_c_33 : Ref sig .tc := ⟨.hbm, 337, rfl⟩
abbrev main_c_34 : Ref sig .tc := ⟨.hbm, 338, rfl⟩
abbrev main_call10_v0 : Ref sig .tc := ⟨.hbm, 339, rfl⟩
abbrev main_call10_v1 : Ref sig .tc := ⟨.hbm, 340, rfl⟩
abbrev main_call10_v2 : Ref sig .tc := ⟨.hbm, 341, rfl⟩
abbrev main_call10_v3 : Ref sig .tc := ⟨.hbm, 342, rfl⟩
abbrev main_call10_v4 : Ref sig .tc := ⟨.hbm, 343, rfl⟩
abbrev main_v226 : Ref sig .tc := ⟨.hbm, 344, rfl⟩
abbrev main_v227 : Ref sig .tc := ⟨.hbm, 345, rfl⟩
abbrev main_v228 : Ref sig .tc := ⟨.hbm, 346, rfl⟩
abbrev main_v229 : Ref sig .tc := ⟨.hbm, 347, rfl⟩
abbrev main_cst_35 : Ref sig .tc := ⟨.hbm, 348, rfl⟩
abbrev main_v230 : Ref sig .tc := ⟨.hbm, 349, rfl⟩
abbrev main_cst_36 : Ref sig .tc := ⟨.hbm, 350, rfl⟩
abbrev main_v231 : Ref sig .tc := ⟨.hbm, 351, rfl⟩
abbrev main_v232 : Ref sig .tc := ⟨.hbm, 352, rfl⟩
abbrev main_cst_37 : Ref sig .tc := ⟨.hbm, 353, rfl⟩
abbrev main_v233 : Ref sig .tc := ⟨.hbm, 354, rfl⟩
abbrev main_v234 : Ref sig .tc := ⟨.hbm, 355, rfl⟩
abbrev main_v235 : Ref sig .tc := ⟨.hbm, 356, rfl⟩
abbrev main_v236 : Ref sig .tc := ⟨.hbm, 357, rfl⟩
abbrev main_v237 : Ref sig .tc := ⟨.hbm, 358, rfl⟩
abbrev main_v238 : Ref sig .tc := ⟨.hbm, 359, rfl⟩
abbrev main_v239 : Ref sig .tc := ⟨.hbm, 360, rfl⟩
abbrev main_v240 : Ref sig .tc := ⟨.hbm, 361, rfl⟩
abbrev main_v241 : Ref sig .tc := ⟨.hbm, 362, rfl⟩
abbrev main_v242 : Ref sig .tc := ⟨.hbm, 363, rfl⟩
abbrev main_v243 : Ref sig .tc := ⟨.hbm, 364, rfl⟩
abbrev main_v244 : Ref sig .tc := ⟨.hbm, 365, rfl⟩
abbrev main_v245 : Ref sig .tc := ⟨.hbm, 366, rfl⟩
abbrev main_v246 : Ref sig .tc := ⟨.hbm, 367, rfl⟩
abbrev main_v247 : Ref sig .tc := ⟨.hbm, 368, rfl⟩
abbrev main_v248 : Ref sig .tc := ⟨.hbm, 369, rfl⟩
abbrev main_cst_38 : Ref sig .tc := ⟨.hbm, 370, rfl⟩
abbrev main_call11_v0 : Ref sig .tc := ⟨.hbm, 371, rfl⟩
abbrev main_call11_v1 : Ref sig .tc := ⟨.hbm, 372, rfl⟩
abbrev main_call11_v2 : Ref sig .tc := ⟨.hbm, 373, rfl⟩
abbrev main_call11_v3 : Ref sig .tc := ⟨.hbm, 374, rfl⟩
abbrev main_v249 : Ref sig .tc := ⟨.hbm, 375, rfl⟩
abbrev main_cst_39 : Ref sig .tc := ⟨.hbm, 376, rfl⟩
abbrev main_v250 : Ref sig .tc := ⟨.hbm, 377, rfl⟩
abbrev main_v251 : Ref sig .tc := ⟨.hbm, 378, rfl⟩
abbrev main_cst_40 : Ref sig .tc := ⟨.hbm, 379, rfl⟩
abbrev main_v252 : Ref sig .tc := ⟨.hbm, 380, rfl⟩
abbrev main_cst_41 : Ref sig .tc := ⟨.hbm, 381, rfl⟩
abbrev main_v253 : Ref sig .tc := ⟨.hbm, 382, rfl⟩
abbrev main_v254 : Ref sig .tc := ⟨.hbm, 383, rfl⟩
abbrev main_cst_42 : Ref sig .tc := ⟨.hbm, 384, rfl⟩
abbrev main_cst_43 : Ref sig .tc := ⟨.hbm, 385, rfl⟩
abbrev main_call12_v0 : Ref sig .tc := ⟨.hbm, 386, rfl⟩
abbrev main_call12_v1 : Ref sig .tc := ⟨.hbm, 387, rfl⟩
abbrev main_call12_v2 : Ref sig .tc := ⟨.hbm, 388, rfl⟩
abbrev main_call12_v3 : Ref sig .tc := ⟨.hbm, 389, rfl⟩
abbrev main_call12_v4 : Ref sig .tc := ⟨.hbm, 390, rfl⟩
abbrev main_v255 : Ref sig .tc := ⟨.hbm, 391, rfl⟩
abbrev main_cst_44 : Ref sig .tc := ⟨.hbm, 392, rfl⟩
abbrev main_v256 : Ref sig .tc := ⟨.hbm, 393, rfl⟩
abbrev main_v257 : Ref sig .tc := ⟨.hbm, 394, rfl⟩
abbrev main_v258 : Ref sig .tc := ⟨.hbm, 395, rfl⟩
abbrev main_cst_45 : Ref sig .tc := ⟨.hbm, 396, rfl⟩
abbrev main_v259 : Ref sig .tc := ⟨.hbm, 397, rfl⟩
abbrev main_v260 : Ref sig .tc := ⟨.hbm, 398, rfl⟩
abbrev main_cst_46 : Ref sig .tc := ⟨.hbm, 399, rfl⟩
abbrev main_v261 : Ref sig .tc := ⟨.hbm, 400, rfl⟩
abbrev main_v262 : Ref sig .tc := ⟨.hbm, 401, rfl⟩
abbrev main_cst_47 : Ref sig .tc := ⟨.hbm, 402, rfl⟩
abbrev main_v263 : Ref sig .tc := ⟨.hbm, 403, rfl⟩
abbrev main_v264 : Ref sig .tc := ⟨.hbm, 404, rfl⟩
abbrev main_v265 : Ref sig .tc := ⟨.hbm, 405, rfl⟩
abbrev main_v266 : Ref sig .tc := ⟨.hbm, 406, rfl⟩
abbrev main_v267 : Ref sig .tc := ⟨.hbm, 407, rfl⟩
abbrev main_v268 : Ref sig .tc := ⟨.hbm, 408, rfl⟩
abbrev main_cst_48 : Ref sig .tc := ⟨.hbm, 409, rfl⟩
abbrev main_v269 : Ref sig .tc := ⟨.hbm, 410, rfl⟩
abbrev main_v270 : Ref sig .tc := ⟨.hbm, 411, rfl⟩
abbrev main_cst_49 : Ref sig .tc := ⟨.hbm, 412, rfl⟩
abbrev main_v271 : Ref sig .tc := ⟨.hbm, 413, rfl⟩
abbrev main_v272 : Ref sig .tc := ⟨.hbm, 414, rfl⟩
abbrev main_v273 : Ref sig .tc := ⟨.hbm, 415, rfl⟩
abbrev main_v274 : Ref sig .tc := ⟨.hbm, 416, rfl⟩
abbrev main_v275 : Ref sig .tc := ⟨.hbm, 417, rfl⟩
abbrev main_v276 : Ref sig .tc := ⟨.hbm, 418, rfl⟩
abbrev main_v277 : Ref sig .tc := ⟨.hbm, 419, rfl⟩
abbrev main_cst_50 : Ref sig .tc := ⟨.hbm, 420, rfl⟩
abbrev main_v278 : Ref sig .tc := ⟨.hbm, 421, rfl⟩
abbrev main_cst_51 : Ref sig .tc := ⟨.hbm, 422, rfl⟩
abbrev main_v279 : Ref sig .tc := ⟨.hbm, 423, rfl⟩
abbrev main_v280 : Ref sig .tc := ⟨.hbm, 424, rfl⟩
abbrev main_cst_52 : Ref sig .tc := ⟨.hbm, 425, rfl⟩
abbrev main_v281 : Ref sig .tc := ⟨.hbm, 426, rfl⟩
abbrev main_cst_53 : Ref sig .tc := ⟨.hbm, 427, rfl⟩
abbrev main_v282 : Ref sig .tc := ⟨.hbm, 428, rfl⟩
abbrev main_cst_54 : Ref sig .tc := ⟨.hbm, 429, rfl⟩
abbrev main_v283 : Ref sig .tc := ⟨.hbm, 430, rfl⟩
abbrev main_cst_55 : Ref sig .tc := ⟨.hbm, 431, rfl⟩
abbrev main_v284 : Ref sig .tc := ⟨.hbm, 432, rfl⟩
abbrev main_cst_56 : Ref sig .tc := ⟨.hbm, 433, rfl⟩
abbrev main_v285 : Ref sig .tc := ⟨.hbm, 434, rfl⟩
abbrev main_cst_57 : Ref sig .tc := ⟨.hbm, 435, rfl⟩
abbrev main_v286 : Ref sig .tc := ⟨.hbm, 436, rfl⟩
abbrev main_cst_58 : Ref sig .tc := ⟨.hbm, 437, rfl⟩
abbrev main_v287 : Ref sig .tc := ⟨.hbm, 438, rfl⟩
abbrev main_v288 : Ref sig .tc := ⟨.hbm, 439, rfl⟩
abbrev main_v289 : Ref sig .tc := ⟨.hbm, 440, rfl⟩
abbrev main_cst_59 : Ref sig .tc := ⟨.hbm, 441, rfl⟩
abbrev main_v290 : Ref sig .tc := ⟨.hbm, 442, rfl⟩
abbrev main_v291 : Ref sig .tc := ⟨.hbm, 443, rfl⟩
abbrev main_v292 : Ref sig .tc := ⟨.hbm, 444, rfl⟩
abbrev main_cst_60 : Ref sig .tc := ⟨.hbm, 445, rfl⟩
abbrev main_v293 : Ref sig .tc := ⟨.hbm, 446, rfl⟩
abbrev main_v294 : Ref sig .tc := ⟨.hbm, 447, rfl⟩

abbrev nD : Nat := 1
abbrev τ : Topo := Topo.v7x

variable {F : FTy → Type} [FloatOps F]
-- ==== Proof.Vocab.lean ====
/- The kernel's steps, named once for every run of 1408 anchors: the overlaps, the alignment metric, one threshold
   round, the kept entries, the foreground row. The body of the kernel is these steps, unrolled over the six runs. -/
module

public import proofs.«01_k».proof.Proof.Gen.KernelIdeal.Frame
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Tal

open Cert.KernelIdeal Cert.KernelIdeal.Gen Idealize.ShloMosaic Idealize.ShloMosaic.TcCoe

variable {F : FTy → Type} [FloatOps F]

/-- Columns `o ..< o + 1408` of a block. -/
def cut6 (x : Vec F S1x6x8448 .f32) (o : ℕ) (h : o + 1408 ≤ 8448) : Vec F S1x6x1408 .f32 :=
  fun y => x (ix3 (0 : Fin 1) (y 1 : Fin 6) (⟨o + (y 2).val, by have : (y 2).val < 1408 := (y 2).isLt; omega⟩ : Fin 8448))

/-- The same of the scores. -/
def cut80 (x : Vec F S1x80x8448 .f32) (o : ℕ) (h : o + 1408 ≤ 8448) : Vec F S1x80x1408 .f32 :=
  fun y => x (ix3 (0 : Fin 1) (y 1 : Fin 80) (⟨o + (y 2).val, by have : (y 2).val < 1408 := (y 2).isLt; omega⟩ : Fin 8448))

/-- The ground truth boxes, one row each. -/
def gtV (x3 : Vec F S1x50x4 .f32) : FVec F S50x4 .f32 := shapeCast S50x4 x3 shapeCasts_S1x50x4_S50x4
def gx1 (x3 : Vec F S1x50x4 .f32) : FVec F S50x1 .f32 := extractStridedSlice S50x1 ![0, 0] (gtV x3) slices_S50x4_o0_0_S50x1
def gy1 (x3 : Vec F S1x50x4 .f32) : FVec F S50x1 .f32 := extractStridedSlice S50x1 ![0, 1] (gtV x3) slices_S50x4_o0_1_S50x1
def gx2 (x3 : Vec F S1x50x4 .f32) : FVec F S50x1 .f32 := extractStridedSlice S50x1 ![0, 2] (gtV x3) slices_S50x4_o0_2_S50x1
def gy2 (x3 : Vec F S1x50x4 .f32) : FVec F S50x1 .f32 := extractStridedSlice S50x1 ![0, 3] (gtV x3) slices_S50x4_o0_3_S50x1
def areaG (x3 : Vec F S1x50x4 .f32) : FVec F S50x1 .f32 := mulf (subf (gx2 x3) (gx1 x3)) (subf (gy2 x3) (gy1 x3))
/-- One column, given as a block. -/
def colV (x : Vec F S1x50x1 .f32) : FVec F S50x1 .f32 := shapeCast S50x1 x shapeCasts_S1x50x1_S50x1
/-- The indicator of each ground truth's class, against the columns of the scores. -/
def hot (x5 : Vec F S1x50x1 .f32) : FVec F S50x80 .f32 :=
  sitofp .f32 (extui 32 (cmpf .oeq (sitofp .f32 (iota .tc S50x80 32 [1] iota_S50x80_d1_w32))
    (broadcastTo S50x80 (colV x5) broadcasts_S50x1_S50x80)) natLt_1_32)

/-- One scalar literal, as a block of a shape. -/
def lit (s : Shape) (b : BitVec 32) : FVec F s .f32 := broadcast s (Scalar.ofBits .f32 b)

def rows6 (b : Vec F S1x6x1408 .f32) : FVec F S6x1408 .f32 := shapeCast S6x1408 b shapeCasts_S1x6x1408_S6x1408
def row0 (b : Vec F S1x6x1408 .f32) : FVec F S1x1408 .f32 := extractStridedSlice S1x1408 ![0, 0] (rows6 b) slices_S6x1408_o0_0_S1x1408
def row1 (b : Vec F S1x6x1408 .f32) : FVec F S1x1408 .f32 := extractStridedSlice S1x1408 ![1, 0] (rows6 b) slices_S6x1408_o1_0_S1x1408
def row2 (b : Vec F S1x6x1408 .f32) : FVec F S1x1408 .f32 := extractStridedSlice S1x1408 ![2, 0] (rows6 b) slices_S6x1408_o2_0_S1x1408
def row3 (b : Vec F S1x6x1408 .f32) : FVec F S1x1408 .f32 := extractStridedSlice S1x1408 ![3, 0] (rows6 b) slices_S6x1408_o3_0_S1x1408
def row4 (b : Vec F S1x6x1408 .f32) : FVec F S1x1408 .f32 := extractStridedSlice S1x1408 ![4, 0] (rows6 b) slices_S6x1408_o4_0_S1x1408
def row5 (b : Vec F S1x6x1408 .f32) : FVec F S1x1408 .f32 := extractStridedSlice S1x1408 ![5, 0] (rows6 b) slices_S6x1408_o5_0_S1x1408

/-- A row of anchors against every ground truth, and a column of ground truths against every anchor. -/
def ar (r : FVec F S1x1408 .f32) : FVec F S50x1408 .f32 := broadcastTo S50x1408 r broadcasts_S1x1408_S50x1408
def gc (g : FVec F S50x1 .f32) : FVec F S50x1408 .f32 := broadcastTo S50x1408 g broadcasts_S50x1_S50x1408

/-- 1 where the anchor lies in the box, else 0. -/
def insideV (x3 : Vec F S1x50x4 .f32) (b : Vec F S1x6x1408 .f32) : FVec F S50x1408 .f32 :=
  sitofp .f32 (extui 32 (cmpf .ogt
    (minimumf (minimumf (subf (ar (row4 b)) (gc (gx1 x3))) (subf (ar (row5 b)) (gc (gy1 x3))))
      (minimumf (subf (gc (gx2 x3)) (ar (row4 b))) (subf (gc (gy2 x3)) (ar (row5 b)))))
    (lit S50x1408 0x3089705F#32)) natLt_1_32)

/-- The two boxes' common part. -/
def interV (x3 : Vec F S1x50x4 .f32) (b : Vec F S1x6x1408 .f32) : FVec F S50x1408 .f32 :=
  mulf
    (maximumf (subf (minimumf (ar (row2 b)) (gc (gx2 x3))) (maximumf (ar (row0 b)) (gc (gx1 x3)))) (lit S50x1408 0x00000000#32))
    (maximumf (subf (minimumf (ar (row3 b)) (gc (gy2 x3))) (maximumf (ar (row1 b)) (gc (gy1 x3)))) (lit S50x1408 0x00000000#32))

/-- The overlaps. -/
def iouV (x3 : Vec F S1x50x4 .f32) (b : Vec F S1x6x1408 .f32) : FVec F S50x1408 .f32 :=
  divf (interV x3 b)
    (addf (subf (addf (ar (mulf (subf (row2 b) (row0 b)) (subf (row3 b) (row1 b)))) (gc (areaG x3))) (interV x3 b)) (lit S50x1408 0x3089705F#32))

/-- The score of each ground truth's class. -/
def scoreV (x5 : Vec F S1x50x1 .f32) (p : Vec F S1x80x1408 .f32) : FVec F S50x1408 .f32 :=
  matmul dot_S50x80_S80x1408_S50x1408_1_0_0_1_n_n none (hot x5) (shapeCast S80x1408 p shapeCasts_S1x80x1408_S80x1408)
    (constant S50x1408 .f32 0x00000000#32)

/-- The square, its square, and the sixth power, as the kernel forms it. -/
def six (u : FVec F S50x1408 .f32) : FVec F S50x1408 .f32 := mulf (mulf (mulf u u) (mulf u u)) (mulf u u)

/-- The alignment metric. -/
def metV (x3 : Vec F S1x50x4 .f32) (x5 x7 : Vec F S1x50x1 .f32) (b : Vec F S1x6x1408 .f32) (p : Vec F S1x80x1408 .f32) :
    FVec F S50x1408 .f32 :=
  mulf (mulf (mulf (scoreV x5 p) (six (iouV x3 b))) (insideV x3 b)) (gc (colV x7))

/-- The maximum along the anchors. -/
def maxRow (A : FVec F S50x1408 .f32) : FVec F S50x1 .f32 :=
  shapeCast S50x1 (multiReduction .maximumf [1] S50 A 0xFF800000#32 reduces_S50x1408_S50 (.inl rfl) rfl) shapeCasts_S50_S50x1

/-- The maximum along the ground truths. -/
def maxCol (A : FVec F S50x1408 .f32) : FVec F S1x1408 .f32 :=
  shapeCast S1x1408 (multiReduction .maximumf [0] S1408 A 0xFF800000#32 reduces_S50x1408_S1408 (.inl rfl) rfl) shapeCasts_S1408_S1x1408

/-- The entries below the threshold, the others at −1. -/
def below (t : FVec F S50x1 .f32) (A : FVec F S50x1408 .f32) : FVec F S50x1408 .f32 :=
  select (cmpf .olt A (gc t)) A (lit S50x1408 0xBF800000#32)

/-- One round: the largest entry below the threshold, over the six runs. -/
def roundV (A0 A1 A2 A3 A4 A5 : FVec F S50x1408 .f32) (t : FVec F S50x1 .f32) : FVec F S50x1 .f32 :=
  maximumf (maximumf (maximumf (maximumf (maximumf (maximumf (lit S50x1 0xBF800000#32) (maxRow (below t A0))) (maxRow (below t A1)))
    (maxRow (below t A2))) (maxRow (below t A3))) (maxRow (below t A4))) (maxRow (below t A5))

/-- The threshold after `k` rounds. -/
def thrV (A0 A1 A2 A3 A4 A5 : FVec F S50x1408 .f32) : ℕ → FVec F S50x1 .f32
  | 0 => lit S50x1 0x40000000#32
  | k + 1 => roundV A0 A1 A2 A3 A4 A5 (thrV A0 A1 A2 A3 A4 A5 k)

/-- Where an entry is kept, and the kept entries. -/
def keepV (t : FVec F S50x1 .f32) (A : FVec F S50x1408 .f32) : IVec S50x1408 1 :=
  andi (cmpf .oge A (gc t)) (cmpf .ogt A (lit S50x1408 0x00000000#32))
def topV (t : FVec F S50x1 .f32) (A : FVec F S50x1408 .f32) : FVec F S50x1408 .f32 :=
  select (keepV t A) A (lit S50x1408 0x00000000#32)

/-- 1 at an anchor some ground truth keeps. -/
def fgV (t : FVec F S50x1 .f32) (A : FVec F S50x1408 .f32) : FVec F S1x1408 .f32 :=
  sitofp .f32 (extui 32 (cmpf .ogt (maxCol (topV t A)) (lit S1x1408 0x00000000#32)) natLt_1_32)

/-- Six rows of anchors, added lane by lane from nothing. -/
def acc6 (r0 r1 r2 r3 r4 r5 : FVec F S1x1408 .f32) : FVec F S1x1408 .f32 :=
  addf (addf (addf (addf (addf (addf (lit S1x1408 0x00000000#32) r0) r1) r2) r3) r4) r5

/-- The lanes' total. -/
def totV (r : FVec F S1x1408 .f32) : FVec F S1x1x1 .f32 :=
  shapeCast S1x1x1 (broadcast S1x1 (extractAt ![0, 0, 0]
    (shapeCast S1x1x1 (multiReduction .add [1, 2] S1 (shapeCast S1x1x1408 r shapeCasts_S1x1408_S1x1x1408) 0x00000000#32
      reduces_S1x1x1408_S1 (.inl rfl) rfl) shapeCasts_S1_S1x1x1) inpos_S1x1x1_p0_0_0)) shapeCasts_S1x1_S1x1x1

end Cert.Tal

end
-- ==== Proof.Operands.lean ====
/- What the body finds in its input blocks, read off the arguments. -/
module

public import proofs.«01_k».proof.Proof.Vocab

@[expose] public section

set_option maxRecDepth 16384

noncomputable section

namespace Cert.Tal

open Cert.KernelIdeal Cert.KernelIdeal.Gen Idealize.ShloMosaic Idealize.ShloMosaic.TcCoe Idealize.SL.Sem

/-- Padding by nothing changes nothing. -/
theorem pad_none {α : Type} {d : Fin 3 → ℕ} {u : Shape} (x : (⟨3, d⟩ : Shape).Idx → α) (v : u.Idx → α)
    (h : (⟨3, d⟩ : Shape).Pads ![0, 0, 0] ![0, 0, 0] ![0, 0, 0] ⟨3, d⟩) (hu : 0 < u.numel) :
    pad ⟨3, d⟩ ![0, 0, 0] ![0, 0, 0] ![0, 0, 0] x v h hu = x := by
  funext j
  unfold pad
  rw [dif_pos (fun a => by
    have := (j a).isLt
    fin_cases a <;> exact ⟨Nat.zero_le _, Nat.mod_one _, by simpa using this⟩)]
  refine congrArg x (funext fun a => Fin.ext ?_)
  fin_cases a <;> exact Nat.div_one _

variable {F : FTy → Type} [FloatOps F]
variable (m : (ℓ : Loc nD τ sig) → Buf (Elt F) ℓ)

theorem V_scores (c : Dev nD) : V m c main_v4 =
    transpose S8x80x8448 [0, 2, 1] (m ((c : Thread nD τ).loc main_arg0)) transposes_S8x8448x80_S8x80x8448_0_2_1 := by
  dsimp only [V, V0, List.flatten_cons, List.flatten_nil, List.cons_append, List.nil_append, List.append_nil]
  after_results
  refine Eq.trans (b := pad S8x80x8448 ![0, 0, 0] ![0, 0, 0] ![0, 0, 0]
    (transpose S8x80x8448 [0, 2, 1] (m ((c : Thread nD τ).loc main_arg0)) transposes_S8x8448x80_S8x80x8448_0_2_1)
    (sitofp FTy.f32 (constantI S_ 32 0#32)) pads_S8x80x8448_S8x80x8448_000_000_000 h_S_) rfl (pad_none _ _ _ _)

/-- The boxes' corners and the anchors' coordinates, one row each. -/
def boxArr (a1 : Vec F S8x8448x4 .f32) (a3 : Vec F S8448x2 .f32) : Vec F S8x6x8448 .f32 :=
  concatenate S8x6x8448 1 [⟨S8x4x8448, transpose S8x4x8448 [0, 2, 1] a1 transposes_S8x8448x4_S8x4x8448_0_2_1⟩,
    ⟨S8x2x8448, broadcastInDim S8x2x8448 ![0, 1, 2] bcast_S1x2x8448_S8x2x8448_0_1_2
      (broadcastInDim S1x2x8448 ![1, 2] bcast_S2x8448_S1x2x8448_1_2 (transpose S2x8448 [1, 0] a3 transposes_S8448x2_S2x8448_1_0))⟩]
    concatenates_S8x4x8448_S8x2x8448_S8x6x8448_d1

theorem V_boxes (c : Dev nD) : V m c main_v10 = boxArr (m ((c : Thread nD τ).loc main_arg1)) (m ((c : Thread nD τ).loc main_arg3)) := by
  dsimp only [V, V0, List.flatten_cons, List.flatten_nil, List.cons_append, List.nil_append, List.append_nil]
  after_results
  refine Eq.trans (b := pad S8x6x8448 ![0, 0, 0] ![0, 0, 0] ![0, 0, 0]
    (boxArr (m ((c : Thread nD τ).loc main_arg1)) (m ((c : Thread nD τ).loc main_arg3)))
    (sitofp FTy.f32 (constantI S_ 32 0#32)) pads_S8x6x8448_S8x6x8448_000_000_000 h_S_) rfl (pad_none _ _ _ _)

/-- The class labels, kept in range, as words and as numbers. -/
def labI (a6 : IVec S8x50x1 32) : IVec S8x50 32 :=
  minsi (broadcastInDim S8x50 ![] bcast_S_S8x50 (constantI S_ 32 79#32))
    (maxsi (broadcastInDim S8x50 ![] bcast_S_S8x50 (constantI S_ 32 0#32)) (shapeCast S8x50 a6 shapeCasts_S8x50x1_S8x50))

theorem V_labels (c : Dev nD) : V m c main_v15 =
    broadcastInDim S8x50x1 ![0, 1] bcast_S8x50_S8x50x1_0_1 (sitofp .f32 (labI (m ((c : Thread nD τ).loc main_arg6)))) := by
  dsimp only [V, V0, List.flatten_cons, List.flatten_nil, List.cons_append, List.nil_append, List.append_nil]
  after_results
  rfl

theorem V_gts (c : Dev nD) : V m c main_arg4 = m ((c : Thread nD τ).loc main_arg4) := by
  dsimp only [V, V0, List.flatten_cons, List.flatten_nil, List.cons_append, List.nil_append, List.append_nil]
  after_results

theorem V_mask (c : Dev nD) : V m c main_arg5 = m ((c : Thread nD τ).loc main_arg5) := by
  dsimp only [V, V0, List.flatten_cons, List.flatten_nil, List.cons_append, List.nil_append, List.append_nil]
  after_results

end Cert.Tal

end
-- ==== Proof.Loads.lean ====
/- The words of the body's run that hold the metric, the thresholds and the foreground rows, read as the steps of Vocab. -/
module

public import proofs.«01_k».proof.Proof.Vocab

@[expose] public section

set_option maxRecDepth 16384

noncomputable section

namespace Cert.Tal

open Cert.KernelIdeal Cert.KernelIdeal.Gen Idealize.ShloMosaic Idealize.ShloMosaic.TcCoe

variable {F : FTy → Type} [FloatOps F]

theorem ld_cut6 (x : Vec F S1x6x8448 .f32) (o : ℕ) (h : o + 1408 ≤ 8448)
    (inb : ∀ a, (![0, 0, o] : Fin 3 → ℕ) a + S1x6x1408.size a ≤ S1x6x8448.size a) :
    View.ld (Val := Elt F) x (Rect.unit (s := S1x6x8448) ![0, 0, o] S1x6x1408.size inb) = cut6 x o h := by
  funext y
  refine congrArg x ?_
  funext a; apply Fin.ext
  fin_cases a
  · have : (y 0).val < 1 := (y 0).isLt
    show 0 + 1 * (y 0).val = 0; omega
  · show 0 + 1 * (y 1).val = (y 1).val; omega
  · show o + 1 * (y 2).val = o + (y 2).val; omega

theorem ld_cut80 (x : Vec F S1x80x8448 .f32) (o : ℕ) (h : o + 1408 ≤ 8448)
    (inb : ∀ a, (![0, 0, o] : Fin 3 → ℕ) a + S1x80x1408.size a ≤ S1x80x8448.size a) :
    View.ld (Val := Elt F) x (Rect.unit (s := S1x80x8448) ![0, 0, o] S1x80x1408.size inb) = cut80 x o h := by
  funext y
  refine congrArg x ?_
  funext a; apply Fin.ext
  fin_cases a
  · have : (y 0).val < 1 := (y 0).isLt
    show 0 + 1 * (y 0).val = 0; omega
  · show 0 + 1 * (y 1).val = (y 1).val; omega
  · show o + 1 * (y 2).val = o + (y 2).val; omega

variable (c : Dev nD)
variable (arg1 : Memref sig .tc .vmem S1x80x8448 .f32) (harg1 : arg1.IsWhole)
variable (arg2 : Memref sig .tc .vmem S1x6x8448 .f32) (harg2 : arg2.IsWhole)
variable (arg3 : Memref sig .tc .vmem S1x4x17x8448 .f32) (harg3 : arg3.IsWhole)
variable (arg4 : Memref sig .tc .vmem S1x50x4 .f32) (harg4 : arg4.IsWhole)
variable (arg5 : Memref sig .tc .vmem S1x4x50 .f32) (harg5 : arg5.IsWhole)
variable (arg6 : Memref sig .tc .vmem S1x50x1 .f32) (harg6 : arg6.IsWhole)
variable (arg7 : Memref sig .tc .vmem S1x1x50 .f32) (harg7 : arg7.IsWhole)
variable (arg8 : Memref sig .tc .vmem S1x50x1 .f32) (harg8 : arg8.IsWhole)
variable (arg9 : Memref sig .tc .vmem S1x1x1 .f32) (harg9 : arg9.IsWhole)
variable (arg10 : Memref sig .tc .vmem S1x1x1 .f32) (harg10 : arg10.IsWhole)
variable (arg11 : Memref sig .tc .vmem S1x1x1 .f32) (harg11 : arg11.IsWhole)
variable (arg12 : Memref sig .tc .vmem S1x1x1 .f32) (harg12 : arg12.IsWhole)
variable (arg13 : Memref sig .tc .vmem S1x1x1 .f32) (harg13 : arg13.IsWhole)
variable (arg14 : Memref sig .tc .vmem S50x8448 .f32) (harg14 : arg14.IsWhole)
variable (arg15 : Memref sig .tc .vmem S50x8448 .f32) (harg15 : arg15.IsWhole)
variable (x0 : Vec F S1x80x8448 .f32) (x1 : Vec F S1x6x8448 .f32) (x2 : Vec F S1x4x17x8448 .f32) (x3 : Vec F S1x50x4 .f32) (x4 : Vec F S1x4x50 .f32) (x5 : Vec F S1x50x1 .f32) (x6 : Vec F S1x1x50 .f32) (x7 : Vec F S1x50x1 .f32)

/-- A load of columns of the anchors' block, and of the scores' block. -/
theorem rd6 (o : ℕ) (h : o + 1408 ≤ 8448) (inb : ∀ a, (![0, 0, o] : Fin 3 → ℕ) a + S1x6x1408.size a ≤ S1x6x8448.size a) :
    View.readAt (Elt F) arg2.view (Rect.unit (s := S1x6x8448) ![0, 0, o] S1x6x1408.size inb).toLoadRect (harg2.unread x1) = cut6 x1 o h := by
  rw [View.readAt_eq_ld, harg2.read_unread]; exact ld_cut6 x1 o h inb

theorem rd80 (o : ℕ) (h : o + 1408 ≤ 8448) (inb : ∀ a, (![0, 0, o] : Fin 3 → ℕ) a + S1x80x1408.size a ≤ S1x80x8448.size a) :
    View.readAt (Elt F) arg1.view (Rect.unit (s := S1x80x8448) ![0, 0, o] S1x80x1408.size inb).toLoadRect (harg1.unread x0) = cut80 x0 o h := by
  rw [View.readAt_eq_ld, harg1.read_unread]; exact ld_cut80 x0 o h inb

theorem rdG (inb : ∀ a, (![0, 0, 0] : Fin 3 → ℕ) a + S1x50x4.size a ≤ S1x50x4.size a) :
    View.readAt (Elt F) arg4.view (Rect.unit (s := S1x50x4) ![0, 0, 0] S1x50x4.size inb).toLoadRect (harg4.unread x3) = x3 := by
  rw [View.readAt_eq_ld, harg4.read_unread]
  exact View.ld_unit_lit' inb x3 (by decide)

theorem rdL (inb : ∀ a, (![0, 0, 0] : Fin 3 → ℕ) a + S1x50x1.size a ≤ S1x50x1.size a) :
    View.readAt (Elt F) arg6.view (Rect.unit (s := S1x50x1) ![0, 0, 0] S1x50x1.size inb).toLoadRect (harg6.unread x5) = x5 := by
  rw [View.readAt_eq_ld, harg6.read_unread]
  exact View.ld_unit_lit' inb x5 (by decide)

theorem rdM (inb : ∀ a, (![0, 0, 0] : Fin 3 → ℕ) a + S1x50x1.size a ≤ S1x50x1.size a) :
    View.readAt (Elt F) arg8.view (Rect.unit (s := S1x50x1) ![0, 0, 0] S1x50x1.size inb).toLoadRect (harg8.unread x7) = x7 := by
  rw [View.readAt_eq_ld, harg8.read_unread]
  exact View.ld_unit_lit' inb x7 (by decide)

theorem rdGT (inb : ∀ a, (![0, 0, 0] : Fin 3 → ℕ) a + S1x4x50.size a ≤ S1x4x50.size a) :
    View.readAt (Elt F) arg5.view (Rect.unit (s := S1x4x50) ![0, 0, 0] S1x4x50.size inb).toLoadRect (harg5.unread x4) = x4 := by
  rw [View.readAt_eq_ld, harg5.read_unread]
  exact View.ld_unit_lit' inb x4 (by decide)

theorem rdR (inb : ∀ a, (![0, 0, 0] : Fin 3 → ℕ) a + S1x1x50.size a ≤ S1x1x50.size a) :
    View.readAt (Elt F) arg7.view (Rect.unit (s := S1x1x50) ![0, 0, 0] S1x1x50.size inb).toLoadRect (harg7.unread x6) = x6 := by
  rw [View.readAt_eq_ld, harg7.read_unread]
  exact View.ld_unit_lit' inb x6 (by decide)

end Cert.Tal

end
-- ==== Proof.Words.lean ====
/- The words of the body's run that hold the metric, the overlaps, the thresholds and the foreground rows, read as the steps of Vocab. -/
module

public import proofs.«01_k».proof.Proof.Vocab
public import proofs.«01_k».proof.Proof.Loads

@[expose] public section

set_option maxRecDepth 16384

noncomputable section

namespace Cert.Tal

open Cert.KernelIdeal Cert.KernelIdeal.Gen Idealize.ShloMosaic Idealize.ShloMosaic.TcCoe

variable {F : FTy → Type} [FloatOps F]

variable (c : Dev nD)
variable (arg1 : Memref sig .tc .vmem S1x80x8448 .f32) (harg1 : arg1.IsWhole)
variable (arg2 : Memref sig .tc .vmem S1x6x8448 .f32) (harg2 : arg2.IsWhole)
variable (arg3 : Memref sig .tc .vmem S1x4x17x8448 .f32) (harg3 : arg3.IsWhole)
variable (arg4 : Memref sig .tc .vmem S1x50x4 .f32) (harg4 : arg4.IsWhole)
variable (arg5 : Memref sig .tc .vmem S1x4x50 .f32) (harg5 : arg5.IsWhole)
variable (arg6 : Memref sig .tc .vmem S1x50x1 .f32) (harg6 : arg6.IsWhole)
variable (arg7 : Memref sig .tc .vmem S1x1x50 .f32) (harg7 : arg7.IsWhole)
variable (arg8 : Memref sig .tc .vmem S1x50x1 .f32) (harg8 : arg8.IsWhole)
variable (arg9 : Memref sig .tc .vmem S1x1x1 .f32) (harg9 : arg9.IsWhole)
variable (arg10 : Memref sig .tc .vmem S1x1x1 .f32) (harg10 : arg10.IsWhole)
variable (arg11 : Memref sig .tc .vmem S1x1x1 .f32) (harg11 : arg11.IsWhole)
variable (arg12 : Memref sig .tc .vmem S1x1x1 .f32) (harg12 : arg12.IsWhole)
variable (arg13 : Memref sig .tc .vmem S1x1x1 .f32) (harg13 : arg13.IsWhole)
variable (arg14 : Memref sig .tc .vmem S50x8448 .f32) (harg14 : arg14.IsWhole)
variable (arg15 : Memref sig .tc .vmem S50x8448 .f32) (harg15 : arg15.IsWhole)
variable (x0 : Vec F S1x80x8448 .f32) (x1 : Vec F S1x6x8448 .f32) (x2 : Vec F S1x4x17x8448 .f32) (x3 : Vec F S1x50x4 .f32) (x4 : Vec F S1x4x50 .f32) (x5 : Vec F S1x50x1 .f32) (x6 : Vec F S1x1x50 .f32) (x7 : Vec F S1x50x1 .f32)

theorem w_r_1 : (kernelRun0_A.sl.r_1 (F := F) c arg6 harg6 x5) = colV x5 := by
  unfold kernelRun0_A.sl.r_1; rw [rdL arg6 harg6 x5]; rfl

theorem w_r_2 : (kernelRun0_A.sl.r_2 (F := F) c arg8 harg8 x7) = colV x7 := by
  unfold kernelRun0_A.sl.r_2; rw [rdM arg8 harg8 x7]; rfl

theorem w_r_3 : (kernelRun0_A.sl.r_3 (F := F) c arg4 harg4 x3) = gx1 x3 := by
  unfold kernelRun0_A.sl.r_3; rw [rdG arg4 harg4 x3]; rfl

theorem w_r_4 : (kernelRun0_A.sl.r_4 (F := F) c arg4 harg4 x3) = gy1 x3 := by
  unfold kernelRun0_A.sl.r_4; rw [rdG arg4 harg4 x3]; rfl

theorem w_r_5 : (kernelRun0_A.sl.r_5 (F := F) c arg4 harg4 x3) = gx2 x3 := by
  unfold kernelRun0_A.sl.r_5; rw [rdG arg4 harg4 x3]; rfl

theorem w_r_6 : (kernelRun0_A.sl.r_6 (F := F) c arg4 harg4 x3) = gy2 x3 := by
  unfold kernelRun0_A.sl.r_6; rw [rdG arg4 harg4 x3]; rfl

theorem w_r_7 : (kernelRun0_A.sl.r_7 (F := F) c arg4 harg4 x3) = areaG x3 := by
  unfold kernelRun0_A.sl.r_7; rw [rdG arg4 harg4 x3]; rfl

theorem w_r_8 : (kernelRun0_A.sl.r_8 (F := F) c arg6 harg6 x5) = hot x5 := by
  unfold kernelRun0_A.sl.r_8; rw [rdL arg6 harg6 x5]; rfl

theorem w_v463 : (kernelRun0_A.sl.v463 (F := F) c arg1 harg1 arg2 harg2 arg4 harg4 arg6 harg6 arg8 harg8 arg14 x0 x1 x3 x5 x7) = metV x3 x5 x7 (cut6 x1 0 (by decide)) (cut80 x0 0 (by decide)) := by
  unfold kernelRun0_A.sl.v463 kernelRun0_A.sl.HS0_6
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  refine Eq.trans ?_ (shapeCast_self _ shapeCasts_S50x1408_S50x1408)
  rw [← rd6 arg2 harg2 x1 0 (by decide) inb_S1x6x8448_S1x6x1408_0_0_0, ← rd80 arg1 harg1 x0 0 (by decide) inb_S1x80x8448_S1x80x1408_0_0_0]
  unfold metV scoreV insideV iouV interV
  rw [← w_r_2 c arg8 harg8 x7, ← w_r_3 c arg4 harg4 x3, ← w_r_4 c arg4 harg4 x3, ← w_r_5 c arg4 harg4 x3, ← w_r_6 c arg4 harg4 x3, ← w_r_7 c arg4 harg4 x3, ← w_r_8 c arg6 harg6 x5]
  rfl

theorem w_v1106 : (kernelRun0_A.sl.v1106 (F := F) c arg2 harg2 arg4 harg4 arg15 x1 x3) = iouV x3 (cut6 x1 0 (by decide)) := by
  unfold kernelRun0_A.sl.v1106 kernelRun0_A.sl.HS1_6
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  refine Eq.trans ?_ (shapeCast_self _ shapeCasts_S50x1408_S50x1408)
  rw [← rd6 arg2 harg2 x1 0 (by decide) inb_S1x6x8448_S1x6x1408_0_0_0]
  unfold iouV interV
  rw [← w_r_3 c arg4 harg4 x3, ← w_r_4 c arg4 harg4 x3, ← w_r_5 c arg4 harg4 x3, ← w_r_6 c arg4 harg4 x3, ← w_r_7 c arg4 harg4 x3]
  rfl

theorem w_v471 : (kernelRun0_A.sl.v471 (F := F) c arg1 harg1 arg2 harg2 arg4 harg4 arg6 harg6 arg8 harg8 arg14 x0 x1 x3 x5 x7) = metV x3 x5 x7 (cut6 x1 1408 (by decide)) (cut80 x0 1408 (by decide)) := by
  unfold kernelRun0_A.sl.v471 kernelRun0_A.sl.HS0_6
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  refine Eq.trans ?_ (shapeCast_self _ shapeCasts_S50x1408_S50x1408)
  rw [← rd6 arg2 harg2 x1 1408 (by decide) inb_S1x6x8448_S1x6x1408_0_0_1408, ← rd80 arg1 harg1 x0 1408 (by decide) inb_S1x80x8448_S1x80x1408_0_0_1408]
  unfold metV scoreV insideV iouV interV
  rw [← w_r_2 c arg8 harg8 x7, ← w_r_3 c arg4 harg4 x3, ← w_r_4 c arg4 harg4 x3, ← w_r_5 c arg4 harg4 x3, ← w_r_6 c arg4 harg4 x3, ← w_r_7 c arg4 harg4 x3, ← w_r_8 c arg6 harg6 x5]
  rfl

theorem w_v1123 : (kernelRun0_A.sl.v1123 (F := F) c arg2 harg2 arg4 harg4 arg15 x1 x3) = iouV x3 (cut6 x1 1408 (by decide)) := by
  unfold kernelRun0_A.sl.v1123 kernelRun0_A.sl.HS1_6
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  refine Eq.trans ?_ (shapeCast_self _ shapeCasts_S50x1408_S50x1408)
  rw [← rd6 arg2 harg2 x1 1408 (by decide) inb_S1x6x8448_S1x6x1408_0_0_1408]
  unfold iouV interV
  rw [← w_r_3 c arg4 harg4 x3, ← w_r_4 c arg4 harg4 x3, ← w_r_5 c arg4 harg4 x3, ← w_r_6 c arg4 harg4 x3, ← w_r_7 c arg4 harg4 x3]
  rfl

theorem w_v479 : (kernelRun0_A.sl.v479 (F := F) c arg1 harg1 arg2 harg2 arg4 harg4 arg6 harg6 arg8 harg8 arg14 x0 x1 x3 x5 x7) = metV x3 x5 x7 (cut6 x1 2816 (by decide)) (cut80 x0 2816 (by decide)) := by
  unfold kernelRun0_A.sl.v479 kernelRun0_A.sl.HS0_6
  rw [View.readCov_skip _ _ _ _ _ (by decide)]
  rw [View.readCov_skip _ _ _ _ _ (by decide)]
  rw [View.readCov_skip _ _ _ _ _ (by decide)]
  rw [View.readCov_cons_toLoadRect]
  refine Eq.trans ?_ (shapeCast_self _ shapeCasts_S50x1408_S50x1408)
  rw [← rd6 arg2 harg2 x1 2816 (by decide) inb_S1x6x8448_S1x6x1408_0_0_2816, ← rd80 arg1 harg1 x0 2816 (by decide) inb_S1x80x8448_S1x80x1408_0_0_2816]
  unfold metV scoreV insideV iouV interV
  rw [← w_r_2 c arg8 harg8 x7, ← w_r_3 c arg4 harg4 x3, ← w_r_4 c arg4 harg4 x3, ← w_r_5 c arg4 harg4 x3, ← w_r_6 c arg4 harg4 x3, ← w_r_7 c arg4 harg4 x3, ← w_r_8 c arg6 harg6 x5]
  rfl

theorem w_v1140 : (kernelRun0_A.sl.v1140 (F := F) c arg2 harg2 arg4 harg4 arg15 x1 x3) = iouV x3 (cut6 x1 2816 (by decide)) := by
  unfold kernelRun0_A.sl.v1140 kernelRun0_A.sl.HS1_6
  rw [View.readCov_skip _ _ _ _ _ (by decide)]
  rw [View.readCov_skip _ _ _ _ _ (by decide)]
  rw [View.readCov_skip _ _ _ _ _ (by decide)]
  rw [View.readCov_cons_toLoadRect]
  refine Eq.trans ?_ (shapeCast_self _ shapeCasts_S50x1408_S50x1408)
  rw [← rd6 arg2 harg2 x1 2816 (by decide) inb_S1x6x8448_S1x6x1408_0_0_2816]
  unfold iouV interV
  rw [← w_r_3 c arg4 harg4 x3, ← w_r_4 c arg4 harg4 x3, ← w_r_5 c arg4 harg4 x3, ← w_r_6 c arg4 harg4 x3, ← w_r_7 c arg4 harg4 x3]
  rfl

theorem w_v487 : (kernelRun0_A.sl.v487 (F := F) c arg1 harg1 arg2 harg2 arg4 harg4 arg6 harg6 arg8 harg8 arg14 x0 x1 x3 x5 x7) = metV x3 x5 x7 (cut6 x1 4224 (by decide)) (cut80 x0 4224 (by decide)) := by
  unfold kernelRun0_A.sl.v487 kernelRun0_A.sl.HS0_6
  rw [View.readCov_skip _ _ _ _ _ (by decide)]
  rw [View.readCov_skip _ _ _ _ _ (by decide)]
  rw [View.readCov_cons_toLoadRect]
  refine Eq.trans ?_ (shapeCast_self _ shapeCasts_S50x1408_S50x1408)
  rw [← rd6 arg2 harg2 x1 4224 (by decide) inb_S1x6x8448_S1x6x1408_0_0_4224, ← rd80 arg1 harg1 x0 4224 (by decide) inb_S1x80x8448_S1x80x1408_0_0_4224]
  unfold metV scoreV insideV iouV interV
  rw [← w_r_2 c arg8 harg8 x7, ← w_r_3 c arg4 harg4 x3, ← w_r_4 c arg4 harg4 x3, ← w_r_5 c arg4 harg4 x3, ← w_r_6 c arg4 harg4 x3, ← w_r_7 c arg4 harg4 x3, ← w_r_8 c arg6 harg6 x5]
  rfl

theorem w_v1157 : (kernelRun0_A.sl.v1157 (F := F) c arg2 harg2 arg4 harg4 arg15 x1 x3) = iouV x3 (cut6 x1 4224 (by decide)) := by
  unfold kernelRun0_A.sl.v1157 kernelRun0_A.sl.HS1_6
  rw [View.readCov_skip _ _ _ _ _ (by decide)]
  rw [View.readCov_skip _ _ _ _ _ (by decide)]
  rw [View.readCov_cons_toLoadRect]
  refine Eq.trans ?_ (shapeCast_self _ shapeCasts_S50x1408_S50x1408)
  rw [← rd6 arg2 harg2 x1 4224 (by decide) inb_S1x6x8448_S1x6x1408_0_0_4224]
  unfold iouV interV
  rw [← w_r_3 c arg4 harg4 x3, ← w_r_4 c arg4 harg4 x3, ← w_r_5 c arg4 harg4 x3, ← w_r_6 c arg4 harg4 x3, ← w_r_7 c arg4 harg4 x3]
  rfl

theorem w_v495 : (kernelRun0_A.sl.v495 (F := F) c arg1 harg1 arg2 harg2 arg4 harg4 arg6 harg6 arg8 harg8 arg14 x0 x1 x3 x5 x7) = metV x3 x5 x7 (cut6 x1 5632 (by decide)) (cut80 x0 5632 (by decide)) := by
  unfold kernelRun0_A.sl.v495 kernelRun0_A.sl.HS0_6
  rw [View.readCov_skip _ _ _ _ _ (by decide)]
  rw [View.readCov_cons_toLoadRect]
  refine Eq.trans ?_ (shapeCast_self _ shapeCasts_S50x1408_S50x1408)
  rw [← rd6 arg2 harg2 x1 5632 (by decide) inb_S1x6x8448_S1x6x1408_0_0_5632, ← rd80 arg1 harg1 x0 5632 (by decide) inb_S1x80x8448_S1x80x1408_0_0_5632]
  unfold metV scoreV insideV iouV interV
  rw [← w_r_2 c arg8 harg8 x7, ← w_r_3 c arg4 harg4 x3, ← w_r_4 c arg4 harg4 x3, ← w_r_5 c arg4 harg4 x3, ← w_r_6 c arg4 harg4 x3, ← w_r_7 c arg4 harg4 x3, ← w_r_8 c arg6 harg6 x5]
  rfl

theorem w_v1174 : (kernelRun0_A.sl.v1174 (F := F) c arg2 harg2 arg4 harg4 arg15 x1 x3) = iouV x3 (cut6 x1 5632 (by decide)) := by
  unfold kernelRun0_A.sl.v1174 kernelRun0_A.sl.HS1_6
  rw [View.readCov_skip _ _ _ _ _ (by decide)]
  rw [View.readCov_cons_toLoadRect]
  refine Eq.trans ?_ (shapeCast_self _ shapeCasts_S50x1408_S50x1408)
  rw [← rd6 arg2 harg2 x1 5632 (by decide) inb_S1x6x8448_S1x6x1408_0_0_5632]
  unfold iouV interV
  rw [← w_r_3 c arg4 harg4 x3, ← w_r_4 c arg4 harg4 x3, ← w_r_5 c arg4 harg4 x3, ← w_r_6 c arg4 harg4 x3, ← w_r_7 c arg4 harg4 x3]
  rfl

theorem w_v503 : (kernelRun0_A.sl.v503 (F := F) c arg1 harg1 arg2 harg2 arg4 harg4 arg6 harg6 arg8 harg8 arg14 x0 x1 x3 x5 x7) = metV x3 x5 x7 (cut6 x1 7040 (by decide)) (cut80 x0 7040 (by decide)) := by
  unfold kernelRun0_A.sl.v503 kernelRun0_A.sl.HS0_6
  rw [View.readCov_cons_toLoadRect]
  refine Eq.trans ?_ (shapeCast_self _ shapeCasts_S50x1408_S50x1408)
  rw [← rd6 arg2 harg2 x1 7040 (by decide) inb_S1x6x8448_S1x6x1408_0_0_7040, ← rd80 arg1 harg1 x0 7040 (by decide) inb_S1x80x8448_S1x80x1408_0_0_7040]
  unfold metV scoreV insideV iouV interV
  rw [← w_r_2 c arg8 harg8 x7, ← w_r_3 c arg4 harg4 x3, ← w_r_4 c arg4 harg4 x3, ← w_r_5 c arg4 harg4 x3, ← w_r_6 c arg4 harg4 x3, ← w_r_7 c arg4 harg4 x3, ← w_r_8 c arg6 harg6 x5]
  rfl

theorem w_v1191 : (kernelRun0_A.sl.v1191 (F := F) c arg2 harg2 arg4 harg4 arg15 x1 x3) = iouV x3 (cut6 x1 7040 (by decide)) := by
  unfold kernelRun0_A.sl.v1191 kernelRun0_A.sl.HS1_6
  rw [View.readCov_cons_toLoadRect]
  refine Eq.trans ?_ (shapeCast_self _ shapeCasts_S50x1408_S50x1408)
  rw [← rd6 arg2 harg2 x1 7040 (by decide) inb_S1x6x8448_S1x6x1408_0_0_7040]
  unfold iouV interV
  rw [← w_r_3 c arg4 harg4 x3, ← w_r_4 c arg4 harg4 x3, ← w_r_5 c arg4 harg4 x3, ← w_r_6 c arg4 harg4 x3, ← w_r_7 c arg4 harg4 x3]
  rfl

end Cert.Tal

end
-- ==== Proof.Words2.lean ====
/- The words of the body's run that hold the thresholds and the foreground rows, read as the steps of Vocab. -/
module

public import proofs.«01_k».proof.Proof.Vocab
public import proofs.«01_k».proof.Proof.Words

@[expose] public section

set_option maxRecDepth 16384

noncomputable section

namespace Cert.Tal

open Cert.KernelIdeal Cert.KernelIdeal.Gen Idealize.ShloMosaic Idealize.ShloMosaic.TcCoe

variable {F : FTy → Type} [FloatOps F]

variable (c : Dev nD)
variable (arg1 : Memref sig .tc .vmem S1x80x8448 .f32) (harg1 : arg1.IsWhole)
variable (arg2 : Memref sig .tc .vmem S1x6x8448 .f32) (harg2 : arg2.IsWhole)
variable (arg3 : Memref sig .tc .vmem S1x4x17x8448 .f32) (harg3 : arg3.IsWhole)
variable (arg4 : Memref sig .tc .vmem S1x50x4 .f32) (harg4 : arg4.IsWhole)
variable (arg5 : Memref sig .tc .vmem S1x4x50 .f32) (harg5 : arg5.IsWhole)
variable (arg6 : Memref sig .tc .vmem S1x50x1 .f32) (harg6 : arg6.IsWhole)
variable (arg7 : Memref sig .tc .vmem S1x1x50 .f32) (harg7 : arg7.IsWhole)
variable (arg8 : Memref sig .tc .vmem S1x50x1 .f32) (harg8 : arg8.IsWhole)
variable (arg9 : Memref sig .tc .vmem S1x1x1 .f32) (harg9 : arg9.IsWhole)
variable (arg10 : Memref sig .tc .vmem S1x1x1 .f32) (harg10 : arg10.IsWhole)
variable (arg11 : Memref sig .tc .vmem S1x1x1 .f32) (harg11 : arg11.IsWhole)
variable (arg12 : Memref sig .tc .vmem S1x1x1 .f32) (harg12 : arg12.IsWhole)
variable (arg13 : Memref sig .tc .vmem S1x1x1 .f32) (harg13 : arg13.IsWhole)
variable (arg14 : Memref sig .tc .vmem S50x8448 .f32) (harg14 : arg14.IsWhole)
variable (arg15 : Memref sig .tc .vmem S50x8448 .f32) (harg15 : arg15.IsWhole)
variable (x0 : Vec F S1x80x8448 .f32) (x1 : Vec F S1x6x8448 .f32) (x2 : Vec F S1x4x17x8448 .f32) (x3 : Vec F S1x50x4 .f32) (x4 : Vec F S1x4x50 .f32) (x5 : Vec F S1x50x1 .f32) (x6 : Vec F S1x1x50 .f32) (x7 : Vec F S1x50x1 .f32)

theorem w_r_61 : (kernelRun0_A.sl.r_61 (F := F) c arg1 harg1 arg2 harg2 arg4 harg4 arg6 harg6 arg8 harg8 arg14 x0 x1 x3 x5 x7) =
    roundV (kernelRun0_A.sl.v463 (F := F) c arg1 harg1 arg2 harg2 arg4 harg4 arg6 harg6 arg8 harg8 arg14 x0 x1 x3 x5 x7) (kernelRun0_A.sl.v471 (F := F) c arg1 harg1 arg2 harg2 arg4 harg4 arg6 harg6 arg8 harg8 arg14 x0 x1 x3 x5 x7) (kernelRun0_A.sl.v479 (F := F) c arg1 harg1 arg2 harg2 arg4 harg4 arg6 harg6 arg8 harg8 arg14 x0 x1 x3 x5 x7) (kernelRun0_A.sl.v487 (F := F) c arg1 harg1 arg2 harg2 arg4 harg4 arg6 harg6 arg8 harg8 arg14 x0 x1 x3 x5 x7) (kernelRun0_A.sl.v495 (F := F) c arg1 harg1 arg2 harg2 arg4 harg4 arg6 harg6 arg8 harg8 arg14 x0 x1 x3 x5 x7) (kernelRun0_A.sl.v503 (F := F) c arg1 harg1 arg2 harg2 arg4 harg4 arg6 harg6 arg8 harg8 arg14 x0 x1 x3 x5 x7) (lit S50x1 0x40000000#32) := rfl

theorem w_r_63 : (kernelRun0_A.sl.r_63 (F := F) c arg1 harg1 arg2 harg2 arg4 harg4 arg6 harg6 arg8 harg8 arg14 x0 x1 x3 x5 x7) =
    roundV (kernelRun0_A.sl.v463 (F := F) c arg1 harg1 arg2 harg2 arg4 harg4 arg6 harg6 arg8 harg8 arg14 x0 x1 x3 x5 x7) (kernelRun0_A.sl.v471 (F := F) c arg1 harg1 arg2 harg2 arg4 harg4 arg6 harg6 arg8 harg8 arg14 x0 x1 x3 x5 x7) (kernelRun0_A.sl.v479 (F := F) c arg1 harg1 arg2 harg2 arg4 harg4 arg6 harg6 arg8 harg8 arg14 x0 x1 x3 x5 x7) (kernelRun0_A.sl.v487 (F := F) c arg1 harg1 arg2 harg2 arg4 harg4 arg6 harg6 arg8 harg8 arg14 x0 x1 x3 x5 x7) (kernelRun0_A.sl.v495 (F := F) c arg1 harg1 arg2 harg2 arg4 harg4 arg6 harg6 arg8 harg8 arg14 x0 x1 x3 x5 x7) (kernelRun0_A.sl.v503 (F := F) c arg1 harg1 arg2 harg2 arg4 harg4 arg6 harg6 arg8 harg8 arg14 x0 x1 x3 x5 x7) (kernelRun0_A.sl.r_61 (F := F) c arg1 harg1 arg2 harg2 arg4 harg4 arg6 harg6 arg8 harg8 arg14 x0 x1 x3 x5 x7) := rfl

theorem w_r_65 : (kernelRun0_A.sl.r_65 (F := F) c arg1 harg1 arg2 harg2 arg4 harg4 arg6 harg6 arg8 harg8 arg14 x0 x1 x3 x5 x7) =
    roundV (kernelRun0_A.sl.v463 (F := F) c arg1 harg1 arg2 harg2 arg4 harg4 arg6 harg6 arg8 harg8 arg14 x0 x1 x3 x5 x7) (kernelRun0_A.sl.v471 (F := F) c arg1 harg1 arg2 harg2 arg4 harg4 arg6 harg6 arg8 harg8 arg14 x0 x1 x3 x5 x7) (kernelRun0_A.sl.v479 (F := F) c arg1 harg1 arg2 harg2 arg4 harg4 arg6 harg6 arg8 harg8 arg14 x0 x1 x3 x5 x7) (kernelRun0_A.sl.v487 (F := F) c arg1 harg1 arg2 harg2 arg4 harg4 arg6 harg6 arg8 harg8 arg14 x0 x1 x3 x5 x7) (kernelRun0_A.sl.v495 (F := F) c arg1 harg1 arg2 harg2 arg4 harg4 arg6 harg6 arg8 harg8 arg14 x0 x1 x3 x5 x7) (kernelRun0_A.sl.v503 (F := F) c arg1 harg1 arg2 harg2 arg4 harg4 arg6 harg6 arg8 harg8 arg14 x0 x1 x3 x5 x7) (kernelRun0_A.sl.r_63 (F := F) c arg1 harg1 arg2 harg2 arg4 harg4 arg6 harg6 arg8 harg8 arg14 x0 x1 x3 x5 x7) := rfl

theorem w_r_68 : (kernelRun0_A.sl.r_68 (F := F) c arg1 harg1 arg2 harg2 arg4 harg4 arg6 harg6 arg8 harg8 arg14 x0 x1 x3 x5 x7) =
    roundV (kernelRun0_A.sl.v463 (F := F) c arg1 harg1 arg2 harg2 arg4 harg4 arg6 harg6 arg8 harg8 arg14 x0 x1 x3 x5 x7) (kernelRun0_A.sl.v471 (F := F) c arg1 harg1 arg2 harg2 arg4 harg4 arg6 harg6 arg8 harg8 arg14 x0 x1 x3 x5 x7) (kernelRun0_A.sl.v479 (F := F) c arg1 harg1 arg2 harg2 arg4 harg4 arg6 harg6 arg8 harg8 arg14 x0 x1 x3 x5 x7) (kernelRun0_A.sl.v487 (F := F) c arg1 harg1 arg2 harg2 arg4 harg4 arg6 harg6 arg8 harg8 arg14 x0 x1 x3 x5 x7) (kernelRun0_A.sl.v495 (F := F) c arg1 harg1 arg2 harg2 arg4 harg4 arg6 harg6 arg8 harg8 arg14 x0 x1 x3 x5 x7) (kernelRun0_A.sl.v503 (F := F) c arg1 harg1 arg2 harg2 arg4 harg4 arg6 harg6 arg8 harg8 arg14 x0 x1 x3 x5 x7) (kernelRun0_A.sl.r_65 (F := F) c arg1 harg1 arg2 harg2 arg4 harg4 arg6 harg6 arg8 harg8 arg14 x0 x1 x3 x5 x7) := rfl

theorem w_r_71 : (kernelRun0_A.sl.r_71 (F := F) c arg1 harg1 arg2 harg2 arg4 harg4 arg6 harg6 arg8 harg8 arg14 x0 x1 x3 x5 x7) =
    roundV (kernelRun0_A.sl.v463 (F := F) c arg1 harg1 arg2 harg2 arg4 harg4 arg6 harg6 arg8 harg8 arg14 x0 x1 x3 x5 x7) (kernelRun0_A.sl.v471 (F := F) c arg1 harg1 arg2 harg2 arg4 harg4 arg6 harg6 arg8 harg8 arg14 x0 x1 x3 x5 x7) (kernelRun0_A.sl.v479 (F := F) c arg1 harg1 arg2 harg2 arg4 harg4 arg6 harg6 arg8 harg8 arg14 x0 x1 x3 x5 x7) (kernelRun0_A.sl.v487 (F := F) c arg1 harg1 arg2 harg2 arg4 harg4 arg6 harg6 arg8 harg8 arg14 x0 x1 x3 x5 x7) (kernelRun0_A.sl.v495 (F := F) c arg1 harg1 arg2 harg2 arg4 harg4 arg6 harg6 arg8 harg8 arg14 x0 x1 x3 x5 x7) (kernelRun0_A.sl.v503 (F := F) c arg1 harg1 arg2 harg2 arg4 harg4 arg6 harg6 arg8 harg8 arg14 x0 x1 x3 x5 x7) (kernelRun0_A.sl.r_68 (F := F) c arg1 harg1 arg2 harg2 arg4 harg4 arg6 harg6 arg8 harg8 arg14 x0 x1 x3 x5 x7) := rfl

theorem w_r_75 : (kernelRun0_A.sl.r_75 (F := F) c arg1 harg1 arg2 harg2 arg4 harg4 arg6 harg6 arg8 harg8 arg14 x0 x1 x3 x5 x7) =
    roundV (kernelRun0_A.sl.v463 (F := F) c arg1 harg1 arg2 harg2 arg4 harg4 arg6 harg6 arg8 harg8 arg14 x0 x1 x3 x5 x7) (kernelRun0_A.sl.v471 (F := F) c arg1 harg1 arg2 harg2 arg4 harg4 arg6 harg6 arg8 harg8 arg14 x0 x1 x3 x5 x7) (kernelRun0_A.sl.v479 (F := F) c arg1 harg1 arg2 harg2 arg4 harg4 arg6 harg6 arg8 harg8 arg14 x0 x1 x3 x5 x7) (kernelRun0_A.sl.v487 (F := F) c arg1 harg1 arg2 harg2 arg4 harg4 arg6 harg6 arg8 harg8 arg14 x0 x1 x3 x5 x7) (kernelRun0_A.sl.v495 (F := F) c arg1 harg1 arg2 harg2 arg4 harg4 arg6 harg6 arg8 harg8 arg14 x0 x1 x3 x5 x7) (kernelRun0_A.sl.v503 (F := F) c arg1 harg1 arg2 harg2 arg4 harg4 arg6 harg6 arg8 harg8 arg14 x0 x1 x3 x5 x7) (kernelRun0_A.sl.r_71 (F := F) c arg1 harg1 arg2 harg2 arg4 harg4 arg6 harg6 arg8 harg8 arg14 x0 x1 x3 x5 x7) := rfl

theorem w_r_78 : (kernelRun0_A.sl.r_78 (F := F) c arg1 harg1 arg2 harg2 arg4 harg4 arg6 harg6 arg8 harg8 arg14 x0 x1 x3 x5 x7) =
    roundV (kernelRun0_A.sl.v463 (F := F) c arg1 harg1 arg2 harg2 arg4 harg4 arg6 harg6 arg8 harg8 arg14 x0 x1 x3 x5 x7) (kernelRun0_A.sl.v471 (F := F) c arg1 harg1 arg2 harg2 arg4 harg4 arg6 harg6 arg8 harg8 arg14 x0 x1 x3 x5 x7) (kernelRun0_A.sl.v479 (F := F) c arg1 harg1 arg2 harg2 arg4 harg4 arg6 harg6 arg8 harg8 arg14 x0 x1 x3 x5 x7) (kernelRun0_A.sl.v487 (F := F) c arg1 harg1 arg2 harg2 arg4 harg4 arg6 harg6 arg8 harg8 arg14 x0 x1 x3 x5 x7) (kernelRun0_A.sl.v495 (F := F) c arg1 harg1 arg2 harg2 arg4 harg4 arg6 harg6 arg8 harg8 arg14 x0 x1 x3 x5 x7) (kernelRun0_A.sl.v503 (F := F) c arg1 harg1 arg2 harg2 arg4 harg4 arg6 harg6 arg8 harg8 arg14 x0 x1 x3 x5 x7) (kernelRun0_A.sl.r_75 (F := F) c arg1 harg1 arg2 harg2 arg4 harg4 arg6 harg6 arg8 harg8 arg14 x0 x1 x3 x5 x7) := rfl

theorem w_r_80 : (kernelRun0_A.sl.r_80 (F := F) c arg1 harg1 arg2 harg2 arg4 harg4 arg6 harg6 arg8 harg8 arg14 x0 x1 x3 x5 x7) =
    roundV (kernelRun0_A.sl.v463 (F := F) c arg1 harg1 arg2 harg2 arg4 harg4 arg6 harg6 arg8 harg8 arg14 x0 x1 x3 x5 x7) (kernelRun0_A.sl.v471 (F := F) c arg1 harg1 arg2 harg2 arg4 harg4 arg6 harg6 arg8 harg8 arg14 x0 x1 x3 x5 x7) (kernelRun0_A.sl.v479 (F := F) c arg1 harg1 arg2 harg2 arg4 harg4 arg6 harg6 arg8 harg8 arg14 x0 x1 x3 x5 x7) (kernelRun0_A.sl.v487 (F := F) c arg1 harg1 arg2 harg2 arg4 harg4 arg6 harg6 arg8 harg8 arg14 x0 x1 x3 x5 x7) (kernelRun0_A.sl.v495 (F := F) c arg1 harg1 arg2 harg2 arg4 harg4 arg6 harg6 arg8 harg8 arg14 x0 x1 x3 x5 x7) (kernelRun0_A.sl.v503 (F := F) c arg1 harg1 arg2 harg2 arg4 harg4 arg6 harg6 arg8 harg8 arg14 x0 x1 x3 x5 x7) (kernelRun0_A.sl.r_78 (F := F) c arg1 harg1 arg2 harg2 arg4 harg4 arg6 harg6 arg8 harg8 arg14 x0 x1 x3 x5 x7) := rfl

theorem w_r_82 : (kernelRun0_A.sl.r_82 (F := F) c arg1 harg1 arg2 harg2 arg4 harg4 arg6 harg6 arg8 harg8 arg14 x0 x1 x3 x5 x7) =
    roundV (kernelRun0_A.sl.v463 (F := F) c arg1 harg1 arg2 harg2 arg4 harg4 arg6 harg6 arg8 harg8 arg14 x0 x1 x3 x5 x7) (kernelRun0_A.sl.v471 (F := F) c arg1 harg1 arg2 harg2 arg4 harg4 arg6 harg6 arg8 harg8 arg14 x0 x1 x3 x5 x7) (kernelRun0_A.sl.v479 (F := F) c arg1 harg1 arg2 harg2 arg4 harg4 arg6 harg6 arg8 harg8 arg14 x0 x1 x3 x5 x7) (kernelRun0_A.sl.v487 (F := F) c arg1 harg1 arg2 harg2 arg4 harg4 arg6 harg6 arg8 harg8 arg14 x0 x1 x3 x5 x7) (kernelRun0_A.sl.v495 (F := F) c arg1 harg1 arg2 harg2 arg4 harg4 arg6 harg6 arg8 harg8 arg14 x0 x1 x3 x5 x7) (kernelRun0_A.sl.v503 (F := F) c arg1 harg1 arg2 harg2 arg4 harg4 arg6 harg6 arg8 harg8 arg14 x0 x1 x3 x5 x7) (kernelRun0_A.sl.r_80 (F := F) c arg1 harg1 arg2 harg2 arg4 harg4 arg6 harg6 arg8 harg8 arg14 x0 x1 x3 x5 x7) := rfl

theorem w_r_86 : (kernelRun0_A.sl.r_86 (F := F) c arg1 harg1 arg2 harg2 arg4 harg4 arg6 harg6 arg8 harg8 arg14 x0 x1 x3 x5 x7) =
    roundV (kernelRun0_A.sl.v463 (F := F) c arg1 harg1 arg2 harg2 arg4 harg4 arg6 harg6 arg8 harg8 arg14 x0 x1 x3 x5 x7) (kernelRun0_A.sl.v471 (F := F) c arg1 harg1 arg2 harg2 arg4 harg4 arg6 harg6 arg8 harg8 arg14 x0 x1 x3 x5 x7) (kernelRun0_A.sl.v479 (F := F) c arg1 harg1 arg2 harg2 arg4 harg4 arg6 harg6 arg8 harg8 arg14 x0 x1 x3 x5 x7) (kernelRun0_A.sl.v487 (F := F) c arg1 harg1 arg2 harg2 arg4 harg4 arg6 harg6 arg8 harg8 arg14 x0 x1 x3 x5 x7) (kernelRun0_A.sl.v495 (F := F) c arg1 harg1 arg2 harg2 arg4 harg4 arg6 harg6 arg8 harg8 arg14 x0 x1 x3 x5 x7) (kernelRun0_A.sl.v503 (F := F) c arg1 harg1 arg2 harg2 arg4 harg4 arg6 harg6 arg8 harg8 arg14 x0 x1 x3 x5 x7) (kernelRun0_A.sl.r_82 (F := F) c arg1 harg1 arg2 harg2 arg4 harg4 arg6 harg6 arg8 harg8 arg14 x0 x1 x3 x5 x7) := rfl

theorem w_r_89 : (kernelRun0_A.sl.r_89 (F := F) c arg1 harg1 arg2 harg2 arg4 harg4 arg6 harg6 arg8 harg8 arg14 x0 x1 x3 x5 x7) =
    roundV (kernelRun0_A.sl.v463 (F := F) c arg1 harg1 arg2 harg2 arg4 harg4 arg6 harg6 arg8 harg8 arg14 x0 x1 x3 x5 x7) (kernelRun0_A.sl.v471 (F := F) c arg1 harg1 arg2 harg2 arg4 harg4 arg6 harg6 arg8 harg8 arg14 x0 x1 x3 x5 x7) (kernelRun0_A.sl.v479 (F := F) c arg1 harg1 arg2 harg2 arg4 harg4 arg6 harg6 arg8 harg8 arg14 x0 x1 x3 x5 x7) (kernelRun0_A.sl.v487 (F := F) c arg1 harg1 arg2 harg2 arg4 harg4 arg6 harg6 arg8 harg8 arg14 x0 x1 x3 x5 x7) (kernelRun0_A.sl.v495 (F := F) c arg1 harg1 arg2 harg2 arg4 harg4 arg6 harg6 arg8 harg8 arg14 x0 x1 x3 x5 x7) (kernelRun0_A.sl.v503 (F := F) c arg1 harg1 arg2 harg2 arg4 harg4 arg6 harg6 arg8 harg8 arg14 x0 x1 x3 x5 x7) (kernelRun0_A.sl.r_86 (F := F) c arg1 harg1 arg2 harg2 arg4 harg4 arg6 harg6 arg8 harg8 arg14 x0 x1 x3 x5 x7) := rfl

theorem w_r_92 : (kernelRun0_A.sl.r_92 (F := F) c arg1 harg1 arg2 harg2 arg4 harg4 arg6 harg6 arg8 harg8 arg14 x0 x1 x3 x5 x7) =
    roundV (kernelRun0_A.sl.v463 (F := F) c arg1 harg1 arg2 harg2 arg4 harg4 arg6 harg6 arg8 harg8 arg14 x0 x1 x3 x5 x7) (kernelRun0_A.sl.v471 (F := F) c arg1 harg1 arg2 harg2 arg4 harg4 arg6 harg6 arg8 harg8 arg14 x0 x1 x3 x5 x7) (kernelRun0_A.sl.v479 (F := F) c arg1 harg1 arg2 harg2 arg4 harg4 arg6 harg6 arg8 harg8 arg14 x0 x1 x3 x5 x7) (kernelRun0_A.sl.v487 (F := F) c arg1 harg1 arg2 harg2 arg4 harg4 arg6 harg6 arg8 harg8 arg14 x0 x1 x3 x5 x7) (kernelRun0_A.sl.v495 (F := F) c arg1 harg1 arg2 harg2 arg4 harg4 arg6 harg6 arg8 harg8 arg14 x0 x1 x3 x5 x7) (kernelRun0_A.sl.v503 (F := F) c arg1 harg1 arg2 harg2 arg4 harg4 arg6 harg6 arg8 harg8 arg14 x0 x1 x3 x5 x7) (kernelRun0_A.sl.r_89 (F := F) c arg1 harg1 arg2 harg2 arg4 harg4 arg6 harg6 arg8 harg8 arg14 x0 x1 x3 x5 x7) := rfl

theorem w_r_95 : (kernelRun0_A.sl.r_95 (F := F) c arg1 harg1 arg2 harg2 arg4 harg4 arg6 harg6 arg8 harg8 arg14 x0 x1 x3 x5 x7) =
    roundV (kernelRun0_A.sl.v463 (F := F) c arg1 harg1 arg2 harg2 arg4 harg4 arg6 harg6 arg8 harg8 arg14 x0 x1 x3 x5 x7) (kernelRun0_A.sl.v471 (F := F) c arg1 harg1 arg2 harg2 arg4 harg4 arg6 harg6 arg8 harg8 arg14 x0 x1 x3 x5 x7) (kernelRun0_A.sl.v479 (F := F) c arg1 harg1 arg2 harg2 arg4 harg4 arg6 harg6 arg8 harg8 arg14 x0 x1 x3 x5 x7) (kernelRun0_A.sl.v487 (F := F) c arg1 harg1 arg2 harg2 arg4 harg4 arg6 harg6 arg8 harg8 arg14 x0 x1 x3 x5 x7) (kernelRun0_A.sl.v495 (F := F) c arg1 harg1 arg2 harg2 arg4 harg4 arg6 harg6 arg8 harg8 arg14 x0 x1 x3 x5 x7) (kernelRun0_A.sl.v503 (F := F) c arg1 harg1 arg2 harg2 arg4 harg4 arg6 harg6 arg8 harg8 arg14 x0 x1 x3 x5 x7) (kernelRun0_A.sl.r_92 (F := F) c arg1 harg1 arg2 harg2 arg4 harg4 arg6 harg6 arg8 harg8 arg14 x0 x1 x3 x5 x7) := rfl

/-- The runs' metric, as written. -/
def metC (x0 : Vec F S1x80x8448 .f32) (x1 : Vec F S1x6x8448 .f32) (x3 : Vec F S1x50x4 .f32) (x5 x7 : Vec F S1x50x1 .f32)
    (o : ℕ) (h : o + 1408 ≤ 8448) : FVec F S50x1408 .f32 := metV x3 x5 x7 (cut6 x1 o h) (cut80 x0 o h)

/-- The last threshold. -/
def thrC (x0 : Vec F S1x80x8448 .f32) (x1 : Vec F S1x6x8448 .f32) (x3 : Vec F S1x50x4 .f32) (x5 x7 : Vec F S1x50x1 .f32) :
    ℕ → FVec F S50x1 .f32 :=
  thrV (metC x0 x1 x3 x5 x7 0 (by decide)) (metC x0 x1 x3 x5 x7 1408 (by decide)) (metC x0 x1 x3 x5 x7 2816 (by decide))
    (metC x0 x1 x3 x5 x7 4224 (by decide)) (metC x0 x1 x3 x5 x7 5632 (by decide)) (metC x0 x1 x3 x5 x7 7040 (by decide))

theorem thr_last : (kernelRun0_A.sl.r_95 (F := F) c arg1 harg1 arg2 harg2 arg4 harg4 arg6 harg6 arg8 harg8 arg14 x0 x1 x3 x5 x7) = thrC x0 x1 x3 x5 x7 13 := by
  rw [w_r_95 c arg1 harg1 arg2 harg2 arg4 harg4 arg6 harg6 arg8 harg8 arg14 x0 x1 x3 x5 x7, w_r_92 c arg1 harg1 arg2 harg2 arg4 harg4 arg6 harg6 arg8 harg8 arg14 x0 x1 x3 x5 x7, w_r_89 c arg1 harg1 arg2 harg2 arg4 harg4 arg6 harg6 arg8 harg8 arg14 x0 x1 x3 x5 x7, w_r_86 c arg1 harg1 arg2 harg2 arg4 harg4 arg6 harg6 arg8 harg8 arg14 x0 x1 x3 x5 x7, w_r_82 c arg1 harg1 arg2 harg2 arg4 harg4 arg6 harg6 arg8 harg8 arg14 x0 x1 x3 x5 x7, w_r_80 c arg1 harg1 arg2 harg2 arg4 harg4 arg6 harg6 arg8 harg8 arg14 x0 x1 x3 x5 x7, w_r_78 c arg1 harg1 arg2 harg2 arg4 harg4 arg6 harg6 arg8 harg8 arg14 x0 x1 x3 x5 x7, w_r_75 c arg1 harg1 arg2 harg2 arg4 harg4 arg6 harg6 arg8 harg8 arg14 x0 x1 x3 x5 x7, w_r_71 c arg1 harg1 arg2 harg2 arg4 harg4 arg6 harg6 arg8 harg8 arg14 x0 x1 x3 x5 x7, w_r_68 c arg1 harg1 arg2 harg2 arg4 harg4 arg6 harg6 arg8 harg8 arg14 x0 x1 x3 x5 x7, w_r_65 c arg1 harg1 arg2 harg2 arg4 harg4 arg6 harg6 arg8 harg8 arg14 x0 x1 x3 x5 x7, w_r_63 c arg1 harg1 arg2 harg2 arg4 harg4 arg6 harg6 arg8 harg8 arg14 x0 x1 x3 x5 x7, w_r_61 c arg1 harg1 arg2 harg2 arg4 harg4 arg6 harg6 arg8 harg8 arg14 x0 x1 x3 x5 x7]
  rw [w_v463 c arg1 harg1 arg2 harg2 arg4 harg4 arg6 harg6 arg8 harg8 arg14 x0 x1 x3 x5 x7, w_v471 c arg1 harg1 arg2 harg2 arg4 harg4 arg6 harg6 arg8 harg8 arg14 x0 x1 x3 x5 x7, w_v479 c arg1 harg1 arg2 harg2 arg4 harg4 arg6 harg6 arg8 harg8 arg14 x0 x1 x3 x5 x7, w_v487 c arg1 harg1 arg2 harg2 arg4 harg4 arg6 harg6 arg8 harg8 arg14 x0 x1 x3 x5 x7, w_v495 c arg1 harg1 arg2 harg2 arg4 harg4 arg6 harg6 arg8 harg8 arg14 x0 x1 x3 x5 x7, w_v503 c arg1 harg1 arg2 harg2 arg4 harg4 arg6 harg6 arg8 harg8 arg14 x0 x1 x3 x5 x7]
  rfl

theorem w_r_118 : (kernelRun0_A.sl.r_118 (F := F) c arg1 harg1 arg2 harg2 arg4 harg4 arg6 harg6 arg8 harg8 arg14 x0 x1 x3 x5 x7) = fgV (thrC x0 x1 x3 x5 x7 13) (metC x0 x1 x3 x5 x7 0 (by decide)) := by
  rw [← thr_last c arg1 harg1 arg2 harg2 arg4 harg4 arg6 harg6 arg8 harg8 arg14 x0 x1 x3 x5 x7, metC, ← w_v463 c arg1 harg1 arg2 harg2 arg4 harg4 arg6 harg6 arg8 harg8 arg14 x0 x1 x3 x5 x7]
  rfl

theorem w_r_147 : (kernelRun0_A.sl.r_147 (F := F) c arg1 harg1 arg2 harg2 arg4 harg4 arg6 harg6 arg8 harg8 arg14 x0 x1 x3 x5 x7) = fgV (thrC x0 x1 x3 x5 x7 13) (metC x0 x1 x3 x5 x7 1408 (by decide)) := by
  rw [← thr_last c arg1 harg1 arg2 harg2 arg4 harg4 arg6 harg6 arg8 harg8 arg14 x0 x1 x3 x5 x7, metC, ← w_v471 c arg1 harg1 arg2 harg2 arg4 harg4 arg6 harg6 arg8 harg8 arg14 x0 x1 x3 x5 x7]
  rfl

theorem w_r_183 : (kernelRun0_A.sl.r_183 (F := F) c arg1 harg1 arg2 harg2 arg4 harg4 arg6 harg6 arg8 harg8 arg14 x0 x1 x3 x5 x7) = fgV (thrC x0 x1 x3 x5 x7 13) (metC x0 x1 x3 x5 x7 2816 (by decide)) := by
  rw [← thr_last c arg1 harg1 arg2 harg2 arg4 harg4 arg6 harg6 arg8 harg8 arg14 x0 x1 x3 x5 x7, metC, ← w_v479 c arg1 harg1 arg2 harg2 arg4 harg4 arg6 harg6 arg8 harg8 arg14 x0 x1 x3 x5 x7]
  rfl

theorem w_r_218 : (kernelRun0_A.sl.r_218 (F := F) c arg1 harg1 arg2 harg2 arg4 harg4 arg6 harg6 arg8 harg8 arg14 x0 x1 x3 x5 x7) = fgV (thrC x0 x1 x3 x5 x7 13) (metC x0 x1 x3 x5 x7 4224 (by decide)) := by
  rw [← thr_last c arg1 harg1 arg2 harg2 arg4 harg4 arg6 harg6 arg8 harg8 arg14 x0 x1 x3 x5 x7, metC, ← w_v487 c arg1 harg1 arg2 harg2 arg4 harg4 arg6 harg6 arg8 harg8 arg14 x0 x1 x3 x5 x7]
  rfl

theorem w_r_250 : (kernelRun0_A.sl.r_250 (F := F) c arg1 harg1 arg2 harg2 arg4 harg4 arg6 harg6 arg8 harg8 arg14 x0 x1 x3 x5 x7) = fgV (thrC x0 x1 x3 x5 x7 13) (metC x0 x1 x3 x5 x7 5632 (by decide)) := by
  rw [← thr_last c arg1 harg1 arg2 harg2 arg4 harg4 arg6 harg6 arg8 harg8 arg14 x0 x1 x3 x5 x7, metC, ← w_v495 c arg1 harg1 arg2 harg2 arg4 harg4 arg6 harg6 arg8 harg8 arg14 x0 x1 x3 x5 x7]
  rfl

theorem w_r_290 : (kernelRun0_A.sl.r_290 (F := F) c arg1 harg1 arg2 harg2 arg4 harg4 arg6 harg6 arg8 harg8 arg14 x0 x1 x3 x5 x7) = fgV (thrC x0 x1 x3 x5 x7 13) (metC x0 x1 x3 x5 x7 7040 (by decide)) := by
  rw [← thr_last c arg1 harg1 arg2 harg2 arg4 harg4 arg6 harg6 arg8 harg8 arg14 x0 x1 x3 x5 x7, metC, ← w_v503 c arg1 harg1 arg2 harg2 arg4 harg4 arg6 harg6 arg8 harg8 arg14 x0 x1 x3 x5 x7]
  rfl

/-- The foreground count of one batch element. -/
def fgOut (x0 : Vec F S1x80x8448 .f32) (x1 : Vec F S1x6x8448 .f32) (x3 : Vec F S1x50x4 .f32) (x5 x7 : Vec F S1x50x1 .f32) : FVec F S1x1x1 .f32 :=
  totV (acc6 (fgV (thrC x0 x1 x3 x5 x7 13) (metC x0 x1 x3 x5 x7 0 (by decide))) (fgV (thrC x0 x1 x3 x5 x7 13) (metC x0 x1 x3 x5 x7 1408 (by decide))) (fgV (thrC x0 x1 x3 x5 x7 13) (metC x0 x1 x3 x5 x7 2816 (by decide))) (fgV (thrC x0 x1 x3 x5 x7 13) (metC x0 x1 x3 x5 x7 4224 (by decide))) (fgV (thrC x0 x1 x3 x5 x7 13) (metC x0 x1 x3 x5 x7 5632 (by decide))) (fgV (thrC x0 x1 x3 x5 x7 13) (metC x0 x1 x3 x5 x7 7040 (by decide))))

theorem w_r_313 : k0_pay2 (kernelRun0_A.sl.r_313 (F := F) c arg1 harg1 arg2 harg2 arg4 harg4 arg6 harg6 arg8 harg8 arg14 x0 x1 x3 x5 x7) = fgOut x0 x1 x3 x5 x7 := by
  unfold fgOut
  rw [← w_r_118 c arg1 harg1 arg2 harg2 arg4 harg4 arg6 harg6 arg8 harg8 arg14 x0 x1 x3 x5 x7, ← w_r_147 c arg1 harg1 arg2 harg2 arg4 harg4 arg6 harg6 arg8 harg8 arg14 x0 x1 x3 x5 x7, ← w_r_183 c arg1 harg1 arg2 harg2 arg4 harg4 arg6 harg6 arg8 harg8 arg14 x0 x1 x3 x5 x7, ← w_r_218 c arg1 harg1 arg2 harg2 arg4 harg4 arg6 harg6 arg8 harg8 arg14 x0 x1 x3 x5 x7, ← w_r_250 c arg1 harg1 arg2 harg2 arg4 harg4 arg6 harg6 arg8 harg8 arg14 x0 x1 x3 x5 x7, ← w_r_290 c arg1 harg1 arg2 harg2 arg4 harg4 arg6 harg6 arg8 harg8 arg14 x0 x1 x3 x5 x7]
  rfl

theorem out_fg (i : grid0.Coords) (a1 : Memref sig .tc .vmem S1x80x8448 .f32) :
    out0_A_11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = fgOut x0 x1 x3 x5 x7 := by
  rw [← w_r_313 c arg1 harg1 arg2 harg2 arg4 harg4 arg6 harg6 arg8 harg8 arg14 x0 x1 x3 x5 x7]
  unfold out0_A_11
  rw [View.read_writes_junk_eq_canon]
  unfold kernelRun0_A
  exact View.canon_cons_unit_lit' _ _ _ (by decide)

end Cert.Tal

end
-- ==== Proof.Rank.lean ====
/- A row of values ordered from the largest down, and the running threshold that steps through its largest ones. -/
module

public import Mathlib.Data.EReal.Operations
public import Mathlib.Tactic.NormNum
public import Mathlib.Order.CompleteLattice.Basic

@[expose] public section

noncomputable section

namespace Cert.Tal

variable {N : ℕ}

/-- The threshold after `k` rounds: the largest entry below the last one, at least −1. -/
def thr (v : Fin N → EReal) : ℕ → EReal
  | 0 => 2
  | k + 1 => max (-1) (⨆ n, if v n < thr v k then v n else -1)

theorem thr_succ_le {v : Fin N → EReal} {k : ℕ} (h : thr v k ≤ 0) : thr v (k + 1) ≤ 0 := by
  have h1 : (-1 : EReal) ≤ 0 := by norm_num
  refine max_le h1 (iSup_le fun n => ?_)
  split_ifs with hn
  · exact hn.le.trans h
  · exact h1

section
variable {v : Fin N → EReal} {σ : Fin N → Fin N}

theorem thr_states (hσ : Function.Bijective σ) (hs : ∀ i j, i ≤ j → v (σ j) ≤ v (σ i)) (h2 : ∀ n, v n < 2) {K : ℕ}
    (hK : K < N) (hsep : ∀ (k : ℕ) (h : k < K), v (σ ⟨k + 1, by omega⟩) < v (σ ⟨k, by omega⟩) ∨ v (σ ⟨k + 1, by omega⟩) ≤ 0) :
    ∀ k ≤ K, (∀ j, v (σ j) < thr v k ↔ k ≤ j.val) ∨ (thr v k ≤ 0 ∧ ∀ j : Fin N, k ≤ j.val → v (σ j) ≤ 0) := by
  intro k
  induction k with
  | zero => intro _; exact .inl fun j => ⟨fun _ => Nat.zero_le _, fun _ => h2 _⟩
  | succ k ih =>
    intro hk
    rcases ih (by omega) with hA | ⟨h0, hB⟩
    · have hkN : k < N := by omega
      have e : thr v (k + 1) = max (-1) (v (σ ⟨k, hkN⟩)) := by
        refine le_antisymm (max_le (le_max_left _ _) (iSup_le fun n => ?_)) (max_le (le_max_left _ _) ?_)
        · split_ifs with hn
          · obtain ⟨j, rfl⟩ := hσ.2 n
            exact le_max_of_le_right (hs _ _ (Fin.mk_le_of_le_val ((hA j).1 hn)))
          · exact le_max_left _ _
        · refine le_max_of_le_right (le_iSup_of_le (σ ⟨k, hkN⟩) ?_)
          rw [if_pos ((hA _).2 (le_refl k))]
      by_cases hp : 0 < v (σ ⟨k, hkN⟩)
      · refine .inl fun j => ?_
        have e' : thr v (k + 1) = v (σ ⟨k, hkN⟩) := by
          rw [e]; exact max_eq_right ((by norm_num : (-1 : EReal) ≤ 0).trans hp.le)
        rw [e']
        refine ⟨fun hj => ?_, fun hj => ?_⟩
        · by_contra hc
          exact absurd (hs j ⟨k, hkN⟩ (by rw [Fin.le_def]; show j.val ≤ k; omega)) (not_le.2 hj)
        · have hlt : v (σ ⟨k + 1, by omega⟩) < v (σ ⟨k, hkN⟩) := by
            rcases hsep k (by omega) with h | h
            · exact h
            · exact h.trans_lt hp
          exact (hs ⟨k + 1, by omega⟩ j (by rw [Fin.le_def]; exact hj)).trans_lt hlt
      · refine .inr ⟨?_, fun j hj => (hs ⟨k, hkN⟩ j (by rw [Fin.le_def]; show k ≤ j.val; omega)).trans (not_lt.1 hp)⟩
        rw [e]; exact max_le (by norm_num) (not_lt.1 hp)
    · exact .inr ⟨thr_succ_le h0, fun j hj => hB j (by omega)⟩

/-- An entry is kept — positive and not below the last threshold — exactly when it is positive and among the first `K` of the order. -/
theorem kept_iff (hσ : Function.Bijective σ) (hs : ∀ i j, i ≤ j → v (σ j) ≤ v (σ i)) (h2 : ∀ n, v n < 2) {K : ℕ}
    (hK : K < N) (hsep : ∀ (k : ℕ) (h : k < K), v (σ ⟨k + 1, by omega⟩) < v (σ ⟨k, by omega⟩) ∨ v (σ ⟨k + 1, by omega⟩) ≤ 0)
    (n : Fin N) : (thr v K ≤ v n ∧ 0 < v n) ↔ ∃ j : Fin K, σ (j.castLE hK.le) = n ∧ 0 < v n := by
  obtain ⟨i, rfl⟩ := hσ.2 n
  have hi : (∃ j : Fin K, σ (j.castLE hK.le) = σ i ∧ 0 < v (σ i)) ↔ i.val < K ∧ 0 < v (σ i) := by
    constructor
    · rintro ⟨j, hj, hp⟩
      have := hσ.1 hj
      exact ⟨by rw [← this]; exact j.isLt, hp⟩
    · rintro ⟨hj, hp⟩
      exact ⟨⟨i.val, hj⟩, rfl, hp⟩
  rw [hi]
  rcases thr_states hσ hs h2 hK hsep K le_rfl with hA | ⟨h0, hB⟩
  · have := hA i
    constructor
    · rintro ⟨h, hp⟩
      exact ⟨by by_contra hc; exact absurd (this.2 (by omega)) (not_lt.2 h), hp⟩
    · rintro ⟨h, hp⟩
      exact ⟨not_lt.1 fun hc => absurd (this.1 hc) (by omega), hp⟩
  · constructor
    · rintro ⟨h, hp⟩
      exact ⟨by by_contra hc; exact absurd (hB i (by omega)) (not_le.2 hp), hp⟩
    · rintro ⟨h, hp⟩
      exact ⟨h0.trans hp.le, hp⟩

end

end Cert.Tal

end
-- ==== Proof.ReadK.lean ====
/- The kernel's steps over the extended reals, entry by entry. -/
module

public import proofs.«01_k».proof.Proof.Vocab
public import proofs.«01_k».proof.Proof.Rank
public import Idealize.ShloMosaic.PureOps.Ideal.Laws
public import Idealize.ShloMosaic.PureOps.Reduce
public import Idealize.ShloMosaic.Lib.MatmulPlain
public import Idealize.ShloMosaic.Lib.IdealHost
public import Idealize.ShloMosaic.Lib.ValueIdx

@[expose] public section

set_option maxRecDepth 16384

noncomputable section

namespace Cert.Tal

open Cert.KernelIdeal Cert.KernelIdeal.Gen Idealize.ShloMosaic Idealize.ShloMosaic.TcCoe

/-- The small constant, as the bits spell it. -/
def eps : EReal := Ideal.ofBits .f32 0x3089705F#32

/-- The area common to two boxes, their overlap, and whether a point lies inside a box. -/
def inter (a g : Fin 4 → EReal) : EReal :=
  max (min (a 2) (g 2) - max (a 0) (g 0)) 0 * max (min (a 3) (g 3) - max (a 1) (g 1)) 0
def iou (a g : Fin 4 → EReal) : EReal :=
  Ideal.div (inter a g) ((a 2 - a 0) * (a 3 - a 1) + (g 2 - g 0) * (g 3 - g 1) - inter a g + eps)
def ins (p : Fin 2 → EReal) (g : Fin 4 → EReal) : EReal :=
  if eps < min (min (p 0 - g 0) (p 1 - g 1)) (min (g 2 - p 0) (g 3 - p 1)) then 1 else 0
/-- The sixth power by three products. -/
def p6 (u : EReal) : EReal := u * u * (u * u) * (u * u)

theorem ofBits_two : Ideal.ofBits .f32 0x40000000#32 = 2 := by simp [Ideal.ofBits, Ideal.ieee]; rw [← EReal.coe_mul]; norm_num; rfl
theorem ofBits_one : Ideal.ofBits .f32 0x3F800000#32 = 1 := by simp [Ideal.ofBits, Ideal.ieee]; rw [← EReal.coe_mul]; norm_num
theorem ofBits_neg_one : Ideal.ofBits .f32 0xBF800000#32 = -1 := by simp [Ideal.ofBits, Ideal.ieee]; rw [← EReal.coe_mul]; norm_num
theorem ofBits_neg_inf : Ideal.ofBits .f32 0xFF800000#32 = ⊥ := by simp [Ideal.ofBits, Ideal.ieee]

/-- A 1-bit word as a number. -/
theorem ind_bit (b : BitVec 1) : (FloatOps.sitofp (F := Ideal) .f32 (b.zeroExtend 32) : EReal) = if b = 1#1 then 1 else 0 := by
  have h : ∀ b : BitVec 1, b = 0#1 ∨ b = 1#1 := by decide
  rcases h b with rfl | rfl
  · show (((0 : ℤ) : ℝ) : EReal) = _; simp
  · show (((1 : ℤ) : ℝ) : EReal) = _; simp

theorem fold_max_eq_iSup {ι : Type} [Fintype ι] (f : ι → EReal) : (Finset.univ : Finset ι).fold max ⊥ f = ⨆ i, f i := by
  have : (Finset.univ : Finset ι).fold max ⊥ f = Finset.univ.sup f := rfl
  rw [this, Finset.sup_univ_eq_iSup]

variable (A : FVec Ideal S50x1408 .f32)

theorem maxRow_apply (g : Fin 50) : maxRow A (ix2 g 0) = ⨆ n : Fin 1408, A (ix2 g n) := by
  rw [maxRow, shapeCast_apply _ shapeCasts_S50_S50x1 (ix2 g 0) (ix1 g) (by rw [Shape.rowMajor_val_one, Shape.rowMajor_val_two]; show g.val = g.val * 1 + 0; omega)]
  refine Eq.trans (Ideal.multiReduction_maximumf_single _ _ _ _ _ _) ?_
  refine Eq.trans (congrArg (fun z => Finset.fold max z _ _) ofBits_neg_inf) (Eq.trans (fold_max_eq_iSup _) ?_)
  refine iSup_congr fun n => congrArg A ?_
  funext a; exact Fin.ext (by rw [Shape.Reduces.lift_val]; fin_cases a <;> rfl)

theorem maxCol_apply (n : Fin 1408) : maxCol A (ix2 0 n) = ⨆ g : Fin 50, A (ix2 g n) := by
  rw [maxCol, shapeCast_apply _ shapeCasts_S1408_S1x1408 (ix2 0 n) (ix1 n) (by rw [Shape.rowMajor_val_one, Shape.rowMajor_val_two]; show n.val = 0 * 1408 + n.val; omega)]
  refine Eq.trans (Ideal.multiReduction_maximumf_single _ _ _ _ _ _) ?_
  refine Eq.trans (congrArg (fun z => Finset.fold max z _ _) ofBits_neg_inf) (Eq.trans (fold_max_eq_iSup _) ?_)
  refine iSup_congr fun g => congrArg A ?_
  funext a; exact Fin.ext (by rw [Shape.Reduces.lift_val]; fin_cases a <;> rfl)

theorem ar_apply (r : FVec Ideal S1x1408 .f32) (g : Fin 50) (n : Fin 1408) : ar r (ix2 g n) = r (ix2 0 n) := by
  rw [ar]; exact broadcastTo_apply _ _ _ _ fun a => by fin_cases a <;> rfl
theorem gc_apply (r : FVec Ideal S50x1 .f32) (g : Fin 50) (n : Fin 1408) : gc r (ix2 g n) = r (ix2 g 0) := by
  rw [gc]; exact broadcastTo_apply _ _ _ _ fun a => by fin_cases a <;> rfl

variable (x3 : Vec Ideal S1x50x4 .f32) (x5 x7 : Vec Ideal S1x50x1 .f32) (b : Vec Ideal S1x6x1408 .f32) (p : Vec Ideal S1x80x1408 .f32)
variable (g : Fin 50) (n : Fin 1408)

/-- The corners of box `g`, the corners of the anchor's box, and the anchor itself. -/
def gtK : Fin 4 → EReal := fun k => x3 (ix3 0 g k)
def boxK : Fin 4 → EReal := fun k => b (ix3 0 (k.castLE (by decide)) n)
def ptK : Fin 2 → EReal := fun k => b (ix3 0 ((k.natAdd 4).castLE (by decide)) n)

theorem gtV_apply (k : Fin 4) : gtV x3 (ix2 g k) = gtK x3 g k := by
  rw [gtV]; refine shapeCast_apply _ _ _ (ix3 0 g k) ?_
  rw [Shape.rowMajor_val_two, Shape.rowMajor_val_three]; show (0 * 50 + g.val) * 4 + k.val = g.val * 4 + k.val; omega
theorem rows6_apply (k : Fin 6) : rows6 b (ix2 k n) = b (ix3 0 k n) := by
  rw [rows6]; refine shapeCast_apply _ _ _ (ix3 0 k n) ?_
  rw [Shape.rowMajor_val_two, Shape.rowMajor_val_three]; show (0 * 6 + k.val) * 1408 + n.val = k.val * 1408 + n.val; omega
theorem colV_apply (x : Vec Ideal S1x50x1 .f32) : colV x (ix2 g 0) = x (ix3 0 g 0) := by
  rw [colV]; refine shapeCast_apply _ _ _ (ix3 0 g 0) ?_
  rw [Shape.rowMajor_val_two, Shape.rowMajor_val_three]; show (0 * 50 + g.val) * 1 + 0 = g.val * 1 + 0; omega
theorem gx1_apply : gx1 x3 (ix2 g 0) = gtK x3 g 0 := by
  rw [gx1, extractStridedSlice_apply _ _ _ _ (ix2 g 0) (by intro a; fin_cases a <;> first | rfl | (show g.val = 0 + g.val; omega)), gtV_apply]
theorem gy1_apply : gy1 x3 (ix2 g 0) = gtK x3 g 1 := by
  rw [gy1, extractStridedSlice_apply _ _ _ _ (ix2 g 1) (by intro a; fin_cases a <;> first | rfl | (show g.val = 0 + g.val; omega)), gtV_apply]
theorem gx2_apply : gx2 x3 (ix2 g 0) = gtK x3 g 2 := by
  rw [gx2, extractStridedSlice_apply _ _ _ _ (ix2 g 2) (by intro a; fin_cases a <;> first | rfl | (show g.val = 0 + g.val; omega)), gtV_apply]
theorem gy2_apply : gy2 x3 (ix2 g 0) = gtK x3 g 3 := by
  rw [gy2, extractStridedSlice_apply _ _ _ _ (ix2 g 3) (by intro a; fin_cases a <;> first | rfl | (show g.val = 0 + g.val; omega)), gtV_apply]
theorem row0_apply : row0 b (ix2 0 n) = boxK b n 0 := by
  rw [row0, extractStridedSlice_apply _ _ _ _ (ix2 0 n) (by intro a; fin_cases a <;> first | rfl | (show n.val = 0 + n.val; omega)), rows6_apply]; rfl
theorem row1_apply : row1 b (ix2 0 n) = boxK b n 1 := by
  rw [row1, extractStridedSlice_apply _ _ _ _ (ix2 1 n) (by intro a; fin_cases a <;> first | rfl | (show n.val = 0 + n.val; omega)), rows6_apply]; rfl
theorem row2_apply : row2 b (ix2 0 n) = boxK b n 2 := by
  rw [row2, extractStridedSlice_apply _ _ _ _ (ix2 2 n) (by intro a; fin_cases a <;> first | rfl | (show n.val = 0 + n.val; omega)), rows6_apply]; rfl
theorem row3_apply : row3 b (ix2 0 n) = boxK b n 3 := by
  rw [row3, extractStridedSlice_apply _ _ _ _ (ix2 3 n) (by intro a; fin_cases a <;> first | rfl | (show n.val = 0 + n.val; omega)), rows6_apply]; rfl
theorem row4_apply : row4 b (ix2 0 n) = ptK b n 0 := by
  rw [row4, extractStridedSlice_apply _ _ _ _ (ix2 4 n) (by intro a; fin_cases a <;> first | rfl | (show n.val = 0 + n.val; omega)), rows6_apply]; rfl
theorem row5_apply : row5 b (ix2 0 n) = ptK b n 1 := by
  rw [row5, extractStridedSlice_apply _ _ _ _ (ix2 5 n) (by intro a; fin_cases a <;> first | rfl | (show n.val = 0 + n.val; omega)), rows6_apply]; rfl

/-- The score of box `g`'s class, as the indicator row picks it. -/
def scoreK : EReal := ∑ c : Fin 80, (if ((c.val : ℝ) : EReal) = x5 (ix3 0 g 0) then (1 : EReal) else 0) * p (ix3 0 c n)

theorem inter_apply : interV x3 b (ix2 g n) = inter (boxK b n) (gtK x3 g) := by
  show max (min (ar (row2 b) _) (gc (gx2 x3) _) - max (ar (row0 b) _) (gc (gx1 x3) _)) (Ideal.ofBits .f32 0x00000000#32)
    * max (min (ar (row3 b) _) (gc (gy2 x3) _) - max (ar (row1 b) _) (gc (gy1 x3) _)) (Ideal.ofBits .f32 0x00000000#32) = _
  rw [ar_apply, ar_apply, ar_apply, ar_apply, gc_apply, gc_apply, gc_apply, gc_apply, row0_apply, row1_apply, row2_apply, row3_apply,
    gx1_apply, gy1_apply, gx2_apply, gy2_apply, Ideal.ofBits_zero_f32]
  rfl

theorem iouV_apply : iouV x3 b (ix2 g n) = iou (boxK b n) (gtK x3 g) := by
  show Ideal.div (interV x3 b _) (ar (mulf (subf (row2 b) (row0 b)) (subf (row3 b) (row1 b))) _ + gc (areaG x3) _ - interV x3 b _ + eps) = _
  rw [ar_apply, gc_apply, inter_apply]
  show Ideal.div _ ((row2 b _ - row0 b _) * (row3 b _ - row1 b _) + (gx2 x3 _ - gx1 x3 _) * (gy2 x3 _ - gy1 x3 _) - _ + eps) = _
  rw [row0_apply, row1_apply, row2_apply, row3_apply, gx1_apply, gy1_apply, gx2_apply, gy2_apply]
  rfl

theorem ogt_ind (x y : EReal) : (FloatOps.sitofp (F := Ideal) .f32 ((Ideal.cmp .ogt x y).zeroExtend 32) : EReal) = if y < x then 1 else 0 := by
  rw [ind_bit]
  by_cases h : y < x <;> simp [Ideal.cmp, h]

theorem oeq_ind (x y : EReal) : (FloatOps.sitofp (F := Ideal) .f32 ((Ideal.cmp .oeq x y).zeroExtend 32) : EReal) = if x = y then 1 else 0 := by
  rw [ind_bit]
  by_cases h : x = y <;> simp [Ideal.cmp, h]

theorem insideV_apply : insideV x3 b (ix2 g n) = ins (ptK b n) (gtK x3 g) := by
  refine (ogt_ind _ _).trans ?_
  show (if eps < min (min (ar (row4 b) _ - gc (gx1 x3) _) (ar (row5 b) _ - gc (gy1 x3) _)) (min (gc (gx2 x3) _ - ar (row4 b) _) (gc (gy2 x3) _ - ar (row5 b) _))
    then (1 : EReal) else 0) = _
  rw [ar_apply, ar_apply, gc_apply, gc_apply, gc_apply, gc_apply, row4_apply, row5_apply, gx1_apply, gy1_apply, gx2_apply, gy2_apply]
  rfl

theorem hot_apply (c : Fin 80) : hot x5 (ix2 g c) = if ((c.val : ℝ) : EReal) = x5 (ix3 0 g 0) then (1 : EReal) else 0 := by
  refine (oeq_ind _ _).trans ?_
  have e1 : broadcastTo S50x80 (colV x5) broadcasts_S50x1_S50x80 (ix2 g c) = x5 (ix3 0 g 0) := by
    rw [broadcastTo_apply _ _ _ (ix2 g 0) (by intro a; fin_cases a <;> rfl), colV_apply]
  have e2 : (sitofp .f32 (iota .tc S50x80 32 [1] iota_S50x80_d1_w32) : FVec Ideal S50x80 .f32) (ix2 g c) = ((c.val : ℝ) : EReal) := by
    show (FloatOps.sitofp (F := Ideal) .f32 (iota .tc S50x80 32 [1] iota_S50x80_d1_w32 (ix2 g c)) : EReal) = _
    rw [iota_single_apply]
    show (((BitVec.ofNat 32 c.val).toInt : ℝ) : EReal) = _
    have : (BitVec.ofNat 32 c.val).toInt = (c.val : ℤ) := by
      have := c.isLt
      rw [BitVec.toInt_eq_toNat_of_lt (by rw [BitVec.toNat_ofNat]; omega), BitVec.toNat_ofNat]; omega
    rw [this]; simp
  rw [e1, e2]

theorem scoreV_apply : scoreV x5 p (ix2 g n) = scoreK x5 p g n := by
  have h := Ideal.matmul_plain_apply (M := 50) (K := 80) (N := 1408) (φ₁ := .f32) (φ₂ := .f32) none (hot x5) (shapeCast S80x1408 p shapeCasts_S1x80x1408_S80x1408)
    (constant S50x1408 .f32 0x00000000#32) g n
  refine Eq.trans (b := _) ?_ (h.trans ?_)
  · rfl
  · show Ideal.ofBits .f32 0x00000000#32 + _ = _
    rw [Ideal.ofBits_zero_f32, zero_add, scoreK]
    refine Finset.sum_congr rfl fun c _ => ?_
    refine congrArg₂ (· * ·) (hot_apply x5 g c) (shapeCast_apply _ _ _ (ix3 0 c n) ?_)
    rw [Shape.rowMajor_val_two, Shape.rowMajor_val_three]; show (0 * 80 + c.val) * 1408 + n.val = c.val * 1408 + n.val; omega

/-- The metric, entry by entry. -/
def metK : EReal := scoreK x5 p g n * p6 (iou (boxK b n) (gtK x3 g)) * ins (ptK b n) (gtK x3 g) * x7 (ix3 0 g 0)

theorem metV_apply : metV x3 x5 x7 b p (ix2 g n) = metK x3 x5 x7 b p g n := by
  show scoreV x5 p _ * p6 (iouV x3 b _) * insideV x3 b _ * gc (colV x7) _ = _
  rw [scoreV_apply, iouV_apply, insideV_apply, gc_apply, colV_apply]
  rfl

variable (t : FVec Ideal S50x1 .f32)

theorem below_apply : below t A (ix2 g n) = if A (ix2 g n) < t (ix2 g 0) then A (ix2 g n) else -1 := by
  show Scalar.select (Ideal.cmp .olt (A _) (gc t _)) (A _) (Ideal.ofBits .f32 0xBF800000#32) = _
  rw [gc_apply, ofBits_neg_one]
  by_cases h : A (ix2 g n) < t (ix2 g 0) <;> simp [Ideal.cmp, h, Scalar.select]

theorem topV_apply : topV t A (ix2 g n) = if t (ix2 g 0) ≤ A (ix2 g n) ∧ 0 < A (ix2 g n) then A (ix2 g n) else 0 := by
  show Scalar.select (IntOp.andi (Ideal.cmp .oge (A _) (gc t _)) (Ideal.cmp .ogt (A _) (Ideal.ofBits .f32 0x00000000#32))) (A _)
    (Ideal.ofBits .f32 0x00000000#32) = _
  rw [gc_apply, Ideal.ofBits_zero_f32]
  by_cases h : t (ix2 g 0) ≤ A (ix2 g n) <;> by_cases h' : 0 < A (ix2 g n) <;> simp [Ideal.cmp, h, h', Scalar.select, IntOp.andi]

theorem fgV_apply : fgV t A (ix2 0 n) = if ∃ g, t (ix2 g 0) ≤ A (ix2 g n) ∧ 0 < A (ix2 g n) then (1 : EReal) else 0 := by
  unfold fgV
  have hM := maxCol_apply (topV t A) n
  generalize maxCol (topV t A) = M at hM ⊢
  refine (ogt_ind (M (ix2 0 n)) (Ideal.ofBits .f32 0x00000000#32)).trans ?_
  rw [hM, Ideal.ofBits_zero_f32]
  refine if_congr ?_ rfl rfl
  rw [lt_iSup_iff]
  refine exists_congr fun g => ?_
  rw [topV_apply]
  split_ifs with h
  · exact ⟨fun _ => h, fun _ => h.2⟩
  · exact ⟨fun h' => absurd h' (lt_irrefl _), fun h' => absurd h' h⟩

theorem acc6_apply (r0 r1 r2 r3 r4 r5 : FVec Ideal S1x1408 .f32) :
    acc6 r0 r1 r2 r3 r4 r5 (ix2 0 n) = r0 (ix2 0 n) + r1 (ix2 0 n) + r2 (ix2 0 n) + r3 (ix2 0 n) + r4 (ix2 0 n) + r5 (ix2 0 n) := by
  show Ideal.ofBits .f32 0x00000000#32 + _ + _ + _ + _ + _ + _ = _
  rw [Ideal.ofBits_zero_f32, zero_add]

theorem roundV_apply (A0 A1 A2 A3 A4 A5 : FVec Ideal S50x1408 .f32) :
    roundV A0 A1 A2 A3 A4 A5 t (ix2 g 0) =
      max (max (max (max (max (max (-1) (⨆ n, below t A0 (ix2 g n))) (⨆ n, below t A1 (ix2 g n))) (⨆ n, below t A2 (ix2 g n)))
        (⨆ n, below t A3 (ix2 g n))) (⨆ n, below t A4 (ix2 g n))) (⨆ n, below t A5 (ix2 g n)) := by
  show max (max (max (max (max (max (Ideal.ofBits .f32 0xBF800000#32) (maxRow (below t A0) _)) (maxRow (below t A1) _)) (maxRow (below t A2) _))
    (maxRow (below t A3) _)) (maxRow (below t A4) _)) (maxRow (below t A5) _) = _
  rw [maxRow_apply, maxRow_apply, maxRow_apply, maxRow_apply, maxRow_apply, maxRow_apply, ofBits_neg_one]

theorem totV_apply (r : FVec Ideal S1x1408 .f32) (i : S1x1x1.Idx) : totV r i = ∑ n : Fin 1408, r (ix2 0 n) := by
  show (shapeCast S1x1x1 (multiReduction .add [1, 2] S1 (shapeCast S1x1x1408 r shapeCasts_S1x1408_S1x1x1408) 0x00000000#32
      reduces_S1x1x1408_S1 (.inl rfl) rfl) shapeCasts_S1_S1x1x1) _ = _
  rw [shapeCast_apply _ _ _ (ix1 0) (by rw [Shape.rowMajor_val_one, Shape.rowMajor_val_three]; rfl)]
  show ∑ i ∈ Finset.univ.filter (fun i => reduces_S1x1x1408_S1.drop i = ix1 0), shapeCast S1x1x1408 r shapeCasts_S1x1408_S1x1x1408 i = _
  symm
  refine Finset.sum_bij' (fun n _ => (ix3 0 0 n : S1x1x1408.Idx)) (fun i _ => (i 2 : Fin 1408)) ?_ ?_ ?_ ?_ ?_
  · intro n _
    refine Finset.mem_filter.2 ⟨Finset.mem_univ _, ?_⟩
    funext a; exact Fin.ext (by have := (reduces_S1x1x1408_S1.drop (ix3 0 0 n) a).isLt; fin_cases a; simpa using this)
  · intro _ _; exact Finset.mem_univ _
  · intro _ _; rfl
  · intro i _
    funext a; fin_cases a
    · exact Fin.ext (by have : (i 0).val < 1 := (i 0).isLt; show 0 = (i 0).val; omega)
    · exact Fin.ext (by have : (i 1).val < 1 := (i 1).isLt; show 0 = (i 1).val; omega)
    · rfl
  · intro n _
    refine (shapeCast_apply _ _ _ (ix2 0 n) ?_).symm
    rw [Shape.rowMajor_val_two, Shape.rowMajor_val_three]; show 0 * 1408 + n.val = (0 * 1 + 0) * 1408 + n.val; omega

end Cert.Tal

end
-- ==== Proof.ReadBlock.lean ====
/- The foreground count of one batch element over the extended reals, from its blocks: the metric of every ground truth and
   anchor, the thresholds, and the anchors that some ground truth keeps. -/
module

public import proofs.«01_k».proof.Proof.Words2
public import proofs.«01_k».proof.Proof.ReadK

@[expose] public section

set_option maxRecDepth 16384

noncomputable section

namespace Cert.Tal

open Cert.KernelIdeal Cert.KernelIdeal.Gen Idealize.ShloMosaic Idealize.ShloMosaic.TcCoe

/-- A sum over the anchors, run by run. -/
theorem sum_runs {M : Type} [AddCommMonoid M] (f : Fin 8448 → M) :
    (∑ n : Fin 1408, (f ⟨0 + n.val, by omega⟩ + f ⟨1408 + n.val, by omega⟩ + f ⟨2816 + n.val, by omega⟩ + f ⟨4224 + n.val, by omega⟩
      + f ⟨5632 + n.val, by omega⟩ + f ⟨7040 + n.val, by omega⟩)) = ∑ n, f n := by
  have e : ∑ n, f n = ∑ n : Fin (1408 + 1408 + 1408 + 1408 + 1408 + 1408), f n := rfl
  rw [e, Fin.sum_univ_add, Fin.sum_univ_add, Fin.sum_univ_add, Fin.sum_univ_add, Fin.sum_univ_add, ← Finset.sum_add_distrib,
    ← Finset.sum_add_distrib, ← Finset.sum_add_distrib, ← Finset.sum_add_distrib, ← Finset.sum_add_distrib]
  refine Finset.sum_congr rfl fun n _ => ?_
  have e0 : (⟨0 + n.val, by omega⟩ : Fin 8448) = ⟨n.val, by omega⟩ := Fin.ext (Nat.zero_add _)
  rw [e0]
  rfl

/-- A largest value over the anchors, run by run. -/
theorem sup_runs (a : EReal) (f : Fin 8448 → EReal) :
    max (max (max (max (max (max a (⨆ n : Fin 1408, f ⟨0 + n.val, by omega⟩)) (⨆ n : Fin 1408, f ⟨1408 + n.val, by omega⟩))
      (⨆ n : Fin 1408, f ⟨2816 + n.val, by omega⟩)) (⨆ n : Fin 1408, f ⟨4224 + n.val, by omega⟩))
      (⨆ n : Fin 1408, f ⟨5632 + n.val, by omega⟩)) (⨆ n : Fin 1408, f ⟨7040 + n.val, by omega⟩) = max a (⨆ n, f n) := by
  refine le_antisymm ?_ (max_le ?_ (iSup_le fun n => ?_))
  · have h : ∀ o (ho : o + 1408 ≤ 8448), (⨆ n : Fin 1408, f ⟨o + n.val, by omega⟩) ≤ max a (⨆ n, f n) := fun o ho =>
      iSup_le fun n => le_max_of_le_right (le_iSup f _)
    exact max_le (max_le (max_le (max_le (max_le (max_le (le_max_left _ _) (h _ (by decide))) (h _ (by decide))) (h _ (by decide)))
      (h _ (by decide))) (h _ (by decide))) (h _ (by decide))
  · simp only [le_max_iff, le_refl, true_or]
  · have key : ∀ o (ho : o + 1408 ≤ 8448), o ≤ n.val → n.val < o + 1408 → f n ≤ ⨆ n : Fin 1408, f ⟨o + n.val, by omega⟩ := by
      intro o ho h1 h2
      refine le_iSup_of_le (⟨n.val - o, by omega⟩ : Fin 1408) (le_of_eq (congrArg f (Fin.ext ?_)))
      show n.val = o + (n.val - o); omega
    simp only [le_max_iff]
    rcases lt_or_ge n.val 1408 with h | h
    · exact .inl (.inl (.inl (.inl (.inl (.inr (key 0 (by decide) (by omega) (by omega)))))))
    rcases lt_or_ge n.val 2816 with h | h
    · exact .inl (.inl (.inl (.inl (.inr (key 1408 (by decide) (by omega) (by omega))))))
    rcases lt_or_ge n.val 4224 with h | h
    · exact .inl (.inl (.inl (.inr (key 2816 (by decide) (by omega) (by omega)))))
    rcases lt_or_ge n.val 5632 with h | h
    · exact .inl (.inl (.inr (key 4224 (by decide) (by omega) (by omega))))
    rcases lt_or_ge n.val 7040 with h | h
    · exact .inl (.inr (key 5632 (by decide) (by omega) (by omega)))
    · exact .inr (key 7040 (by decide) (by omega) (by have := n.isLt; omega))

variable (x0 : Vec Ideal S1x80x8448 .f32) (x1 : Vec Ideal S1x6x8448 .f32) (x3 : Vec Ideal S1x50x4 .f32) (x5 x7 : Vec Ideal S1x50x1 .f32)

/-- The anchor's box, the anchor, the score of the box's class, and the metric, from the blocks of one batch element. -/
def boxB (n : Fin 8448) : Fin 4 → EReal := fun k => x1 (ix3 0 (k.castLE (by decide)) n)
def ptB (n : Fin 8448) : Fin 2 → EReal := fun k => x1 (ix3 0 ((k.natAdd 4).castLE (by decide)) n)
def scoreB (g : Fin 50) (n : Fin 8448) : EReal :=
  ∑ c : Fin 80, (if ((c.val : ℝ) : EReal) = x5 (ix3 0 g 0) then (1 : EReal) else 0) * x0 (ix3 0 c n)
def metB (g : Fin 50) (n : Fin 8448) : EReal :=
  scoreB x0 x5 g n * p6 (iou (boxB x1 n) (gtK x3 g)) * ins (ptB x1 n) (gtK x3 g) * x7 (ix3 0 g 0)

theorem metC_apply (o : ℕ) (h : o + 1408 ≤ 8448) (g : Fin 50) (n : Fin 1408) :
    metC x0 x1 x3 x5 x7 o h (ix2 g n) = metB x0 x1 x3 x5 x7 g ⟨o + n.val, by omega⟩ :=
  metV_apply x3 x5 x7 (cut6 x1 o h) (cut80 x0 o h) g n

theorem thrC_apply (g : Fin 50) : ∀ k, thrC x0 x1 x3 x5 x7 k (ix2 g 0) = thr (metB x0 x1 x3 x5 x7 g) k := by
  intro k
  induction k with
  | zero => exact ofBits_two
  | succ k ih =>
    refine (roundV_apply g (thrC x0 x1 x3 x5 x7 k) _ _ _ _ _ _).trans ?_
    have e : ∀ o (h : o + 1408 ≤ 8448), (⨆ n, below (thrC x0 x1 x3 x5 x7 k) (metC x0 x1 x3 x5 x7 o h) (ix2 g n))
        = ⨆ n : Fin 1408, (fun n => if metB x0 x1 x3 x5 x7 g n < thr (metB x0 x1 x3 x5 x7 g) k then metB x0 x1 x3 x5 x7 g n else -1)
            ⟨o + n.val, by omega⟩ := fun o h => iSup_congr fun n => by
      rw [below_apply, metC_apply, ih]
    rw [e, e, e, e, e, e, sup_runs (-1)
      (fun n => if metB x0 x1 x3 x5 x7 g n < thr (metB x0 x1 x3 x5 x7 g) k then metB x0 x1 x3 x5 x7 g n else -1)]
    rfl

theorem fgOut_apply (i : S1x1x1.Idx) : fgOut x0 x1 x3 x5 x7 i = ∑ n : Fin 8448,
    if ∃ g, thr (metB x0 x1 x3 x5 x7 g) 13 ≤ metB x0 x1 x3 x5 x7 g n ∧ 0 < metB x0 x1 x3 x5 x7 g n then (1 : EReal) else 0 := by
  rw [fgOut, totV_apply, ← sum_runs]
  refine Finset.sum_congr rfl fun n _ => ?_
  rw [acc6_apply]
  have e : ∀ o (h : o + 1408 ≤ 8448), fgV (thrC x0 x1 x3 x5 x7 13) (metC x0 x1 x3 x5 x7 o h) (ix2 0 n)
      = if ∃ g, thr (metB x0 x1 x3 x5 x7 g) 13 ≤ metB x0 x1 x3 x5 x7 g ⟨o + n.val, by omega⟩ ∧ 0 < metB x0 x1 x3 x5 x7 g ⟨o + n.val, by omega⟩
        then (1 : EReal) else 0 := fun o h => by
    rw [fgV_apply]
    refine if_congr (exists_congr fun g => ?_) rfl rfl
    rw [thrC_apply, metC_apply]
  rw [e, e, e, e, e, e]

end Cert.Tal

end
-- ==== Proof.Blocks.lean ====
/- The foreground counts of every batch element after the call, from the arguments. -/
module

public import proofs.«01_k».proof.Proof.Operands
public import proofs.«01_k».proof.Proof.ReadBlock
public import proofs.«01_k».proof.Proof.Gen.KernelIdeal.Frame
public import Idealize.ShloMosaic.Lib.Pipeline.Value

@[expose] public section

set_option maxRecDepth 16384

noncomputable section

namespace Cert.Tal

open Cert.KernelIdeal Cert.KernelIdeal.Gen Idealize.ShloMosaic Idealize.ShloMosaic.TcCoe Idealize.SL.Sem

/-- A class label kept in range. -/
def clip (x : BitVec 32) : BitVec 32 := IntOp.minsi 79#32 (IntOp.maxsi 0#32 x)

theorem clip_toInt (x : BitVec 32) : 0 ≤ (clip x).toInt ∧ (clip x).toInt < 80 := by
  unfold clip IntOp.minsi IntOp.maxsi
  simp only [BitVec.slt, decide_eq_true_eq]
  split <;> split <;> simp_all <;> omega

/-- The class it names. -/
def cls (x : BitVec 32) : Fin 80 := ⟨(clip x).toInt.toNat, by have := clip_toInt x; omega⟩

theorem clip_cls (x : BitVec 32) : (clip x).toInt = ((cls x).val : ℤ) := (Int.toNat_of_nonneg (clip_toInt x).1).symm

section Metric

variable (a0 : Vec Ideal S8x8448x80 .f32) (a1 : Vec Ideal S8x8448x4 .f32) (a3 : Vec Ideal S8448x2 .f32)
  (a4 : Vec Ideal S8x50x4 .f32) (a5 : Vec Ideal S8x50x1 .f32) (a6 : IVec S8x50x1 32) (b : Fin 8) (g : Fin 50) (n : Fin 8448)

/-- The box predicted at an anchor, the anchor, a true box, and the alignment metric, from the arguments. -/
def boxA : Fin 4 → EReal := fun k => a1 (ix3 b n k)
def ptA : Fin 2 → EReal := fun k => a3 (ix2 n k)
def gtA : Fin 4 → EReal := fun k => a4 (ix3 b g k)
def clsA : Fin 80 := cls (a6 (ix3 b g 0))
def metA : EReal := a0 (ix3 b n (clsA a6 b g)) * p6 (iou (boxA a1 b n) (gtA a4 b g)) * ins (ptA a3 n) (gtA a4 b g) * a5 (ix3 b g 0)

theorem boxArr_box (k : Fin 4) : boxArr (F := Ideal) a1 a3 (ix3 b (k.castLE (by decide)) n) = a1 (ix3 b n k) := by
  unfold boxArr
  refine Eq.trans (concatenate_pair_apply_left (t := S8x6x8448) (s₁ := S8x4x8448) (s₂ := S8x2x8448) _ _ _ _ _ rfl (ix3 b k n) ?_) ?_
  · intro a
    fin_cases a <;> rfl
  exact transpose_apply _ _ _ _ (ix3 b n k) (fun a => by fin_cases a <;> rfl)

theorem boxArr_pt (k : Fin 2) : boxArr (F := Ideal) a1 a3 (ix3 b ((k.natAdd 4).castLE (by decide)) n) = a3 (ix2 n k) := by
  unfold boxArr
  refine Eq.trans (concatenate_pair_apply_right (t := S8x6x8448) (s₁ := S8x4x8448) (s₂ := S8x2x8448) _ _ _ _ _ rfl rfl (ix3 b k n) ?_ ?_) ?_
  · intro a
    fin_cases a
    · exact fun _ => rfl
    · exact fun h => absurd rfl h
    · exact fun _ => rfl
  · show k.val + 4 = 4 + k.val
    omega
  refine (broadcastInDim_apply _ _ _ _ (ix3 0 k n) (fun a => by fin_cases a <;> rfl)).trans ?_
  refine (broadcastInDim_apply _ _ _ _ (ix2 k n) (fun a => by fin_cases a <;> rfl)).trans ?_
  exact transpose_apply _ _ _ _ (ix2 n k) (fun a => by fin_cases a <;> rfl)

theorem labI_apply : labI a6 (ix2 b g) = clip (a6 (ix3 b g 0)) := by
  have e : shapeCast S8x50 a6 shapeCasts_S8x50x1_S8x50 (ix2 b g) = a6 (ix3 b g 0) :=
    shapeCast_apply _ _ _ _ (by rw [Shape.rowMajor_val_two, Shape.rowMajor_val_three]; simp)
  unfold labI minsi maxsi clip
  rw [e]
  rfl

end Metric

variable (m : (ℓ : Loc nD τ sig) → Buf (Elt Ideal) ℓ) (c : Dev nD) (t : Fin cfg0.N)

/-- The batch element of a grid point. -/
def bt : Fin 8 := ⟨(grid0.coords t 0).val, (grid0.coords t 0).isLt⟩

theorem at0 : ∀ t : Fin cfg0.N, win0_0.index t = ![(grid0.coords t 0).val, 0, 0] := by decide +kernel
theorem at1 : ∀ t : Fin cfg0.N, win0_1.index t = ![(grid0.coords t 0).val, 0, 0] := by decide +kernel
theorem at3 : ∀ t : Fin cfg0.N, win0_3.index t = ![(grid0.coords t 0).val, 0, 0] := by decide +kernel
theorem at5 : ∀ t : Fin cfg0.N, win0_5.index t = ![(grid0.coords t 0).val, 0, 0] := by decide +kernel
theorem at7 : ∀ t : Fin cfg0.N, win0_7.index t = ![(grid0.coords t 0).val, 0, 0] := by decide +kernel
theorem at11 : ∀ t : Fin cfg0.N, win0_11.index t = ![(grid0.coords t 0).val, 0, 0] := by decide +kernel

theorem blk0 (r : Fin 80) (n : Fin 8448) : iblk m c 0 t (ix3 0 r n) = m ((c : Thread nD τ).loc main_arg0) (ix3 (bt t) n r) := by
  have e : iblk m c 0 t (ix3 0 r n) = V m c main_v4 (ix3 (bt t) r n) := by blk_ext [iblk, at0 t, bt]
  rw [e, V_scores]
  exact transpose_apply _ _ _ _ (ix3 (bt t) n r) (fun a => by fin_cases a <;> rfl)

theorem blk1 (r : Fin 6) (n : Fin 8448) : iblk m c 1 t (ix3 0 r n)
    = boxArr (m ((c : Thread nD τ).loc main_arg1)) (m ((c : Thread nD τ).loc main_arg3)) (ix3 (bt t) r n) := by
  have e : iblk m c 1 t (ix3 0 r n) = V m c main_v10 (ix3 (bt t) r n) := by blk_ext [iblk, at1 t, bt]
  rw [e, V_boxes]

theorem blk3 (g : Fin 50) (k : Fin 4) : iblk m c 3 t (ix3 0 g k) = m ((c : Thread nD τ).loc main_arg4) (ix3 (bt t) g k) := by
  have e : iblk m c 3 t (ix3 0 g k) = V m c main_arg4 (ix3 (bt t) g k) := by blk_ext [iblk, at3 t, bt]
  rw [e, V_gts]

theorem blk7 (g : Fin 50) : iblk m c 7 t (ix3 0 g 0) = m ((c : Thread nD τ).loc main_arg5) (ix3 (bt t) g 0) := by
  have e : iblk m c 7 t (ix3 0 g 0) = V m c main_arg5 (ix3 (bt t) g 0) := by blk_ext [iblk, at7 t, bt]
  rw [e, V_mask]

theorem blk5 (g : Fin 50) : iblk m c 5 t (ix3 0 g 0) = (((clsA (m ((c : Thread nD τ).loc main_arg6)) (bt t) g).val : ℝ) : EReal) := by
  have e : iblk m c 5 t (ix3 0 g 0) = V m c main_v15 (ix3 (bt t) g 0) := by blk_ext [iblk, at5 t, bt]
  rw [e, V_labels]
  refine (broadcastInDim_apply _ _ _ _ (ix2 (bt t) g) (fun a => by fin_cases a <;> rfl)).trans ?_
  show (((labI _ _).toInt : ℝ) : EReal) = _
  rw [labI_apply, clip_cls]
  norm_cast

theorem scoreB_eq (g : Fin 50) (n : Fin 8448) : scoreB (iblk m c 0 t) (iblk m c 5 t) g n
    = m ((c : Thread nD τ).loc main_arg0) (ix3 (bt t) n (clsA (m ((c : Thread nD τ).loc main_arg6)) (bt t) g)) := by
  unfold scoreB
  rw [blk5, Finset.sum_eq_single (clsA (m ((c : Thread nD τ).loc main_arg6)) (bt t) g)]
  · rw [if_pos rfl, one_mul, blk0]
  · intro k _ hk
    rw [if_neg fun h => hk (Fin.ext (by exact_mod_cast h)), zero_mul]
  · exact fun h => absurd (Finset.mem_univ _) h

theorem metB_eq (g : Fin 50) (n : Fin 8448) :
    metB (iblk m c 0 t) (iblk m c 1 t) (iblk m c 3 t) (iblk m c 5 t) (iblk m c 7 t) g n
    = metA (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) (bt t) g n := by
  have eg : gtK (iblk m c 3 t) g = gtA (m ((c : Thread nD τ).loc main_arg4)) (bt t) g := funext fun k => blk3 m c t g k
  have eb : boxB (iblk m c 1 t) n = boxA (m ((c : Thread nD τ).loc main_arg1)) (bt t) n := funext fun k => by
    unfold boxB boxA; rw [blk1, boxArr_box]
  have ep : ptB (iblk m c 1 t) n = ptA (m ((c : Thread nD τ).loc main_arg3)) n := funext fun k => by
    unfold ptB ptA; rw [blk1, boxArr_pt]
  unfold metB metA
  rw [scoreB_eq, eg, eb, ep, blk7]

/-- How many anchors some ground truth keeps, for every batch element. -/
def fgA (a0 : Vec Ideal S8x8448x80 .f32) (a1 : Vec Ideal S8x8448x4 .f32) (a3 : Vec Ideal S8448x2 .f32)
    (a4 : Vec Ideal S8x50x4 .f32) (a5 : Vec Ideal S8x50x1 .f32) (a6 : IVec S8x50x1 32) : Vec Ideal S8x1x1 .f32 := fun i =>
  ∑ n : Fin 8448, if ∃ g, thr (metA a0 a1 a3 a4 a5 a6 (i 0) g) 13 ≤ metA a0 a1 a3 a4 a5 a6 (i 0) g n ∧ 0 < metA a0 a1 a3 a4 a5 a6 (i 0) g n
    then (1 : EReal) else 0

theorem fgA_at (a0 : Vec Ideal S8x8448x80 .f32) (a1 : Vec Ideal S8x8448x4 .f32) (a3 : Vec Ideal S8448x2 .f32)
    (a4 : Vec Ideal S8x50x4 .f32) (a5 : Vec Ideal S8x50x1 .f32) (a6 : IVec S8x50x1 32) (i : S8x1x1.Idx) (b : Fin 8) (h : i 0 = b) :
    fgA a0 a1 a3 a4 a5 a6 i = ∑ n : Fin 8448, if ∃ g, thr (metA a0 a1 a3 a4 a5 a6 b g) 13 ≤ metA a0 a1 a3 a4 a5 a6 b g n
      ∧ 0 < metA a0 a1 a3 a4 a5 a6 b g n then (1 : EReal) else 0 := by
  subst h; rfl

theorem emb11 (y : S1x1x1.Idx) : (((cfg0.win 11).blk t).view.emb y) 0 = bt t := by
  apply Fin.ext
  blk_simp [at11 t, bt]

theorem fg_blk (y : S1x1x1.Idx) : fgOut (iblk m c 0 t) (iblk m c 1 t) (iblk m c 3 t) (iblk m c 5 t) (iblk m c 7 t) y
    = fgA (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) (ix3 (bt t) 0 0) := by
  rw [fgOut_apply, fgA_at _ _ _ _ _ _ _ (bt t) rfl]
  refine Finset.sum_congr rfl fun n _ => ?_
  have e : ∀ g, metB (iblk m c 0 t) (iblk m c 1 t) (iblk m c 3 t) (iblk m c 5 t) (iblk m c 7 t) g = _ := fun g => funext fun n => metB_eq m c t g n
  simp only [e]

theorem final_fg : (dats m 0 c).arrAt 11 cfg0.N
    = fgA (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  refine (dats m 0 c).arrAt_eq_of_covers 11 _ (by decide +kernel) fun t hf y => ?_
  blk_simp
  rw [after0_11]
  simp only [outsAt0]
  rw [out_fg (a1 := ms0_0 t)]
  refine (fg_blk m c t y).trans (congrArg _ (funext fun a => ?_))
  fin_cases a
  · exact (emb11 t y).symm
  · exact Subsingleton.elim (α := Fin 1) _ _
  · exact Subsingleton.elim (α := Fin 1) _ _

end Cert.Tal

end
-- ==== Proof.RefMet.lean ====
/- The reference's alignment metric at an index, from the arguments. -/
module

public import proofs.«01_k».proof.Proof.Blocks
public import proofs.«01_k».proof.Proof.Gen.ReferenceIdeal.Read

@[expose] public section

set_option maxRecDepth 16384

noncomputable section

namespace Cert.Tal

open Cert.ReferenceIdeal Cert.ReferenceIdeal.Gen Cert.ReferenceIdeal.Read Idealize.ShloMosaic Idealize.ShloMosaic.TcCoe

variable (a0 : Vec Ideal S8x8448x80 .f32) (a1 : Vec Ideal S8x8448x4 .f32) (a3 : Vec Ideal S8448x2 .f32)
  (a4 : Vec Ideal S8x50x4 .f32) (a5 : Vec Ideal S8x50x1 .f32) (a6 : IVec S8x50x1 32) (b : Fin 8) (g : Fin 50) (n : Fin 8448)

/-- Two indices of rank three with equal coordinates are equal. -/
theorem ext3 {d : Fin 3 → ℕ} {i j : (⟨3, d⟩ : Shape).Idx} (h0 : (i 0).val = (j 0).val) (h1 : (i 1).val = (j 1).val)
    (h2 : (i 2).val = (j 2).val) : i = j := funext fun a => Fin.ext (by fin_cases a <;> assumption)
theorem ext2 {d : Fin 2 → ℕ} {i j : (⟨2, d⟩ : Shape).Idx} (h0 : (i 0).val = (j 0).val) (h1 : (i 1).val = (j 1).val) : i = j :=
  funext fun a => Fin.ext (by fin_cases a <;> assumption)

theorem q0 : (b.val * 8448 + n.val) / 8448 = b.val := by omega
theorem q1 : (b.val * 8448 + n.val) / 1 % 8448 = n.val := by omega
theorem q2 : (b.val * 50 + g.val) / 50 = b.val := by omega
theorem q3 : (b.val * 50 + g.val) / 1 % 50 = g.val := by omega

theorem v23_at : val_main_v23 a1 (ix2 b n) = boxA a1 b n 2 := by
  rw [val_main_v23_apply, val_main_v22_apply]; unfold boxA
  exact congrArg a1 (ext3 (by first | rfl | exact q0 b n | exact q2 b g) (by first | rfl | exact q1 b n | exact q3 b g) rfl)
theorem v25_at : val_main_v25 a1 (ix2 b n) = boxA a1 b n 0 := by
  rw [val_main_v25_apply, val_main_v24_apply]; unfold boxA
  exact congrArg a1 (ext3 (by first | rfl | exact q0 b n | exact q2 b g) (by first | rfl | exact q1 b n | exact q3 b g) rfl)
theorem v28_at : val_main_v28 a1 (ix2 b n) = boxA a1 b n 3 := by
  rw [val_main_v28_apply, val_main_v27_apply]; unfold boxA
  exact congrArg a1 (ext3 (by first | rfl | exact q0 b n | exact q2 b g) (by first | rfl | exact q1 b n | exact q3 b g) rfl)
theorem v30_at : val_main_v30 a1 (ix2 b n) = boxA a1 b n 1 := by
  rw [val_main_v30_apply, val_main_v29_apply]; unfold boxA
  exact congrArg a1 (ext3 (by first | rfl | exact q0 b n | exact q2 b g) (by first | rfl | exact q1 b n | exact q3 b g) rfl)
theorem v34_at : val_main_v34 a4 (ix2 b g) = gtA a4 b g 2 := by
  rw [val_main_v34_apply, val_main_v33_apply]; unfold gtA
  exact congrArg a4 (ext3 (by first | rfl | exact q0 b n | exact q2 b g) (by first | rfl | exact q1 b n | exact q3 b g) rfl)
theorem v36_at : val_main_v36 a4 (ix2 b g) = gtA a4 b g 0 := by
  rw [val_main_v36_apply, val_main_v35_apply]; unfold gtA
  exact congrArg a4 (ext3 (by first | rfl | exact q0 b n | exact q2 b g) (by first | rfl | exact q1 b n | exact q3 b g) rfl)
theorem v39_at : val_main_v39 a4 (ix2 b g) = gtA a4 b g 3 := by
  rw [val_main_v39_apply, val_main_v38_apply]; unfold gtA
  exact congrArg a4 (ext3 (by first | rfl | exact q0 b n | exact q2 b g) (by first | rfl | exact q1 b n | exact q3 b g) rfl)
theorem v41_at : val_main_v41 a4 (ix2 b g) = gtA a4 b g 1 := by
  rw [val_main_v41_apply, val_main_v40_apply]; unfold gtA
  exact congrArg a4 (ext3 (by first | rfl | exact q0 b n | exact q2 b g) (by first | rfl | exact q1 b n | exact q3 b g) rfl)
theorem v50_at : val_main_v50 a1 (ix3 b n g) = boxA a1 b n 0 := by
  rw [val_main_v50_apply, val_main_v46_apply, val_main_v45_apply, val_main_v44_apply]; unfold boxA
  exact congrArg a1 (ext3 (by first | rfl | exact q0 b n | exact q2 b g) (by first | rfl | exact q1 b n | exact q3 b g) rfl)
theorem v59_at : val_main_v59 a1 (ix3 b n g) = boxA a1 b n 1 := by
  rw [val_main_v59_apply, val_main_v55_apply, val_main_v54_apply, val_main_v53_apply]; unfold boxA
  exact congrArg a1 (ext3 (by first | rfl | exact q0 b n | exact q2 b g) (by first | rfl | exact q1 b n | exact q3 b g) rfl)
theorem v68_at : val_main_v68 a1 (ix3 b n g) = boxA a1 b n 2 := by
  rw [val_main_v68_apply, val_main_v64_apply, val_main_v63_apply, val_main_v62_apply]; unfold boxA
  exact congrArg a1 (ext3 (by first | rfl | exact q0 b n | exact q2 b g) (by first | rfl | exact q1 b n | exact q3 b g) rfl)
theorem v77_at : val_main_v77 a1 (ix3 b n g) = boxA a1 b n 3 := by
  rw [val_main_v77_apply, val_main_v73_apply, val_main_v72_apply, val_main_v71_apply]; unfold boxA
  exact congrArg a1 (ext3 (by first | rfl | exact q0 b n | exact q2 b g) (by first | rfl | exact q1 b n | exact q3 b g) rfl)
theorem v51_at : val_main_v51 a4 (ix3 b n g) = gtA a4 b g 0 := by
  rw [val_main_v51_apply, val_main_v49_apply, val_main_v48_apply, val_main_v47_apply]; unfold gtA
  exact congrArg a4 (ext3 (by first | rfl | exact q0 b n | exact q2 b g) (by first | rfl | exact q1 b n | exact q3 b g) rfl)
theorem v60_at : val_main_v60 a4 (ix3 b n g) = gtA a4 b g 1 := by
  rw [val_main_v60_apply, val_main_v58_apply, val_main_v57_apply, val_main_v56_apply]; unfold gtA
  exact congrArg a4 (ext3 (by first | rfl | exact q0 b n | exact q2 b g) (by first | rfl | exact q1 b n | exact q3 b g) rfl)
theorem v69_at : val_main_v69 a4 (ix3 b n g) = gtA a4 b g 2 := by
  rw [val_main_v69_apply, val_main_v67_apply, val_main_v66_apply, val_main_v65_apply]; unfold gtA
  exact congrArg a4 (ext3 (by first | rfl | exact q0 b n | exact q2 b g) (by first | rfl | exact q1 b n | exact q3 b g) rfl)
theorem v78_at : val_main_v78 a4 (ix3 b n g) = gtA a4 b g 3 := by
  rw [val_main_v78_apply, val_main_v76_apply, val_main_v75_apply, val_main_v74_apply]; unfold gtA
  exact congrArg a4 (ext3 (by first | rfl | exact q0 b n | exact q2 b g) (by first | rfl | exact q1 b n | exact q3 b g) rfl)

theorem v89_at : val_main_v89 a1 (ix3 b n g) = (boxA a1 b n 2 - boxA a1 b n 0) * (boxA a1 b n 3 - boxA a1 b n 1) := by
  rw [val_main_v89_apply, val_main_v87_apply, show idx_main_v87 (idx_main_v89 (ix3 b n g)) = ix2 b n from ext2 rfl rfl,
    val_main_v32_apply, val_main_v26_apply, val_main_v31_apply, v23_at, v25_at, v28_at, v30_at]
  rfl

theorem v90_at : val_main_v90 a4 (ix3 b n g) = (gtA a4 b g 2 - gtA a4 b g 0) * (gtA a4 b g 3 - gtA a4 b g 1) := by
  rw [val_main_v90_apply, val_main_v88_apply, show idx_main_v88 (idx_main_v90 (ix3 b n g)) = ix2 b g from ext2 rfl rfl,
    val_main_v43_apply, val_main_v37_apply, val_main_v42_apply, v34_at, v36_at, v39_at, v41_at]
  rfl

theorem v86_at : val_main_v86 a1 a4 (ix3 b n g) = inter (boxA a1 b n) (gtA a4 b g) := by
  rw [val_main_v86_apply, val_main_v82_apply, val_main_v85_apply, val_main_v80_apply, val_main_v83_apply, val_main_v70_apply,
    val_main_v52_apply, val_main_v79_apply, val_main_v61_apply, v50_at, v51_at, v59_at, v60_at, v68_at, v69_at, v77_at, v78_at,
    val_main_v81_apply, val_main_v84_apply, val_main_cst_2_apply, val_main_cst_3_apply]
  unfold inter
  simp only [Ideal.ofBits_def, Ideal.ofBits_zero_f32]
  rfl

theorem v95_at : val_main_v95 a1 a4 (ix3 b n g) = iou (boxA a1 b n) (gtA a4 b g) := by
  rw [val_main_v95_apply, val_main_v94_apply, val_main_v92_apply, val_main_v91_apply, v86_at, v89_at, v90_at,
    val_main_v93_apply, val_main_cst_4_apply]
  rfl

theorem min4 (f : Fin 4 → EReal) : (Finset.univ : Finset (Fin 4)).fold min ⊤ f = min (min (f 0) (f 1)) (min (f 2) (f 3)) := by
  rw [show (Finset.univ : Finset (Fin 4)).fold min ⊤ f = Finset.univ.inf f from rfl]
  simp [Fin.univ_succ, inf_assoc, min_assoc]

theorem ofBits_inf : Ideal.ofBits .f32 0x7F800000#32 = ⊤ := by simp [Ideal.ofBits, Ideal.ieee]
theorem ofBits_six : Ideal.ofBits .f32 0x40C00000#32 = 6 := by simp [Ideal.ofBits, Ideal.ieee]; rw [← EReal.coe_mul]; norm_num; rfl

theorem pow_one (x : EReal) : Ideal.pow x 1 = x := by
  induction x using EReal.rec with
  | bot => rfl
  | top => exact if_pos zero_lt_one
  | coe r =>
    show ((Real.rpow r 1 : ℝ) : EReal) = r
    exact congrArg _ (Real.rpow_one r)

theorem pow_six (r : ℝ) : Ideal.pow (r : EReal) 6 = p6 (r : EReal) := by
  show ((Real.rpow r 6 : ℝ) : EReal) = _
  unfold p6
  rw [← EReal.coe_mul, ← EReal.coe_mul, ← EReal.coe_mul]
  refine congrArg _ ?_
  refine (Real.rpow_natCast r 6).trans ?_
  ring

theorem v5_at (k : Fin 2) : val_main_v5 a3 a4 (ix4 b n g k) = ptA a3 n k - gtA a4 b g (k.castLE (by decide)) := by
  rw [val_main_v5_apply, val_main_v3_apply, val_main_v0_apply, val_main_v4_apply, val_main_v2_apply, val_main_v1_apply]
  unfold ptA gtA
  exact congrArg₂ (fun x y : EReal => x - y) (congrArg a3 (ext2 rfl rfl)) (congrArg a4 (ext3 rfl rfl rfl))

theorem v11_at (k : Fin 2) : val_main_v11 a3 a4 (ix4 b n g k) = gtA a4 b g ((k.natAdd 2).castLE (by decide)) - ptA a3 n k := by
  rw [val_main_v11_apply, val_main_v9_apply, val_main_v7_apply, val_main_v6_apply, val_main_v10_apply, val_main_v8_apply]
  unfold ptA gtA
  exact congrArg₂ (fun x y : EReal => x - y) (congrArg a4 (ext3 rfl rfl rfl)) (congrArg a3 (ext2 rfl rfl))

theorem v12_lo (k : Fin 2) : val_main_v12 a3 a4 (ix4 b n g (k.castLE (by decide))) = val_main_v5 a3 a4 (ix4 b n g k) := by
  unfold val_main_v12
  refine concatenate_pair_apply_left (t := S8x8448x50x4) (s₁ := S8x8448x50x2) (s₂ := S8x8448x50x2) _ _ _ _ _ rfl (ix4 b n g k) ?_
  intro a; fin_cases a <;> rfl

theorem v12_hi (k : Fin 2) : val_main_v12 a3 a4 (ix4 b n g ((k.natAdd 2).castLE (by decide))) = val_main_v11 a3 a4 (ix4 b n g k) := by
  unfold val_main_v12
  refine concatenate_pair_apply_right (t := S8x8448x50x4) (s₁ := S8x8448x50x2) (s₂ := S8x8448x50x2) _ _ _ _ _ rfl rfl (ix4 b n g k) ?_ ?_
  · intro a
    fin_cases a
    · exact fun _ => rfl
    · exact fun _ => rfl
    · exact fun _ => rfl
    · exact fun h => absurd rfl h
  · show k.val + 2 = 2 + k.val
    omega

theorem red3 : S8x8448x50x4.Reduces [3] S8x8448x50 := by decide

theorem v13_at : val_main_v13 a3 a4 (ix3 b n g)
    = min (min (ptA a3 n 0 - gtA a4 b g 0) (ptA a3 n 1 - gtA a4 b g 1)) (min (gtA a4 b g 2 - ptA a3 n 0) (gtA a4 b g 3 - ptA a3 n 1)) := by
  unfold val_main_v13
  refine Eq.trans (Host.reduce_eq_fold_single (α := EReal) min _ _ _ red3 _ _) ?_
  refine Eq.trans (congrArg (fun z => Finset.fold min z _ _) ofBits_inf) ?_
  refine Eq.trans (min4 _) ?_
  have l : ∀ k : Fin (S8x8448x50x4.size 3), red3.lift (ix3 b n g) k = ix4 b n g k := fun k => by
    funext a; exact Fin.ext (by rw [Shape.Reduces.lift_val]; fin_cases a <;> rfl)
  simp only [Function.comp]
  have e0 := (v12_lo a3 a4 b g n 0).trans (v5_at a3 a4 b g n 0)
  have e1 := (v12_lo a3 a4 b g n 1).trans (v5_at a3 a4 b g n 1)
  have e2 := (v12_hi a3 a4 b g n 0).trans (v11_at a3 a4 b g n 0)
  have e3 := (v12_hi a3 a4 b g n 1).trans (v11_at a3 a4 b g n 1)
  exact congrArg₂ min (congrArg₂ min ((congrArg _ (l (0 : Fin 4))).trans e0) ((congrArg _ (l (1 : Fin 4))).trans e1))
    (congrArg₂ min ((congrArg _ (l (2 : Fin 4))).trans e2) ((congrArg _ (l (3 : Fin 4))).trans e3))

theorem v16_at : val_main_v16 a3 a4 (ix3 b n g) = ins (ptA a3 n) (gtA a4 b g) := by
  rw [val_main_v16_apply, val_main_v15_apply, v13_at, val_main_v14_apply, val_main_cst_0_apply]
  unfold ins eps
  show (((BitVec.ofBool (decide (Ideal.ofBits .f32 0x3089705F#32 < _))).toNat : ℝ) : EReal) = _
  split <;> rename_i h
  · rw [decide_eq_true h]; simp
  · rw [decide_eq_false h]; simp

theorem lab_at : val_main_v20 (F := Ideal) a6 (ix3 b n g) = clip (a6 (ix3 b g 0)) := by
  rw [val_main_v20_apply, val_main_v19_apply, val_main_v18_apply, val_main_call0_v4_apply, val_main_call0_v3_apply, val_main_c_1_apply,
    val_main_call0_v2_apply, val_main_call0_v1_apply, val_main_call0_v0_apply, val_main_c_apply, val_main_v17_apply]
  unfold clip
  exact congrArg (fun x => IntOp.minsi 79#32 (IntOp.maxsi 0#32 x)) (congrArg a6 (ext3 (q2 b g) (q3 b g) rfl))

theorem lab5_at : val_main_call1_v5 (F := Ideal) a6 (ix4 b n g 0) = clip (a6 (ix3 b g 0)) := by
  rw [val_main_call1_v5_apply, show idx_main_call1_v5 (ix4 b n g 0) = ix3 b n g from ext3
    (by show (((b.val * 8448 + n.val) * 50 + g.val) * 1 + 0) / 422400 = b.val; omega)
    (by show (((b.val * 8448 + n.val) * 50 + g.val) * 1 + 0) / 50 % 8448 = n.val; omega)
    (by show (((b.val * 8448 + n.val) * 50 + g.val) * 1 + 0) % 50 = g.val; omega),
    val_main_call1_v4_apply, val_main_call1_v1_apply, val_main_call1_v0_apply, val_main_call1_c_apply, lab_at]
  have h : IntOp.cmpi .slt (clip (a6 (ix3 b g 0))) 0#32 = 0#1 := by
    have := (clip_toInt (a6 (ix3 b g 0))).1
    show BitVec.ofBool ((clip (a6 (ix3 b g 0))).slt 0#32) = 0#1
    rw [BitVec.slt_eq_decide, decide_eq_false (by simpa using this)]
    rfl
  rw [h]
  rfl

theorem v21_at : val_main_v21 a0 a6 (ix3 b n g) = a0 (ix3 b n (clsA a6 b g)) := by
  unfold val_main_v21 Host.gather
  refine congrArg a0 (funext fun a => Fin.ext ?_)
  show gather_S8x8448x80_S8x8448x50x1_S8x8448x50_n_2_01_01_2_3_111.start (ix3 b n g) (val_main_call1_v5 (F := Ideal) a6) a
    + gather_S8x8448x80_S8x8448x50x1_S8x8448x50_n_2_01_01_2_3_111.batchCoord (ix3 b n g) a
    + gather_S8x8448x80_S8x8448x50x1_S8x8448x50_n_2_01_01_2_3_111.offCoord (ix3 b n g) a = _
  rw [GatherDims.offCoord_eq_zero _ _ _ (fun h => by
    have := (GatherDims.mem_sKept _ _).mp h
    revert this; revert a; decide), Nat.add_zero]
  by_cases h2 : a = 2
  · subst h2
    rw [GatherDims.batchCoord_eq_zero _ _ _ (by decide), Nat.add_zero]
    unfold GatherDims.start
    rw [dif_pos (by decide)]
    have hsi : ∀ h, gather_S8x8448x80_S8x8448x50x1_S8x8448x50_n_2_01_01_2_3_111.siIdx (ix3 b n g) ⟨List.idxOf (2 : Fin 3) [2], h⟩
        = ix4 b n g 0 := fun h => by
      funext c; refine Fin.ext ?_
      fin_cases c <;> rfl
    refine Eq.trans (congrArg (fun z : BitVec 32 => min z.toInt.toNat 79) ((congrArg _ (hsi _)).trans (lab5_at a6 b g n))) ?_
    rw [clip_cls]
    show min (cls _).val 79 = (cls _).val
    have := (cls (a6 (ix3 b g 0))).isLt
    omega
  · rw [GatherDims.start_batching _ _ _ _ (by revert h2; revert a; decide), Nat.zero_add]
    unfold GatherDims.batchCoord
    rw [dif_pos (by revert h2; revert a; decide)]
    fin_cases a
    · rfl
    · rfl
    · exact absurd rfl h2

theorem v103_at : val_main_v103 a5 (ix3 b n g) = a5 (ix3 b g 0) := by
  rw [val_main_v103_apply, val_main_v102_apply]
  exact congrArg a5 (ext3 rfl rfl rfl)

/-- The reference's metric is the kernel's, where the overlap is a real number. -/
theorem v104_at (r : ℝ) (h : iou (boxA a1 b n) (gtA a4 b g) = r) :
    val_main_v104 a0 a1 a3 a4 a5 a6 (ix3 b n g) = metA a0 a1 a3 a4 a5 a6 b g n := by
  rw [val_main_v104_apply, val_main_v101_apply, val_main_v100_apply, val_main_v97_apply, val_main_v99_apply, v16_at, v103_at, v21_at, v95_at,
    val_main_v96_apply, val_main_v98_apply, val_main_cst_5_apply, val_main_cst_6_apply]
  unfold metA
  simp only [Ideal.ofBits_def, Ideal.hostPowf_def, ofBits_one, ofBits_six, pow_one, h, pow_six]
  rfl

theorem v105_at (r : ℝ) (h : iou (boxA a1 b n) (gtA a4 b g) = r) :
    val_main_v105 a0 a1 a3 a4 a5 a6 (ix3 b g n) = metA a0 a1 a3 a4 a5 a6 b g n := by
  rw [val_main_v105_apply, show idx_main_v105 (ix3 b g n) = ix3 b n g from ext3 rfl rfl rfl, v104_at a0 a1 a3 a4 a5 a6 b g n r h]

end Cert.Tal

end
-- ==== Proof.RefTop.lean ====
/- The largest entries of every row of a rank-three array along its last axis, with their positions. -/
module

public import proofs.«01_k».proof.Proof.RefMet
public import proofs.«01_k».proof.Proof.Rank
public import Idealize.ShloMosaic.Lib.SortFacts

@[expose] public section

set_option maxRecDepth 16384

noncomputable section

namespace Cert.Tal

open Cert.ReferenceIdeal Cert.ReferenceIdeal.Gen Cert.ReferenceIdeal.Read Idealize.ShloMosaic Idealize.ShloMosaic.TcCoe

variable {p q r : ℕ} (x : FVec Ideal ⟨3, ![p, q, r]⟩ .f32) (b : Fin p) (g : Fin q)

/-- The positions of a row from its largest entry to its smallest. -/
def ord (k : Fin r) : Fin r :=
  sortedFrom (fun k k' : Fin r => Ideal.cmpTotal .gt (x (ix3 b g k)) (x (ix3 b g k')) == 1#1) k

theorem gt_bit (u v : EReal) : (Ideal.cmpTotal .gt u v == 1#1) = decide (v < u) := by
  show (BitVec.ofBool (decide (v < u)) == 1#1) = _
  by_cases h : v < u
  · rw [decide_eq_true h]; rfl
  · rw [decide_eq_false h]; rfl

theorem ord_bijective : Function.Bijective (ord x b g) := ⟨sortedFrom_injective _, sortedFrom_surjective _⟩

theorem ord_antitone (i j : Fin r) (h : i ≤ j) : x (ix3 b g (ord x b g j)) ≤ x (ix3 b g (ord x b g i)) := by
  rcases h.eq_or_lt with rfl | h
  · exact le_rfl
  · have := sortedFrom_noInversion (fun k k' : Fin r => Ideal.cmpTotal .gt (x (ix3 b g k)) (x (ix3 b g k')) == 1#1)
      (fun k k' : Fin r => Ideal.cmpTotal .gt (x (ix3 b g k)) (x (ix3 b g k')) == 1#1)
      (fun a c h => by rw [gt_bit] at h ⊢; exact decide_eq_false (not_lt.mpr (of_decide_eq_true h).le)) (fun _ _ h => h)
      (fun a c d h h' => by
        rw [gt_bit] at h h' ⊢
        exact decide_eq_false (not_lt.mpr ((not_lt.mp (of_decide_eq_false h)).trans (not_lt.mp (of_decide_eq_false h'))))) i j h
    rw [gt_bit] at this
    exact not_lt.mp (of_decide_eq_false this)

theorem along3 (k k' : Fin r) : (ix3 b g k : (⟨3, ![p, q, r]⟩ : Shape).Idx).along 2 k' = ix3 b g k' := by
  funext a; fin_cases a <;> rfl

section

variable (K : ℕ) (hs : (⟨3, ![p, q, r]⟩ : Shape).Slices (fun _ => 0) ⟨3, ![p, q, K]⟩) (k : Fin K) (hk : k.val < r)

/-- The axis's positions as words. -/
def posW : IVec ⟨3, ![p, q, r]⟩ 32 := fun i =>
  if hd : 2 < (⟨3, ![p, q, r]⟩ : Shape).rank then iotaInDim ⟨3, ![p, q, r]⟩ 32 ⟨2, hd⟩ i else 0#32

theorem posW_at (k : Fin r) : posW (ix3 b g k) = BitVec.ofNat 32 k.val := by
  unfold posW
  rw [dif_pos (Nat.lt_succ_self 2)]
  rfl

theorem top1 : (Host.topK ⟨3, ![p, q, K]⟩ 2 (FloatOps.cmpfTotal (F := Ideal) (φ := .f32) .gt) x hs).1
    = extractStridedSlice ⟨3, ![p, q, K]⟩ (fun _ => 0)
      (Host.sort2 ⟨3, ![p, q, r]⟩ 2 (fun l r => FloatOps.cmpfTotal (F := Ideal) (φ := .f32) .gt l.1 r.1) x posW).1 hs := rfl
theorem top2 : (Host.topK ⟨3, ![p, q, K]⟩ 2 (FloatOps.cmpfTotal (F := Ideal) (φ := .f32) .gt) x hs).2
    = extractStridedSlice ⟨3, ![p, q, K]⟩ (fun _ => 0)
      (Host.sort2 ⟨3, ![p, q, r]⟩ 2 (fun l r => FloatOps.cmpfTotal (F := Ideal) (φ := .f32) .gt l.1 r.1) x posW).2 hs := rfl

theorem topK_val : (Host.topK ⟨3, ![p, q, K]⟩ 2 (FloatOps.cmpfTotal (F := Ideal) (φ := .f32) .gt) x hs).1 (ix3 b g k)
    = x (ix3 b g (ord x b g ⟨k.val, hk⟩)) := by
  refine Eq.trans (congrFun (top1 x K hs) _) ?_
  refine Eq.trans (extractStridedSlice_apply (fun _ => 0) _ hs (ix3 b g k) (ix3 b g ⟨k.val, hk⟩) (fun a => by fin_cases a <;> simp)) ?_
  unfold Host.sort2
  rw [dif_pos (Nat.lt_succ_self 2)]
  refine Eq.trans (congrArg x (along3 b g _ _)) ?_
  refine congrArg (fun z => x (ix3 b g z)) ?_
  unfold ord
  refine congrFun (congrArg _ ?_) _
  funext u v
  exact congrArg₂ (fun p q => Ideal.cmpTotal .gt (x p) (x q) == 1#1) (along3 b g _ _) (along3 b g _ _)

theorem topK_idx : (Host.topK ⟨3, ![p, q, K]⟩ 2 (FloatOps.cmpfTotal (F := Ideal) (φ := .f32) .gt) x hs).2 (ix3 b g k)
    = BitVec.ofNat 32 (ord x b g ⟨k.val, hk⟩).val := by
  refine Eq.trans (congrFun (top2 x K hs) _) ?_
  refine Eq.trans (extractStridedSlice_apply (fun _ => 0) _ hs (ix3 b g k) (ix3 b g ⟨k.val, hk⟩) (fun a => by fin_cases a <;> simp)) ?_
  unfold Host.sort2
  rw [dif_pos (Nat.lt_succ_self 2)]
  refine Eq.trans (congrArg posW (along3 b g _ _)) ?_
  refine Eq.trans (posW_at b g _) ?_
  refine congrArg (fun z : Fin r => BitVec.ofNat 32 z.val) ?_
  unfold ord
  refine congrFun (congrArg _ ?_) _
  funext u v
  exact congrArg₂ (fun p q => Ideal.cmpTotal .gt (x p) (x q) == 1#1) (along3 b g _ _) (along3 b g _ _)

end

end Cert.Tal

end
-- ==== Proof.RefFg.lean ====
/- The reference's count of assigned anchors: per image, the anchors among the thirteen best of some box. -/
module

public import proofs.«01_k».proof.Proof.RefTop

@[expose] public section

set_option maxRecDepth 16384

noncomputable section

namespace Cert.Tal

open Cert.ReferenceIdeal Cert.ReferenceIdeal.Gen Cert.ReferenceIdeal.Read Idealize.ShloMosaic Idealize.ShloMosaic.TcCoe

variable (a0 : Vec Ideal S8x8448x80 .f32) (a1 : Vec Ideal S8x8448x4 .f32) (a3 : Vec Ideal S8448x2 .f32)
  (a4 : Vec Ideal S8x50x4 .f32) (a5 : Vec Ideal S8x50x1 .f32) (a6 : IVec S8x50x1 32) (b : Fin 8) (g : Fin 50) (n : Fin 8448)

/-- The or of a finite family of bits is set exactly when one of them is. -/
theorem fold_ori {ι : Type} (s : Finset ι) (f : ι → BitVec 1) :
    s.fold IntOp.ori 0#1 f = 1#1 ↔ ∃ i ∈ s, f i = 1#1 := by
  classical
  induction s using Finset.induction_on with
  | empty => simp
  | insert a s ha ih => rw [Finset.fold_insert ha, IntOp.ori_eq_one, ih]; simp

theorem ofNat_inj {j k : Fin 8448} : BitVec.ofNat 32 j.val = BitVec.ofNat 32 k.val ↔ j = k := by
  constructor
  · intro h
    have := congrArg BitVec.toNat h
    rw [BitVec.toNat_ofNat, BitVec.toNat_ofNat] at this
    exact Fin.ext (by omega)
  · rintro rfl; rfl

theorem bit_eq {u v : BitVec 32} : IntOp.cmpi .eq u v = 1#1 ↔ u = v := by
  show BitVec.ofBool (u == v) = 1#1 ↔ _
  by_cases h : u = v
  · simp [h]
  · rw [beq_false_of_ne h]
    exact ⟨fun h' => absurd h' (by decide), fun h' => absurd h' h⟩

theorem bit_gt {u v : EReal} : Ideal.cmp .ogt u v = 1#1 ↔ v < u := by
  show BitVec.ofBool (decide (v < u)) = 1#1 ↔ _
  by_cases h : v < u
  · simp [h]
  · simp [h]

theorem v109_at (j : Fin 13) : val_main_v109 a0 a1 a3 a4 a5 a6 (ix4 b g j n) = val_main_indices a0 a1 a3 a4 a5 a6 (ix3 b g j) := by
  rw [val_main_v109_apply, val_main_v106_apply]
  exact congrArg _ (ext3 rfl rfl rfl)
theorem v110_at (j : Fin 13) : val_main_v110 (F := Ideal) (ix4 b g j n) = BitVec.ofNat 32 n.val := by
  rw [val_main_v110_apply, val_main_v108_apply]
  rfl
theorem v115_at (j : Fin 13) : val_main_v115 a0 a1 a3 a4 a5 a6 (ix4 b g j n) = val_main_v113 a0 a1 a3 a4 a5 a6 (ix3 b g j) := by
  rw [val_main_v115_apply, val_main_v114_apply]
  exact congrArg _ (ext3 rfl rfl rfl)

/-- The metric row of an image and a box in the reference. -/
abbrev row (n : Fin 8448) : EReal := val_main_v105 a0 a1 a3 a4 a5 a6 (ix3 b g n)

theorem v116_at (j : Fin 13) : val_main_v116 a0 a1 a3 a4 a5 a6 (ix4 b g j n) = 1#1 ↔
    ord (val_main_v105 a0 a1 a3 a4 a5 a6) b g (j.castLE (by decide)) = n ∧ 0 < row a0 a1 a3 a4 a5 a6 b g n := by
  rw [val_main_v116_apply, IntOp.andi_eq_one, val_main_v111_apply, bit_eq, v109_at, v110_at, v115_at, val_main_v113_apply]
  have hi : val_main_indices a0 a1 a3 a4 a5 a6 (ix3 b g j)
      = BitVec.ofNat 32 (ord (val_main_v105 a0 a1 a3 a4 a5 a6) b g (j.castLE (by decide))).val :=
    topK_idx _ b g 13 _ j (by omega)
  have hv : val_main_values a0 a1 a3 a4 a5 a6 (ix3 b g j)
      = row a0 a1 a3 a4 a5 a6 b g (ord (val_main_v105 a0 a1 a3 a4 a5 a6) b g (j.castLE (by decide))) :=
    topK_val _ b g 13 _ j (by omega)
  have hz : val_main_v112 (F := Ideal) (ix3 b g j) = (0 : EReal) := by
    rw [val_main_v112_apply]
    exact Ideal.ofBits_zero .f32
  rw [hi, ofNat_inj]
  refine and_congr_right fun e => ?_
  refine Eq.to_iff ?_ |>.trans (bit_gt (u := row a0 a1 a3 a4 a5 a6 b g n) (v := 0))
  rw [hv, hz, e]
  rfl

theorem red13 : S8x50x13x8448.Reduces [2] S8x50x8448 := by decide
theorem red50 : S8x50x8448.Reduces [1] S8x8448 := by decide

theorem any13 (x : S8x50x13x8448.Idx → BitVec 1) (init : S_.Idx → BitVec 1) (hi : init (Shape.Idx.first h_S_) = 0#1) :
    Host.reduce IntOp.ori x init reducesTo_S8x50x13x8448_S8x50x8448_d2 h_S_ (ix3 b g n) = 1#1 ↔ ∃ j : Fin 13, x (ix4 b g j n) = 1#1 := by
  rw [Host.reduce_eq_fold_single IntOp.ori _ _ _ red13 _ _, hi, fold_ori]
  have l : ∀ k : Fin (S8x50x13x8448.size 2), red13.lift (ix3 b g n) k = ix4 b g k n := fun k => by
    funext a; exact Fin.ext (by rw [Shape.Reduces.lift_val]; fin_cases a <;> rfl)
  constructor
  · rintro ⟨k, -, hk⟩; exact ⟨k, (congrArg x (l k)).symm.trans hk⟩
  · rintro ⟨k, hk⟩; exact ⟨k, Finset.mem_univ _, (congrArg x (l k)).trans hk⟩

theorem any50 (x : S8x50x8448.Idx → BitVec 1) (init : S_.Idx → BitVec 1) (hi : init (Shape.Idx.first h_S_) = 0#1) :
    Host.reduce IntOp.ori x init reducesTo_S8x50x8448_S8x8448_d1 h_S_ (ix2 b n) = 1#1 ↔ ∃ g : Fin 50, x (ix3 b g n) = 1#1 := by
  rw [Host.reduce_eq_fold_single IntOp.ori _ _ _ red50 _ _, hi, fold_ori]
  have l : ∀ k : Fin (S8x50x8448.size 1), red50.lift (ix2 b n) k = ix3 b k n := fun k => by
    funext a; exact Fin.ext (by rw [Shape.Reduces.lift_val]; fin_cases a <;> rfl)
  constructor
  · rintro ⟨k, -, hk⟩; exact ⟨k, (congrArg x (l k)).symm.trans hk⟩
  · rintro ⟨k, hk⟩; exact ⟨k, Finset.mem_univ _, (congrArg x (l k)).trans hk⟩

theorem v117_at : val_main_v117 a0 a1 a3 a4 a5 a6 (ix3 b g n) = 1#1 ↔
    ∃ j : Fin 13, val_main_v116 a0 a1 a3 a4 a5 a6 (ix4 b g j n) = 1#1 := any13 b g n _ _ rfl

theorem v119_at : val_main_v119 a0 a1 a3 a4 a5 a6 (ix2 b n) = 1#1 ↔
    ∃ g : Fin 50, val_main_v117 a0 a1 a3 a4 a5 a6 (ix3 b g n) = 1#1 := any50 b n _ _ rfl

theorem bit_cases (x : BitVec 1) : x = 1#1 ∨ x = 0#1 := by revert x; decide

/-- A bit as a number: one where the statement it decides holds, nought elsewhere. -/
theorem ind_u (x : BitVec 1) (p : Prop) [Decidable p] (h : x = 1#1 ↔ p) :
    FloatOps.uitofp (F := Ideal) .f32 x = (if p then (1 : EReal) else 0) := by
  show (((x.toNat : ℝ)) : EReal) = _
  rcases bit_cases x with rfl | rfl
  · rw [if_pos (h.1 rfl)]; norm_num
  · rw [if_neg fun hp => absurd (h.2 hp) (by decide)]; norm_num

/-- What is asked of the arguments: every overlap is a number, no metric reaches two, and each box's best fourteen metrics are apart
    while positive. -/
structure Sep : Prop where
  num : ∀ b g n, ∃ r : ℝ, iou (boxA a1 b n) (gtA a4 b g) = r
  lt2 : ∀ b g n, metA a0 a1 a3 a4 a5 a6 b g n < 2
  apart : ∀ (b : Fin 8) (g : Fin 50) (k : ℕ) (h : k < 13),
    row a0 a1 a3 a4 a5 a6 b g (ord (val_main_v105 a0 a1 a3 a4 a5 a6) b g ⟨k + 1, by omega⟩)
        < row a0 a1 a3 a4 a5 a6 b g (ord (val_main_v105 a0 a1 a3 a4 a5 a6) b g ⟨k, by omega⟩)
      ∨ row a0 a1 a3 a4 a5 a6 b g (ord (val_main_v105 a0 a1 a3 a4 a5 a6) b g ⟨k + 1, by omega⟩) ≤ 0

variable {a0 a1 a3 a4 a5 a6}

/-- An anchor is assigned to a box in the reference exactly when its metric is positive and not below the thirteenth threshold. -/
theorem mask_ref (h : Sep a0 a1 a3 a4 a5 a6) : val_main_v117 a0 a1 a3 a4 a5 a6 (ix3 b g n) = 1#1 ↔
    thr (metA a0 a1 a3 a4 a5 a6 b g) 13 ≤ metA a0 a1 a3 a4 a5 a6 b g n ∧ 0 < metA a0 a1 a3 a4 a5 a6 b g n := by
  have hm : row a0 a1 a3 a4 a5 a6 b g = metA a0 a1 a3 a4 a5 a6 b g := funext fun n => by
    obtain ⟨r, hr⟩ := h.num b g n
    exact v105_at a0 a1 a3 a4 a5 a6 b g n r hr
  rw [v117_at, ← hm]
  have := kept_iff (v := row a0 a1 a3 a4 a5 a6 b g) (ord_bijective (val_main_v105 a0 a1 a3 a4 a5 a6) b g)
    (ord_antitone (val_main_v105 a0 a1 a3 a4 a5 a6) b g) (fun n => by rw [hm]; exact h.lt2 _ _ _) (K := 13) (by decide)
    (fun k hk => h.apart b g k hk) n
  rw [this]
  exact exists_congr fun j => v116_at a0 a1 a3 a4 a5 a6 b g n j

theorem fg_bit (h : Sep a0 a1 a3 a4 a5 a6) : val_main_v119 a0 a1 a3 a4 a5 a6 (ix2 b n) = 1#1 ↔
    ∃ g, thr (metA a0 a1 a3 a4 a5 a6 b g) 13 ≤ metA a0 a1 a3 a4 a5 a6 b g n ∧ 0 < metA a0 a1 a3 a4 a5 a6 b g n := by
  rw [v119_at]
  exact exists_congr fun g => mask_ref b g n h

/-- The reference's count of assigned anchors is the kernel's. -/
theorem fg_ref (h : Sep a0 a1 a3 a4 a5 a6) : val_main_v221 a0 a1 a3 a4 a5 a6 = fgA a0 a1 a3 a4 a5 a6 := by
  funext i
  rw [fgA_at a0 a1 a3 a4 a5 a6 i (i 0) rfl, val_main_v221_apply, val_main_v220_apply]
  have e0 : (val_main_cst_31 (F := Ideal)) (Shape.Idx.first h_S_) = (0 : EReal) := Ideal.ofBits_zero .f32
  refine (congrArg₂ (· + ·) e0 rfl).trans ?_
  rw [zero_add]
  refine Finset.sum_congr rfl fun n _ => ?_
  rw [val_main_v120_apply]
  refine ind_u _ _ ?_
  have hi : idx_main_v220 (idx_main_v221 i) n = ix2 (i 0) n := ext2 (by
    show (((i 0).val * 1 + (i 1).val) * 1 + (i 2).val) = _
    have h1 : (i 1).val < 1 := (i 1).isLt
    have h2 : (i 2).val < 1 := (i 2).isLt
    show _ = (i 0).val
    omega) rfl
  rw [hi]
  exact fg_bit (i 0) n h

end Cert.Tal

end
-- ==== Proof.Vocab2.lean ====
/- The kernel's steps past the kept entries: the best ground truth of an anchor, the two losses of the boxes. -/
module

public import proofs.«01_k».proof.Proof.Vocab

@[expose] public section

set_option maxRecDepth 16384

noncomputable section

namespace Cert.Tal

open Cert.KernelIdeal Cert.KernelIdeal.Gen Idealize.ShloMosaic Idealize.ShloMosaic.TcCoe

variable {F : FTy → Type} [FloatOps F]

/-- Columns `o ..< o + 1408` of one side's distances. -/
def cut17 (x : Vec F S1x4x17x8448 .f32) (s : Fin 4) (o : ℕ) (h : o + 1408 ≤ 8448) : Vec F S1x1x17x1408 .f32 :=
  fun y => x (ix4 (0 : Fin 1) s (y 2 : Fin 17) (⟨o + (y 3).val, by have : (y 3).val < 1408 := (y 3).isLt; omega⟩ : Fin 8448))

/-- Where an entry is its anchor's largest kept one. -/
def bestV (t : FVec F S50x1 .f32) (A : FVec F S50x1408 .f32) : IVec S50x1408 1 :=
  andi (cmpf .oeq (topV t A) (ar (maxCol (topV t A))))
    (broadcastTo S50x1408 (cmpf .ogt (maxCol (topV t A)) (lit S1x1408 0x00000000#32)) broadcasts_S1x1408_S50x1408)

/-- The corners of each anchor's best ground truth. -/
def bestBox (x4 : Vec F S1x4x50 .f32) (t : FVec F S50x1 .f32) (A : FVec F S50x1408 .f32) : FVec F S4x1408 .f32 :=
  matmul dot_S4x50_S50x1408_S4x1408_1_0_0_1_n_n none (shapeCast S4x50 x4 shapeCasts_S1x4x50_S4x50)
    (select (bestV t A) (lit S50x1408 0x3F800000#32) (lit S50x1408 0x00000000#32)) (constant S4x1408 .f32 0x00000000#32)
def best0 (x4 : Vec F S1x4x50 .f32) (t : FVec F S50x1 .f32) (A : FVec F S50x1408 .f32) : FVec F S1x1408 .f32 :=
  extractStridedSlice S1x1408 ![0, 0] (bestBox x4 t A) slices_S4x1408_o0_0_S1x1408
def best1 (x4 : Vec F S1x4x50 .f32) (t : FVec F S50x1 .f32) (A : FVec F S50x1408 .f32) : FVec F S1x1408 .f32 :=
  extractStridedSlice S1x1408 ![1, 0] (bestBox x4 t A) slices_S4x1408_o1_0_S1x1408
def best2 (x4 : Vec F S1x4x50 .f32) (t : FVec F S50x1 .f32) (A : FVec F S50x1408 .f32) : FVec F S1x1408 .f32 :=
  extractStridedSlice S1x1408 ![2, 0] (bestBox x4 t A) slices_S4x1408_o2_0_S1x1408
def best3 (x4 : Vec F S1x4x50 .f32) (t : FVec F S50x1 .f32) (A : FVec F S50x1408 .f32) : FVec F S1x1408 .f32 :=
  extractStridedSlice S1x1408 ![3, 0] (bestBox x4 t A) slices_S4x1408_o3_0_S1x1408

/-- The common part of the anchors' boxes with other boxes, given by rows, the joined part, and the enclosing box. -/
def gInter (b : Vec F S1x6x1408 .f32) (q0 q1 q2 q3 : FVec F S1x1408 .f32) : FVec F S1x1408 .f32 :=
  mulf (maximumf (subf (minimumf (row2 b) q2) (maximumf (row0 b) q0)) (lit S1x1408 0x00000000#32))
    (maximumf (subf (minimumf (row3 b) q3) (maximumf (row1 b) q1)) (lit S1x1408 0x00000000#32))
def gUnion (b : Vec F S1x6x1408 .f32) (q0 q1 q2 q3 : FVec F S1x1408 .f32) : FVec F S1x1408 .f32 :=
  subf (addf (mulf (subf (row2 b) (row0 b)) (subf (row3 b) (row1 b))) (mulf (subf q2 q0) (subf q3 q1))) (gInter b q0 q1 q2 q3)
def gEnc (b : Vec F S1x6x1408 .f32) (q0 q1 q2 q3 : FVec F S1x1408 .f32) : FVec F S1x1408 .f32 :=
  mulf (subf (maximumf (row2 b) q2) (minimumf (row0 b) q0)) (subf (maximumf (row3 b) q3) (minimumf (row1 b) q1))

/-- The overlap loss of a run's anchors. -/
def giouV (f : FVec F S1x1408 .f32) (b : Vec F S1x6x1408 .f32) (q0 q1 q2 q3 : FVec F S1x1408 .f32) : FVec F S1x1408 .f32 :=
  mulf (subf (lit S1x1408 0x3F800000#32)
    (subf (divf (gInter b q0 q1 q2 q3) (addf (gUnion b q0 q1 q2 q3) (lit S1x1408 0x3089705F#32)))
      (divf (subf (gEnc b q0 q1 q2 q3) (gUnion b q0 q1 q2 q3)) (addf (gEnc b q0 q1 q2 q3) (lit S1x1408 0x3089705F#32))))) f

/-- One side's distances, the log of the sum of their exponentials, the target, and the target's weighted sum. -/
def sideV (d : Vec F S1x1x17x1408 .f32) : FVec F S17x1408 .f32 := shapeCast S17x1408 d shapeCasts_S1x1x17x1408_S17x1408
def ar17 (r : FVec F S1x1408 .f32) : FVec F S17x1408 .f32 := broadcastTo S17x1408 r broadcasts_S1x1408_S17x1408
def top17 (d : Vec F S1x1x17x1408 .f32) : FVec F S1x1408 .f32 :=
  shapeCast S1x1408 (multiReduction .maximumf [0] S1408 (sideV d) 0xFF800000#32 reduces_S17x1408_S1408 (.inl rfl) rfl) shapeCasts_S1408_S1x1408
def sum17 (x : FVec F S17x1408 .f32) : FVec F S1x1408 .f32 :=
  shapeCast S1x1408 (multiReduction .add [0] S1408 x 0x00000000#32 reduces_S17x1408_S1408 (.inl rfl) rfl) shapeCasts_S1408_S1x1408
def lseV (d : Vec F S1x1x17x1408 .f32) : FVec F S1x1408 .f32 :=
  addf (log (sum17 (exp (subf (sideV d) (ar17 (top17 d)))))) (top17 d)
def tgtV (u v : FVec F S1x1408 .f32) : FVec F S1x1408 .f32 :=
  minimumf (lit S1x1408 0x417FD70A#32) (maximumf (lit S1x1408 0x00000000#32) (divf (subf u v) (lit S1x1408 0x41000000#32)))
def selV (d : Vec F S1x1x17x1408 .f32) (g : FVec F S1x1408 .f32) : FVec F S1x1408 .f32 :=
  sum17 (mulf (sideV d) (maximumf (subf (lit S17x1408 0x3F800000#32)
    (absf (subf (sitofp .f32 (iota .tc S17x1408 32 [0] iota_S17x1408_d0_w32)) (ar17 g)))) (lit S17x1408 0x00000000#32)))

/-- The distance loss of a run's anchors. -/
def dflV (f : FVec F S1x1408 .f32) (b : Vec F S1x6x1408 .f32) (d0 d1 d2 d3 : Vec F S1x1x17x1408 .f32)
    (q0 q1 q2 q3 : FVec F S1x1408 .f32) : FVec F S1x1408 .f32 :=
  mulf (mulf (subf (addf (subf (addf (subf (addf (subf (addf (lit S1x1408 0x00000000#32) (lseV d0)) (selV d0 (tgtV (row4 b) q0)))
      (lseV d1)) (selV d1 (tgtV (row5 b) q1))) (lseV d2)) (selV d2 (tgtV q2 (row4 b)))) (lseV d3)) (selV d3 (tgtV q3 (row5 b))))
    (lit S1x1408 0x3E800000#32)) f

end Cert.Tal

end
-- ==== Proof.ReadK2.lean ====
/- The steps of Vocab2 over the extended reals, entry by entry. -/
module

public import proofs.«01_k».proof.Proof.Vocab2
public import proofs.«01_k».proof.Proof.ReadK

@[expose] public section

set_option maxRecDepth 16384

noncomputable section

namespace Cert.Tal

open Cert.KernelIdeal Cert.KernelIdeal.Gen Idealize.ShloMosaic Idealize.ShloMosaic.TcCoe

/-- A value if some condition selects it, weighed by the indicator of being the largest and positive. -/
def weigh (K q : Fin 50 → EReal) : EReal := ∑ g, q g * (if K g = (⨆ h, K h) ∧ 0 < ⨆ h, K h then 1 else 0)

/-- The joined part of two boxes, the enclosing box, and the generalised overlap. -/
def joined (a q : Fin 4 → EReal) : EReal := (a 2 - a 0) * (a 3 - a 1) + (q 2 - q 0) * (q 3 - q 1) - inter a q
def enclose (a q : Fin 4 → EReal) : EReal := (max (a 2) (q 2) - min (a 0) (q 0)) * (max (a 3) (q 3) - min (a 1) (q 1))
def gen (a q : Fin 4 → EReal) : EReal :=
  Ideal.div (inter a q) (joined a q + eps) - Ideal.div (enclose a q - joined a q) (enclose a q + eps)

/-- The larger of a value and its opposite. -/
def absE (x : EReal) : EReal := max x (-x)

/-- The log of the sum of exponentials, as the kernel forms it; the target, and its weights' sum. -/
def lse (d : Fin 17 → EReal) : EReal := Ideal.log (∑ k, Ideal.exp (d k - ⨆ j, d j)) + ⨆ j, d j
def tgt (u : EReal) : EReal := min (Ideal.ofBits .f32 0x417FD70A#32) (max 0 (Ideal.div u (Ideal.ofBits .f32 0x41000000#32)))
def sel (d : Fin 17 → EReal) (t : EReal) : EReal := ∑ k : Fin 17, d k * max (1 - absE (((k.val : ℝ) : EReal) - t)) 0
def side (p : Fin 2 → EReal) (q : Fin 4 → EReal) : Fin 4 → EReal := ![p 0 - q 0, p 1 - q 1, q 2 - p 0, q 3 - p 1]
def focal (d : Fin 4 → Fin 17 → EReal) (u : Fin 4 → EReal) : EReal :=
  (lse (d 0) - sel (d 0) (tgt (u 0)) + lse (d 1) - sel (d 1) (tgt (u 1)) + lse (d 2) - sel (d 2) (tgt (u 2)) + lse (d 3) - sel (d 3) (tgt (u 3)))
    * Ideal.ofBits .f32 0x3E800000#32

variable (t : FVec Ideal S50x1 .f32) (A : FVec Ideal S50x1408 .f32) (x4 : Vec Ideal S1x4x50 .f32) (b : Vec Ideal S1x6x1408 .f32)
variable (n : Fin 1408)

theorem bestV_sel (g : Fin 50) : (select (bestV t A) (lit S50x1408 0x3F800000#32) (lit S50x1408 0x00000000#32) : FVec Ideal S50x1408 .f32) (ix2 g n)
    = if topV t A (ix2 g n) = (⨆ h, topV t A (ix2 h n)) ∧ 0 < ⨆ h, topV t A (ix2 h n) then (1 : EReal) else 0 := by
  unfold bestV
  have hM := maxCol_apply (topV t A) n
  generalize maxCol (topV t A) = M at hM ⊢
  generalize topV t A = K at hM ⊢
  have e : broadcastTo S50x1408 (cmpf .ogt M (lit S1x1408 0x00000000#32)) broadcasts_S1x1408_S50x1408 (ix2 g n)
      = Ideal.cmp .ogt (M (ix2 0 n)) (Ideal.ofBits .f32 0x00000000#32) :=
    broadcastTo_apply _ _ _ (ix2 0 n) fun a => by fin_cases a <;> rfl
  show Scalar.select (IntOp.andi (Ideal.cmp .oeq (K (ix2 g n)) (ar M (ix2 g n)))
    (broadcastTo S50x1408 (cmpf .ogt M (lit S1x1408 0x00000000#32)) broadcasts_S1x1408_S50x1408 (ix2 g n)))
    (Ideal.ofBits .f32 0x3F800000#32) (Ideal.ofBits .f32 0x00000000#32) = _
  rw [e, ar_apply, hM, Ideal.ofBits_zero_f32, ofBits_one]
  by_cases h : K (ix2 g n) = (⨆ h, K (ix2 h n)) <;> by_cases h' : 0 < ⨆ h, K (ix2 h n) <;>
    simp [Ideal.cmp, h, h', Scalar.select, IntOp.andi]

theorem bestBox_apply (k : Fin 4) : bestBox x4 t A (ix2 k n) = weigh (fun g => topV t A (ix2 g n)) (fun g => x4 (ix3 0 k g)) := by
  have h := Ideal.matmul_plain_apply (M := 4) (K := 50) (N := 1408) (φ₁ := .f32) (φ₂ := .f32) none (shapeCast S4x50 x4 shapeCasts_S1x4x50_S4x50)
    (select (bestV t A) (lit S50x1408 0x3F800000#32) (lit S50x1408 0x00000000#32)) (constant S4x1408 .f32 0x00000000#32) k n
  refine Eq.trans (b := _) ?_ (h.trans ?_)
  · rfl
  · show Ideal.ofBits .f32 0x00000000#32 + _ = _
    rw [Ideal.ofBits_zero_f32, zero_add, weigh]
    refine Finset.sum_congr rfl fun g _ => ?_
    refine congrArg₂ (· * ·) (shapeCast_apply _ _ _ (ix3 0 k g) ?_) (bestV_sel t A n g)
    rw [Shape.rowMajor_val_two, Shape.rowMajor_val_three]; show (0 * 4 + k.val) * 50 + g.val = k.val * 50 + g.val; omega

theorem best0_apply : best0 x4 t A (ix2 0 n) = weigh (fun g => topV t A (ix2 g n)) (fun g => x4 (ix3 0 0 g)) := by
  rw [best0, extractStridedSlice_apply _ _ _ _ (ix2 0 n) (by intro a; fin_cases a <;> first | rfl | (show n.val = 0 + n.val; omega)), bestBox_apply]
theorem best1_apply : best1 x4 t A (ix2 0 n) = weigh (fun g => topV t A (ix2 g n)) (fun g => x4 (ix3 0 1 g)) := by
  rw [best1, extractStridedSlice_apply _ _ _ _ (ix2 1 n) (by intro a; fin_cases a <;> first | rfl | (show n.val = 0 + n.val; omega)), bestBox_apply]
theorem best2_apply : best2 x4 t A (ix2 0 n) = weigh (fun g => topV t A (ix2 g n)) (fun g => x4 (ix3 0 2 g)) := by
  rw [best2, extractStridedSlice_apply _ _ _ _ (ix2 2 n) (by intro a; fin_cases a <;> first | rfl | (show n.val = 0 + n.val; omega)), bestBox_apply]
theorem best3_apply : best3 x4 t A (ix2 0 n) = weigh (fun g => topV t A (ix2 g n)) (fun g => x4 (ix3 0 3 g)) := by
  rw [best3, extractStridedSlice_apply _ _ _ _ (ix2 3 n) (by intro a; fin_cases a <;> first | rfl | (show n.val = 0 + n.val; omega)), bestBox_apply]

variable (f q0 q1 q2 q3 : FVec Ideal S1x1408 .f32) (q : Fin 4 → EReal)
variable (h0 : q0 (ix2 0 n) = q 0) (h1 : q1 (ix2 0 n) = q 1) (h2 : q2 (ix2 0 n) = q 2) (h3 : q3 (ix2 0 n) = q 3)

include h0 h1 h2 h3 in
theorem gInter_apply : gInter b q0 q1 q2 q3 (ix2 0 n) = inter (boxK b n) q := by
  show max (min (row2 b _) (q2 _) - max (row0 b _) (q0 _)) (Ideal.ofBits .f32 0x00000000#32)
    * max (min (row3 b _) (q3 _) - max (row1 b _) (q1 _)) (Ideal.ofBits .f32 0x00000000#32) = _
  rw [row0_apply, row1_apply, row2_apply, row3_apply, h0, h1, h2, h3, Ideal.ofBits_zero_f32]
  rfl

include h0 h1 h2 h3 in
theorem gUnion_apply : gUnion b q0 q1 q2 q3 (ix2 0 n) = joined (boxK b n) q := by
  show (row2 b _ - row0 b _) * (row3 b _ - row1 b _) + (q2 _ - q0 _) * (q3 _ - q1 _) - gInter b q0 q1 q2 q3 _ = _
  rw [row0_apply, row1_apply, row2_apply, row3_apply, gInter_apply b n q0 q1 q2 q3 q h0 h1 h2 h3, h0, h1, h2, h3]
  rfl

include h0 h1 h2 h3 in
theorem gEnc_apply : gEnc b q0 q1 q2 q3 (ix2 0 n) = enclose (boxK b n) q := by
  show (max (row2 b _) (q2 _) - min (row0 b _) (q0 _)) * (max (row3 b _) (q3 _) - min (row1 b _) (q1 _)) = _
  rw [row0_apply, row1_apply, row2_apply, row3_apply, h0, h1, h2, h3]
  rfl

include h0 h1 h2 h3 in
theorem giouV_apply : giouV f b q0 q1 q2 q3 (ix2 0 n) = (1 - gen (boxK b n) q) * f (ix2 0 n) := by
  show (Ideal.ofBits .f32 0x3F800000#32 - (Ideal.div (gInter b q0 q1 q2 q3 _) (gUnion b q0 q1 q2 q3 _ + eps)
    - Ideal.div (gEnc b q0 q1 q2 q3 _ - gUnion b q0 q1 q2 q3 _) (gEnc b q0 q1 q2 q3 _ + eps))) * f _ = _
  rw [gInter_apply b n q0 q1 q2 q3 q h0 h1 h2 h3, gUnion_apply b n q0 q1 q2 q3 q h0 h1 h2 h3, gEnc_apply b n q0 q1 q2 q3 q h0 h1 h2 h3, ofBits_one]
  rfl

/-- One side's distances at an anchor. -/
def sideK (d : Vec Ideal S1x1x17x1408 .f32) (n : Fin 1408) : Fin 17 → EReal := fun k => d (ix4 0 0 k n)

variable (d d0 d1 d2 d3 : Vec Ideal S1x1x17x1408 .f32)

theorem sideV_apply (k : Fin 17) : sideV d (ix2 k n) = sideK d n k := by
  rw [sideV]; refine shapeCast_apply _ _ _ (ix4 0 0 k n) ?_
  rw [Shape.rowMajor_val_two, Shape.rowMajor_val_four]; show ((0 * 1 + 0) * 17 + k.val) * 1408 + n.val = k.val * 1408 + n.val; omega

theorem ar17_apply (k : Fin 17) : ar17 f (ix2 k n) = f (ix2 0 n) := by
  rw [ar17]; exact broadcastTo_apply _ _ _ _ fun a => by fin_cases a <;> rfl

theorem top17_apply : top17 d (ix2 0 n) = ⨆ k, sideK d n k := by
  rw [top17, shapeCast_apply _ shapeCasts_S1408_S1x1408 (ix2 0 n) (ix1 n) (by rw [Shape.rowMajor_val_one, Shape.rowMajor_val_two]; show n.val = 0 * 1408 + n.val; omega)]
  refine Eq.trans (Ideal.multiReduction_maximumf_single _ _ _ _ _ _) ?_
  refine Eq.trans (congrArg (fun z => Finset.fold max z _ _) ofBits_neg_inf) (Eq.trans (fold_max_eq_iSup _) ?_)
  refine iSup_congr fun k => Eq.trans (congrArg (sideV d) ?_) (sideV_apply n d k)
  funext a; exact Fin.ext (by rw [Shape.Reduces.lift_val]; fin_cases a <;> rfl)

theorem sum17_apply (x : FVec Ideal S17x1408 .f32) : sum17 x (ix2 0 n) = ∑ k : Fin 17, x (ix2 k n) := by
  rw [sum17, shapeCast_apply _ shapeCasts_S1408_S1x1408 (ix2 0 n) (ix1 n) (by rw [Shape.rowMajor_val_one, Shape.rowMajor_val_two]; show n.val = 0 * 1408 + n.val; omega)]
  refine Eq.trans (Ideal.multiReduction_add_single _ _ _ _ _ _) ?_
  refine Finset.sum_congr rfl fun k _ => congrArg x ?_
  funext a; exact Fin.ext (by rw [Shape.Reduces.lift_val]; fin_cases a <;> rfl)

theorem lseV_apply : lseV d (ix2 0 n) = lse (sideK d n) := by
  show Ideal.log (sum17 (exp (subf (sideV d) (ar17 (top17 d)))) _) + top17 d _ = _
  rw [sum17_apply, top17_apply]
  have e : ∀ k : Fin 17, (exp (subf (sideV d) (ar17 (top17 d))) : FVec Ideal S17x1408 .f32) (ix2 k n)
      = Ideal.exp (sideK d n k - ⨆ j, sideK d n j) := fun k => by
    show Ideal.exp (sideV d _ - ar17 (top17 d) _) = _
    rw [sideV_apply, ar17_apply, top17_apply]
  simp only [e]
  rfl

theorem tgtV_apply (u v : FVec Ideal S1x1408 .f32) : tgtV u v (ix2 0 n) = tgt (u (ix2 0 n) - v (ix2 0 n)) := by
  show min _ (max (Ideal.ofBits .f32 0x00000000#32) _) = _
  rw [Ideal.ofBits_zero_f32]
  rfl

theorem selV_apply : selV d f (ix2 0 n) = sel (sideK d n) (f (ix2 0 n)) := by
  unfold selV
  rw [sum17_apply, sel]
  refine Finset.sum_congr rfl fun k _ => ?_
  have e2 : (sitofp .f32 (iota .tc S17x1408 32 [0] iota_S17x1408_d0_w32) : FVec Ideal S17x1408 .f32) (ix2 k n) = ((k.val : ℝ) : EReal) := by
    show (FloatOps.sitofp (F := Ideal) .f32 (iota .tc S17x1408 32 [0] iota_S17x1408_d0_w32 (ix2 k n)) : EReal) = _
    rw [iota_single_apply]
    show (((BitVec.ofNat 32 k.val).toInt : ℝ) : EReal) = _
    have : (BitVec.ofNat 32 k.val).toInt = (k.val : ℤ) := by
      have := k.isLt
      rw [BitVec.toInt_eq_toNat_of_lt (by rw [BitVec.toNat_ofNat]; omega), BitVec.toNat_ofNat]; omega
    rw [this]; simp
  show sideV d _ * max (Ideal.ofBits .f32 0x3F800000#32 - absE ((sitofp .f32 (iota .tc S17x1408 32 [0] iota_S17x1408_d0_w32) : FVec Ideal S17x1408 .f32) (ix2 k n)
    - ar17 f _)) (Ideal.ofBits .f32 0x00000000#32) = _
  rw [sideV_apply, ar17_apply, e2, Ideal.ofBits_zero_f32, ofBits_one]

include h0 h1 h2 h3 in
theorem dflV_apply : dflV f b d0 d1 d2 d3 q0 q1 q2 q3 (ix2 0 n)
    = focal ![sideK d0 n, sideK d1 n, sideK d2 n, sideK d3 n] (side (ptK b n) q) * f (ix2 0 n) := by
  show (Ideal.ofBits .f32 0x00000000#32 + lseV d0 _ - selV d0 (tgtV (row4 b) q0) _ + lseV d1 _ - selV d1 (tgtV (row5 b) q1) _
    + lseV d2 _ - selV d2 (tgtV q2 (row4 b)) _ + lseV d3 _ - selV d3 (tgtV q3 (row5 b)) _) * Ideal.ofBits .f32 0x3E800000#32 * f _ = _
  rw [Ideal.ofBits_zero_f32, zero_add]
  simp only [lseV_apply, selV_apply, tgtV_apply, row4_apply, row5_apply, h0, h1, h2, h3]
  rfl

end Cert.Tal

end
-- ==== Proof.Words3.lean ====
/- The words of the body's run that hold the best boxes and the two losses of the boxes, read as the steps of Vocab2. -/
module

public import proofs.«01_k».proof.Proof.Vocab2
public import proofs.«01_k».proof.Proof.Words2

@[expose] public section

set_option maxRecDepth 16384

noncomputable section

namespace Cert.Tal

open Cert.KernelIdeal Cert.KernelIdeal.Gen Idealize.ShloMosaic Idealize.ShloMosaic.TcCoe

variable {F : FTy → Type} [FloatOps F]

variable (c : Dev nD)
variable (arg1 : Memref sig .tc .vmem S1x80x8448 .f32) (harg1 : arg1.IsWhole)
variable (arg2 : Memref sig .tc .vmem S1x6x8448 .f32) (harg2 : arg2.IsWhole)
variable (arg3 : Memref sig .tc .vmem S1x4x17x8448 .f32) (harg3 : arg3.IsWhole)
variable (arg4 : Memref sig .tc .vmem S1x50x4 .f32) (harg4 : arg4.IsWhole)
variable (arg5 : Memref sig .tc .vmem S1x4x50 .f32) (harg5 : arg5.IsWhole)
variable (arg6 : Memref sig .tc .vmem S1x50x1 .f32) (harg6 : arg6.IsWhole)
variable (arg7 : Memref sig .tc .vmem S1x1x50 .f32) (harg7 : arg7.IsWhole)
variable (arg8 : Memref sig .tc .vmem S1x50x1 .f32) (harg8 : arg8.IsWhole)
variable (arg9 : Memref sig .tc .vmem S1x1x1 .f32) (harg9 : arg9.IsWhole)
variable (arg10 : Memref sig .tc .vmem S1x1x1 .f32) (harg10 : arg10.IsWhole)
variable (arg11 : Memref sig .tc .vmem S1x1x1 .f32) (harg11 : arg11.IsWhole)
variable (arg12 : Memref sig .tc .vmem S1x1x1 .f32) (harg12 : arg12.IsWhole)
variable (arg13 : Memref sig .tc .vmem S1x1x1 .f32) (harg13 : arg13.IsWhole)
variable (arg14 : Memref sig .tc .vmem S50x8448 .f32) (harg14 : arg14.IsWhole)
variable (arg15 : Memref sig .tc .vmem S50x8448 .f32) (harg15 : arg15.IsWhole)
variable (x0 : Vec F S1x80x8448 .f32) (x1 : Vec F S1x6x8448 .f32) (x2 : Vec F S1x4x17x8448 .f32) (x3 : Vec F S1x50x4 .f32) (x4 : Vec F S1x4x50 .f32) (x5 : Vec F S1x50x1 .f32) (x6 : Vec F S1x1x50 .f32) (x7 : Vec F S1x50x1 .f32)

theorem rd17 (s : Fin 4) (o : ℕ) (h : o + 1408 ≤ 8448)
    (inb : ∀ a, (![0, s.val, 0, o] : Fin 4 → ℕ) a + S1x1x17x1408.size a ≤ S1x4x17x8448.size a) :
    View.readAt (Elt F) arg3.view (Rect.unit (s := S1x4x17x8448) ![0, s.val, 0, o] S1x1x17x1408.size inb).toLoadRect (harg3.unread x2)
      = cut17 x2 s o h := by
  rw [View.readAt_eq_ld, harg3.read_unread]
  funext y
  unfold cut17
  refine congrArg x2 (funext fun a => Fin.ext ?_)
  fin_cases a
  · have : (y 0).val < 1 := (y 0).isLt
    show 0 + 1 * (y 0).val = 0; omega
  · have : (y 1).val < 1 := (y 1).isLt
    show s.val + 1 * (y 1).val = s.val; omega
  · show 0 + 1 * (y 2).val = (y 2).val; omega
  · show o + 1 * (y 3).val = o + (y 3).val; omega

theorem w_r : (kernelRun0_A.sl.r (F := F) c arg5 harg5 x4) = shapeCast S4x50 x4 shapeCasts_S1x4x50_S4x50 := by
  unfold kernelRun0_A.sl.r k0_pay5
  rw [rdGT arg5 harg5 x4]

theorem w_r_120 : (kernelRun0_A.sl.r_120 (F := F) c arg1 harg1 arg2 harg2 arg4 harg4 arg5 harg5 arg6 harg6 arg8 harg8 arg14 x0 x1 x3 x4 x5 x7) = best0 x4 (thrC x0 x1 x3 x5 x7 13) (metC x0 x1 x3 x5 x7 0 (by decide)) := by
  unfold best0 bestBox
  rw [← w_r c arg5 harg5 x4, ← thr_last c arg1 harg1 arg2 harg2 arg4 harg4 arg6 harg6 arg8 harg8 arg14 x0 x1 x3 x5 x7, metC, ← w_v463 c arg1 harg1 arg2 harg2 arg4 harg4 arg6 harg6 arg8 harg8 arg14 x0 x1 x3 x5 x7]
  rfl

theorem w_r_121 : (kernelRun0_A.sl.r_121 (F := F) c arg1 harg1 arg2 harg2 arg4 harg4 arg5 harg5 arg6 harg6 arg8 harg8 arg14 x0 x1 x3 x4 x5 x7) = best1 x4 (thrC x0 x1 x3 x5 x7 13) (metC x0 x1 x3 x5 x7 0 (by decide)) := by
  unfold best1 bestBox
  rw [← w_r c arg5 harg5 x4, ← thr_last c arg1 harg1 arg2 harg2 arg4 harg4 arg6 harg6 arg8 harg8 arg14 x0 x1 x3 x5 x7, metC, ← w_v463 c arg1 harg1 arg2 harg2 arg4 harg4 arg6 harg6 arg8 harg8 arg14 x0 x1 x3 x5 x7]
  rfl

theorem w_r_122 : (kernelRun0_A.sl.r_122 (F := F) c arg1 harg1 arg2 harg2 arg4 harg4 arg5 harg5 arg6 harg6 arg8 harg8 arg14 x0 x1 x3 x4 x5 x7) = best2 x4 (thrC x0 x1 x3 x5 x7 13) (metC x0 x1 x3 x5 x7 0 (by decide)) := by
  unfold best2 bestBox
  rw [← w_r c arg5 harg5 x4, ← thr_last c arg1 harg1 arg2 harg2 arg4 harg4 arg6 harg6 arg8 harg8 arg14 x0 x1 x3 x5 x7, metC, ← w_v463 c arg1 harg1 arg2 harg2 arg4 harg4 arg6 harg6 arg8 harg8 arg14 x0 x1 x3 x5 x7]
  rfl

theorem w_r_123 : (kernelRun0_A.sl.r_123 (F := F) c arg1 harg1 arg2 harg2 arg4 harg4 arg5 harg5 arg6 harg6 arg8 harg8 arg14 x0 x1 x3 x4 x5 x7) = best3 x4 (thrC x0 x1 x3 x5 x7 13) (metC x0 x1 x3 x5 x7 0 (by decide)) := by
  unfold best3 bestBox
  rw [← w_r c arg5 harg5 x4, ← thr_last c arg1 harg1 arg2 harg2 arg4 harg4 arg6 harg6 arg8 harg8 arg14 x0 x1 x3 x5 x7, metC, ← w_v463 c arg1 harg1 arg2 harg2 arg4 harg4 arg6 harg6 arg8 harg8 arg14 x0 x1 x3 x5 x7]
  rfl

theorem w_r_148 : (kernelRun0_A.sl.r_148 (F := F) c arg1 harg1 arg2 harg2 arg4 harg4 arg5 harg5 arg6 harg6 arg8 harg8 arg14 x0 x1 x3 x4 x5 x7) = best0 x4 (thrC x0 x1 x3 x5 x7 13) (metC x0 x1 x3 x5 x7 1408 (by decide)) := by
  unfold best0 bestBox
  rw [← w_r c arg5 harg5 x4, ← thr_last c arg1 harg1 arg2 harg2 arg4 harg4 arg6 harg6 arg8 harg8 arg14 x0 x1 x3 x5 x7, metC, ← w_v471 c arg1 harg1 arg2 harg2 arg4 harg4 arg6 harg6 arg8 harg8 arg14 x0 x1 x3 x5 x7]
  rfl

theorem w_r_149 : (kernelRun0_A.sl.r_149 (F := F) c arg1 harg1 arg2 harg2 arg4 harg4 arg5 harg5 arg6 harg6 arg8 harg8 arg14 x0 x1 x3 x4 x5 x7) = best1 x4 (thrC x0 x1 x3 x5 x7 13) (metC x0 x1 x3 x5 x7 1408 (by decide)) := by
  unfold best1 bestBox
  rw [← w_r c arg5 harg5 x4, ← thr_last c arg1 harg1 arg2 harg2 arg4 harg4 arg6 harg6 arg8 harg8 arg14 x0 x1 x3 x5 x7, metC, ← w_v471 c arg1 harg1 arg2 harg2 arg4 harg4 arg6 harg6 arg8 harg8 arg14 x0 x1 x3 x5 x7]
  rfl

theorem w_r_150 : (kernelRun0_A.sl.r_150 (F := F) c arg1 harg1 arg2 harg2 arg4 harg4 arg5 harg5 arg6 harg6 arg8 harg8 arg14 x0 x1 x3 x4 x5 x7) = best2 x4 (thrC x0 x1 x3 x5 x7 13) (metC x0 x1 x3 x5 x7 1408 (by decide)) := by
  unfold best2 bestBox
  rw [← w_r c arg5 harg5 x4, ← thr_last c arg1 harg1 arg2 harg2 arg4 harg4 arg6 harg6 arg8 harg8 arg14 x0 x1 x3 x5 x7, metC, ← w_v471 c arg1 harg1 arg2 harg2 arg4 harg4 arg6 harg6 arg8 harg8 arg14 x0 x1 x3 x5 x7]
  rfl

theorem w_r_151 : (kernelRun0_A.sl.r_151 (F := F) c arg1 harg1 arg2 harg2 arg4 harg4 arg5 harg5 arg6 harg6 arg8 harg8 arg14 x0 x1 x3 x4 x5 x7) = best3 x4 (thrC x0 x1 x3 x5 x7 13) (metC x0 x1 x3 x5 x7 1408 (by decide)) := by
  unfold best3 bestBox
  rw [← w_r c arg5 harg5 x4, ← thr_last c arg1 harg1 arg2 harg2 arg4 harg4 arg6 harg6 arg8 harg8 arg14 x0 x1 x3 x5 x7, metC, ← w_v471 c arg1 harg1 arg2 harg2 arg4 harg4 arg6 harg6 arg8 harg8 arg14 x0 x1 x3 x5 x7]
  rfl

theorem w_r_184 : (kernelRun0_A.sl.r_184 (F := F) c arg1 harg1 arg2 harg2 arg4 harg4 arg5 harg5 arg6 harg6 arg8 harg8 arg14 x0 x1 x3 x4 x5 x7) = best0 x4 (thrC x0 x1 x3 x5 x7 13) (metC x0 x1 x3 x5 x7 2816 (by decide)) := by
  unfold best0 bestBox
  rw [← w_r c arg5 harg5 x4, ← thr_last c arg1 harg1 arg2 harg2 arg4 harg4 arg6 harg6 arg8 harg8 arg14 x0 x1 x3 x5 x7, metC, ← w_v479 c arg1 harg1 arg2 harg2 arg4 harg4 arg6 harg6 arg8 harg8 arg14 x0 x1 x3 x5 x7]
  rfl

theorem w_r_185 : (kernelRun0_A.sl.r_185 (F := F) c arg1 harg1 arg2 harg2 arg4 harg4 arg5 harg5 arg6 harg6 arg8 harg8 arg14 x0 x1 x3 x4 x5 x7) = best1 x4 (thrC x0 x1 x3 x5 x7 13) (metC x0 x1 x3 x5 x7 2816 (by decide)) := by
  unfold best1 bestBox
  rw [← w_r c arg5 harg5 x4, ← thr_last c arg1 harg1 arg2 harg2 arg4 harg4 arg6 harg6 arg8 harg8 arg14 x0 x1 x3 x5 x7, metC, ← w_v479 c arg1 harg1 arg2 harg2 arg4 harg4 arg6 harg6 arg8 harg8 arg14 x0 x1 x3 x5 x7]
  rfl

theorem w_r_186 : (kernelRun0_A.sl.r_186 (F := F) c arg1 harg1 arg2 harg2 arg4 harg4 arg5 harg5 arg6 harg6 arg8 harg8 arg14 x0 x1 x3 x4 x5 x7) = best2 x4 (thrC x0 x1 x3 x5 x7 13) (metC x0 x1 x3 x5 x7 2816 (by decide)) := by
  unfold best2 bestBox
  rw [← w_r c arg5 harg5 x4, ← thr_last c arg1 harg1 arg2 harg2 arg4 harg4 arg6 harg6 arg8 harg8 arg14 x0 x1 x3 x5 x7, metC, ← w_v479 c arg1 harg1 arg2 harg2 arg4 harg4 arg6 harg6 arg8 harg8 arg14 x0 x1 x3 x5 x7]
  rfl

theorem w_r_187 : (kernelRun0_A.sl.r_187 (F := F) c arg1 harg1 arg2 harg2 arg4 harg4 arg5 harg5 arg6 harg6 arg8 harg8 arg14 x0 x1 x3 x4 x5 x7) = best3 x4 (thrC x0 x1 x3 x5 x7 13) (metC x0 x1 x3 x5 x7 2816 (by decide)) := by
  unfold best3 bestBox
  rw [← w_r c arg5 harg5 x4, ← thr_last c arg1 harg1 arg2 harg2 arg4 harg4 arg6 harg6 arg8 harg8 arg14 x0 x1 x3 x5 x7, metC, ← w_v479 c arg1 harg1 arg2 harg2 arg4 harg4 arg6 harg6 arg8 harg8 arg14 x0 x1 x3 x5 x7]
  rfl

theorem w_r_220 : (kernelRun0_A.sl.r_220 (F := F) c arg1 harg1 arg2 harg2 arg4 harg4 arg5 harg5 arg6 harg6 arg8 harg8 arg14 x0 x1 x3 x4 x5 x7) = best0 x4 (thrC x0 x1 x3 x5 x7 13) (metC x0 x1 x3 x5 x7 4224 (by decide)) := by
  unfold best0 bestBox
  rw [← w_r c arg5 harg5 x4, ← thr_last c arg1 harg1 arg2 harg2 arg4 harg4 arg6 harg6 arg8 harg8 arg14 x0 x1 x3 x5 x7, metC, ← w_v487 c arg1 harg1 arg2 harg2 arg4 harg4 arg6 harg6 arg8 harg8 arg14 x0 x1 x3 x5 x7]
  rfl

theorem w_r_221 : (kernelRun0_A.sl.r_221 (F := F) c arg1 harg1 arg2 harg2 arg4 harg4 arg5 harg5 arg6 harg6 arg8 harg8 arg14 x0 x1 x3 x4 x5 x7) = best1 x4 (thrC x0 x1 x3 x5 x7 13) (metC x0 x1 x3 x5 x7 4224 (by decide)) := by
  unfold best1 bestBox
  rw [← w_r c arg5 harg5 x4, ← thr_last c arg1 harg1 arg2 harg2 arg4 harg4 arg6 harg6 arg8 harg8 arg14 x0 x1 x3 x5 x7, metC, ← w_v487 c arg1 harg1 arg2 harg2 arg4 harg4 arg6 harg6 arg8 harg8 arg14 x0 x1 x3 x5 x7]
  rfl

theorem w_r_222 : (kernelRun0_A.sl.r_222 (F := F) c arg1 harg1 arg2 harg2 arg4 harg4 arg5 harg5 arg6 harg6 arg8 harg8 arg14 x0 x1 x3 x4 x5 x7) = best2 x4 (thrC x0 x1 x3 x5 x7 13) (metC x0 x1 x3 x5 x7 4224 (by decide)) := by
  unfold best2 bestBox
  rw [← w_r c arg5 harg5 x4, ← thr_last c arg1 harg1 arg2 harg2 arg4 harg4 arg6 harg6 arg8 harg8 arg14 x0 x1 x3 x5 x7, metC, ← w_v487 c arg1 harg1 arg2 harg2 arg4 harg4 arg6 harg6 arg8 harg8 arg14 x0 x1 x3 x5 x7]
  rfl

theorem w_r_223 : (kernelRun0_A.sl.r_223 (F := F) c arg1 harg1 arg2 harg2 arg4 harg4 arg5 harg5 arg6 harg6 arg8 harg8 arg14 x0 x1 x3 x4 x5 x7) = best3 x4 (thrC x0 x1 x3 x5 x7 13) (metC x0 x1 x3 x5 x7 4224 (by decide)) := by
  unfold best3 bestBox
  rw [← w_r c arg5 harg5 x4, ← thr_last c arg1 harg1 arg2 harg2 arg4 harg4 arg6 harg6 arg8 harg8 arg14 x0 x1 x3 x5 x7, metC, ← w_v487 c arg1 harg1 arg2 harg2 arg4 harg4 arg6 harg6 arg8 harg8 arg14 x0 x1 x3 x5 x7]
  rfl

theorem w_r_251 : (kernelRun0_A.sl.r_251 (F := F) c arg1 harg1 arg2 harg2 arg4 harg4 arg5 harg5 arg6 harg6 arg8 harg8 arg14 x0 x1 x3 x4 x5 x7) = best0 x4 (thrC x0 x1 x3 x5 x7 13) (metC x0 x1 x3 x5 x7 5632 (by decide)) := by
  unfold best0 bestBox
  rw [← w_r c arg5 harg5 x4, ← thr_last c arg1 harg1 arg2 harg2 arg4 harg4 arg6 harg6 arg8 harg8 arg14 x0 x1 x3 x5 x7, metC, ← w_v495 c arg1 harg1 arg2 harg2 arg4 harg4 arg6 harg6 arg8 harg8 arg14 x0 x1 x3 x5 x7]
  rfl

theorem w_r_252 : (kernelRun0_A.sl.r_252 (F := F) c arg1 harg1 arg2 harg2 arg4 harg4 arg5 harg5 arg6 harg6 arg8 harg8 arg14 x0 x1 x3 x4 x5 x7) = best1 x4 (thrC x0 x1 x3 x5 x7 13) (metC x0 x1 x3 x5 x7 5632 (by decide)) := by
  unfold best1 bestBox
  rw [← w_r c arg5 harg5 x4, ← thr_last c arg1 harg1 arg2 harg2 arg4 harg4 arg6 harg6 arg8 harg8 arg14 x0 x1 x3 x5 x7, metC, ← w_v495 c arg1 harg1 arg2 harg2 arg4 harg4 arg6 harg6 arg8 harg8 arg14 x0 x1 x3 x5 x7]
  rfl

theorem w_r_253 : (kernelRun0_A.sl.r_253 (F := F) c arg1 harg1 arg2 harg2 arg4 harg4 arg5 harg5 arg6 harg6 arg8 harg8 arg14 x0 x1 x3 x4 x5 x7) = best2 x4 (thrC x0 x1 x3 x5 x7 13) (metC x0 x1 x3 x5 x7 5632 (by decide)) := by
  unfold best2 bestBox
  rw [← w_r c arg5 harg5 x4, ← thr_last c arg1 harg1 arg2 harg2 arg4 harg4 arg6 harg6 arg8 harg8 arg14 x0 x1 x3 x5 x7, metC, ← w_v495 c arg1 harg1 arg2 harg2 arg4 harg4 arg6 harg6 arg8 harg8 arg14 x0 x1 x3 x5 x7]
  rfl

theorem w_r_254 : (kernelRun0_A.sl.r_254 (F := F) c arg1 harg1 arg2 harg2 arg4 harg4 arg5 harg5 arg6 harg6 arg8 harg8 arg14 x0 x1 x3 x4 x5 x7) = best3 x4 (thrC x0 x1 x3 x5 x7 13) (metC x0 x1 x3 x5 x7 5632 (by decide)) := by
  unfold best3 bestBox
  rw [← w_r c arg5 harg5 x4, ← thr_last c arg1 harg1 arg2 harg2 arg4 harg4 arg6 harg6 arg8 harg8 arg14 x0 x1 x3 x5 x7, metC, ← w_v495 c arg1 harg1 arg2 harg2 arg4 harg4 arg6 harg6 arg8 harg8 arg14 x0 x1 x3 x5 x7]
  rfl

theorem w_r_291 : (kernelRun0_A.sl.r_291 (F := F) c arg1 harg1 arg2 harg2 arg4 harg4 arg5 harg5 arg6 harg6 arg8 harg8 arg14 x0 x1 x3 x4 x5 x7) = best0 x4 (thrC x0 x1 x3 x5 x7 13) (metC x0 x1 x3 x5 x7 7040 (by decide)) := by
  unfold best0 bestBox
  rw [← w_r c arg5 harg5 x4, ← thr_last c arg1 harg1 arg2 harg2 arg4 harg4 arg6 harg6 arg8 harg8 arg14 x0 x1 x3 x5 x7, metC, ← w_v503 c arg1 harg1 arg2 harg2 arg4 harg4 arg6 harg6 arg8 harg8 arg14 x0 x1 x3 x5 x7]
  rfl

theorem w_r_292 : (kernelRun0_A.sl.r_292 (F := F) c arg1 harg1 arg2 harg2 arg4 harg4 arg5 harg5 arg6 harg6 arg8 harg8 arg14 x0 x1 x3 x4 x5 x7) = best1 x4 (thrC x0 x1 x3 x5 x7 13) (metC x0 x1 x3 x5 x7 7040 (by decide)) := by
  unfold best1 bestBox
  rw [← w_r c arg5 harg5 x4, ← thr_last c arg1 harg1 arg2 harg2 arg4 harg4 arg6 harg6 arg8 harg8 arg14 x0 x1 x3 x5 x7, metC, ← w_v503 c arg1 harg1 arg2 harg2 arg4 harg4 arg6 harg6 arg8 harg8 arg14 x0 x1 x3 x5 x7]
  rfl

theorem w_r_293 : (kernelRun0_A.sl.r_293 (F := F) c arg1 harg1 arg2 harg2 arg4 harg4 arg5 harg5 arg6 harg6 arg8 harg8 arg14 x0 x1 x3 x4 x5 x7) = best2 x4 (thrC x0 x1 x3 x5 x7 13) (metC x0 x1 x3 x5 x7 7040 (by decide)) := by
  unfold best2 bestBox
  rw [← w_r c arg5 harg5 x4, ← thr_last c arg1 harg1 arg2 harg2 arg4 harg4 arg6 harg6 arg8 harg8 arg14 x0 x1 x3 x5 x7, metC, ← w_v503 c arg1 harg1 arg2 harg2 arg4 harg4 arg6 harg6 arg8 harg8 arg14 x0 x1 x3 x5 x7]
  rfl

theorem w_r_294 : (kernelRun0_A.sl.r_294 (F := F) c arg1 harg1 arg2 harg2 arg4 harg4 arg5 harg5 arg6 harg6 arg8 harg8 arg14 x0 x1 x3 x4 x5 x7) = best3 x4 (thrC x0 x1 x3 x5 x7 13) (metC x0 x1 x3 x5 x7 7040 (by decide)) := by
  unfold best3 bestBox
  rw [← w_r c arg5 harg5 x4, ← thr_last c arg1 harg1 arg2 harg2 arg4 harg4 arg6 harg6 arg8 harg8 arg14 x0 x1 x3 x5 x7, metC, ← w_v503 c arg1 harg1 arg2 harg2 arg4 harg4 arg6 harg6 arg8 harg8 arg14 x0 x1 x3 x5 x7]
  rfl

theorem w_r_133 : (kernelRun0_A.sl.r_133 (F := F) c arg1 harg1 arg2 harg2 arg4 harg4 arg5 harg5 arg6 harg6 arg8 harg8 arg14 x0 x1 x3 x4 x5 x7) = addf (lit S1x1408 0x00000000#32) (giouV (fgV (thrC x0 x1 x3 x5 x7 13) (metC x0 x1 x3 x5 x7 0 (by decide))) (cut6 x1 0 (by decide)) (best0 x4 (thrC x0 x1 x3 x5 x7 13) (metC x0 x1 x3 x5 x7 0 (by decide))) (best1 x4 (thrC x0 x1 x3 x5 x7 13) (metC x0 x1 x3 x5 x7 0 (by decide))) (best2 x4 (thrC x0 x1 x3 x5 x7 13) (metC x0 x1 x3 x5 x7 0 (by decide))) (best3 x4 (thrC x0 x1 x3 x5 x7 13) (metC x0 x1 x3 x5 x7 0 (by decide)))) := by
  rw [← w_r_118 c arg1 harg1 arg2 harg2 arg4 harg4 arg6 harg6 arg8 harg8 arg14 x0 x1 x3 x5 x7, ← w_r_120 c arg1 harg1 arg2 harg2 arg4 harg4 arg5 harg5 arg6 harg6 arg8 harg8 arg14 x0 x1 x3 x4 x5 x7, ← w_r_121 c arg1 harg1 arg2 harg2 arg4 harg4 arg5 harg5 arg6 harg6 arg8 harg8 arg14 x0 x1 x3 x4 x5 x7, ← w_r_122 c arg1 harg1 arg2 harg2 arg4 harg4 arg5 harg5 arg6 harg6 arg8 harg8 arg14 x0 x1 x3 x4 x5 x7, ← w_r_123 c arg1 harg1 arg2 harg2 arg4 harg4 arg5 harg5 arg6 harg6 arg8 harg8 arg14 x0 x1 x3 x4 x5 x7, ← rd6 arg2 harg2 x1 0 (by decide) inb_S1x6x8448_S1x6x1408_0_0_0]
  rfl

theorem w_r_168 : (kernelRun0_A.sl.r_168 (F := F) c arg1 harg1 arg2 harg2 arg4 harg4 arg5 harg5 arg6 harg6 arg8 harg8 arg14 x0 x1 x3 x4 x5 x7) = addf (kernelRun0_A.sl.r_133 (F := F) c arg1 harg1 arg2 harg2 arg4 harg4 arg5 harg5 arg6 harg6 arg8 harg8 arg14 x0 x1 x3 x4 x5 x7) (giouV (fgV (thrC x0 x1 x3 x5 x7 13) (metC x0 x1 x3 x5 x7 1408 (by decide))) (cut6 x1 1408 (by decide)) (best0 x4 (thrC x0 x1 x3 x5 x7 13) (metC x0 x1 x3 x5 x7 1408 (by decide))) (best1 x4 (thrC x0 x1 x3 x5 x7 13) (metC x0 x1 x3 x5 x7 1408 (by decide))) (best2 x4 (thrC x0 x1 x3 x5 x7 13) (metC x0 x1 x3 x5 x7 1408 (by decide))) (best3 x4 (thrC x0 x1 x3 x5 x7 13) (metC x0 x1 x3 x5 x7 1408 (by decide)))) := by
  rw [← w_r_147 c arg1 harg1 arg2 harg2 arg4 harg4 arg6 harg6 arg8 harg8 arg14 x0 x1 x3 x5 x7, ← w_r_148 c arg1 harg1 arg2 harg2 arg4 harg4 arg5 harg5 arg6 harg6 arg8 harg8 arg14 x0 x1 x3 x4 x5 x7, ← w_r_149 c arg1 harg1 arg2 harg2 arg4 harg4 arg5 harg5 arg6 harg6 arg8 harg8 arg14 x0 x1 x3 x4 x5 x7, ← w_r_150 c arg1 harg1 arg2 harg2 arg4 harg4 arg5 harg5 arg6 harg6 arg8 harg8 arg14 x0 x1 x3 x4 x5 x7, ← w_r_151 c arg1 harg1 arg2 harg2 arg4 harg4 arg5 harg5 arg6 harg6 arg8 harg8 arg14 x0 x1 x3 x4 x5 x7, ← rd6 arg2 harg2 x1 1408 (by decide) inb_S1x6x8448_S1x6x1408_0_0_1408]
  rfl

theorem w_r_203 : (kernelRun0_A.sl.r_203 (F := F) c arg1 harg1 arg2 harg2 arg4 harg4 arg5 harg5 arg6 harg6 arg8 harg8 arg14 x0 x1 x3 x4 x5 x7) = addf (kernelRun0_A.sl.r_168 (F := F) c arg1 harg1 arg2 harg2 arg4 harg4 arg5 harg5 arg6 harg6 arg8 harg8 arg14 x0 x1 x3 x4 x5 x7) (giouV (fgV (thrC x0 x1 x3 x5 x7 13) (metC x0 x1 x3 x5 x7 2816 (by decide))) (cut6 x1 2816 (by decide)) (best0 x4 (thrC x0 x1 x3 x5 x7 13) (metC x0 x1 x3 x5 x7 2816 (by decide))) (best1 x4 (thrC x0 x1 x3 x5 x7 13) (metC x0 x1 x3 x5 x7 2816 (by decide))) (best2 x4 (thrC x0 x1 x3 x5 x7 13) (metC x0 x1 x3 x5 x7 2816 (by decide))) (best3 x4 (thrC x0 x1 x3 x5 x7 13) (metC x0 x1 x3 x5 x7 2816 (by decide)))) := by
  rw [← w_r_183 c arg1 harg1 arg2 harg2 arg4 harg4 arg6 harg6 arg8 harg8 arg14 x0 x1 x3 x5 x7, ← w_r_184 c arg1 harg1 arg2 harg2 arg4 harg4 arg5 harg5 arg6 harg6 arg8 harg8 arg14 x0 x1 x3 x4 x5 x7, ← w_r_185 c arg1 harg1 arg2 harg2 arg4 harg4 arg5 harg5 arg6 harg6 arg8 harg8 arg14 x0 x1 x3 x4 x5 x7, ← w_r_186 c arg1 harg1 arg2 harg2 arg4 harg4 arg5 harg5 arg6 harg6 arg8 harg8 arg14 x0 x1 x3 x4 x5 x7, ← w_r_187 c arg1 harg1 arg2 harg2 arg4 harg4 arg5 harg5 arg6 harg6 arg8 harg8 arg14 x0 x1 x3 x4 x5 x7, ← rd6 arg2 harg2 x1 2816 (by decide) inb_S1x6x8448_S1x6x1408_0_0_2816]
  rfl

theorem w_r_237 : (kernelRun0_A.sl.r_237 (F := F) c arg1 harg1 arg2 harg2 arg4 harg4 arg5 harg5 arg6 harg6 arg8 harg8 arg14 x0 x1 x3 x4 x5 x7) = addf (kernelRun0_A.sl.r_203 (F := F) c arg1 harg1 arg2 harg2 arg4 harg4 arg5 harg5 arg6 harg6 arg8 harg8 arg14 x0 x1 x3 x4 x5 x7) (giouV (fgV (thrC x0 x1 x3 x5 x7 13) (metC x0 x1 x3 x5 x7 4224 (by decide))) (cut6 x1 4224 (by decide)) (best0 x4 (thrC x0 x1 x3 x5 x7 13) (metC x0 x1 x3 x5 x7 4224 (by decide))) (best1 x4 (thrC x0 x1 x3 x5 x7 13) (metC x0 x1 x3 x5 x7 4224 (by decide))) (best2 x4 (thrC x0 x1 x3 x5 x7 13) (metC x0 x1 x3 x5 x7 4224 (by decide))) (best3 x4 (thrC x0 x1 x3 x5 x7 13) (metC x0 x1 x3 x5 x7 4224 (by decide)))) := by
  rw [← w_r_218 c arg1 harg1 arg2 harg2 arg4 harg4 arg6 harg6 arg8 harg8 arg14 x0 x1 x3 x5 x7, ← w_r_220 c arg1 harg1 arg2 harg2 arg4 harg4 arg5 harg5 arg6 harg6 arg8 harg8 arg14 x0 x1 x3 x4 x5 x7, ← w_r_221 c arg1 harg1 arg2 harg2 arg4 harg4 arg5 harg5 arg6 harg6 arg8 harg8 arg14 x0 x1 x3 x4 x5 x7, ← w_r_222 c arg1 harg1 arg2 harg2 arg4 harg4 arg5 harg5 arg6 harg6 arg8 harg8 arg14 x0 x1 x3 x4 x5 x7, ← w_r_223 c arg1 harg1 arg2 harg2 arg4 harg4 arg5 harg5 arg6 harg6 arg8 harg8 arg14 x0 x1 x3 x4 x5 x7, ← rd6 arg2 harg2 x1 4224 (by decide) inb_S1x6x8448_S1x6x1408_0_0_4224]
  rfl

theorem w_r_275 : (kernelRun0_A.sl.r_275 (F := F) c arg1 harg1 arg2 harg2 arg4 harg4 arg5 harg5 arg6 harg6 arg8 harg8 arg14 x0 x1 x3 x4 x5 x7) = addf (kernelRun0_A.sl.r_237 (F := F) c arg1 harg1 arg2 harg2 arg4 harg4 arg5 harg5 arg6 harg6 arg8 harg8 arg14 x0 x1 x3 x4 x5 x7) (giouV (fgV (thrC x0 x1 x3 x5 x7 13) (metC x0 x1 x3 x5 x7 5632 (by decide))) (cut6 x1 5632 (by decide)) (best0 x4 (thrC x0 x1 x3 x5 x7 13) (metC x0 x1 x3 x5 x7 5632 (by decide))) (best1 x4 (thrC x0 x1 x3 x5 x7 13) (metC x0 x1 x3 x5 x7 5632 (by decide))) (best2 x4 (thrC x0 x1 x3 x5 x7 13) (metC x0 x1 x3 x5 x7 5632 (by decide))) (best3 x4 (thrC x0 x1 x3 x5 x7 13) (metC x0 x1 x3 x5 x7 5632 (by decide)))) := by
  rw [← w_r_250 c arg1 harg1 arg2 harg2 arg4 harg4 arg6 harg6 arg8 harg8 arg14 x0 x1 x3 x5 x7, ← w_r_251 c arg1 harg1 arg2 harg2 arg4 harg4 arg5 harg5 arg6 harg6 arg8 harg8 arg14 x0 x1 x3 x4 x5 x7, ← w_r_252 c arg1 harg1 arg2 harg2 arg4 harg4 arg5 harg5 arg6 harg6 arg8 harg8 arg14 x0 x1 x3 x4 x5 x7, ← w_r_253 c arg1 harg1 arg2 harg2 arg4 harg4 arg5 harg5 arg6 harg6 arg8 harg8 arg14 x0 x1 x3 x4 x5 x7, ← w_r_254 c arg1 harg1 arg2 harg2 arg4 harg4 arg5 harg5 arg6 harg6 arg8 harg8 arg14 x0 x1 x3 x4 x5 x7, ← rd6 arg2 harg2 x1 5632 (by decide) inb_S1x6x8448_S1x6x1408_0_0_5632]
  rfl

theorem w_r_312 : (kernelRun0_A.sl.r_312 (F := F) c arg1 harg1 arg2 harg2 arg4 harg4 arg5 harg5 arg6 harg6 arg8 harg8 arg14 x0 x1 x3 x4 x5 x7) = addf (kernelRun0_A.sl.r_275 (F := F) c arg1 harg1 arg2 harg2 arg4 harg4 arg5 harg5 arg6 harg6 arg8 harg8 arg14 x0 x1 x3 x4 x5 x7) (giouV (fgV (thrC x0 x1 x3 x5 x7 13) (metC x0 x1 x3 x5 x7 7040 (by decide))) (cut6 x1 7040 (by decide)) (best0 x4 (thrC x0 x1 x3 x5 x7 13) (metC x0 x1 x3 x5 x7 7040 (by decide))) (best1 x4 (thrC x0 x1 x3 x5 x7 13) (metC x0 x1 x3 x5 x7 7040 (by decide))) (best2 x4 (thrC x0 x1 x3 x5 x7 13) (metC x0 x1 x3 x5 x7 7040 (by decide))) (best3 x4 (thrC x0 x1 x3 x5 x7 13) (metC x0 x1 x3 x5 x7 7040 (by decide)))) := by
  rw [← w_r_290 c arg1 harg1 arg2 harg2 arg4 harg4 arg6 harg6 arg8 harg8 arg14 x0 x1 x3 x5 x7, ← w_r_291 c arg1 harg1 arg2 harg2 arg4 harg4 arg5 harg5 arg6 harg6 arg8 harg8 arg14 x0 x1 x3 x4 x5 x7, ← w_r_292 c arg1 harg1 arg2 harg2 arg4 harg4 arg5 harg5 arg6 harg6 arg8 harg8 arg14 x0 x1 x3 x4 x5 x7, ← w_r_293 c arg1 harg1 arg2 harg2 arg4 harg4 arg5 harg5 arg6 harg6 arg8 harg8 arg14 x0 x1 x3 x4 x5 x7, ← w_r_294 c arg1 harg1 arg2 harg2 arg4 harg4 arg5 harg5 arg6 harg6 arg8 harg8 arg14 x0 x1 x3 x4 x5 x7, ← rd6 arg2 harg2 x1 7040 (by decide) inb_S1x6x8448_S1x6x1408_0_0_7040]
  rfl

theorem w_r_145 : (kernelRun0_A.sl.r_145 (F := F) c arg1 harg1 arg2 harg2 arg3 harg3 arg4 harg4 arg5 harg5 arg6 harg6 arg8 harg8 arg14 x0 x1 x2 x3 x4 x5 x7) = addf (lit S1x1408 0x00000000#32) (dflV (fgV (thrC x0 x1 x3 x5 x7 13) (metC x0 x1 x3 x5 x7 0 (by decide))) (cut6 x1 0 (by decide)) (cut17 x2 0 0 (by decide)) (cut17 x2 1 0 (by decide)) (cut17 x2 2 0 (by decide)) (cut17 x2 3 0 (by decide)) (best0 x4 (thrC x0 x1 x3 x5 x7 13) (metC x0 x1 x3 x5 x7 0 (by decide))) (best1 x4 (thrC x0 x1 x3 x5 x7 13) (metC x0 x1 x3 x5 x7 0 (by decide))) (best2 x4 (thrC x0 x1 x3 x5 x7 13) (metC x0 x1 x3 x5 x7 0 (by decide))) (best3 x4 (thrC x0 x1 x3 x5 x7 13) (metC x0 x1 x3 x5 x7 0 (by decide)))) := by
  rw [← w_r_118 c arg1 harg1 arg2 harg2 arg4 harg4 arg6 harg6 arg8 harg8 arg14 x0 x1 x3 x5 x7, ← w_r_120 c arg1 harg1 arg2 harg2 arg4 harg4 arg5 harg5 arg6 harg6 arg8 harg8 arg14 x0 x1 x3 x4 x5 x7, ← w_r_121 c arg1 harg1 arg2 harg2 arg4 harg4 arg5 harg5 arg6 harg6 arg8 harg8 arg14 x0 x1 x3 x4 x5 x7, ← w_r_122 c arg1 harg1 arg2 harg2 arg4 harg4 arg5 harg5 arg6 harg6 arg8 harg8 arg14 x0 x1 x3 x4 x5 x7, ← w_r_123 c arg1 harg1 arg2 harg2 arg4 harg4 arg5 harg5 arg6 harg6 arg8 harg8 arg14 x0 x1 x3 x4 x5 x7, ← rd6 arg2 harg2 x1 0 (by decide) inb_S1x6x8448_S1x6x1408_0_0_0, ← rd17 arg3 harg3 x2 0 0 (by decide) inb_S1x4x17x8448_S1x1x17x1408_0_0_0_0, ← rd17 arg3 harg3 x2 1 0 (by decide) inb_S1x4x17x8448_S1x1x17x1408_0_1_0_0, ← rd17 arg3 harg3 x2 2 0 (by decide) inb_S1x4x17x8448_S1x1x17x1408_0_2_0_0, ← rd17 arg3 harg3 x2 3 0 (by decide) inb_S1x4x17x8448_S1x1x17x1408_0_3_0_0]
  rfl

theorem w_r_182 : (kernelRun0_A.sl.r_182 (F := F) c arg1 harg1 arg2 harg2 arg3 harg3 arg4 harg4 arg5 harg5 arg6 harg6 arg8 harg8 arg14 x0 x1 x2 x3 x4 x5 x7) = addf (kernelRun0_A.sl.r_145 (F := F) c arg1 harg1 arg2 harg2 arg3 harg3 arg4 harg4 arg5 harg5 arg6 harg6 arg8 harg8 arg14 x0 x1 x2 x3 x4 x5 x7) (dflV (fgV (thrC x0 x1 x3 x5 x7 13) (metC x0 x1 x3 x5 x7 1408 (by decide))) (cut6 x1 1408 (by decide)) (cut17 x2 0 1408 (by decide)) (cut17 x2 1 1408 (by decide)) (cut17 x2 2 1408 (by decide)) (cut17 x2 3 1408 (by decide)) (best0 x4 (thrC x0 x1 x3 x5 x7 13) (metC x0 x1 x3 x5 x7 1408 (by decide))) (best1 x4 (thrC x0 x1 x3 x5 x7 13) (metC x0 x1 x3 x5 x7 1408 (by decide))) (best2 x4 (thrC x0 x1 x3 x5 x7 13) (metC x0 x1 x3 x5 x7 1408 (by decide))) (best3 x4 (thrC x0 x1 x3 x5 x7 13) (metC x0 x1 x3 x5 x7 1408 (by decide)))) := by
  rw [← w_r_147 c arg1 harg1 arg2 harg2 arg4 harg4 arg6 harg6 arg8 harg8 arg14 x0 x1 x3 x5 x7, ← w_r_148 c arg1 harg1 arg2 harg2 arg4 harg4 arg5 harg5 arg6 harg6 arg8 harg8 arg14 x0 x1 x3 x4 x5 x7, ← w_r_149 c arg1 harg1 arg2 harg2 arg4 harg4 arg5 harg5 arg6 harg6 arg8 harg8 arg14 x0 x1 x3 x4 x5 x7, ← w_r_150 c arg1 harg1 arg2 harg2 arg4 harg4 arg5 harg5 arg6 harg6 arg8 harg8 arg14 x0 x1 x3 x4 x5 x7, ← w_r_151 c arg1 harg1 arg2 harg2 arg4 harg4 arg5 harg5 arg6 harg6 arg8 harg8 arg14 x0 x1 x3 x4 x5 x7, ← rd6 arg2 harg2 x1 1408 (by decide) inb_S1x6x8448_S1x6x1408_0_0_1408, ← rd17 arg3 harg3 x2 0 1408 (by decide) inb_S1x4x17x8448_S1x1x17x1408_0_0_0_1408, ← rd17 arg3 harg3 x2 1 1408 (by decide) inb_S1x4x17x8448_S1x1x17x1408_0_1_0_1408, ← rd17 arg3 harg3 x2 2 1408 (by decide) inb_S1x4x17x8448_S1x1x17x1408_0_2_0_1408, ← rd17 arg3 harg3 x2 3 1408 (by decide) inb_S1x4x17x8448_S1x1x17x1408_0_3_0_1408]
  rfl

theorem w_r_216 : (kernelRun0_A.sl.r_216 (F := F) c arg1 harg1 arg2 harg2 arg3 harg3 arg4 harg4 arg5 harg5 arg6 harg6 arg8 harg8 arg14 x0 x1 x2 x3 x4 x5 x7) = addf (kernelRun0_A.sl.r_182 (F := F) c arg1 harg1 arg2 harg2 arg3 harg3 arg4 harg4 arg5 harg5 arg6 harg6 arg8 harg8 arg14 x0 x1 x2 x3 x4 x5 x7) (dflV (fgV (thrC x0 x1 x3 x5 x7 13) (metC x0 x1 x3 x5 x7 2816 (by decide))) (cut6 x1 2816 (by decide)) (cut17 x2 0 2816 (by decide)) (cut17 x2 1 2816 (by decide)) (cut17 x2 2 2816 (by decide)) (cut17 x2 3 2816 (by decide)) (best0 x4 (thrC x0 x1 x3 x5 x7 13) (metC x0 x1 x3 x5 x7 2816 (by decide))) (best1 x4 (thrC x0 x1 x3 x5 x7 13) (metC x0 x1 x3 x5 x7 2816 (by decide))) (best2 x4 (thrC x0 x1 x3 x5 x7 13) (metC x0 x1 x3 x5 x7 2816 (by decide))) (best3 x4 (thrC x0 x1 x3 x5 x7 13) (metC x0 x1 x3 x5 x7 2816 (by decide)))) := by
  rw [← w_r_183 c arg1 harg1 arg2 harg2 arg4 harg4 arg6 harg6 arg8 harg8 arg14 x0 x1 x3 x5 x7, ← w_r_184 c arg1 harg1 arg2 harg2 arg4 harg4 arg5 harg5 arg6 harg6 arg8 harg8 arg14 x0 x1 x3 x4 x5 x7, ← w_r_185 c arg1 harg1 arg2 harg2 arg4 harg4 arg5 harg5 arg6 harg6 arg8 harg8 arg14 x0 x1 x3 x4 x5 x7, ← w_r_186 c arg1 harg1 arg2 harg2 arg4 harg4 arg5 harg5 arg6 harg6 arg8 harg8 arg14 x0 x1 x3 x4 x5 x7, ← w_r_187 c arg1 harg1 arg2 harg2 arg4 harg4 arg5 harg5 arg6 harg6 arg8 harg8 arg14 x0 x1 x3 x4 x5 x7, ← rd6 arg2 harg2 x1 2816 (by decide) inb_S1x6x8448_S1x6x1408_0_0_2816, ← rd17 arg3 harg3 x2 0 2816 (by decide) inb_S1x4x17x8448_S1x1x17x1408_0_0_0_2816, ← rd17 arg3 harg3 x2 1 2816 (by decide) inb_S1x4x17x8448_S1x1x17x1408_0_1_0_2816, ← rd17 arg3 harg3 x2 2 2816 (by decide) inb_S1x4x17x8448_S1x1x17x1408_0_2_0_2816, ← rd17 arg3 harg3 x2 3 2816 (by decide) inb_S1x4x17x8448_S1x1x17x1408_0_3_0_2816]
  rfl

theorem w_r_248 : (kernelRun0_A.sl.r_248 (F := F) c arg1 harg1 arg2 harg2 arg3 harg3 arg4 harg4 arg5 harg5 arg6 harg6 arg8 harg8 arg14 x0 x1 x2 x3 x4 x5 x7) = addf (kernelRun0_A.sl.r_216 (F := F) c arg1 harg1 arg2 harg2 arg3 harg3 arg4 harg4 arg5 harg5 arg6 harg6 arg8 harg8 arg14 x0 x1 x2 x3 x4 x5 x7) (dflV (fgV (thrC x0 x1 x3 x5 x7 13) (metC x0 x1 x3 x5 x7 4224 (by decide))) (cut6 x1 4224 (by decide)) (cut17 x2 0 4224 (by decide)) (cut17 x2 1 4224 (by decide)) (cut17 x2 2 4224 (by decide)) (cut17 x2 3 4224 (by decide)) (best0 x4 (thrC x0 x1 x3 x5 x7 13) (metC x0 x1 x3 x5 x7 4224 (by decide))) (best1 x4 (thrC x0 x1 x3 x5 x7 13) (metC x0 x1 x3 x5 x7 4224 (by decide))) (best2 x4 (thrC x0 x1 x3 x5 x7 13) (metC x0 x1 x3 x5 x7 4224 (by decide))) (best3 x4 (thrC x0 x1 x3 x5 x7 13) (metC x0 x1 x3 x5 x7 4224 (by decide)))) := by
  rw [← w_r_218 c arg1 harg1 arg2 harg2 arg4 harg4 arg6 harg6 arg8 harg8 arg14 x0 x1 x3 x5 x7, ← w_r_220 c arg1 harg1 arg2 harg2 arg4 harg4 arg5 harg5 arg6 harg6 arg8 harg8 arg14 x0 x1 x3 x4 x5 x7, ← w_r_221 c arg1 harg1 arg2 harg2 arg4 harg4 arg5 harg5 arg6 harg6 arg8 harg8 arg14 x0 x1 x3 x4 x5 x7, ← w_r_222 c arg1 harg1 arg2 harg2 arg4 harg4 arg5 harg5 arg6 harg6 arg8 harg8 arg14 x0 x1 x3 x4 x5 x7, ← w_r_223 c arg1 harg1 arg2 harg2 arg4 harg4 arg5 harg5 arg6 harg6 arg8 harg8 arg14 x0 x1 x3 x4 x5 x7, ← rd6 arg2 harg2 x1 4224 (by decide) inb_S1x6x8448_S1x6x1408_0_0_4224, ← rd17 arg3 harg3 x2 0 4224 (by decide) inb_S1x4x17x8448_S1x1x17x1408_0_0_0_4224, ← rd17 arg3 harg3 x2 1 4224 (by decide) inb_S1x4x17x8448_S1x1x17x1408_0_1_0_4224, ← rd17 arg3 harg3 x2 2 4224 (by decide) inb_S1x4x17x8448_S1x1x17x1408_0_2_0_4224, ← rd17 arg3 harg3 x2 3 4224 (by decide) inb_S1x4x17x8448_S1x1x17x1408_0_3_0_4224]
  rfl

theorem w_r_289 : (kernelRun0_A.sl.r_289 (F := F) c arg1 harg1 arg2 harg2 arg3 harg3 arg4 harg4 arg5 harg5 arg6 harg6 arg8 harg8 arg14 x0 x1 x2 x3 x4 x5 x7) = addf (kernelRun0_A.sl.r_248 (F := F) c arg1 harg1 arg2 harg2 arg3 harg3 arg4 harg4 arg5 harg5 arg6 harg6 arg8 harg8 arg14 x0 x1 x2 x3 x4 x5 x7) (dflV (fgV (thrC x0 x1 x3 x5 x7 13) (metC x0 x1 x3 x5 x7 5632 (by decide))) (cut6 x1 5632 (by decide)) (cut17 x2 0 5632 (by decide)) (cut17 x2 1 5632 (by decide)) (cut17 x2 2 5632 (by decide)) (cut17 x2 3 5632 (by decide)) (best0 x4 (thrC x0 x1 x3 x5 x7 13) (metC x0 x1 x3 x5 x7 5632 (by decide))) (best1 x4 (thrC x0 x1 x3 x5 x7 13) (metC x0 x1 x3 x5 x7 5632 (by decide))) (best2 x4 (thrC x0 x1 x3 x5 x7 13) (metC x0 x1 x3 x5 x7 5632 (by decide))) (best3 x4 (thrC x0 x1 x3 x5 x7 13) (metC x0 x1 x3 x5 x7 5632 (by decide)))) := by
  rw [← w_r_250 c arg1 harg1 arg2 harg2 arg4 harg4 arg6 harg6 arg8 harg8 arg14 x0 x1 x3 x5 x7, ← w_r_251 c arg1 harg1 arg2 harg2 arg4 harg4 arg5 harg5 arg6 harg6 arg8 harg8 arg14 x0 x1 x3 x4 x5 x7, ← w_r_252 c arg1 harg1 arg2 harg2 arg4 harg4 arg5 harg5 arg6 harg6 arg8 harg8 arg14 x0 x1 x3 x4 x5 x7, ← w_r_253 c arg1 harg1 arg2 harg2 arg4 harg4 arg5 harg5 arg6 harg6 arg8 harg8 arg14 x0 x1 x3 x4 x5 x7, ← w_r_254 c arg1 harg1 arg2 harg2 arg4 harg4 arg5 harg5 arg6 harg6 arg8 harg8 arg14 x0 x1 x3 x4 x5 x7, ← rd6 arg2 harg2 x1 5632 (by decide) inb_S1x6x8448_S1x6x1408_0_0_5632, ← rd17 arg3 harg3 x2 0 5632 (by decide) inb_S1x4x17x8448_S1x1x17x1408_0_0_0_5632, ← rd17 arg3 harg3 x2 1 5632 (by decide) inb_S1x4x17x8448_S1x1x17x1408_0_1_0_5632, ← rd17 arg3 harg3 x2 2 5632 (by decide) inb_S1x4x17x8448_S1x1x17x1408_0_2_0_5632, ← rd17 arg3 harg3 x2 3 5632 (by decide) inb_S1x4x17x8448_S1x1x17x1408_0_3_0_5632]
  rfl

theorem w_r_324 : (kernelRun0_A.sl.r_324 (F := F) c arg1 harg1 arg2 harg2 arg3 harg3 arg4 harg4 arg5 harg5 arg6 harg6 arg8 harg8 arg14 x0 x1 x2 x3 x4 x5 x7) = addf (kernelRun0_A.sl.r_289 (F := F) c arg1 harg1 arg2 harg2 arg3 harg3 arg4 harg4 arg5 harg5 arg6 harg6 arg8 harg8 arg14 x0 x1 x2 x3 x4 x5 x7) (dflV (fgV (thrC x0 x1 x3 x5 x7 13) (metC x0 x1 x3 x5 x7 7040 (by decide))) (cut6 x1 7040 (by decide)) (cut17 x2 0 7040 (by decide)) (cut17 x2 1 7040 (by decide)) (cut17 x2 2 7040 (by decide)) (cut17 x2 3 7040 (by decide)) (best0 x4 (thrC x0 x1 x3 x5 x7 13) (metC x0 x1 x3 x5 x7 7040 (by decide))) (best1 x4 (thrC x0 x1 x3 x5 x7 13) (metC x0 x1 x3 x5 x7 7040 (by decide))) (best2 x4 (thrC x0 x1 x3 x5 x7 13) (metC x0 x1 x3 x5 x7 7040 (by decide))) (best3 x4 (thrC x0 x1 x3 x5 x7 13) (metC x0 x1 x3 x5 x7 7040 (by decide)))) := by
  rw [← w_r_290 c arg1 harg1 arg2 harg2 arg4 harg4 arg6 harg6 arg8 harg8 arg14 x0 x1 x3 x5 x7, ← w_r_291 c arg1 harg1 arg2 harg2 arg4 harg4 arg5 harg5 arg6 harg6 arg8 harg8 arg14 x0 x1 x3 x4 x5 x7, ← w_r_292 c arg1 harg1 arg2 harg2 arg4 harg4 arg5 harg5 arg6 harg6 arg8 harg8 arg14 x0 x1 x3 x4 x5 x7, ← w_r_293 c arg1 harg1 arg2 harg2 arg4 harg4 arg5 harg5 arg6 harg6 arg8 harg8 arg14 x0 x1 x3 x4 x5 x7, ← w_r_294 c arg1 harg1 arg2 harg2 arg4 harg4 arg5 harg5 arg6 harg6 arg8 harg8 arg14 x0 x1 x3 x4 x5 x7, ← rd6 arg2 harg2 x1 7040 (by decide) inb_S1x6x8448_S1x6x1408_0_0_7040, ← rd17 arg3 harg3 x2 0 7040 (by decide) inb_S1x4x17x8448_S1x1x17x1408_0_0_0_7040, ← rd17 arg3 harg3 x2 1 7040 (by decide) inb_S1x4x17x8448_S1x1x17x1408_0_1_0_7040, ← rd17 arg3 harg3 x2 2 7040 (by decide) inb_S1x4x17x8448_S1x1x17x1408_0_2_0_7040, ← rd17 arg3 harg3 x2 3 7040 (by decide) inb_S1x4x17x8448_S1x1x17x1408_0_3_0_7040]
  rfl

/-- The overlap loss and the distance loss of the anchors of one run. -/
def giouC (x0 : Vec F S1x80x8448 .f32) (x1 : Vec F S1x6x8448 .f32) (x3 : Vec F S1x50x4 .f32) (x4 : Vec F S1x4x50 .f32) (x5 x7 : Vec F S1x50x1 .f32) (o : ℕ) (h : o + 1408 ≤ 8448) : FVec F S1x1408 .f32 :=
  giouV (fgV (thrC x0 x1 x3 x5 x7 13) (metC x0 x1 x3 x5 x7 o h)) (cut6 x1 o h) (best0 x4 (thrC x0 x1 x3 x5 x7 13) (metC x0 x1 x3 x5 x7 o h)) (best1 x4 (thrC x0 x1 x3 x5 x7 13) (metC x0 x1 x3 x5 x7 o h)) (best2 x4 (thrC x0 x1 x3 x5 x7 13) (metC x0 x1 x3 x5 x7 o h)) (best3 x4 (thrC x0 x1 x3 x5 x7 13) (metC x0 x1 x3 x5 x7 o h))
def dflC (x0 : Vec F S1x80x8448 .f32) (x1 : Vec F S1x6x8448 .f32) (x2 : Vec F S1x4x17x8448 .f32) (x3 : Vec F S1x50x4 .f32) (x4 : Vec F S1x4x50 .f32) (x5 x7 : Vec F S1x50x1 .f32) (o : ℕ) (h : o + 1408 ≤ 8448) : FVec F S1x1408 .f32 :=
  dflV (fgV (thrC x0 x1 x3 x5 x7 13) (metC x0 x1 x3 x5 x7 o h)) (cut6 x1 o h) (cut17 x2 0 o h) (cut17 x2 1 o h) (cut17 x2 2 o h) (cut17 x2 3 o h) (best0 x4 (thrC x0 x1 x3 x5 x7 13) (metC x0 x1 x3 x5 x7 o h)) (best1 x4 (thrC x0 x1 x3 x5 x7 13) (metC x0 x1 x3 x5 x7 o h)) (best2 x4 (thrC x0 x1 x3 x5 x7 13) (metC x0 x1 x3 x5 x7 o h)) (best3 x4 (thrC x0 x1 x3 x5 x7 13) (metC x0 x1 x3 x5 x7 o h))

def giouOut (x0 : Vec F S1x80x8448 .f32) (x1 : Vec F S1x6x8448 .f32) (x3 : Vec F S1x50x4 .f32) (x4 : Vec F S1x4x50 .f32) (x5 x7 : Vec F S1x50x1 .f32) : FVec F S1x1x1 .f32 :=
  totV (acc6 (giouC x0 x1 x3 x4 x5 x7 0 (by decide)) (giouC x0 x1 x3 x4 x5 x7 1408 (by decide)) (giouC x0 x1 x3 x4 x5 x7 2816 (by decide)) (giouC x0 x1 x3 x4 x5 x7 4224 (by decide)) (giouC x0 x1 x3 x4 x5 x7 5632 (by decide)) (giouC x0 x1 x3 x4 x5 x7 7040 (by decide)))
def dflOut (x0 : Vec F S1x80x8448 .f32) (x1 : Vec F S1x6x8448 .f32) (x2 : Vec F S1x4x17x8448 .f32) (x3 : Vec F S1x50x4 .f32) (x4 : Vec F S1x4x50 .f32) (x5 x7 : Vec F S1x50x1 .f32) : FVec F S1x1x1 .f32 :=
  totV (acc6 (dflC x0 x1 x2 x3 x4 x5 x7 0 (by decide)) (dflC x0 x1 x2 x3 x4 x5 x7 1408 (by decide)) (dflC x0 x1 x2 x3 x4 x5 x7 2816 (by decide)) (dflC x0 x1 x2 x3 x4 x5 x7 4224 (by decide)) (dflC x0 x1 x2 x3 x4 x5 x7 5632 (by decide)) (dflC x0 x1 x2 x3 x4 x5 x7 7040 (by decide)))

theorem w_giou : k0_pay1 (kernelRun0_A.sl.r_312 (F := F) c arg1 harg1 arg2 harg2 arg4 harg4 arg5 harg5 arg6 harg6 arg8 harg8 arg14 x0 x1 x3 x4 x5 x7) = giouOut x0 x1 x3 x4 x5 x7 := by
  rw [w_r_312 c arg1 harg1 arg2 harg2 arg4 harg4 arg5 harg5 arg6 harg6 arg8 harg8 arg14 x0 x1 x3 x4 x5 x7, w_r_275 c arg1 harg1 arg2 harg2 arg4 harg4 arg5 harg5 arg6 harg6 arg8 harg8 arg14 x0 x1 x3 x4 x5 x7, w_r_237 c arg1 harg1 arg2 harg2 arg4 harg4 arg5 harg5 arg6 harg6 arg8 harg8 arg14 x0 x1 x3 x4 x5 x7, w_r_203 c arg1 harg1 arg2 harg2 arg4 harg4 arg5 harg5 arg6 harg6 arg8 harg8 arg14 x0 x1 x3 x4 x5 x7, w_r_168 c arg1 harg1 arg2 harg2 arg4 harg4 arg5 harg5 arg6 harg6 arg8 harg8 arg14 x0 x1 x3 x4 x5 x7, w_r_133 c arg1 harg1 arg2 harg2 arg4 harg4 arg5 harg5 arg6 harg6 arg8 harg8 arg14 x0 x1 x3 x4 x5 x7]
  rfl

theorem out_giou (i : grid0.Coords) (a1 : Memref sig .tc .vmem S1x80x8448 .f32) :
    out0_A_10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = giouOut x0 x1 x3 x4 x5 x7 := by
  rw [← w_giou c arg1 harg1 arg2 harg2 arg4 harg4 arg5 harg5 arg6 harg6 arg8 harg8 arg14 x0 x1 x3 x4 x5 x7]
  unfold out0_A_10
  rw [View.read_writes_junk_eq_canon]
  unfold kernelRun0_A
  exact View.canon_cons_unit_lit' _ _ _ (by decide)

theorem w_dfl : k0_pay3 (kernelRun0_A.sl.r_324 (F := F) c arg1 harg1 arg2 harg2 arg3 harg3 arg4 harg4 arg5 harg5 arg6 harg6 arg8 harg8 arg14 x0 x1 x2 x3 x4 x5 x7) = dflOut x0 x1 x2 x3 x4 x5 x7 := by
  rw [w_r_324 c arg1 harg1 arg2 harg2 arg3 harg3 arg4 harg4 arg5 harg5 arg6 harg6 arg8 harg8 arg14 x0 x1 x2 x3 x4 x5 x7, w_r_289 c arg1 harg1 arg2 harg2 arg3 harg3 arg4 harg4 arg5 harg5 arg6 harg6 arg8 harg8 arg14 x0 x1 x2 x3 x4 x5 x7, w_r_248 c arg1 harg1 arg2 harg2 arg3 harg3 arg4 harg4 arg5 harg5 arg6 harg6 arg8 harg8 arg14 x0 x1 x2 x3 x4 x5 x7, w_r_216 c arg1 harg1 arg2 harg2 arg3 harg3 arg4 harg4 arg5 harg5 arg6 harg6 arg8 harg8 arg14 x0 x1 x2 x3 x4 x5 x7, w_r_182 c arg1 harg1 arg2 harg2 arg3 harg3 arg4 harg4 arg5 harg5 arg6 harg6 arg8 harg8 arg14 x0 x1 x2 x3 x4 x5 x7, w_r_145 c arg1 harg1 arg2 harg2 arg3 harg3 arg4 harg4 arg5 harg5 arg6 harg6 arg8 harg8 arg14 x0 x1 x2 x3 x4 x5 x7]
  rfl

theorem out_dfl (i : grid0.Coords) (a1 : Memref sig .tc .vmem S1x80x8448 .f32) :
    out0_A_12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = dflOut x0 x1 x2 x3 x4 x5 x7 := by
  rw [← w_dfl c arg1 harg1 arg2 harg2 arg3 harg3 arg4 harg4 arg5 harg5 arg6 harg6 arg8 harg8 arg14 x0 x1 x2 x3 x4 x5 x7]
  unfold out0_A_12
  rw [View.read_writes_junk_eq_canon]
  unfold kernelRun0_A
  exact View.canon_cons_unit_lit' _ _ _ (by decide)

end Cert.Tal

end
-- ==== Proof.Blocks2.lean ====
/- The sums of the generalised-overlap loss and of the distance loss of every batch element after the call, from the arguments. -/
module

public import proofs.«01_k».proof.Proof.Blocks
public import proofs.«01_k».proof.Proof.ReadK2
public import proofs.«01_k».proof.Proof.Words3

@[expose] public section

set_option maxRecDepth 16384

noncomputable section

namespace Cert.Tal

open Cert.KernelIdeal Cert.KernelIdeal.Gen Idealize.ShloMosaic Idealize.ShloMosaic.TcCoe Idealize.SL.Sem

/-- Padding by nothing changes nothing. -/
theorem pad_none4 {α : Type} {d : Fin 4 → ℕ} {u : Shape} (x : (⟨4, d⟩ : Shape).Idx → α) (v : u.Idx → α)
    (h : (⟨4, d⟩ : Shape).Pads ![0, 0, 0, 0] ![0, 0, 0, 0] ![0, 0, 0, 0] ⟨4, d⟩) (hu : 0 < u.numel) :
    pad ⟨4, d⟩ ![0, 0, 0, 0] ![0, 0, 0, 0] ![0, 0, 0, 0] x v h hu = x := by
  funext j
  unfold pad
  rw [dif_pos (fun a => by
    have := (j a).isLt
    fin_cases a <;> exact ⟨Nat.zero_le _, Nat.mod_one _, by simpa using this⟩)]
  refine congrArg x (funext fun a => Fin.ext ?_)
  fin_cases a <;> exact Nat.div_one _

section Kept

/-- A value where it is kept, zero elsewhere; the anchor's assigned box; the indicator that some box keeps the anchor. -/
def keptF (M : Fin 50 → Fin 8448 → EReal) (n : Fin 8448) (g : Fin 50) : EReal :=
  if thr (M g) 13 ≤ M g n ∧ 0 < M g n then M g n else 0
def bestF (M : Fin 50 → Fin 8448 → EReal) (q : Fin 50 → Fin 4 → EReal) (n : Fin 8448) (k : Fin 4) : EReal :=
  weigh (keptF M n) fun g => q g k
def fgF (M : Fin 50 → Fin 8448 → EReal) (n : Fin 8448) : EReal :=
  if ∃ g, thr (M g) 13 ≤ M g n ∧ 0 < M g n then 1 else 0

end Kept

section Block

variable (x0 : Vec Ideal S1x80x8448 .f32) (x1 : Vec Ideal S1x6x8448 .f32) (x2 : Vec Ideal S1x4x17x8448 .f32)
  (x3 : Vec Ideal S1x50x4 .f32) (x4 : Vec Ideal S1x4x50 .f32) (x5 x7 : Vec Ideal S1x50x1 .f32)

def gtB (g : Fin 50) (k : Fin 4) : EReal := x4 (ix3 0 k g)
def distB (n : Fin 8448) (s : Fin 4) (k : Fin 17) : EReal := x2 (ix4 0 s k n)

theorem topC_apply (o : ℕ) (h : o + 1408 ≤ 8448) (g : Fin 50) (n : Fin 1408) :
    topV (thrC x0 x1 x3 x5 x7 13) (metC x0 x1 x3 x5 x7 o h) (ix2 g n) = keptF (metB x0 x1 x3 x5 x7) ⟨o + n.val, by omega⟩ g := by
  rw [topV_apply, thrC_apply, metC_apply]
  rfl

theorem fgC_apply (o : ℕ) (h : o + 1408 ≤ 8448) (n : Fin 1408) :
    fgV (thrC x0 x1 x3 x5 x7 13) (metC x0 x1 x3 x5 x7 o h) (ix2 0 n) = fgF (metB x0 x1 x3 x5 x7) ⟨o + n.val, by omega⟩ := by
  rw [fgV_apply]
  refine if_congr (exists_congr fun g => ?_) rfl rfl
  rw [thrC_apply, metC_apply]

theorem bests (o : ℕ) (h : o + 1408 ≤ 8448) (n : Fin 1408) (k : Fin 4) :
    weigh (fun g => topV (thrC x0 x1 x3 x5 x7 13) (metC x0 x1 x3 x5 x7 o h) (ix2 g n)) (fun g => x4 (ix3 0 k g))
      = bestF (metB x0 x1 x3 x5 x7) (gtB x4) ⟨o + n.val, by omega⟩ k := by
  simp only [topC_apply]
  rfl

theorem giouC_apply (o : ℕ) (h : o + 1408 ≤ 8448) (n : Fin 1408) : giouC x0 x1 x3 x4 x5 x7 o h (ix2 0 n)
    = (fun n => (1 - gen (boxB x1 n) (bestF (metB x0 x1 x3 x5 x7) (gtB x4) n)) * fgF (metB x0 x1 x3 x5 x7) n) ⟨o + n.val, by omega⟩ := by
  rw [giouC, giouV_apply (q := bestF (metB x0 x1 x3 x5 x7) (gtB x4) ⟨o + n.val, by omega⟩)
    (h0 := (best0_apply _ _ _ _).trans (bests x0 x1 x3 x4 x5 x7 o h n 0)) (h1 := (best1_apply _ _ _ _).trans (bests x0 x1 x3 x4 x5 x7 o h n 1))
    (h2 := (best2_apply _ _ _ _).trans (bests x0 x1 x3 x4 x5 x7 o h n 2)) (h3 := (best3_apply _ _ _ _).trans (bests x0 x1 x3 x4 x5 x7 o h n 3)),
    fgC_apply]
  rfl

theorem sideC (o : ℕ) (h : o + 1408 ≤ 8448) (n : Fin 1408) :
    ![sideK (cut17 x2 0 o h) n, sideK (cut17 x2 1 o h) n, sideK (cut17 x2 2 o h) n, sideK (cut17 x2 3 o h) n] = distB x2 ⟨o + n.val, by omega⟩ := by
  funext s; fin_cases s <;> rfl

theorem dflC_apply (o : ℕ) (h : o + 1408 ≤ 8448) (n : Fin 1408) : dflC x0 x1 x2 x3 x4 x5 x7 o h (ix2 0 n)
    = (fun n => focal (distB x2 n) (side (ptB x1 n) (bestF (metB x0 x1 x3 x5 x7) (gtB x4) n)) * fgF (metB x0 x1 x3 x5 x7) n) ⟨o + n.val, by omega⟩ := by
  rw [dflC, dflV_apply (q := bestF (metB x0 x1 x3 x5 x7) (gtB x4) ⟨o + n.val, by omega⟩)
    (h0 := (best0_apply _ _ _ _).trans (bests x0 x1 x3 x4 x5 x7 o h n 0)) (h1 := (best1_apply _ _ _ _).trans (bests x0 x1 x3 x4 x5 x7 o h n 1))
    (h2 := (best2_apply _ _ _ _).trans (bests x0 x1 x3 x4 x5 x7 o h n 2)) (h3 := (best3_apply _ _ _ _).trans (bests x0 x1 x3 x4 x5 x7 o h n 3)),
    fgC_apply, sideC]
  rfl

theorem giouOut_apply (i : S1x1x1.Idx) : giouOut x0 x1 x3 x4 x5 x7 i = ∑ n : Fin 8448,
    (1 - gen (boxB x1 n) (bestF (metB x0 x1 x3 x5 x7) (gtB x4) n)) * fgF (metB x0 x1 x3 x5 x7) n := by
  rw [giouOut, totV_apply, ← sum_runs]
  refine Finset.sum_congr rfl fun n _ => ?_
  rw [acc6_apply, giouC_apply, giouC_apply, giouC_apply, giouC_apply, giouC_apply, giouC_apply]

theorem dflOut_apply (i : S1x1x1.Idx) : dflOut x0 x1 x2 x3 x4 x5 x7 i = ∑ n : Fin 8448,
    focal (distB x2 n) (side (ptB x1 n) (bestF (metB x0 x1 x3 x5 x7) (gtB x4) n)) * fgF (metB x0 x1 x3 x5 x7) n := by
  rw [dflOut, totV_apply, ← sum_runs]
  refine Finset.sum_congr rfl fun n _ => ?_
  rw [acc6_apply, dflC_apply, dflC_apply, dflC_apply, dflC_apply, dflC_apply, dflC_apply]

end Block

section Args

variable (a0 : Vec Ideal S8x8448x80 .f32) (a1 : Vec Ideal S8x8448x4 .f32) (a2 : Vec Ideal S8x8448x68 .f32) (a3 : Vec Ideal S8448x2 .f32)
  (a4 : Vec Ideal S8x50x4 .f32) (a5 : Vec Ideal S8x50x1 .f32) (a6 : IVec S8x50x1 32) (b : Fin 8) (n : Fin 8448)

/-- The assigned box of an anchor, its four distance rows, and the two losses of every batch element, from the arguments. -/
def bestA : Fin 4 → EReal := bestF (metA a0 a1 a3 a4 a5 a6 b) (gtA a4 b) n
def distA (s : Fin 4) (k : Fin 17) : EReal := a2 (ix3 b n ⟨s.val * 17 + k.val, by omega⟩)
def giouS : EReal := ∑ n : Fin 8448, (1 - gen (boxA a1 b n) (bestA a0 a1 a3 a4 a5 a6 b n)) * fgF (metA a0 a1 a3 a4 a5 a6 b) n
def dflS : EReal := ∑ n : Fin 8448, focal (distA a2 b n) (side (ptA a3 n) (bestA a0 a1 a3 a4 a5 a6 b n)) * fgF (metA a0 a1 a3 a4 a5 a6 b) n
def giouA : Vec Ideal S8x1x1 .f32 := fun i => giouS a0 a1 a3 a4 a5 a6 (i 0)
def dflA : Vec Ideal S8x1x1 .f32 := fun i => dflS a0 a1 a2 a3 a4 a5 a6 (i 0)

end Args

variable (m : (ℓ : Loc nD τ sig) → Buf (Elt Ideal) ℓ) (c : Dev nD) (t : Fin cfg0.N)

theorem V_dist : V m c main_v13 = transpose S8x4x17x8448 [0, 2, 3, 1]
    (shapeCast S8x8448x4x17 (m ((c : Thread nD τ).loc main_arg2)) shapeCasts_S8x8448x68_S8x8448x4x17) transposes_S8x8448x4x17_S8x4x17x8448_0_2_3_1 := by
  dsimp only [V, V0, List.flatten_cons, List.flatten_nil, List.cons_append, List.nil_append, List.append_nil]
  after_results
  refine Eq.trans (b := pad S8x4x17x8448 ![0, 0, 0, 0] ![0, 0, 0, 0] ![0, 0, 0, 0]
    (transpose S8x4x17x8448 [0, 2, 3, 1] (shapeCast S8x8448x4x17 (m ((c : Thread nD τ).loc main_arg2)) shapeCasts_S8x8448x68_S8x8448x4x17)
      transposes_S8x8448x4x17_S8x4x17x8448_0_2_3_1)
    (sitofp (F := Ideal) FTy.f32 (constantI S_ 32 0#32)) pads_S8x4x17x8448_S8x4x17x8448_000_000_000_000 h_S_) rfl (pad_none4 _ _ _ _)

theorem V_gtT : V m c main_v14 = transpose S8x4x50 [0, 2, 1] (m ((c : Thread nD τ).loc main_arg4)) transposes_S8x50x4_S8x4x50_0_2_1 := by
  dsimp only [V, V0, List.flatten_cons, List.flatten_nil, List.cons_append, List.nil_append, List.append_nil]
  after_results
  try rfl

theorem at2 : ∀ t : Fin cfg0.N, win0_2.index t = ![(grid0.coords t 0).val, 0, 0, 0] := by decide +kernel
theorem at4 : ∀ t : Fin cfg0.N, win0_4.index t = ![(grid0.coords t 0).val, 0, 0] := by decide +kernel
theorem at10 : ∀ t : Fin cfg0.N, win0_10.index t = ![(grid0.coords t 0).val, 0, 0] := by decide +kernel
theorem at12 : ∀ t : Fin cfg0.N, win0_12.index t = ![(grid0.coords t 0).val, 0, 0] := by decide +kernel

theorem blk4 (k : Fin 4) (g : Fin 50) : iblk m c 4 t (ix3 0 k g) = m ((c : Thread nD τ).loc main_arg4) (ix3 (bt t) g k) := by
  have e : iblk m c 4 t (ix3 0 k g) = V m c main_v14 (ix3 (bt t) k g) := by blk_ext [iblk, at4 t, bt]
  rw [e, V_gtT]
  exact transpose_apply _ _ _ _ (ix3 (bt t) g k) (fun a => by fin_cases a <;> rfl)

theorem blk2 (s : Fin 4) (k : Fin 17) (n : Fin 8448) : iblk m c 2 t (ix4 0 s k n) = distA (m ((c : Thread nD τ).loc main_arg2)) (bt t) n s k := by
  have e : iblk m c 2 t (ix4 0 s k n) = V m c main_v13 (ix4 (bt t) s k n) := by blk_ext [iblk, at2 t, bt]
  rw [e, V_dist]
  refine (transpose_apply _ _ _ _ (ix4 (bt t) n s k) (fun a => by fin_cases a <;> rfl)).trans ?_
  refine shapeCast_apply _ _ _ _ ?_
  show (S8x8448x68.rowMajor _).val = (S8x8448x4x17.rowMajor _).val
  rw [Shape.rowMajor_val_three, Shape.rowMajor_val_four]
  show ((bt t).val * 8448 + n.val) * 68 + (s.val * 17 + k.val) = (((bt t).val * 8448 + n.val) * 4 + s.val) * 17 + k.val
  omega

theorem gtB_eq : gtB (iblk m c 4 t) = gtA (m ((c : Thread nD τ).loc main_arg4)) (bt t) :=
  funext fun g => funext fun k => blk4 m c t k g

theorem distB_eq (n : Fin 8448) : distB (iblk m c 2 t) n = distA (m ((c : Thread nD τ).loc main_arg2)) (bt t) n :=
  funext fun s => funext fun k => blk2 m c t s k n

theorem metB_fun : metB (iblk m c 0 t) (iblk m c 1 t) (iblk m c 3 t) (iblk m c 5 t) (iblk m c 7 t)
    = metA (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) (bt t) :=
  funext fun g => funext fun n => metB_eq m c t g n

theorem giou_blk (y : S1x1x1.Idx) : giouOut (iblk m c 0 t) (iblk m c 1 t) (iblk m c 3 t) (iblk m c 4 t) (iblk m c 5 t) (iblk m c 7 t) y
    = giouS (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) (bt t) := by
  rw [giouOut_apply, giouS, metB_fun, gtB_eq]
  refine Finset.sum_congr rfl fun n _ => ?_
  have eb : boxB (iblk m c 1 t) n = boxA (m ((c : Thread nD τ).loc main_arg1)) (bt t) n := funext fun k => by
    unfold boxB boxA; rw [blk1, boxArr_box]
  rw [eb, bestA]

theorem dfl_blk (y : S1x1x1.Idx) :
    dflOut (iblk m c 0 t) (iblk m c 1 t) (iblk m c 2 t) (iblk m c 3 t) (iblk m c 4 t) (iblk m c 5 t) (iblk m c 7 t) y
    = dflS (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (bt t) := by
  rw [dflOut_apply, dflS, metB_fun, gtB_eq]
  refine Finset.sum_congr rfl fun n _ => ?_
  have ep : ptB (iblk m c 1 t) n = ptA (m ((c : Thread nD τ).loc main_arg3)) n := funext fun k => by
    unfold ptB ptA; rw [blk1, boxArr_pt]
  rw [ep, distB_eq, bestA]

theorem emb10 (y : S1x1x1.Idx) : (((cfg0.win 10).blk t).view.emb y) 0 = bt t := by
  apply Fin.ext
  blk_simp [at10 t, bt]

theorem emb12 (y : S1x1x1.Idx) : (((cfg0.win 12).blk t).view.emb y) 0 = bt t := by
  apply Fin.ext
  blk_simp [at12 t, bt]

theorem final_giou : (dats m 0 c).arrAt 10 cfg0.N
    = giouA (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  simp only [outsAt0]
  rw [out_giou (a1 := ms0_0 t)]
  exact (giou_blk m c t y).trans (congrArg _ (emb10 t y).symm)

theorem final_dfl : (dats m 0 c).arrAt 12 cfg0.N
    = dflA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 12 _ (by decide +kernel) fun t hf y => ?_
  blk_simp
  rw [after0_12]
  simp only [outsAt0]
  rw [out_dfl (a1 := ms0_0 t)]
  exact (dfl_blk m c t y).trans (congrArg _ (emb12 t y).symm)

end Cert.Tal

end
-- ==== Proof.RefBest.lean ====
/- The box the reference assigns to an anchor: the one of the largest kept metric, and nothing where no metric is kept. -/
module

public import proofs.«01_k».proof.Proof.RefFg
public import proofs.«01_k».proof.Proof.Blocks2

@[expose] public section

set_option maxRecDepth 16384

noncomputable section

namespace Cert.Tal

open Cert.ReferenceIdeal Cert.ReferenceIdeal.Gen Cert.ReferenceIdeal.Read Idealize.ShloMosaic Idealize.ShloMosaic.TcCoe

/-- The weighed sum over the boxes is the value of the box with the largest kept value, where that is positive and reached once. -/
theorem weigh_one (K q : Fin 50 → EReal) (j : Fin 50) (hj : ∀ h, K h ≤ K j) (hp : 0 < K j) (hu : ∀ h, h ≠ j → K h ≠ K j) :
    weigh K q = q j := by
  have e : (⨆ h, K h) = K j := le_antisymm (iSup_le hj) (le_iSup K j)
  unfold weigh
  rw [e, Finset.sum_eq_single j]
  · rw [if_pos ⟨rfl, hp⟩, mul_one]
  · intro h _ hh
    rw [if_neg fun z => hu h hh z.1, mul_zero]
  · exact fun h => absurd (Finset.mem_univ _) h

/-- It is zero where nothing is kept. -/
theorem weigh_none (K q : Fin 50 → EReal) (h0 : ∀ h, K h ≤ 0) : weigh K q = 0 := by
  have e : ¬ 0 < ⨆ h, K h := not_lt.mpr (iSup_le h0)
  unfold weigh
  refine Finset.sum_eq_zero fun g _ => ?_
  rw [if_neg fun z => e z.2, mul_zero]

variable {a0 : Vec Ideal S8x8448x80 .f32} {a1 : Vec Ideal S8x8448x4 .f32} {a3 : Vec Ideal S8448x2 .f32}
  {a4 : Vec Ideal S8x50x4 .f32} {a5 : Vec Ideal S8x50x1 .f32} {a6 : IVec S8x50x1 32} (b : Fin 8) (g : Fin 50) (n : Fin 8448)

theorem met_row (h : Sep a0 a1 a3 a4 a5 a6) : val_main_v105 a0 a1 a3 a4 a5 a6 (ix3 b g n) = metA a0 a1 a3 a4 a5 a6 b g n := by
  obtain ⟨r, hr⟩ := h.num b g n
  exact v105_at a0 a1 a3 a4 a5 a6 b g n r hr

/-- The reference's kept metrics are the kernel's. -/
theorem v118_at (h : Sep a0 a1 a3 a4 a5 a6) : val_main_v118 a0 a1 a3 a4 a5 a6 (ix3 b g n) = keptF (metA a0 a1 a3 a4 a5 a6 b) n g := by
  rw [val_main_v118_apply, met_row b g n h]
  unfold keptF
  have e0 : (val_main_call2_v1 (F := Ideal)) (ix3 b g n) = (0 : EReal) := by
    rw [val_main_call2_v1_apply]
    exact Ideal.ofBits_zero .f32
  have := mask_ref b g n h
  rcases bit_cases (val_main_v117 a0 a1 a3 a4 a5 a6 (ix3 b g n)) with hb | hb
  · rw [hb, if_pos (this.1 hb)]; rfl
  · rw [hb, if_neg fun z => absurd (hb.symm.trans (this.2 z)) (by decide), e0]; rfl

theorem v121_at (h : Sep a0 a1 a3 a4 a5 a6) : val_main_v121 a0 a1 a3 a4 a5 a6 (ix3 b n g) = keptF (metA a0 a1 a3 a4 a5 a6 b) n g := by
  rw [val_main_v121_apply, show idx_main_v121 (ix3 b n g) = ix3 b g n from ext3 rfl rfl rfl, v118_at b g n h]

/-- The box of the largest kept metric of an anchor. -/
def pick (a0 : Vec Ideal S8x8448x80 .f32) (a1 : Vec Ideal S8x8448x4 .f32) (a3 : Vec Ideal S8448x2 .f32)
    (a4 : Vec Ideal S8x50x4 .f32) (a5 : Vec Ideal S8x50x1 .f32) (a6 : IVec S8x50x1 32) (b : Fin 8) (n : Fin 8448) : Fin 50 :=
  ord (val_main_v121 a0 a1 a3 a4 a5 a6) b n 0

theorem pick_top (h : Sep a0 a1 a3 a4 a5 a6) :
    keptF (metA a0 a1 a3 a4 a5 a6 b) n g ≤ keptF (metA a0 a1 a3 a4 a5 a6 b) n (pick a0 a1 a3 a4 a5 a6 b n) := by
  obtain ⟨k, rfl⟩ := (ord_bijective (val_main_v121 a0 a1 a3 a4 a5 a6) b n).2 g
  have := ord_antitone (val_main_v121 a0 a1 a3 a4 a5 a6) b n 0 k (Fin.zero_le k)
  rw [v121_at b _ n h, v121_at b _ n h] at this
  exact this

theorem idx12_at : val_main_indices_12 a0 a1 a3 a4 a5 a6 (ix3 b n 0) = BitVec.ofNat 32 (pick a0 a1 a3 a4 a5 a6 b n).val :=
  topK_idx (val_main_v121 a0 a1 a3 a4 a5 a6) b n 1 _ 0 (by decide)

theorem small_toInt (j : Fin 50) : (BitVec.ofNat 32 j.val).toInt = (j.val : ℤ) := by
  have := j.isLt
  rw [BitVec.toInt_eq_toNat_of_lt (by rw [BitVec.toNat_ofNat]; omega), BitVec.toNat_ofNat]; omega

theorem small_neg (j : Fin 50) : IntOp.cmpi .slt (BitVec.ofNat 32 j.val) 0#32 = 0#1 := by
  have e0 : (0#32 : BitVec 32).toInt = 0 := by decide
  show BitVec.ofBool ((BitVec.ofNat 32 j.val).slt 0#32) = 0#1
  rw [BitVec.slt_eq_decide, decide_eq_false (by rw [small_toInt, e0]; omega)]
  rfl

theorem call3_at : val_main_call3_v4 a0 a1 a3 a4 a5 a6 (ix3 b n 0) = BitVec.ofNat 32 (pick a0 a1 a3 a4 a5 a6 b n).val := by
  rw [val_main_call3_v4_apply]
  have e : val_main_call3_v1 a0 a1 a3 a4 a5 a6 (ix3 b n 0) = 0#1 := by
    rw [val_main_call3_v1_apply, val_main_call3_v0_apply, val_main_call3_c_apply, idx12_at]
    exact small_neg _
  rw [e, idx12_at]
  exact if_neg (by decide)

/-- Reading one box per anchor: the position is a word in range. -/
theorem pickBox (X : S8x50x4.Idx → EReal) (I : IVec S8x8448x1 32) (j : Fin 50) (hi : I (ix3 b n 0) = BitVec.ofNat 32 j.val) (k : Fin 4) :
    Host.gather gather_S8x50x4_S8x8448x1_S8x8448x4_2_1_0_0_1_2_114 X I (ix3 b n k) = X (ix3 b j k) := by
  unfold Host.gather
  refine congrArg X (funext fun a => Fin.ext ?_)
  show gather_S8x50x4_S8x8448x1_S8x8448x4_2_1_0_0_1_2_114.start (ix3 b n k) I a
    + gather_S8x50x4_S8x8448x1_S8x8448x4_2_1_0_0_1_2_114.batchCoord (ix3 b n k) a
    + gather_S8x50x4_S8x8448x1_S8x8448x4_2_1_0_0_1_2_114.offCoord (ix3 b n k) a = _
  by_cases h0 : a = 0
  · subst h0
    rw [GatherDims.start_batching _ _ _ _ (by decide), GatherDims.offCoord_eq_zero _ _ _ (fun h => by
      have := (GatherDims.mem_sKept _ _).mp h
      revert this; decide), Nat.zero_add, Nat.add_zero]
    unfold GatherDims.batchCoord
    rw [dif_pos (by decide)]
    rfl
  by_cases h1 : a = 1
  · subst h1
    rw [GatherDims.batchCoord_eq_zero _ _ _ (by decide), GatherDims.offCoord_eq_zero _ _ _ (fun h => by
      have := (GatherDims.mem_sKept _ _).mp h
      revert this; decide), Nat.add_zero]
    unfold GatherDims.start
    rw [dif_pos (by decide)]
    have hsi : ∀ h, gather_S8x50x4_S8x8448x1_S8x8448x4_2_1_0_0_1_2_114.siIdx (ix3 b n k) ⟨List.idxOf (1 : Fin 3) [1], h⟩
        = ix3 b n 0 := fun h => by
      funext c; refine Fin.ext ?_
      fin_cases c <;> rfl
    refine Eq.trans (congrArg (fun z : BitVec 32 => min z.toInt.toNat 49) ((congrArg _ (hsi _)).trans hi)) ?_
    rw [small_toInt]
    show min j.val 49 = j.val
    have := j.isLt
    omega
  have h2 : a = 2 := by revert h0 h1; revert a; decide
  subst h2
  rw [GatherDims.batchCoord_eq_zero _ _ _ (by decide)]
  unfold GatherDims.start GatherDims.offCoord
  rw [dif_neg (by decide), dif_pos (by decide), Nat.zero_add]
  rfl

theorem v122_at (k : Fin 4) : val_main_v122 a0 a1 a3 a4 a5 a6 (ix3 b n k) = gtA a4 b (pick a0 a1 a3 a4 a5 a6 b n) k :=
  pickBox b n a4 (val_main_call3_v4 a0 a1 a3 a4 a5 a6) _ (call3_at b n) k

theorem v120_at (h : Sep a0 a1 a3 a4 a5 a6) : val_main_v120 a0 a1 a3 a4 a5 a6 (ix2 b n) = fgF (metA a0 a1 a3 a4 a5 a6 b) n := by
  rw [val_main_v120_apply]
  exact ind_u _ _ (fg_bit b n h)

theorem v125_raw (h : Sep a0 a1 a3 a4 a5 a6) (k : Fin 4) : val_main_v125 a0 a1 a3 a4 a5 a6 (ix3 b n k)
    = gtA a4 b (pick a0 a1 a3 a4 a5 a6 b n) k * fgF (metA a0 a1 a3 a4 a5 a6 b) n := by
  rw [val_main_v125_apply, v122_at, val_main_v124_apply, val_main_v123_apply,
    show idx_main_v123 (idx_main_v124 (ix3 b n k)) = ix2 b n from ext2 rfl rfl, v120_at b n h]
  rfl

/-- No two boxes keep an anchor with the same metric. -/
def OneBest (a0 : Vec Ideal S8x8448x80 .f32) (a1 : Vec Ideal S8x8448x4 .f32) (a3 : Vec Ideal S8448x2 .f32)
    (a4 : Vec Ideal S8x50x4 .f32) (a5 : Vec Ideal S8x50x1 .f32) (a6 : IVec S8x50x1 32) : Prop :=
  ∀ (b : Fin 8) (g g' : Fin 50) (n : Fin 8448), g ≠ g' → keptF (metA a0 a1 a3 a4 a5 a6 b) n g = keptF (metA a0 a1 a3 a4 a5 a6 b) n g' →
    keptF (metA a0 a1 a3 a4 a5 a6 b) n g ≤ 0

/-- The box the reference assigns is the kernel's. -/
theorem v125_at (h : Sep a0 a1 a3 a4 a5 a6) (u : OneBest a0 a1 a3 a4 a5 a6) (k : Fin 4) :
    val_main_v125 a0 a1 a3 a4 a5 a6 (ix3 b n k) = bestA a0 a1 a3 a4 a5 a6 b n k := by
  rw [v125_raw b n h]
  unfold bestA bestF fgF
  by_cases hf : ∃ g, thr (metA a0 a1 a3 a4 a5 a6 b g) 13 ≤ metA a0 a1 a3 a4 a5 a6 b g n ∧ 0 < metA a0 a1 a3 a4 a5 a6 b g n
  · rw [if_pos hf, mul_one]
    obtain ⟨g, hg⟩ := hf
    have hp : 0 < keptF (metA a0 a1 a3 a4 a5 a6 b) n (pick a0 a1 a3 a4 a5 a6 b n) := by
      refine lt_of_lt_of_le ?_ (pick_top b g n h)
      unfold keptF
      rw [if_pos hg]
      exact hg.2
    refine (weigh_one (keptF (metA a0 a1 a3 a4 a5 a6 b) n) (fun g => gtA a4 b g k) (pick a0 a1 a3 a4 a5 a6 b n) (fun g => pick_top b g n h) hp fun g hg e => ?_).symm
    exact absurd (u b g _ n hg e) (not_le.mpr (lt_of_lt_of_eq hp e.symm))
  · rw [if_neg hf, mul_zero, weigh_none]
    intro g
    unfold keptF
    rw [if_neg fun z => hf ⟨g, z⟩]

theorem c127 : val_main_v127 (F := Ideal) a1 (ix2 b n) = boxA a1 b n 0 := by
  rw [val_main_v127_apply, val_main_v126_apply]; exact congrArg a1 (ext3 (q0 b n) (q1 b n) rfl)
theorem c129 : val_main_v129 (F := Ideal) a1 (ix2 b n) = boxA a1 b n 1 := by
  rw [val_main_v129_apply, val_main_v128_apply]; exact congrArg a1 (ext3 (q0 b n) (q1 b n) rfl)
theorem c131 : val_main_v131 (F := Ideal) a1 (ix2 b n) = boxA a1 b n 2 := by
  rw [val_main_v131_apply, val_main_v130_apply]; exact congrArg a1 (ext3 (q0 b n) (q1 b n) rfl)
theorem c133 : val_main_v133 (F := Ideal) a1 (ix2 b n) = boxA a1 b n 3 := by
  rw [val_main_v133_apply, val_main_v132_apply]; exact congrArg a1 (ext3 (q0 b n) (q1 b n) rfl)

section

variable (h : Sep a0 a1 a3 a4 a5 a6) (u : OneBest a0 a1 a3 a4 a5 a6)
include h u

theorem c135 : val_main_v135 a0 a1 a3 a4 a5 a6 (ix2 b n) = bestA a0 a1 a3 a4 a5 a6 b n 0 := by
  rw [val_main_v135_apply, val_main_v134_apply, ← v125_at b n h u]; exact congrArg _ (ext3 (q0 b n) (q1 b n) rfl)
theorem c137 : val_main_v137 a0 a1 a3 a4 a5 a6 (ix2 b n) = bestA a0 a1 a3 a4 a5 a6 b n 1 := by
  rw [val_main_v137_apply, val_main_v136_apply, ← v125_at b n h u]; exact congrArg _ (ext3 (q0 b n) (q1 b n) rfl)
theorem c139 : val_main_v139 a0 a1 a3 a4 a5 a6 (ix2 b n) = bestA a0 a1 a3 a4 a5 a6 b n 2 := by
  rw [val_main_v139_apply, val_main_v138_apply, ← v125_at b n h u]; exact congrArg _ (ext3 (q0 b n) (q1 b n) rfl)
theorem c141 : val_main_v141 a0 a1 a3 a4 a5 a6 (ix2 b n) = bestA a0 a1 a3 a4 a5 a6 b n 3 := by
  rw [val_main_v141_apply, val_main_v140_apply, ← v125_at b n h u]; exact congrArg _ (ext3 (q0 b n) (q1 b n) rfl)

theorem v152_at : val_main_v152 a0 a1 a3 a4 a5 a6 (ix2 b n) = inter (boxA a1 b n) (bestA a0 a1 a3 a4 a5 a6 b n) := by
  rw [val_main_v152_apply, val_main_v148_apply, val_main_v151_apply, val_main_v146_apply, val_main_v149_apply, val_main_v144_apply,
    val_main_v142_apply, val_main_v145_apply, val_main_v143_apply, c127, c129, c131, c133, c135 b n h u, c137 b n h u, c139 b n h u, c141 b n h u,
    val_main_v147_apply, val_main_v150_apply, val_main_cst_13_apply, val_main_cst_14_apply]
  unfold inter
  simp only [Ideal.ofBits_def, Ideal.ofBits_zero_f32]
  rfl

theorem v160_at : val_main_v160 a0 a1 a3 a4 a5 a6 (ix2 b n) = joined (boxA a1 b n) (bestA a0 a1 a3 a4 a5 a6 b n) := by
  rw [val_main_v160_apply, val_main_v159_apply, val_main_v155_apply, val_main_v158_apply, val_main_v153_apply, val_main_v154_apply,
    val_main_v156_apply, val_main_v157_apply, v152_at b n h u, c127, c129, c131, c133, c135 b n h u, c137 b n h u, c139 b n h u, c141 b n h u]
  rfl

theorem v170_at : val_main_v170 a0 a1 a3 a4 a5 a6 (ix2 b n) = enclose (boxA a1 b n) (bestA a0 a1 a3 a4 a5 a6 b n) := by
  rw [val_main_v170_apply, val_main_v168_apply, val_main_v169_apply, val_main_v166_apply, val_main_v164_apply, val_main_v167_apply,
    val_main_v165_apply, c127, c129, c131, c133, c135 b n h u, c137 b n h u, c139 b n h u, c141 b n h u]
  rfl

theorem v175_at : val_main_v175 a0 a1 a3 a4 a5 a6 (ix2 b n) = gen (boxA a1 b n) (bestA a0 a1 a3 a4 a5 a6 b n) := by
  rw [val_main_v175_apply, val_main_v163_apply, val_main_v174_apply, val_main_v162_apply, val_main_v171_apply, val_main_v173_apply,
    v152_at b n h u, v160_at b n h u, v170_at b n h u, val_main_v161_apply, val_main_v172_apply, val_main_cst_15_apply, val_main_cst_16_apply]
  rfl

theorem v217_at : val_main_v217 a0 a1 a3 a4 a5 a6 (ix2 b n)
    = (1 - gen (boxA a1 b n) (bestA a0 a1 a3 a4 a5 a6 b n)) * fgF (metA a0 a1 a3 a4 a5 a6 b) n := by
  rw [val_main_v217_apply, val_main_v216_apply, v175_at b n h u, v120_at b n h, val_main_v215_apply, val_main_cst_29_apply]
  exact congrArg (fun z : EReal => (z - _) * _) ofBits_one

/-- The reference's overlap loss is the kernel's. -/
theorem giou_ref : val_main_v219 a0 a1 a3 a4 a5 a6 = giouA a0 a1 a3 a4 a5 a6 := by
  funext i
  rw [val_main_v219_apply, val_main_v218_apply]
  have e0 : (val_main_cst_30 (F := Ideal)) (Shape.Idx.first h_S_) = (0 : EReal) := Ideal.ofBits_zero .f32
  refine (congrArg₂ (· + ·) e0 rfl).trans ?_
  rw [zero_add]
  show _ = ∑ n : Fin 8448, (1 - gen (boxA a1 (i 0) n) (bestA a0 a1 a3 a4 a5 a6 (i 0) n)) * fgF (metA a0 a1 a3 a4 a5 a6 (i 0)) n
  refine Finset.sum_congr rfl fun n _ => ?_
  have hi : idx_main_v218 (idx_main_v219 i) n = ix2 (i 0) n := ext2 (by
    show (((i 0).val * 1 + (i 1).val) * 1 + (i 2).val) = _
    have h1 : (i 1).val < 1 := (i 1).isLt
    have h2 : (i 2).val < 1 := (i 2).isLt
    show _ = (i 0).val
    omega) rfl
  rw [hi]
  exact v217_at (i 0) n h u

end

end Cert.Tal

end
-- ==== Proof.Hat.lean ====
/- The distance loss of one anchor over the reals: the two-point interpolation of the log-probabilities is the kernel's hat-weighted sum. -/
module

public import proofs.«01_k».proof.Proof.ReadK2

@[expose] public section

set_option maxRecDepth 16384

noncomputable section

namespace Cert.Tal

open Idealize.ShloMosaic

theorem ofBits_cap : ∃ c : ℝ, Ideal.ofBits .f32 0x417FD70A#32 = c ∧ 0 ≤ c ∧ c < 16 := by
  refine ⟨16766730 / 1048576, ?_, by norm_num, by norm_num⟩
  simp [Ideal.ofBits, Ideal.ieee]
  rw [← EReal.coe_mul]
  norm_num

theorem ofBits_four : Ideal.ofBits .f32 0x40800000#32 = ((4 : ℝ) : EReal) := by
  simp [Ideal.ofBits, Ideal.ieee]
  rw [← EReal.coe_mul]
  norm_num

theorem ofBits_quarter : Ideal.ofBits .f32 0x3E800000#32 = ((1 / 4 : ℝ) : EReal) := by
  simp [Ideal.ofBits, Ideal.ieee]
  rw [← EReal.coe_mul]
  norm_num

/-- A target is a real number from 0 to below 16. -/
theorem tgt_real (u : EReal) : ∃ t : ℝ, tgt u = t ∧ 0 ≤ t ∧ t < 16 := by
  obtain ⟨c, hc, h0, h1⟩ := ofBits_cap
  unfold tgt
  rw [hc]
  have lo : (0 : EReal) ≤ min (c : EReal) (max 0 (Ideal.div u (Ideal.ofBits .f32 0x41000000#32))) :=
    le_min (by exact_mod_cast h0) (le_max_left _ _)
  have hi : min (c : EReal) (max 0 (Ideal.div u (Ideal.ofBits .f32 0x41000000#32))) ≤ c := min_le_left _ _
  generalize min (c : EReal) (max 0 (Ideal.div u (Ideal.ofBits .f32 0x41000000#32))) = x at lo hi
  induction x with
  | bot => exact absurd lo (by simp)
  | top => exact absurd hi (by simp)
  | coe r => exact ⟨r, rfl, by exact_mod_cast lo, lt_of_le_of_lt (by exact_mod_cast hi) h1⟩

/-- The whole part of a target. -/
def flr (x : EReal) : Fin 16 := ⟨min 15 ⌊x.toReal⌋₊, by omega⟩

theorem flr_real (t : ℝ) (h0 : 0 ≤ t) (h1 : t < 16) : ((flr (t : EReal)).val : ℝ) ≤ t ∧ t < (flr (t : EReal)).val + 1 := by
  have hf : ⌊t⌋₊ < 16 := (Nat.floor_lt h0).mpr (by exact_mod_cast h1)
  have e : (flr (t : EReal)).val = ⌊t⌋₊ := by
    show min 15 ⌊EReal.toReal (t : EReal)⌋₊ = _
    rw [EReal.toReal_coe]; omega
  rw [e]
  exact ⟨Nat.floor_le h0, Nat.lt_floor_add_one t⟩

theorem flr_word (u : EReal) : IntOp.minsi 16#32 (IntOp.maxsi 0#32 (Ideal.fptosi 32 (tgt u))) = BitVec.ofNat 32 (flr (tgt u)).val := by
  obtain ⟨t, ht, h0, h1⟩ := tgt_real u
  rw [ht]
  obtain ⟨l, r⟩ := flr_real t h0 h1
  generalize flr (t : EReal) = j at l r
  have e : Ideal.fptosi 32 (t : EReal) = BitVec.ofInt 32 (j.val : ℤ) := by
    have hfl : ⌊t⌋ = (j.val : ℤ) := Int.floor_eq_iff.mpr ⟨by exact_mod_cast l, by exact_mod_cast r⟩
    unfold Ideal.fptosi
    refine congrArg _ ?_
    show max _ (min _ (if 0 ≤ t then ⌊t⌋ else ⌈t⌉)) = _
    rw [if_pos h0, hfl]
    have := j.isLt
    omega
  rw [e]
  fin_cases j <;> decide

theorem next_word (j : Fin 16) : IntOp.minsi 16#32 (IntOp.maxsi 0#32 (IntOp.addi (BitVec.ofNat 32 j.val) 1#32)) = BitVec.ofNat 32 (j.val + 1) := by
  revert j; decide

/-- A finite sum of reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : ((max a b : ℝ) : EReal) = max (a : EReal) b := EReal.coe_strictMono.monotone.map_max

theorem absE_coe (r : ℝ) : absE (r : EReal) = ((|r| : ℝ) : EReal) := by
  unfold absE
  rw [← EReal.coe_neg, ← coe_max]
  rfl

/-- The log-probability of an outcome. -/
def logp (d : Fin 17 → EReal) (k : Fin 17) : EReal := d k - (⨆ j, d j) - Ideal.log (∑ i, Ideal.exp (d i - ⨆ j, d j))

theorem lse_real (e : Fin 17 → ℝ) : ∃ A : ℝ, lse (fun k => (e k : EReal)) = A ∧ ∀ k, logp (fun k => (e k : EReal)) k = ((e k - A : ℝ) : EReal) := by
  obtain ⟨j, hj⟩ := Finite.exists_max e
  have hs : (⨆ k, (e k : EReal)) = e j := le_antisymm (iSup_le fun k => by exact_mod_cast hj k) (le_iSup (fun k => (e k : EReal)) j)
  have hl : Ideal.log (∑ i, Ideal.exp ((e i : EReal) - e j)) = ((Real.log (∑ i, Real.exp (e i - e j)) : ℝ) : EReal) := by
    have : ∀ i, Ideal.exp ((e i : EReal) - e j) = ((Real.exp (e i - e j) : ℝ) : EReal) := fun i => by rw [← EReal.coe_sub, Ideal.exp_coe]
    simp only [this]
    rw [coe_sum, Ideal.log_coe, if_neg]
    exact not_le.mpr (Finset.sum_pos (fun i _ => Real.exp_pos _) Finset.univ_nonempty)
  refine ⟨Real.log (∑ i, Real.exp (e i - e j)) + e j, ?_, fun k => ?_⟩
  · unfold lse
    rw [hs, hl, EReal.coe_add]
  · unfold logp
    rw [hs, hl, ← EReal.coe_sub, ← EReal.coe_sub]
    refine congrArg _ ?_
    ring

theorem sel_real (e : Fin 17 → ℝ) (t : ℝ) (j : Fin 16) (l : (j.val : ℝ) ≤ t) (r : t < j.val + 1) :
    sel (fun k => (e k : EReal)) t = ((e j.castSucc * (1 - (t - j.val)) + e j.succ * (t - j.val) : ℝ) : EReal) := by
  have term : ∀ k : Fin 17, (e k : EReal) * max (1 - absE (((k.val : ℝ) : EReal) - t)) 0 = ((e k * max (1 - |(k.val : ℝ) - t|) 0 : ℝ) : EReal) := fun k => by
    rw [← EReal.coe_sub, absE_coe, ← EReal.coe_one, ← EReal.coe_sub, ← EReal.coe_zero, ← coe_max, ← EReal.coe_mul]
  unfold sel
  simp only [term]
  rw [coe_sum]
  refine congrArg _ ?_
  rw [Finset.sum_eq_add j.castSucc j.succ (Fin.castSucc_lt_succ).ne]
  · have e1 : |((j.castSucc).val : ℝ) - t| = t - j.val := by
      show |(j.val : ℝ) - t| = _
      rw [abs_of_nonpos (by linarith)]; ring
    have e2 : |((j.succ).val : ℝ) - t| = 1 - (t - j.val) := by
      rw [Fin.val_succ, Nat.cast_add, Nat.cast_one, abs_of_nonneg (by linarith)]; ring
    rw [e1, e2, max_eq_left (by linarith), max_eq_left (by linarith)]
    ring
  · intro k _ hk
    have : 1 ≤ |(k.val : ℝ) - t| := by
      rcases lt_or_ge k.val j.val with h | h
      · have : (k.val : ℝ) + 1 ≤ j.val := by exact_mod_cast h
        rw [abs_of_nonpos (by linarith)]; linarith
      · have h2 : j.val + 2 ≤ k.val := by
          have h3 : k.val ≠ j.val := fun h => hk.1 (Fin.ext h)
          have h4 : k.val ≠ j.val + 1 := fun h => hk.2 (Fin.ext h)
          omega
        have : (j.val : ℝ) + 2 ≤ k.val := by exact_mod_cast h2
        rw [abs_of_nonneg (by linarith)]; linarith
    rw [max_eq_right (by linarith), mul_zero]
  · exact fun h => absurd (Finset.mem_univ _) h
  · exact fun h => absurd (Finset.mem_univ _) h

/-- The interpolated cross entropy of one side. -/
def cross (d : Fin 17 → EReal) (t : EReal) : EReal :=
  -logp d (flr t).castSucc * (1 - (t - (((flr t).val : ℝ) : EReal))) + -logp d (flr t).succ * (t - (((flr t).val : ℝ) : EReal))

theorem cross_eq (d : Fin 17 → EReal) (hd : ∀ k, ∃ r : ℝ, d k = r) (u : EReal) :
    ∃ A S : ℝ, lse d = A ∧ sel d (tgt u) = S ∧ cross d (tgt u) = ((A - S : ℝ) : EReal) := by
  choose e he using hd
  obtain rfl : d = fun k => (e k : EReal) := funext he
  obtain ⟨A, hA, hk⟩ := lse_real e
  obtain ⟨t, ht, h0, h1⟩ := tgt_real u
  obtain ⟨l, r⟩ := flr_real t h0 h1
  rw [ht]
  unfold cross
  generalize flr (t : EReal) = j at l r
  refine ⟨A, _, hA, sel_real e t j l r, ?_⟩
  rw [hk, hk, ← EReal.coe_neg, ← EReal.coe_neg, ← EReal.coe_sub, ← EReal.coe_one, ← EReal.coe_sub, ← EReal.coe_mul, ← EReal.coe_mul, ← EReal.coe_add]
  refine congrArg _ ?_
  ring

/-- The mean of the four sides' cross entropies is the kernel's loss. -/
theorem focal_eq (d : Fin 4 → Fin 17 → EReal) (hd : ∀ s k, ∃ r : ℝ, d s k = r) (u : Fin 4 → EReal) :
    Ideal.div (∑ s, cross (d s) (tgt (u s))) (Ideal.ofBits .f32 0x40800000#32) = focal d u := by
  choose A S hA hS hC using fun s => cross_eq (d s) (hd s) (u s)
  unfold focal
  simp only [hA, hS, hC]
  rw [coe_sum, ofBits_four, ofBits_quarter]
  unfold Ideal.div
  rw [if_neg (by exact_mod_cast (by norm_num : (4 : ℝ) ≠ 0)), ← EReal.coe_inv, ← EReal.coe_mul]
  simp only [← EReal.coe_add, ← EReal.coe_sub, ← EReal.coe_mul]
  refine congrArg _ ?_
  simp only [Fin.sum_univ_four]
  ring

end Cert.Tal

end
-- ==== Proof.RefDfl.lean ====
/- The reference's distance loss is the kernel's, where the predicted distances are real numbers. -/
module

public import proofs.«01_k».proof.Proof.RefBest
public import proofs.«01_k».proof.Proof.Hat

@[expose] public section

set_option maxRecDepth 16384

noncomputable section

namespace Cert.Tal

open Cert.ReferenceIdeal Cert.ReferenceIdeal.Gen Cert.ReferenceIdeal.Read Idealize.ShloMosaic Idealize.ShloMosaic.TcCoe

/-- Two indices of rank four with equal coordinates are equal. -/
theorem ext4 {d : Fin 4 → ℕ} {i j : (⟨4, d⟩ : Shape).Idx} (h0 : (i 0).val = (j 0).val) (h1 : (i 1).val = (j 1).val)
    (h2 : (i 2).val = (j 2).val) (h3 : (i 3).val = (j 3).val) : i = j := funext fun a => Fin.ext (by fin_cases a <;> assumption)

variable {a0 : Vec Ideal S8x8448x80 .f32} {a1 : Vec Ideal S8x8448x4 .f32} {a2 : Vec Ideal S8x8448x68 .f32} {a3 : Vec Ideal S8448x2 .f32}
  {a4 : Vec Ideal S8x50x4 .f32} {a5 : Vec Ideal S8x50x1 .f32} {a6 : IVec S8x50x1 32} (b : Fin 8) (n : Fin 8448) (s : Fin 4)

section Probabilities

theorem v190_at (k : Fin 17) : val_main_v190 (F := Ideal) a2 (ix4 b n s k) = distA a2 b n s k := by
  rw [val_main_v190_apply]
  unfold distA
  refine congrArg a2 (ext3 ?_ ?_ ?_)
  · show (((b.val * 8448 + n.val) * 4 + s.val) * 17 + k.val) / 574464 = b.val
    omega
  · show (((b.val * 8448 + n.val) * 4 + s.val) * 17 + k.val) / 68 % 8448 = n.val
    omega
  · show (((b.val * 8448 + n.val) * 4 + s.val) * 17 + k.val) % 68 = s.val * 17 + k.val
    omega

theorem red17 : S8x8448x4x17.Reduces [3] S8x8448x4 := by decide

theorem max17 (x : S8x8448x4x17.Idx → EReal) (init : S_.Idx → EReal) (hi : init (Shape.Idx.first h_S_) = ⊥) :
    Host.reduce (α := EReal) max x init reducesTo_S8x8448x4x17_S8x8448x4_d3 h_S_ (ix3 b n s) = ⨆ k : Fin 17, x (ix4 b n s k) := by
  rw [Host.reduce_eq_fold_single (α := EReal) max _ _ _ red17 _ _, hi]
  refine (fold_max_eq_iSup _).trans ?_
  refine iSup_congr fun k => congrArg x ?_
  funext a; exact Fin.ext (by rw [Shape.Reduces.lift_val]; fin_cases a <;> rfl)

theorem top_at : val_main_call7_v2 (F := Ideal) a2 (ix3 b n s) = ⨆ k, distA a2 b n s k := by
  rw [val_main_call7_v2_apply, val_main_call7_v1_apply, val_main_call7_cst_0_apply]
  have e : val_main_call7_v0 (F := Ideal) a2 (ix3 b n s) = ⨆ k, distA a2 b n s k :=
    (max17 b n s (val_main_v190 (F := Ideal) a2) _ ofBits_neg_inf).trans (iSup_congr fun k => v190_at b n s k)
  rw [e]
  exact (congrArg (fun z : EReal => max z _) ofBits_neg_inf).trans (max_eq_right bot_le)

theorem shift_at (k : Fin 17) : val_main_call7_v5 (F := Ideal) a2 (ix4 b n s k) = distA a2 b n s k - ⨆ j, distA a2 b n s j := by
  rw [val_main_call7_v5_apply, v190_at, val_main_call7_v4_apply, val_main_call7_v3_apply,
    show idx_main_call7_v3 (idx_main_call7_v4 (ix4 b n s k)) = ix3 b n s from ext3 rfl rfl rfl, top_at]
  rfl

theorem tot_at : val_main_call7_v7 (F := Ideal) a2 (ix3 b n s) = ∑ k, Ideal.exp (distA a2 b n s k - ⨆ j, distA a2 b n s j) := by
  rw [val_main_call7_v7_apply]
  have e0 : (val_main_call7_cst_1 (F := Ideal)) (Shape.Idx.first h_S_) = (0 : EReal) := Ideal.ofBits_zero .f32
  refine (congrArg₂ (· + ·) e0 rfl).trans ?_
  rw [zero_add]
  refine Finset.sum_congr rfl fun k _ => ?_
  rw [val_main_call7_v6_apply, show idx_main_call7_v7 (ix3 b n s) k = ix4 b n s k from ext4 rfl rfl rfl rfl, shift_at]
  rfl

theorem v200_at (k : Fin 17) : val_main_v200 (F := Ideal) a2 (ix4 b n s k) = logp (distA a2 b n s) k := by
  rw [val_main_v200_apply, shift_at, val_main_call7_v10_apply, val_main_call7_v9_apply, val_main_call7_v8_apply,
    show idx_main_call7_v8 (idx_main_call7_v10 (ix4 b n s k)) = ix3 b n s from ext3 rfl rfl rfl, tot_at]
  rfl

/-- Reading one outcome per side: the position is a word in range. -/
theorem pick17 (X : S8x8448x4x17.Idx → EReal) (I : IVec S8x8448x4x1x1 32) (k : Fin 17) (hi : I (ix5 b n s 0 0) = BitVec.ofNat 32 k.val) :
    Host.gather gather_S8x8448x4x17_S8x8448x4x1x1_S8x8448x4x1_n_3_012_012_3_4_1111 X I (ix4 b n s 0) = X (ix4 b n s k) := by
  unfold Host.gather
  refine congrArg X (funext fun a => Fin.ext ?_)
  show gather_S8x8448x4x17_S8x8448x4x1x1_S8x8448x4x1_n_3_012_012_3_4_1111.start (ix4 b n s 0) I a
    + gather_S8x8448x4x17_S8x8448x4x1x1_S8x8448x4x1_n_3_012_012_3_4_1111.batchCoord (ix4 b n s 0) a
    + gather_S8x8448x4x17_S8x8448x4x1x1_S8x8448x4x1_n_3_012_012_3_4_1111.offCoord (ix4 b n s 0) a = _
  rw [GatherDims.offCoord_eq_zero _ _ _ (fun h => by
    have := (GatherDims.mem_sKept _ _).mp h
    revert this; revert a; decide), Nat.add_zero]
  by_cases h3 : a = 3
  · subst h3
    rw [GatherDims.batchCoord_eq_zero _ _ _ (by decide), Nat.add_zero]
    unfold GatherDims.start
    rw [dif_pos (by decide)]
    have hsi : ∀ h, gather_S8x8448x4x17_S8x8448x4x1x1_S8x8448x4x1_n_3_012_012_3_4_1111.siIdx (ix4 b n s 0) ⟨List.idxOf (3 : Fin 4) [3], h⟩
        = ix5 b n s 0 0 := fun h => by
      funext c; refine Fin.ext ?_
      fin_cases c <;> rfl
    refine Eq.trans (congrArg (fun z : BitVec 32 => min z.toInt.toNat 16) ((congrArg _ (hsi _)).trans hi)) ?_
    have hk : (BitVec.ofNat 32 k.val).toInt = (k.val : ℤ) := by
      have := k.isLt
      rw [BitVec.toInt_eq_toNat_of_lt (by rw [BitVec.toNat_ofNat]; omega), BitVec.toNat_ofNat]; omega
    rw [hk]
    show min k.val 16 = k.val
    have := k.isLt
    omega
  · rw [GatherDims.start_batching _ _ _ _ (by revert h3; revert a; decide), Nat.zero_add]
    unfold GatherDims.batchCoord
    rw [dif_pos (by revert h3; revert a; decide)]
    fin_cases a
    · rfl
    · rfl
    · rfl
    · exact absurd rfl h3

theorem not_neg (k : Fin 17) : IntOp.cmpi .slt (BitVec.ofNat 32 k.val) 0#32 = 0#1 := by revert k; decide

end Probabilities

section Targets

variable (h : Sep a0 a1 a3 a4 a5 a6) (u : OneBest a0 a1 a3 a4 a5 a6)
include h u

theorem v181_at (k : Fin 2) : val_main_v181 a0 a1 a3 a4 a5 a6 (ix3 b n k)
    = Ideal.div (ptA a3 n k - bestA a0 a1 a3 a4 a5 a6 b n (k.castLE (by decide))) (Ideal.ofBits .f32 0x41000000#32) := by
  rw [val_main_v181_apply, val_main_v179_apply, val_main_v178_apply, val_main_v176_apply, val_main_v177_apply, val_main_v180_apply,
    val_main_cst_17_apply, ← v125_at b n h u]
  unfold ptA
  exact congrArg₂ (fun x y : EReal => Ideal.div (x - y) _) (congrArg a3 (ext2 rfl rfl)) (congrArg _ (ext3 rfl rfl rfl))

theorem v187_at (k : Fin 2) : val_main_v187 a0 a1 a3 a4 a5 a6 (ix3 b n k)
    = Ideal.div (bestA a0 a1 a3 a4 a5 a6 b n ((k.natAdd 2).castLE (by decide)) - ptA a3 n k) (Ideal.ofBits .f32 0x41000000#32) := by
  rw [val_main_v187_apply, val_main_v185_apply, val_main_v184_apply, val_main_v183_apply, val_main_v182_apply, val_main_v186_apply,
    val_main_cst_18_apply, ← v125_at b n h u]
  unfold ptA
  exact congrArg₂ (fun x y : EReal => Ideal.div (x - y) _) (congrArg _ (ext3 rfl rfl rfl)) (congrArg a3 (ext2 rfl rfl))

omit h u in
theorem v188_lo (k : Fin 2) : val_main_v188 a0 a1 a3 a4 a5 a6 (ix3 b n (k.castLE (by decide))) = val_main_v181 a0 a1 a3 a4 a5 a6 (ix3 b n k) := by
  unfold val_main_v188
  refine concatenate_pair_apply_left (t := S8x8448x4) (s₁ := S8x8448x2) (s₂ := S8x8448x2) _ _ _ _ _ rfl (ix3 b n k) ?_
  intro a; fin_cases a <;> rfl

omit h u in
theorem v188_hi (k : Fin 2) : val_main_v188 a0 a1 a3 a4 a5 a6 (ix3 b n ((k.natAdd 2).castLE (by decide))) = val_main_v187 a0 a1 a3 a4 a5 a6 (ix3 b n k) := by
  unfold val_main_v188
  refine concatenate_pair_apply_right (t := S8x8448x4) (s₁ := S8x8448x2) (s₂ := S8x8448x2) _ _ _ _ _ rfl rfl (ix3 b n k) ?_ ?_
  · intro a
    fin_cases a
    · exact fun _ => rfl
    · exact fun _ => rfl
    · exact fun h => absurd rfl h
  · show k.val + 2 = 2 + k.val
    omega

theorem v188_at : val_main_v188 a0 a1 a3 a4 a5 a6 (ix3 b n s)
    = Ideal.div (side (ptA a3 n) (bestA a0 a1 a3 a4 a5 a6 b n) s) (Ideal.ofBits .f32 0x41000000#32) := by
  fin_cases s
  · exact (v188_lo b n 0).trans (v181_at b n h u 0)
  · exact (v188_lo b n 1).trans (v181_at b n h u 1)
  · exact (v188_hi b n 0).trans (v187_at b n h u 0)
  · exact (v188_hi b n 1).trans (v187_at b n h u 1)

theorem v189_at : val_main_v189 a0 a1 a3 a4 a5 a6 (ix3 b n s) = tgt (side (ptA a3 n) (bestA a0 a1 a3 a4 a5 a6 b n) s) := by
  rw [val_main_v189_apply, val_main_call4_v4_apply, val_main_call4_v3_apply, val_main_cst_20_apply, val_main_call4_v2_apply, val_main_call4_v1_apply,
    val_main_call4_v0_apply, val_main_cst_19_apply, v188_at b n s h u]
  unfold tgt
  exact congrArg (fun z : EReal => min _ (max z _)) (Ideal.ofBits_zero .f32)

theorem v192_at : val_main_v192 a0 a1 a3 a4 a5 a6 (ix3 b n s)
    = BitVec.ofNat 32 (flr (tgt (side (ptA a3 n) (bestA a0 a1 a3 a4 a5 a6 b n) s))).val := by
  rw [val_main_v192_apply, val_main_call5_v4_apply, val_main_call5_v3_apply, val_main_c_22_apply, val_main_call5_v2_apply, val_main_call5_v1_apply,
    val_main_call5_v0_apply, val_main_c_21_apply, val_main_v191_apply, v189_at b n s h u]
  exact flr_word _

theorem v195_at : val_main_v195 a0 a1 a3 a4 a5 a6 (ix3 b n s)
    = BitVec.ofNat 32 ((flr (tgt (side (ptA a3 n) (bestA a0 a1 a3 a4 a5 a6 b n) s))).val + 1) := by
  rw [val_main_v195_apply, val_main_call6_v4_apply, val_main_call6_v3_apply, val_main_c_25_apply, val_main_call6_v2_apply, val_main_call6_v1_apply,
    val_main_call6_v0_apply, val_main_c_24_apply, val_main_v194_apply, val_main_v193_apply, val_main_c_23_apply, v192_at b n s h u]
  exact next_word _

omit h u in
theorem small_real (j : Fin 16) : (FloatOps.sitofp (F := Ideal) (w := 32) .f32 (BitVec.ofNat 32 j.val) : EReal) = ((j.val : ℝ) : EReal) := by
  show (((BitVec.ofNat 32 j.val).toInt : ℝ) : EReal) = _
  have hk : (BitVec.ofNat 32 j.val).toInt = (j.val : ℤ) := by
    have := j.isLt
    rw [BitVec.toInt_eq_toNat_of_lt (by rw [BitVec.toNat_ofNat]; omega), BitVec.toNat_ofNat]; omega
  rw [hk]
  norm_cast

theorem v197_at : val_main_v197 a0 a1 a3 a4 a5 a6 (ix3 b n s) = tgt (side (ptA a3 n) (bestA a0 a1 a3 a4 a5 a6 b n) s)
    - (((flr (tgt (side (ptA a3 n) (bestA a0 a1 a3 a4 a5 a6 b n) s))).val : ℝ) : EReal) := by
  rw [val_main_v197_apply, val_main_v196_apply, v189_at b n s h u, v192_at b n s h u]
  exact congrArg (fun z : EReal => tgt (side (ptA a3 n) (bestA a0 a1 a3 a4 a5 a6 b n) s) - z) (small_real _)

theorem v199_at : val_main_v199 a0 a1 a3 a4 a5 a6 (ix3 b n s) = 1 - (tgt (side (ptA a3 n) (bestA a0 a1 a3 a4 a5 a6 b n) s)
    - (((flr (tgt (side (ptA a3 n) (bestA a0 a1 a3 a4 a5 a6 b n) s))).val : ℝ) : EReal)) := by
  rw [val_main_v199_apply, v197_at b n s h u, val_main_v198_apply, val_main_cst_26_apply]
  exact congrArg (fun z : EReal => z - _) ofBits_one

omit h u in
theorem q5a : ((((b.val * 8448 + n.val) * 4 + s.val) * 1 + 0) * 1 + 0) / 33792 = b.val := by omega
omit h u in
theorem q5b : ((((b.val * 8448 + n.val) * 4 + s.val) * 1 + 0) * 1 + 0) / 4 % 8448 = n.val := by omega
omit h u in
theorem q5c : ((((b.val * 8448 + n.val) * 4 + s.val) * 1 + 0) * 1 + 0) / 1 % 4 = s.val := by omega
omit h u in
theorem q4a : (((b.val * 8448 + n.val) * 4 + s.val)) / 33792 = b.val := by omega
omit h u in
theorem q4b : (((b.val * 8448 + n.val) * 4 + s.val)) / 4 % 8448 = n.val := by omega
omit h u in
theorem q4c : (((b.val * 8448 + n.val) * 4 + s.val)) / 1 % 4 = s.val := by omega

theorem v204_at : val_main_v204 a0 a1 a2 a3 a4 a5 a6 (ix3 b n s)
    = -logp (distA a2 b n s) (flr (tgt (side (ptA a3 n) (bestA a0 a1 a3 a4 a5 a6 b n) s))).castSucc := by
  rw [val_main_v204_apply, val_main_v203_apply, show idx_main_v203 (ix3 b n s) = ix4 b n s 0 from ext4 (q4a b n s) (q4b b n s) (q4c b n s) rfl,
    ← v200_at]
  refine congrArg (fun z : EReal => -z) ?_
  refine pick17 b n s _ _ _ ?_
  rw [val_main_call8_v5_apply, show idx_main_call8_v5 (ix5 b n s 0 0) = ix4 b n s 0 from ext4 (q5a b n s) (q5b b n s) (q5c b n s) rfl,
    val_main_call8_v4_apply, val_main_call8_v1_apply, val_main_call8_v0_apply, val_main_call8_c_apply, val_main_v201_apply,
    show idx_main_v201 (ix4 b n s 0) = ix3 b n s from ext3 rfl rfl rfl, v192_at b n s h u]
  have := not_neg (flr (tgt (side (ptA a3 n) (bestA a0 a1 a3 a4 a5 a6 b n) s))).castSucc
  rw [Fin.val_castSucc] at this ⊢
  rw [this]
  rfl

theorem v208_at : val_main_v208 a0 a1 a2 a3 a4 a5 a6 (ix3 b n s)
    = -logp (distA a2 b n s) (flr (tgt (side (ptA a3 n) (bestA a0 a1 a3 a4 a5 a6 b n) s))).succ := by
  rw [val_main_v208_apply, val_main_v207_apply, show idx_main_v207 (ix3 b n s) = ix4 b n s 0 from ext4 (q4a b n s) (q4b b n s) (q4c b n s) rfl,
    ← v200_at]
  refine congrArg (fun z : EReal => -z) ?_
  refine pick17 b n s _ _ _ ?_
  rw [val_main_call9_v5_apply, show idx_main_call9_v5 (ix5 b n s 0 0) = ix4 b n s 0 from ext4 (q5a b n s) (q5b b n s) (q5c b n s) rfl,
    val_main_call9_v4_apply, val_main_call9_v1_apply, val_main_call9_v0_apply, val_main_call9_c_apply, val_main_v205_apply,
    show idx_main_v205 (ix4 b n s 0) = ix3 b n s from ext3 rfl rfl rfl, v195_at b n s h u]
  have := not_neg (flr (tgt (side (ptA a3 n) (bestA a0 a1 a3 a4 a5 a6 b n) s))).succ
  rw [Fin.val_succ] at this ⊢
  rw [this]
  rfl

theorem v211_at : val_main_v211 a0 a1 a2 a3 a4 a5 a6 (ix3 b n s)
    = cross (distA a2 b n s) (tgt (side (ptA a3 n) (bestA a0 a1 a3 a4 a5 a6 b n) s)) := by
  rw [val_main_v211_apply, val_main_v209_apply, val_main_v210_apply, v204_at b n s h u, v208_at b n s h u, v199_at b n s h u, v197_at b n s h u]
  rfl

variable (hf : ∀ b n s k, ∃ r : ℝ, distA a2 b n s k = r)
include hf

theorem v214_at : val_main_v214 a0 a1 a2 a3 a4 a5 a6 (ix2 b n)
    = focal (distA a2 b n) (side (ptA a3 n) (bestA a0 a1 a3 a4 a5 a6 b n)) := by
  rw [val_main_v214_apply, val_main_v212_apply, val_main_v213_apply, val_main_cst_28_apply, ← focal_eq _ (hf b n)]
  have e0 : (val_main_cst_27 (F := Ideal)) (Shape.Idx.first h_S_) = (0 : EReal) := Ideal.ofBits_zero .f32
  refine congrArg (fun z : EReal => Ideal.div z (Ideal.ofBits .f32 0x40800000#32)) ?_
  refine (congrArg₂ (· + ·) e0 rfl).trans ?_
  rw [zero_add]
  refine Finset.sum_congr rfl fun s _ => ?_
  rw [show idx_main_v212 (ix2 b n) s = ix3 b n s from ext3 rfl rfl rfl, v211_at b n s h u]

theorem v222_at : val_main_v222 a0 a1 a2 a3 a4 a5 a6 (ix2 b n)
    = focal (distA a2 b n) (side (ptA a3 n) (bestA a0 a1 a3 a4 a5 a6 b n)) * fgF (metA a0 a1 a3 a4 a5 a6 b) n := by
  rw [val_main_v222_apply, v214_at b n h u hf, v120_at b n h]
  rfl

/-- The reference's distance loss is the kernel's. -/
theorem dfl_ref : val_main_v224 a0 a1 a2 a3 a4 a5 a6 = dflA a0 a1 a2 a3 a4 a5 a6 := by
  funext i
  rw [val_main_v224_apply, val_main_v223_apply]
  have e0 : (val_main_cst_32 (F := Ideal)) (Shape.Idx.first h_S_) = (0 : EReal) := Ideal.ofBits_zero .f32
  refine (congrArg₂ (· + ·) e0 rfl).trans ?_
  rw [zero_add]
  show _ = ∑ n : Fin 8448, focal (distA a2 (i 0) n) (side (ptA a3 n) (bestA a0 a1 a3 a4 a5 a6 (i 0) n)) * fgF (metA a0 a1 a3 a4 a5 a6 (i 0)) n
  refine Finset.sum_congr rfl fun n _ => ?_
  have hi : idx_main_v223 (idx_main_v224 i) n = ix2 (i 0) n := ext2 (by
    show (((i 0).val * 1 + (i 1).val) * 1 + (i 2).val) = _
    have h1 : (i 1).val < 1 := (i 1).isLt
    have h2 : (i 2).val < 1 := (i 2).isLt
    show _ = (i 0).val
    omega) rfl
  rw [hi]
  exact v222_at (i 0) n h u hf

end Targets

end Cert.Tal

end
-- ==== Proof.Vocab3.lean ====
/- The kernel's steps of the class targets, named once for every run of 1408 anchors: the scale of each ground truth, the largest
   scaled value among the ground truths of one class, the class targets, and their classification loss. -/
module

public import proofs.«01_k».proof.Proof.Vocab

@[expose] public section

set_option maxRecDepth 16384

noncomputable section

namespace Cert.Tal

open Cert.KernelIdeal Cert.KernelIdeal.Gen Idealize.ShloMosaic Idealize.ShloMosaic.TcCoe

variable {F : FTy → Type} [FloatOps F]

/-- An array's entries where another is kept. -/
def keptV (t : FVec F S50x1 .f32) (A I : FVec F S50x1408 .f32) : FVec F S50x1408 .f32 := select (keepV t A) I (lit S50x1408 0x00000000#32)

/-- The largest of six columns and nothing. -/
def top6 (r0 r1 r2 r3 r4 r5 : FVec F S50x1 .f32) : FVec F S50x1 .f32 :=
  maximumf (maximumf (maximumf (maximumf (maximumf (maximumf (lit S50x1 0x00000000#32) r0) r1) r2) r3) r4) r5

/-- The largest kept overlap of each ground truth over its largest kept metric. -/
def scaleV (t : FVec F S50x1 .f32) (A0 A1 A2 A3 A4 A5 I0 I1 I2 I3 I4 I5 : FVec F S50x1408 .f32) : FVec F S50x1 .f32 :=
  divf (top6 (maxRow (keptV t A0 I0)) (maxRow (keptV t A1 I1)) (maxRow (keptV t A2 I2)) (maxRow (keptV t A3 I3)) (maxRow (keptV t A4 I4))
      (maxRow (keptV t A5 I5)))
    (addf (top6 (maxRow (topV t A0)) (maxRow (topV t A1)) (maxRow (topV t A2)) (maxRow (topV t A3)) (maxRow (topV t A4)) (maxRow (topV t A5)))
      (lit S50x1 0x3089705F#32))

/-- The kept metrics, scaled. -/
def normV (t : FVec F S50x1 .f32) (A : FVec F S50x1408 .f32) (s : FVec F S50x1 .f32) : FVec F S50x1408 .f32 := mulf (topV t A) (gc s)

/-- A column of bits against every anchor. -/
def okV (o : IVec S50x1 1) : IVec S50x1408 1 := broadcastTo S50x1408 (shapeCast S50x1 o shapeCasts_S50x1_S50x1) broadcasts_S50x1_S50x1408

/-- Whether the label of a ground truth is that of the one a number of places above, and the larger of a value and that one's. -/
def sameD1 (l : FVec F S50x1 .f32) : IVec S50x1 1 :=
  cmpf .oeq l (concatenate S50x1 0 [⟨S1x1, lit S1x1 0x00000000#32⟩, ⟨S49x1, extractStridedSlice S49x1 ![0, 0] l slices_S50x1_o0_0_S49x1⟩] concatenates_S1x1_S49x1_S50x1_d0)
def stepD1 (l : FVec F S50x1 .f32) (x : FVec F S50x1408 .f32) : FVec F S50x1408 .f32 :=
  maximumf x (select (okV (sameD1 l)) (concatenate S50x1408 0 [⟨S1x1408, lit S1x1408 0x00000000#32⟩,
    ⟨S49x1408, extractStridedSlice S49x1408 ![0, 0] x slices_S50x1408_o0_0_S49x1408⟩] concatenates_S1x1408_S49x1408_S50x1408_d0) (lit S50x1408 0x00000000#32))
def sameD2 (l : FVec F S50x1 .f32) : IVec S50x1 1 :=
  cmpf .oeq l (concatenate S50x1 0 [⟨S2x1, lit S2x1 0x00000000#32⟩, ⟨S48x1, extractStridedSlice S48x1 ![0, 0] l slices_S50x1_o0_0_S48x1⟩] concatenates_S2x1_S48x1_S50x1_d0)
def stepD2 (l : FVec F S50x1 .f32) (x : FVec F S50x1408 .f32) : FVec F S50x1408 .f32 :=
  maximumf x (select (okV (sameD2 l)) (concatenate S50x1408 0 [⟨S2x1408, lit S2x1408 0x00000000#32⟩,
    ⟨S48x1408, extractStridedSlice S48x1408 ![0, 0] x slices_S50x1408_o0_0_S48x1408⟩] concatenates_S2x1408_S48x1408_S50x1408_d0) (lit S50x1408 0x00000000#32))
def sameD4 (l : FVec F S50x1 .f32) : IVec S50x1 1 :=
  cmpf .oeq l (concatenate S50x1 0 [⟨S4x1, lit S4x1 0x00000000#32⟩, ⟨S46x1, extractStridedSlice S46x1 ![0, 0] l slices_S50x1_o0_0_S46x1⟩] concatenates_S4x1_S46x1_S50x1_d0)
def stepD4 (l : FVec F S50x1 .f32) (x : FVec F S50x1408 .f32) : FVec F S50x1408 .f32 :=
  maximumf x (select (okV (sameD4 l)) (concatenate S50x1408 0 [⟨S4x1408, lit S4x1408 0x00000000#32⟩,
    ⟨S46x1408, extractStridedSlice S46x1408 ![0, 0] x slices_S50x1408_o0_0_S46x1408⟩] concatenates_S4x1408_S46x1408_S50x1408_d0) (lit S50x1408 0x00000000#32))
def sameD8 (l : FVec F S50x1 .f32) : IVec S50x1 1 :=
  cmpf .oeq l (concatenate S50x1 0 [⟨S8x1, lit S8x1 0x00000000#32⟩, ⟨S42x1, extractStridedSlice S42x1 ![0, 0] l slices_S50x1_o0_0_S42x1⟩] concatenates_S8x1_S42x1_S50x1_d0)
def stepD8 (l : FVec F S50x1 .f32) (x : FVec F S50x1408 .f32) : FVec F S50x1408 .f32 :=
  maximumf x (select (okV (sameD8 l)) (concatenate S50x1408 0 [⟨S8x1408, lit S8x1408 0x00000000#32⟩,
    ⟨S42x1408, extractStridedSlice S42x1408 ![0, 0] x slices_S50x1408_o0_0_S42x1408⟩] concatenates_S8x1408_S42x1408_S50x1408_d0) (lit S50x1408 0x00000000#32))
def sameD16 (l : FVec F S50x1 .f32) : IVec S50x1 1 :=
  cmpf .oeq l (concatenate S50x1 0 [⟨S16x1, lit S16x1 0x00000000#32⟩, ⟨S34x1, extractStridedSlice S34x1 ![0, 0] l slices_S50x1_o0_0_S34x1⟩] concatenates_S16x1_S34x1_S50x1_d0)
def stepD16 (l : FVec F S50x1 .f32) (x : FVec F S50x1408 .f32) : FVec F S50x1408 .f32 :=
  maximumf x (select (okV (sameD16 l)) (concatenate S50x1408 0 [⟨S16x1408, lit S16x1408 0x00000000#32⟩,
    ⟨S34x1408, extractStridedSlice S34x1408 ![0, 0] x slices_S50x1408_o0_0_S34x1408⟩] concatenates_S16x1408_S34x1408_S50x1408_d0) (lit S50x1408 0x00000000#32))
def sameD32 (l : FVec F S50x1 .f32) : IVec S50x1 1 :=
  cmpf .oeq l (concatenate S50x1 0 [⟨S32x1, lit S32x1 0x00000000#32⟩, ⟨S18x1, extractStridedSlice S18x1 ![0, 0] l slices_S50x1_o0_0_S18x1⟩] concatenates_S32x1_S18x1_S50x1_d0)
def stepD32 (l : FVec F S50x1 .f32) (x : FVec F S50x1408 .f32) : FVec F S50x1408 .f32 :=
  maximumf x (select (okV (sameD32 l)) (concatenate S50x1408 0 [⟨S32x1408, lit S32x1408 0x00000000#32⟩,
    ⟨S18x1408, extractStridedSlice S18x1408 ![0, 0] x slices_S50x1408_o0_0_S18x1408⟩] concatenates_S32x1408_S18x1408_S50x1408_d0) (lit S50x1408 0x00000000#32))

/-- The same of the one a number of places below. -/
def sameU1 (l : FVec F S50x1 .f32) : IVec S50x1 1 :=
  cmpf .oeq l (concatenate S50x1 0 [⟨S49x1, extractStridedSlice S49x1 ![1, 0] l slices_S50x1_o1_0_S49x1⟩, ⟨S1x1, lit S1x1 0x00000000#32⟩] concatenates_S49x1_S1x1_S50x1_d0)
def stepU1 (l : FVec F S50x1 .f32) (x : FVec F S50x1408 .f32) : FVec F S50x1408 .f32 :=
  maximumf x (select (okV (sameU1 l)) (concatenate S50x1408 0 [⟨S49x1408, extractStridedSlice S49x1408 ![1, 0] x slices_S50x1408_o1_0_S49x1408⟩,
    ⟨S1x1408, lit S1x1408 0x00000000#32⟩] concatenates_S49x1408_S1x1408_S50x1408_d0) (lit S50x1408 0x00000000#32))
def sameU2 (l : FVec F S50x1 .f32) : IVec S50x1 1 :=
  cmpf .oeq l (concatenate S50x1 0 [⟨S48x1, extractStridedSlice S48x1 ![2, 0] l slices_S50x1_o2_0_S48x1⟩, ⟨S2x1, lit S2x1 0x00000000#32⟩] concatenates_S48x1_S2x1_S50x1_d0)
def stepU2 (l : FVec F S50x1 .f32) (x : FVec F S50x1408 .f32) : FVec F S50x1408 .f32 :=
  maximumf x (select (okV (sameU2 l)) (concatenate S50x1408 0 [⟨S48x1408, extractStridedSlice S48x1408 ![2, 0] x slices_S50x1408_o2_0_S48x1408⟩,
    ⟨S2x1408, lit S2x1408 0x00000000#32⟩] concatenates_S48x1408_S2x1408_S50x1408_d0) (lit S50x1408 0x00000000#32))
def sameU4 (l : FVec F S50x1 .f32) : IVec S50x1 1 :=
  cmpf .oeq l (concatenate S50x1 0 [⟨S46x1, extractStridedSlice S46x1 ![4, 0] l slices_S50x1_o4_0_S46x1⟩, ⟨S4x1, lit S4x1 0x00000000#32⟩] concatenates_S46x1_S4x1_S50x1_d0)
def stepU4 (l : FVec F S50x1 .f32) (x : FVec F S50x1408 .f32) : FVec F S50x1408 .f32 :=
  maximumf x (select (okV (sameU4 l)) (concatenate S50x1408 0 [⟨S46x1408, extractStridedSlice S46x1408 ![4, 0] x slices_S50x1408_o4_0_S46x1408⟩,
    ⟨S4x1408, lit S4x1408 0x00000000#32⟩] concatenates_S46x1408_S4x1408_S50x1408_d0) (lit S50x1408 0x00000000#32))
def sameU8 (l : FVec F S50x1 .f32) : IVec S50x1 1 :=
  cmpf .oeq l (concatenate S50x1 0 [⟨S42x1, extractStridedSlice S42x1 ![8, 0] l slices_S50x1_o8_0_S42x1⟩, ⟨S8x1, lit S8x1 0x00000000#32⟩] concatenates_S42x1_S8x1_S50x1_d0)
def stepU8 (l : FVec F S50x1 .f32) (x : FVec F S50x1408 .f32) : FVec F S50x1408 .f32 :=
  maximumf x (select (okV (sameU8 l)) (concatenate S50x1408 0 [⟨S42x1408, extractStridedSlice S42x1408 ![8, 0] x slices_S50x1408_o8_0_S42x1408⟩,
    ⟨S8x1408, lit S8x1408 0x00000000#32⟩] concatenates_S42x1408_S8x1408_S50x1408_d0) (lit S50x1408 0x00000000#32))
def sameU16 (l : FVec F S50x1 .f32) : IVec S50x1 1 :=
  cmpf .oeq l (concatenate S50x1 0 [⟨S34x1, extractStridedSlice S34x1 ![16, 0] l slices_S50x1_o16_0_S34x1⟩, ⟨S16x1, lit S16x1 0x00000000#32⟩] concatenates_S34x1_S16x1_S50x1_d0)
def stepU16 (l : FVec F S50x1 .f32) (x : FVec F S50x1408 .f32) : FVec F S50x1408 .f32 :=
  maximumf x (select (okV (sameU16 l)) (concatenate S50x1408 0 [⟨S34x1408, extractStridedSlice S34x1408 ![16, 0] x slices_S50x1408_o16_0_S34x1408⟩,
    ⟨S16x1408, lit S16x1408 0x00000000#32⟩] concatenates_S34x1408_S16x1408_S50x1408_d0) (lit S50x1408 0x00000000#32))
def sameU32 (l : FVec F S50x1 .f32) : IVec S50x1 1 :=
  cmpf .oeq l (concatenate S50x1 0 [⟨S18x1, extractStridedSlice S18x1 ![32, 0] l slices_S50x1_o32_0_S18x1⟩, ⟨S32x1, lit S32x1 0x00000000#32⟩] concatenates_S18x1_S32x1_S50x1_d0)
def stepU32 (l : FVec F S50x1 .f32) (x : FVec F S50x1408 .f32) : FVec F S50x1408 .f32 :=
  maximumf x (select (okV (sameU32 l)) (concatenate S50x1408 0 [⟨S18x1408, extractStridedSlice S18x1408 ![32, 0] x slices_S50x1408_o32_0_S18x1408⟩,
    ⟨S32x1408, lit S32x1408 0x00000000#32⟩] concatenates_S18x1408_S32x1408_S50x1408_d0) (lit S50x1408 0x00000000#32))

/-- The largest value among the ground truths of one class, from above, from below, and both. -/
def scanD (l : FVec F S50x1 .f32) (x : FVec F S50x1408 .f32) : FVec F S50x1408 .f32 := stepD32 l (stepD16 l (stepD8 l (stepD4 l (stepD2 l (stepD1 l x)))))
def scanU (l : FVec F S50x1 .f32) (x : FVec F S50x1408 .f32) : FVec F S50x1408 .f32 := stepU32 l (stepU16 l (stepU8 l (stepU4 l (stepU2 l (stepU1 l x)))))

/-- The values that are the largest of their class at their anchor, zero elsewhere. -/
def winV (l : FVec F S50x1 .f32) (x : FVec F S50x1408 .f32) : FVec F S50x1408 .f32 :=
  select (andi (cmpf .oeq x (maximumf (scanD l x) (scanU l x))) (cmpf .ogt x (lit S50x1408 0x00000000#32))) x (lit S50x1408 0x00000000#32)

/-- The indicator of each ground truth's class, one row each class, and the class targets. -/
def hotT (x6 : Vec F S1x1x50 .f32) : FVec F S80x50 .f32 :=
  sitofp .f32 (extui 32 (cmpf .oeq (sitofp .f32 (iota .tc S80x50 32 [0] iota_S80x50_d0_w32))
    (broadcastTo S80x50 (shapeCast S1x50 x6 shapeCasts_S1x1x50_S1x50) broadcasts_S1x50_S80x50)) natLt_1_32)
def targV (x6 : Vec F S1x1x50 .f32) (w : FVec F S50x1408 .f32) : FVec F S80x1408 .f32 :=
  matmul dot_S80x50_S50x1408_S80x1408_1_0_0_1_n_n none (hotT x6) w (constant S80x1408 .f32 0x00000000#32)

/-- The sum over the classes. -/
def sum80 (x : FVec F S80x1408 .f32) : FVec F S1x1408 .f32 :=
  shapeCast S1x1408 (multiReduction .add [0] S1408 x 0x00000000#32 reduces_S80x1408_S1408 (.inl rfl) rfl) shapeCasts_S1408_S1x1408

/-- The scores kept between two bounds, and the loss of every class and anchor with its sign turned. -/
def probV (p : Vec F S1x80x1408 .f32) : FVec F S80x1408 .f32 :=
  minimumf (lit S80x1408 0x3F800000#32) (maximumf (lit S80x1408 0x3089705F#32) (shapeCast S80x1408 p shapeCasts_S1x80x1408_S80x1408))
def lossV (a p : FVec F S80x1408 .f32) : FVec F S80x1408 .f32 :=
  addf (mulf (select (cmpf .ogt a (lit S80x1408 0x00000000#32)) (mulf a (subf (lit S80x1408 0x3F800000#32) a)) (mulf (lit S80x1408 0x3F400000#32) (mulf p p)))
    (log (subf (lit S80x1408 0x3F800000#32) p))) (mulf (mulf a a) (log p))

/-- Six rows of anchors, taken off lane by lane from nothing. -/
def off6 (r0 r1 r2 r3 r4 r5 : FVec F S1x1408 .f32) : FVec F S1x1408 .f32 :=
  subf (subf (subf (subf (subf (subf (lit S1x1408 0x00000000#32) r0) r1) r2) r3) r4) r5

end Cert.Tal

end
-- ==== Proof.Scan.lean ====
/- A running largest value over fifty places whose labels ascend: six doubling steps down and six up give every place the largest
   value of its label. -/
module

public import proofs.«01_k».proof.Proof.Rank
public import Mathlib.Algebra.BigOperators.Fin
public import Mathlib.Order.ConditionallyCompleteLattice.Finset

@[expose] public section

noncomputable section

namespace Cert.Tal

/-- A place takes the larger of its value and the value some places above, or below, where both have one label. -/
def dn (d : ℕ) (L P : Fin 50 → EReal) (g : Fin 50) : EReal :=
  max (P g) (if h : d ≤ g.val then (if L g = L ⟨g.val - d, by omega⟩ then P ⟨g.val - d, by omega⟩ else 0) else 0)
def up (d : ℕ) (L P : Fin 50 → EReal) (g : Fin 50) : EReal :=
  max (P g) (if h : g.val + d < 50 then (if L g = L ⟨g.val + d, h⟩ then P ⟨g.val + d, h⟩ else 0) else 0)

def dns (L P : Fin 50 → EReal) : Fin 50 → EReal := dn 32 L (dn 16 L (dn 8 L (dn 4 L (dn 2 L (dn 1 L P)))))
def ups (L P : Fin 50 → EReal) : Fin 50 → EReal := up 32 L (up 16 L (up 8 L (up 4 L (up 2 L (up 1 L P)))))

/-- The values the two scans leave standing, zero elsewhere. -/
def win (L P : Fin 50 → EReal) (g : Fin 50) : EReal := if P g = max (dns L P g) (ups L P g) ∧ 0 < P g then P g else 0

variable {L N P : Fin 50 → EReal}

/-- What a scan of reach `k` has reached: the values of the label within reach, and no value of another label. -/
def Down (k : ℕ) (L N P : Fin 50 → EReal) : Prop :=
  (∀ g h : Fin 50, h.val ≤ g.val → g.val < h.val + k → L h = L g → N h ≤ P g) ∧ ∀ g, ∃ h, L h = L g ∧ P g ≤ N h
def Up (k : ℕ) (L N P : Fin 50 → EReal) : Prop :=
  (∀ g h : Fin 50, g.val ≤ h.val → h.val < g.val + k → L h = L g → N h ≤ P g) ∧ ∀ g, ∃ h, L h = L g ∧ P g ≤ N h

theorem down_step (hN : ∀ g, 0 ≤ N g) (hL : ∀ i j : Fin 50, i.val ≤ j.val → L i ≤ L j) {k k' : ℕ} (hk : k' = k + k) (h : Down k L N P) : Down k' L N (dn k L P) := by
  subst hk
  refine ⟨fun g j hj hg e => ?_, fun g => ?_⟩
  · by_cases hc : g.val < j.val + k
    · exact (h.1 g j hj hc e).trans (le_max_left _ _)
    · refine le_max_of_le_right ?_
      have hkg : k ≤ g.val := by omega
      have e1 : L ⟨g.val - k, by omega⟩ ≤ L g := hL _ _ (by show g.val - k ≤ g.val; omega)
      have e2 : L j ≤ L ⟨g.val - k, by omega⟩ := hL _ _ (by show j.val ≤ g.val - k; omega)
      have e3 : L g = L ⟨g.val - k, by omega⟩ := le_antisymm (e ▸ e2) e1
      rw [dif_pos hkg, if_pos e3]
      exact h.1 _ j (by show j.val ≤ g.val - k; omega) (by show g.val - k < j.val + k; omega) (e.trans e3)
  · obtain ⟨j, hj, hp⟩ := h.2 g
    unfold dn
    split_ifs with h1 h2
    · obtain ⟨i, hi, hq⟩ := h.2 ⟨g.val - k, by omega⟩
      rcases le_total (N j) (N i) with hh | hh
      · exact ⟨i, hi.trans h2.symm, max_le (hp.trans hh) hq⟩
      · exact ⟨j, hj, max_le hp (hq.trans hh)⟩
    · exact ⟨j, hj, max_le hp (hN j)⟩
    · exact ⟨j, hj, max_le hp (hN j)⟩

theorem up_step (hN : ∀ g, 0 ≤ N g) (hL : ∀ i j : Fin 50, i.val ≤ j.val → L i ≤ L j) {k k' : ℕ} (hk : k' = k + k) (h : Up k L N P) : Up k' L N (up k L P) := by
  subst hk
  refine ⟨fun g j hj hg e => ?_, fun g => ?_⟩
  · by_cases hc : j.val < g.val + k
    · exact (h.1 g j hj hc e).trans (le_max_left _ _)
    · refine le_max_of_le_right ?_
      have hkg : g.val + k < 50 := by omega
      have e1 : L g ≤ L ⟨g.val + k, hkg⟩ := hL _ _ (by show g.val ≤ g.val + k; omega)
      have e2 : L ⟨g.val + k, hkg⟩ ≤ L j := hL _ _ (by show g.val + k ≤ j.val; omega)
      have e3 : L g = L ⟨g.val + k, hkg⟩ := le_antisymm e1 (e ▸ e2)
      rw [dif_pos hkg, if_pos e3]
      exact h.1 _ j (by show g.val + k ≤ j.val; omega) (by show j.val < g.val + k + k; omega) (e.trans e3)
  · obtain ⟨j, hj, hp⟩ := h.2 g
    unfold up
    split_ifs with h1 h2
    · obtain ⟨i, hi, hq⟩ := h.2 ⟨g.val + k, h1⟩
      rcases le_total (N j) (N i) with hh | hh
      · exact ⟨i, hi.trans h2.symm, max_le (hp.trans hh) hq⟩
      · exact ⟨j, hj, max_le hp (hq.trans hh)⟩
    · exact ⟨j, hj, max_le hp (hN j)⟩
    · exact ⟨j, hj, max_le hp (hN j)⟩

theorem dns_down (hN : ∀ g, 0 ≤ N g) (hL : ∀ i j : Fin 50, i.val ≤ j.val → L i ≤ L j) : Down 64 L N (dns L N) := by
  have h1 : Down 1 L N N := ⟨fun g h h1 h2 _ => le_of_eq (congrArg N (Fin.ext (by omega))), fun g => ⟨g, rfl, le_rfl⟩⟩
  exact down_step hN hL (by decide) (down_step hN hL (k := 16) (by decide) (down_step hN hL (k := 8) (by decide)
    (down_step hN hL (k := 4) (by decide) (down_step hN hL (k := 2) (by decide) (down_step hN hL (k := 1) (by decide) h1)))))

theorem ups_up (hN : ∀ g, 0 ≤ N g) (hL : ∀ i j : Fin 50, i.val ≤ j.val → L i ≤ L j) : Up 64 L N (ups L N) := by
  have h1 : Up 1 L N N := ⟨fun g h h1 h2 _ => le_of_eq (congrArg N (Fin.ext (by omega))), fun g => ⟨g, rfl, le_rfl⟩⟩
  exact up_step hN hL (by decide) (up_step hN hL (k := 16) (by decide) (up_step hN hL (k := 8) (by decide)
    (up_step hN hL (k := 4) (by decide) (up_step hN hL (k := 2) (by decide) (up_step hN hL (k := 1) (by decide) h1)))))

/-- The two scans together give the largest value of the label. -/
theorem scans (hN : ∀ g, 0 ≤ N g) (hL : ∀ i j : Fin 50, i.val ≤ j.val → L i ≤ L j) (g : Fin 50) :
    max (dns L N g) (ups L N g) = ⨆ h, if L h = L g then N h else 0 := by
  have hD := dns_down hN hL
  have hU := ups_up hN hL
  refine le_antisymm (max_le ?_ ?_) (iSup_le fun h => ?_)
  · obtain ⟨h, e, hp⟩ := hD.2 g
    exact hp.trans (le_iSup_of_le h (by rw [if_pos e]))
  · obtain ⟨h, e, hp⟩ := hU.2 g
    exact hp.trans (le_iSup_of_le h (by rw [if_pos e]))
  · split_ifs with e
    · rcases le_total h.val g.val with hh | hh
      · exact le_max_of_le_left (hD.1 g h hh (by omega) e)
      · exact le_max_of_le_right (hU.1 g h hh (by omega) e)
    · exact le_max_of_le_left ((hN g).trans (hD.1 g g le_rfl (by omega) rfl))

/-- Where no two places of one label share a positive value, the standing values of a label add up to the label's largest value. -/
theorem win_sum (hN : ∀ g, 0 ≤ N g) (hL : ∀ i j : Fin 50, i.val ≤ j.val → L i ≤ L j) (hu : ∀ g h, g ≠ h → L g = L h → N g = N h → N g ≤ 0) (x : EReal) :
    ∑ g, (if x = L g then (1 : EReal) else 0) * win L N g = ⨆ g, if L g = x then N g else 0 := by
  obtain ⟨j, hj⟩ := exists_eq_ciSup_of_finite (f := fun g => if L g = x then N g else 0)
  by_cases hp : 0 < ⨆ g, if L g = x then N g else 0
  · have hx : L j = x := by
      by_contra hc
      rw [← hj] at hp
      simp [hc] at hp
    have hjN : N j = ⨆ g, if L g = x then N g else 0 := by rw [← hj]; simp [hx]
    have hw : ∀ g, L g = x → win L N g = if N g = N j ∧ 0 < N g then N g else 0 := fun g hg => by
      unfold win
      rw [scans hN hL, hg, ← hjN]
    rw [Finset.sum_eq_single j]
    · rw [if_pos hx.symm, one_mul, hw j hx, if_pos ⟨rfl, hjN ▸ hp⟩, hjN]
    · intro g _ hg
      by_cases hc : L g = x
      · have hn : ¬ (N g = N j ∧ 0 < N g) := fun h => absurd (hu g j hg (hc.trans hx.symm) h.1) (not_le.2 h.2)
        rw [hw g hc, if_neg hn, mul_zero]
      · rw [if_neg (fun h => hc h.symm), zero_mul]
    · exact fun h => absurd (Finset.mem_univ _) h
  · have h0 : (⨆ g, if L g = x then N g else 0) = 0 := by
      refine le_antisymm (not_lt.1 hp) (le_iSup_of_le j ?_)
      split_ifs
      · exact hN j
      · exact le_rfl
    rw [h0]
    refine Finset.sum_eq_zero fun g _ => ?_
    by_cases hc : L g = x
    · have : ¬ 0 < N g := fun h => hp (h.trans_le (le_iSup_of_le g (by rw [if_pos hc])))
      have hw : win L N g = 0 := if_neg fun h => this h.2
      rw [hw, mul_zero]
    · rw [if_neg (fun h => hc h.symm), zero_mul]

end Cert.Tal

end
-- ==== Proof.ReadK3.lean ====
/- The steps of Vocab3 over the extended reals, entry by entry. -/
module

public import proofs.«01_k».proof.Proof.Vocab3
public import proofs.«01_k».proof.Proof.ReadK
public import proofs.«01_k».proof.Proof.Scan

@[expose] public section

set_option maxRecDepth 16384

noncomputable section

namespace Cert.Tal

open Cert.KernelIdeal Cert.KernelIdeal.Gen Idealize.ShloMosaic Idealize.ShloMosaic.TcCoe

variable (t l : FVec Ideal S50x1 .f32) (A I x : FVec Ideal S50x1408 .f32) (g : Fin 50) (n : Fin 1408)

theorem keptV_apply : keptV t A I (ix2 g n) = if t (ix2 g 0) ≤ A (ix2 g n) ∧ 0 < A (ix2 g n) then I (ix2 g n) else 0 := by
  show Scalar.select (IntOp.andi (Ideal.cmp .oge (A _) (gc t _)) (Ideal.cmp .ogt (A _) (Ideal.ofBits .f32 0x00000000#32))) (I _)
    (Ideal.ofBits .f32 0x00000000#32) = _
  rw [gc_apply, Ideal.ofBits_zero_f32]
  by_cases h : t (ix2 g 0) ≤ A (ix2 g n) <;> by_cases h' : 0 < A (ix2 g n) <;> simp [Ideal.cmp, h, h', Scalar.select, IntOp.andi]

theorem top6_apply (r0 r1 r2 r3 r4 r5 : FVec Ideal S50x1 .f32) : top6 r0 r1 r2 r3 r4 r5 (ix2 g 0)
    = max (max (max (max (max (max 0 (r0 (ix2 g 0))) (r1 (ix2 g 0))) (r2 (ix2 g 0))) (r3 (ix2 g 0))) (r4 (ix2 g 0))) (r5 (ix2 g 0)) := by
  show max (max (max (max (max (max (Ideal.ofBits .f32 0x00000000#32) _) _) _) _) _) _ = _
  rw [Ideal.ofBits_zero_f32]

theorem okV_apply (o : IVec S50x1 1) : okV o (ix2 g n) = o (ix2 g 0) := by
  rw [okV, broadcastTo_apply _ _ _ (ix2 g 0) (by intro a; fin_cases a <;> rfl)]
  exact shapeCast_apply _ _ _ (ix2 g 0) rfl

/-- A choice between a value and nothing by a comparison of two numbers. -/
theorem pick_eq (u v y : EReal) : Scalar.select (Ideal.cmp .oeq u v) y (Ideal.ofBits .f32 0x00000000#32) = if u = v then y else 0 := by
  rw [Ideal.ofBits_zero_f32]
  by_cases h : u = v <;> simp [Ideal.cmp, h, Scalar.select]

theorem pick_none (c : BitVec 1) (y : EReal) (h : y = Ideal.ofBits .f32 0x00000000#32) : Scalar.select c y (Ideal.ofBits .f32 0x00000000#32) = 0 := by
  rw [h, Ideal.ofBits_zero_f32]
  unfold Scalar.select
  split <;> rfl

theorem stepD1_apply : stepD1 l x (ix2 g n) = dn 1 (fun g => l (ix2 g 0)) (fun g => x (ix2 g n)) g := by
  show max (x _) (Scalar.select (okV (sameD1 l) (ix2 g n)) _ (Ideal.ofBits .f32 0x00000000#32)) = max _ _
  rw [okV_apply]
  refine congrArg (max (x (ix2 g n))) ?_
  by_cases h : 1 ≤ g.val
  · rw [dif_pos h]
    refine Eq.trans (congrArg₂ (fun u v => Scalar.select (Ideal.cmp .oeq (l (ix2 g 0)) u) v (Ideal.ofBits .f32 0x00000000#32)) ?_ ?_) (pick_eq _ _ _)
    · refine Eq.trans (concatenate_pair_apply_right (t := S50x1) (s₁ := S1x1) (s₂ := S49x1) _ _ _ _ _ rfl rfl (ix2 ⟨g.val - 1, by omega⟩ 0) ?_ ?_) ?_
      · intro a; fin_cases a
        · exact fun h => absurd rfl h
        · exact fun _ => rfl
      · show g.val - 1 + 1 = g.val; omega
      · exact extractStridedSlice_apply _ _ _ _ (ix2 ⟨g.val - 1, by omega⟩ 0) (by intro a; fin_cases a <;> first | rfl | (show g.val - 1 = 0 + (g.val - 1); omega))
    · refine Eq.trans (concatenate_pair_apply_right (t := S50x1408) (s₁ := S1x1408) (s₂ := S49x1408) _ _ _ _ _ rfl rfl (ix2 ⟨g.val - 1, by omega⟩ n) ?_ ?_) ?_
      · intro a; fin_cases a
        · exact fun h => absurd rfl h
        · exact fun _ => rfl
      · show g.val - 1 + 1 = g.val; omega
      · exact extractStridedSlice_apply _ _ _ _ (ix2 ⟨g.val - 1, by omega⟩ n) (by intro a; fin_cases a <;> first | (show g.val - 1 = 0 + (g.val - 1); omega) | (show n.val = 0 + n.val; omega))
  · rw [dif_neg h]
    refine pick_none _ _ ?_
    refine Eq.trans (concatenate_pair_apply_left (t := S50x1408) (s₁ := S1x1408) (s₂ := S49x1408) _ _ _ _ _ rfl (ix2 ⟨g.val, by omega⟩ n) ?_) rfl
    intro a; fin_cases a <;> rfl

theorem stepD2_apply : stepD2 l x (ix2 g n) = dn 2 (fun g => l (ix2 g 0)) (fun g => x (ix2 g n)) g := by
  show max (x _) (Scalar.select (okV (sameD2 l) (ix2 g n)) _ (Ideal.ofBits .f32 0x00000000#32)) = max _ _
  rw [okV_apply]
  refine congrArg (max (x (ix2 g n))) ?_
  by_cases h : 2 ≤ g.val
  · rw [dif_pos h]
    refine Eq.trans (congrArg₂ (fun u v => Scalar.select (Ideal.cmp .oeq (l (ix2 g 0)) u) v (Ideal.ofBits .f32 0x00000000#32)) ?_ ?_) (pick_eq _ _ _)
    · refine Eq.trans (concatenate_pair_apply_right (t := S50x1) (s₁ := S2x1) (s₂ := S48x1) _ _ _ _ _ rfl rfl (ix2 ⟨g.val - 2, by omega⟩ 0) ?_ ?_) ?_
      · intro a; fin_cases a
        · exact fun h => absurd rfl h
        · exact fun _ => rfl
      · show g.val - 2 + 2 = g.val; omega
      · exact extractStridedSlice_apply _ _ _ _ (ix2 ⟨g.val - 2, by omega⟩ 0) (by intro a; fin_cases a <;> first | rfl | (show g.val - 2 = 0 + (g.val - 2); omega))
    · refine Eq.trans (concatenate_pair_apply_right (t := S50x1408) (s₁ := S2x1408) (s₂ := S48x1408) _ _ _ _ _ rfl rfl (ix2 ⟨g.val - 2, by omega⟩ n) ?_ ?_) ?_
      · intro a; fin_cases a
        · exact fun h => absurd rfl h
        · exact fun _ => rfl
      · show g.val - 2 + 2 = g.val; omega
      · exact extractStridedSlice_apply _ _ _ _ (ix2 ⟨g.val - 2, by omega⟩ n) (by intro a; fin_cases a <;> first | (show g.val - 2 = 0 + (g.val - 2); omega) | (show n.val = 0 + n.val; omega))
  · rw [dif_neg h]
    refine pick_none _ _ ?_
    refine Eq.trans (concatenate_pair_apply_left (t := S50x1408) (s₁ := S2x1408) (s₂ := S48x1408) _ _ _ _ _ rfl (ix2 ⟨g.val, by omega⟩ n) ?_) rfl
    intro a; fin_cases a <;> rfl

theorem stepD4_apply : stepD4 l x (ix2 g n) = dn 4 (fun g => l (ix2 g 0)) (fun g => x (ix2 g n)) g := by
  show max (x _) (Scalar.select (okV (sameD4 l) (ix2 g n)) _ (Ideal.ofBits .f32 0x00000000#32)) = max _ _
  rw [okV_apply]
  refine congrArg (max (x (ix2 g n))) ?_
  by_cases h : 4 ≤ g.val
  · rw [dif_pos h]
    refine Eq.trans (congrArg₂ (fun u v => Scalar.select (Ideal.cmp .oeq (l (ix2 g 0)) u) v (Ideal.ofBits .f32 0x00000000#32)) ?_ ?_) (pick_eq _ _ _)
    · refine Eq.trans (concatenate_pair_apply_right (t := S50x1) (s₁ := S4x1) (s₂ := S46x1) _ _ _ _ _ rfl rfl (ix2 ⟨g.val - 4, by omega⟩ 0) ?_ ?_) ?_
      · intro a; fin_cases a
        · exact fun h => absurd rfl h
        · exact fun _ => rfl
      · show g.val - 4 + 4 = g.val; omega
      · exact extractStridedSlice_apply _ _ _ _ (ix2 ⟨g.val - 4, by omega⟩ 0) (by intro a; fin_cases a <;> first | rfl | (show g.val - 4 = 0 + (g.val - 4); omega))
    · refine Eq.trans (concatenate_pair_apply_right (t := S50x1408) (s₁ := S4x1408) (s₂ := S46x1408) _ _ _ _ _ rfl rfl (ix2 ⟨g.val - 4, by omega⟩ n) ?_ ?_) ?_
      · intro a; fin_cases a
        · exact fun h => absurd rfl h
        · exact fun _ => rfl
      · show g.val - 4 + 4 = g.val; omega
      · exact extractStridedSlice_apply _ _ _ _ (ix2 ⟨g.val - 4, by omega⟩ n) (by intro a; fin_cases a <;> first | (show g.val - 4 = 0 + (g.val - 4); omega) | (show n.val = 0 + n.val; omega))
  · rw [dif_neg h]
    refine pick_none _ _ ?_
    refine Eq.trans (concatenate_pair_apply_left (t := S50x1408) (s₁ := S4x1408) (s₂ := S46x1408) _ _ _ _ _ rfl (ix2 ⟨g.val, by omega⟩ n) ?_) rfl
    intro a; fin_cases a <;> rfl

theorem stepD8_apply : stepD8 l x (ix2 g n) = dn 8 (fun g => l (ix2 g 0)) (fun g => x (ix2 g n)) g := by
  show max (x _) (Scalar.select (okV (sameD8 l) (ix2 g n)) _ (Ideal.ofBits .f32 0x00000000#32)) = max _ _
  rw [okV_apply]
  refine congrArg (max (x (ix2 g n))) ?_
  by_cases h : 8 ≤ g.val
  · rw [dif_pos h]
    refine Eq.trans (congrArg₂ (fun u v => Scalar.select (Ideal.cmp .oeq (l (ix2 g 0)) u) v (Ideal.ofBits .f32 0x00000000#32)) ?_ ?_) (pick_eq _ _ _)
    · refine Eq.trans (concatenate_pair_apply_right (t := S50x1) (s₁ := S8x1) (s₂ := S42x1) _ _ _ _ _ rfl rfl (ix2 ⟨g.val - 8, by omega⟩ 0) ?_ ?_) ?_
      · intro a; fin_cases a
        · exact fun h => absurd rfl h
        · exact fun _ => rfl
      · show g.val - 8 + 8 = g.val; omega
      · exact extractStridedSlice_apply _ _ _ _ (ix2 ⟨g.val - 8, by omega⟩ 0) (by intro a; fin_cases a <;> first | rfl | (show g.val - 8 = 0 + (g.val - 8); omega))
    · refine Eq.trans (concatenate_pair_apply_right (t := S50x1408) (s₁ := S8x1408) (s₂ := S42x1408) _ _ _ _ _ rfl rfl (ix2 ⟨g.val - 8, by omega⟩ n) ?_ ?_) ?_
      · intro a; fin_cases a
        · exact fun h => absurd rfl h
        · exact fun _ => rfl
      · show g.val - 8 + 8 = g.val; omega
      · exact extractStridedSlice_apply _ _ _ _ (ix2 ⟨g.val - 8, by omega⟩ n) (by intro a; fin_cases a <;> first | (show g.val - 8 = 0 + (g.val - 8); omega) | (show n.val = 0 + n.val; omega))
  · rw [dif_neg h]
    refine pick_none _ _ ?_
    refine Eq.trans (concatenate_pair_apply_left (t := S50x1408) (s₁ := S8x1408) (s₂ := S42x1408) _ _ _ _ _ rfl (ix2 ⟨g.val, by omega⟩ n) ?_) rfl
    intro a; fin_cases a <;> rfl

theorem stepD16_apply : stepD16 l x (ix2 g n) = dn 16 (fun g => l (ix2 g 0)) (fun g => x (ix2 g n)) g := by
  show max (x _) (Scalar.select (okV (sameD16 l) (ix2 g n)) _ (Ideal.ofBits .f32 0x00000000#32)) = max _ _
  rw [okV_apply]
  refine congrArg (max (x (ix2 g n))) ?_
  by_cases h : 16 ≤ g.val
  · rw [dif_pos h]
    refine Eq.trans (congrArg₂ (fun u v => Scalar.select (Ideal.cmp .oeq (l (ix2 g 0)) u) v (Ideal.ofBits .f32 0x00000000#32)) ?_ ?_) (pick_eq _ _ _)
    · refine Eq.trans (concatenate_pair_apply_right (t := S50x1) (s₁ := S16x1) (s₂ := S34x1) _ _ _ _ _ rfl rfl (ix2 ⟨g.val - 16, by omega⟩ 0) ?_ ?_) ?_
      · intro a; fin_cases a
        · exact fun h => absurd rfl h
        · exact fun _ => rfl
      · show g.val - 16 + 16 = g.val; omega
      · exact extractStridedSlice_apply _ _ _ _ (ix2 ⟨g.val - 16, by omega⟩ 0) (by intro a; fin_cases a <;> first | rfl | (show g.val - 16 = 0 + (g.val - 16); omega))
    · refine Eq.trans (concatenate_pair_apply_right (t := S50x1408) (s₁ := S16x1408) (s₂ := S34x1408) _ _ _ _ _ rfl rfl (ix2 ⟨g.val - 16, by omega⟩ n) ?_ ?_) ?_
      · intro a; fin_cases a
        · exact fun h => absurd rfl h
        · exact fun _ => rfl
      · show g.val - 16 + 16 = g.val; omega
      · exact extractStridedSlice_apply _ _ _ _ (ix2 ⟨g.val - 16, by omega⟩ n) (by intro a; fin_cases a <;> first | (show g.val - 16 = 0 + (g.val - 16); omega) | (show n.val = 0 + n.val; omega))
  · rw [dif_neg h]
    refine pick_none _ _ ?_
    refine Eq.trans (concatenate_pair_apply_left (t := S50x1408) (s₁ := S16x1408) (s₂ := S34x1408) _ _ _ _ _ rfl (ix2 ⟨g.val, by omega⟩ n) ?_) rfl
    intro a; fin_cases a <;> rfl

theorem stepD32_apply : stepD32 l x (ix2 g n) = dn 32 (fun g => l (ix2 g 0)) (fun g => x (ix2 g n)) g := by
  show max (x _) (Scalar.select (okV (sameD32 l) (ix2 g n)) _ (Ideal.ofBits .f32 0x00000000#32)) = max _ _
  rw [okV_apply]
  refine congrArg (max (x (ix2 g n))) ?_
  by_cases h : 32 ≤ g.val
  · rw [dif_pos h]
    refine Eq.trans (congrArg₂ (fun u v => Scalar.select (Ideal.cmp .oeq (l (ix2 g 0)) u) v (Ideal.ofBits .f32 0x00000000#32)) ?_ ?_) (pick_eq _ _ _)
    · refine Eq.trans (concatenate_pair_apply_right (t := S50x1) (s₁ := S32x1) (s₂ := S18x1) _ _ _ _ _ rfl rfl (ix2 ⟨g.val - 32, by omega⟩ 0) ?_ ?_) ?_
      · intro a; fin_cases a
        · exact fun h => absurd rfl h
        · exact fun _ => rfl
      · show g.val - 32 + 32 = g.val; omega
      · exact extractStridedSlice_apply _ _ _ _ (ix2 ⟨g.val - 32, by omega⟩ 0) (by intro a; fin_cases a <;> first | rfl | (show g.val - 32 = 0 + (g.val - 32); omega))
    · refine Eq.trans (concatenate_pair_apply_right (t := S50x1408) (s₁ := S32x1408) (s₂ := S18x1408) _ _ _ _ _ rfl rfl (ix2 ⟨g.val - 32, by omega⟩ n) ?_ ?_) ?_
      · intro a; fin_cases a
        · exact fun h => absurd rfl h
        · exact fun _ => rfl
      · show g.val - 32 + 32 = g.val; omega
      · exact extractStridedSlice_apply _ _ _ _ (ix2 ⟨g.val - 32, by omega⟩ n) (by intro a; fin_cases a <;> first | (show g.val - 32 = 0 + (g.val - 32); omega) | (show n.val = 0 + n.val; omega))
  · rw [dif_neg h]
    refine pick_none _ _ ?_
    refine Eq.trans (concatenate_pair_apply_left (t := S50x1408) (s₁ := S32x1408) (s₂ := S18x1408) _ _ _ _ _ rfl (ix2 ⟨g.val, by omega⟩ n) ?_) rfl
    intro a; fin_cases a <;> rfl

theorem stepU1_apply : stepU1 l x (ix2 g n) = up 1 (fun g => l (ix2 g 0)) (fun g => x (ix2 g n)) g := by
  show max (x _) (Scalar.select (okV (sameU1 l) (ix2 g n)) _ (Ideal.ofBits .f32 0x00000000#32)) = max _ _
  rw [okV_apply]
  refine congrArg (max (x (ix2 g n))) ?_
  by_cases h : g.val + 1 < 50
  · rw [dif_pos h]
    refine Eq.trans (congrArg₂ (fun u v => Scalar.select (Ideal.cmp .oeq (l (ix2 g 0)) u) v (Ideal.ofBits .f32 0x00000000#32)) ?_ ?_) (pick_eq _ _ _)
    · refine Eq.trans (concatenate_pair_apply_left (t := S50x1) (s₁ := S49x1) (s₂ := S1x1) _ _ _ _ _ rfl (ix2 ⟨g.val, by omega⟩ 0) ?_) ?_
      · intro a; fin_cases a <;> rfl
      · exact extractStridedSlice_apply _ _ _ _ (ix2 ⟨g.val + 1, h⟩ 0) (by intro a; fin_cases a <;> first | rfl | (show g.val + 1 = 1 + g.val; omega))
    · refine Eq.trans (concatenate_pair_apply_left (t := S50x1408) (s₁ := S49x1408) (s₂ := S1x1408) _ _ _ _ _ rfl (ix2 ⟨g.val, by omega⟩ n) ?_) ?_
      · intro a; fin_cases a <;> rfl
      · exact extractStridedSlice_apply _ _ _ _ (ix2 ⟨g.val + 1, h⟩ n) (by intro a; fin_cases a <;> first | (show g.val + 1 = 1 + g.val; omega) | (show n.val = 0 + n.val; omega))
  · rw [dif_neg h]
    refine pick_none _ _ ?_
    refine Eq.trans (concatenate_pair_apply_right (t := S50x1408) (s₁ := S49x1408) (s₂ := S1x1408) _ _ _ _ _ rfl rfl (ix2 ⟨g.val - 49, by omega⟩ n) ?_ ?_) rfl
    · intro a; fin_cases a
      · exact fun h => absurd rfl h
      · exact fun _ => rfl
    · show g.val - 49 + 49 = g.val; omega

theorem stepU2_apply : stepU2 l x (ix2 g n) = up 2 (fun g => l (ix2 g 0)) (fun g => x (ix2 g n)) g := by
  show max (x _) (Scalar.select (okV (sameU2 l) (ix2 g n)) _ (Ideal.ofBits .f32 0x00000000#32)) = max _ _
  rw [okV_apply]
  refine congrArg (max (x (ix2 g n))) ?_
  by_cases h : g.val + 2 < 50
  · rw [dif_pos h]
    refine Eq.trans (congrArg₂ (fun u v => Scalar.select (Ideal.cmp .oeq (l (ix2 g 0)) u) v (Ideal.ofBits .f32 0x00000000#32)) ?_ ?_) (pick_eq _ _ _)
    · refine Eq.trans (concatenate_pair_apply_left (t := S50x1) (s₁ := S48x1) (s₂ := S2x1) _ _ _ _ _ rfl (ix2 ⟨g.val, by omega⟩ 0) ?_) ?_
      · intro a; fin_cases a <;> rfl
      · exact extractStridedSlice_apply _ _ _ _ (ix2 ⟨g.val + 2, h⟩ 0) (by intro a; fin_cases a <;> first | rfl | (show g.val + 2 = 2 + g.val; omega))
    · refine Eq.trans (concatenate_pair_apply_left (t := S50x1408) (s₁ := S48x1408) (s₂ := S2x1408) _ _ _ _ _ rfl (ix2 ⟨g.val, by omega⟩ n) ?_) ?_
      · intro a; fin_cases a <;> rfl
      · exact extractStridedSlice_apply _ _ _ _ (ix2 ⟨g.val + 2, h⟩ n) (by intro a; fin_cases a <;> first | (show g.val + 2 = 2 + g.val; omega) | (show n.val = 0 + n.val; omega))
  · rw [dif_neg h]
    refine pick_none _ _ ?_
    refine Eq.trans (concatenate_pair_apply_right (t := S50x1408) (s₁ := S48x1408) (s₂ := S2x1408) _ _ _ _ _ rfl rfl (ix2 ⟨g.val - 48, by omega⟩ n) ?_ ?_) rfl
    · intro a; fin_cases a
      · exact fun h => absurd rfl h
      · exact fun _ => rfl
    · show g.val - 48 + 48 = g.val; omega

theorem stepU4_apply : stepU4 l x (ix2 g n) = up 4 (fun g => l (ix2 g 0)) (fun g => x (ix2 g n)) g := by
  show max (x _) (Scalar.select (okV (sameU4 l) (ix2 g n)) _ (Ideal.ofBits .f32 0x00000000#32)) = max _ _
  rw [okV_apply]
  refine congrArg (max (x (ix2 g n))) ?_
  by_cases h : g.val + 4 < 50
  · rw [dif_pos h]
    refine Eq.trans (congrArg₂ (fun u v => Scalar.select (Ideal.cmp .oeq (l (ix2 g 0)) u) v (Ideal.ofBits .f32 0x00000000#32)) ?_ ?_) (pick_eq _ _ _)
    · refine Eq.trans (concatenate_pair_apply_left (t := S50x1) (s₁ := S46x1) (s₂ := S4x1) _ _ _ _ _ rfl (ix2 ⟨g.val, by omega⟩ 0) ?_) ?_
      · intro a; fin_cases a <;> rfl
      · exact extractStridedSlice_apply _ _ _ _ (ix2 ⟨g.val + 4, h⟩ 0) (by intro a; fin_cases a <;> first | rfl | (show g.val + 4 = 4 + g.val; omega))
    · refine Eq.trans (concatenate_pair_apply_left (t := S50x1408) (s₁ := S46x1408) (s₂ := S4x1408) _ _ _ _ _ rfl (ix2 ⟨g.val, by omega⟩ n) ?_) ?_
      · intro a; fin_cases a <;> rfl
      · exact extractStridedSlice_apply _ _ _ _ (ix2 ⟨g.val + 4, h⟩ n) (by intro a; fin_cases a <;> first | (show g.val + 4 = 4 + g.val; omega) | (show n.val = 0 + n.val; omega))
  · rw [dif_neg h]
    refine pick_none _ _ ?_
    refine Eq.trans (concatenate_pair_apply_right (t := S50x1408) (s₁ := S46x1408) (s₂ := S4x1408) _ _ _ _ _ rfl rfl (ix2 ⟨g.val - 46, by omega⟩ n) ?_ ?_) rfl
    · intro a; fin_cases a
      · exact fun h => absurd rfl h
      · exact fun _ => rfl
    · show g.val - 46 + 46 = g.val; omega

theorem stepU8_apply : stepU8 l x (ix2 g n) = up 8 (fun g => l (ix2 g 0)) (fun g => x (ix2 g n)) g := by
  show max (x _) (Scalar.select (okV (sameU8 l) (ix2 g n)) _ (Ideal.ofBits .f32 0x00000000#32)) = max _ _
  rw [okV_apply]
  refine congrArg (max (x (ix2 g n))) ?_
  by_cases h : g.val + 8 < 50
  · rw [dif_pos h]
    refine Eq.trans (congrArg₂ (fun u v => Scalar.select (Ideal.cmp .oeq (l (ix2 g 0)) u) v (Ideal.ofBits .f32 0x00000000#32)) ?_ ?_) (pick_eq _ _ _)
    · refine Eq.trans (concatenate_pair_apply_left (t := S50x1) (s₁ := S42x1) (s₂ := S8x1) _ _ _ _ _ rfl (ix2 ⟨g.val, by omega⟩ 0) ?_) ?_
      · intro a; fin_cases a <;> rfl
      · exact extractStridedSlice_apply _ _ _ _ (ix2 ⟨g.val + 8, h⟩ 0) (by intro a; fin_cases a <;> first | rfl | (show g.val + 8 = 8 + g.val; omega))
    · refine Eq.trans (concatenate_pair_apply_left (t := S50x1408) (s₁ := S42x1408) (s₂ := S8x1408) _ _ _ _ _ rfl (ix2 ⟨g.val, by omega⟩ n) ?_) ?_
      · intro a; fin_cases a <;> rfl
      · exact extractStridedSlice_apply _ _ _ _ (ix2 ⟨g.val + 8, h⟩ n) (by intro a; fin_cases a <;> first | (show g.val + 8 = 8 + g.val; omega) | (show n.val = 0 + n.val; omega))
  · rw [dif_neg h]
    refine pick_none _ _ ?_
    refine Eq.trans (concatenate_pair_apply_right (t := S50x1408) (s₁ := S42x1408) (s₂ := S8x1408) _ _ _ _ _ rfl rfl (ix2 ⟨g.val - 42, by omega⟩ n) ?_ ?_) rfl
    · intro a; fin_cases a
      · exact fun h => absurd rfl h
      · exact fun _ => rfl
    · show g.val - 42 + 42 = g.val; omega

theorem stepU16_apply : stepU16 l x (ix2 g n) = up 16 (fun g => l (ix2 g 0)) (fun g => x (ix2 g n)) g := by
  show max (x _) (Scalar.select (okV (sameU16 l) (ix2 g n)) _ (Ideal.ofBits .f32 0x00000000#32)) = max _ _
  rw [okV_apply]
  refine congrArg (max (x (ix2 g n))) ?_
  by_cases h : g.val + 16 < 50
  · rw [dif_pos h]
    refine Eq.trans (congrArg₂ (fun u v => Scalar.select (Ideal.cmp .oeq (l (ix2 g 0)) u) v (Ideal.ofBits .f32 0x00000000#32)) ?_ ?_) (pick_eq _ _ _)
    · refine Eq.trans (concatenate_pair_apply_left (t := S50x1) (s₁ := S34x1) (s₂ := S16x1) _ _ _ _ _ rfl (ix2 ⟨g.val, by omega⟩ 0) ?_) ?_
      · intro a; fin_cases a <;> rfl
      · exact extractStridedSlice_apply _ _ _ _ (ix2 ⟨g.val + 16, h⟩ 0) (by intro a; fin_cases a <;> first | rfl | (show g.val + 16 = 16 + g.val; omega))
    · refine Eq.trans (concatenate_pair_apply_left (t := S50x1408) (s₁ := S34x1408) (s₂ := S16x1408) _ _ _ _ _ rfl (ix2 ⟨g.val, by omega⟩ n) ?_) ?_
      · intro a; fin_cases a <;> rfl
      · exact extractStridedSlice_apply _ _ _ _ (ix2 ⟨g.val + 16, h⟩ n) (by intro a; fin_cases a <;> first | (show g.val + 16 = 16 + g.val; omega) | (show n.val = 0 + n.val; omega))
  · rw [dif_neg h]
    refine pick_none _ _ ?_
    refine Eq.trans (concatenate_pair_apply_right (t := S50x1408) (s₁ := S34x1408) (s₂ := S16x1408) _ _ _ _ _ rfl rfl (ix2 ⟨g.val - 34, by omega⟩ n) ?_ ?_) rfl
    · intro a; fin_cases a
      · exact fun h => absurd rfl h
      · exact fun _ => rfl
    · show g.val - 34 + 34 = g.val; omega

theorem stepU32_apply : stepU32 l x (ix2 g n) = up 32 (fun g => l (ix2 g 0)) (fun g => x (ix2 g n)) g := by
  show max (x _) (Scalar.select (okV (sameU32 l) (ix2 g n)) _ (Ideal.ofBits .f32 0x00000000#32)) = max _ _
  rw [okV_apply]
  refine congrArg (max (x (ix2 g n))) ?_
  by_cases h : g.val + 32 < 50
  · rw [dif_pos h]
    refine Eq.trans (congrArg₂ (fun u v => Scalar.select (Ideal.cmp .oeq (l (ix2 g 0)) u) v (Ideal.ofBits .f32 0x00000000#32)) ?_ ?_) (pick_eq _ _ _)
    · refine Eq.trans (concatenate_pair_apply_left (t := S50x1) (s₁ := S18x1) (s₂ := S32x1) _ _ _ _ _ rfl (ix2 ⟨g.val, by omega⟩ 0) ?_) ?_
      · intro a; fin_cases a <;> rfl
      · exact extractStridedSlice_apply _ _ _ _ (ix2 ⟨g.val + 32, h⟩ 0) (by intro a; fin_cases a <;> first | rfl | (show g.val + 32 = 32 + g.val; omega))
    · refine Eq.trans (concatenate_pair_apply_left (t := S50x1408) (s₁ := S18x1408) (s₂ := S32x1408) _ _ _ _ _ rfl (ix2 ⟨g.val, by omega⟩ n) ?_) ?_
      · intro a; fin_cases a <;> rfl
      · exact extractStridedSlice_apply _ _ _ _ (ix2 ⟨g.val + 32, h⟩ n) (by intro a; fin_cases a <;> first | (show g.val + 32 = 32 + g.val; omega) | (show n.val = 0 + n.val; omega))
  · rw [dif_neg h]
    refine pick_none _ _ ?_
    refine Eq.trans (concatenate_pair_apply_right (t := S50x1408) (s₁ := S18x1408) (s₂ := S32x1408) _ _ _ _ _ rfl rfl (ix2 ⟨g.val - 18, by omega⟩ n) ?_ ?_) rfl
    · intro a; fin_cases a
      · exact fun h => absurd rfl h
      · exact fun _ => rfl
    · show g.val - 18 + 18 = g.val; omega

theorem scanD_apply : scanD l x (ix2 g n) = dns (fun g => l (ix2 g 0)) (fun g => x (ix2 g n)) g := by
  unfold scanD dns
  rw [stepD32_apply]
  simp only [stepD16_apply, stepD8_apply, stepD4_apply, stepD2_apply, stepD1_apply]

theorem scanU_apply : scanU l x (ix2 g n) = ups (fun g => l (ix2 g 0)) (fun g => x (ix2 g n)) g := by
  unfold scanU ups
  rw [stepU32_apply]
  simp only [stepU16_apply, stepU8_apply, stepU4_apply, stepU2_apply, stepU1_apply]

theorem pick_both (p q : Prop) [Decidable p] [Decidable q] (u : EReal) :
    Scalar.select (IntOp.andi (BitVec.ofBool (decide p)) (BitVec.ofBool (decide q))) u 0 = if p ∧ q then u else 0 := by
  by_cases h : p <;> by_cases h' : q <;> simp [h, h', Scalar.select, IntOp.andi]

theorem winV_apply : winV l x (ix2 g n) = win (fun g => l (ix2 g 0)) (fun g => x (ix2 g n)) g := by
  show Scalar.select (IntOp.andi (Ideal.cmp .oeq (x _) (max (scanD l x _) (scanU l x _))) (Ideal.cmp .ogt (x _) (Ideal.ofBits .f32 0x00000000#32))) (x _)
    (Ideal.ofBits .f32 0x00000000#32) = _
  rw [scanD_apply, scanU_apply, Ideal.ofBits_zero_f32]
  unfold win
  generalize max (dns (fun g => l (ix2 g 0)) (fun g => x (ix2 g n)) g) (ups (fun g => l (ix2 g 0)) (fun g => x (ix2 g n)) g) = M
  exact pick_both _ _ _

variable (x6 : Vec Ideal S1x1x50 .f32) (c : Fin 80)

theorem hotT_apply : hotT x6 (ix2 c g) = if ((c.val : ℝ) : EReal) = x6 (ix3 0 0 g) then (1 : EReal) else 0 := by
  refine (oeq_ind _ _).trans ?_
  have e1 : broadcastTo S80x50 (shapeCast S1x50 x6 shapeCasts_S1x1x50_S1x50) broadcasts_S1x50_S80x50 (ix2 c g) = x6 (ix3 0 0 g) := by
    rw [broadcastTo_apply _ _ _ (ix2 0 g) (by intro a; fin_cases a <;> rfl)]
    refine shapeCast_apply _ _ _ (ix3 0 0 g) ?_
    rw [Shape.rowMajor_val_two, Shape.rowMajor_val_three]; show (0 * 1 + 0) * 50 + g.val = 0 * 50 + g.val; omega
  have e2 : (sitofp .f32 (iota .tc S80x50 32 [0] iota_S80x50_d0_w32) : FVec Ideal S80x50 .f32) (ix2 c g) = ((c.val : ℝ) : EReal) := by
    show (FloatOps.sitofp (F := Ideal) .f32 (iota .tc S80x50 32 [0] iota_S80x50_d0_w32 (ix2 c g)) : EReal) = _
    rw [iota_single_apply]
    show (((BitVec.ofNat 32 c.val).toInt : ℝ) : EReal) = _
    have : (BitVec.ofNat 32 c.val).toInt = (c.val : ℤ) := by
      have := c.isLt
      rw [BitVec.toInt_eq_toNat_of_lt (by rw [BitVec.toNat_ofNat]; omega), BitVec.toNat_ofNat]; omega
    rw [this]; simp
  rw [e1, e2]

theorem targV_apply : targV x6 x (ix2 c n) = ∑ g, (if ((c.val : ℝ) : EReal) = x6 (ix3 0 0 g) then (1 : EReal) else 0) * x (ix2 g n) := by
  have h := Ideal.matmul_plain_apply (M := 80) (K := 50) (N := 1408) (φ₁ := .f32) (φ₂ := .f32) none (hotT x6) x (constant S80x1408 .f32 0x00000000#32) c n
  refine Eq.trans (b := _) ?_ (h.trans ?_)
  · rfl
  · show Ideal.ofBits .f32 0x00000000#32 + _ = _
    rw [Ideal.ofBits_zero_f32, zero_add]
    exact Finset.sum_congr rfl fun g _ => congrArg (· * x (ix2 g n)) (hotT_apply g x6 c)

theorem sum80_apply (y : FVec Ideal S80x1408 .f32) : sum80 y (ix2 0 n) = ∑ c : Fin 80, y (ix2 c n) := by
  rw [sum80, shapeCast_apply _ shapeCasts_S1408_S1x1408 (ix2 0 n) (ix1 n) (by rw [Shape.rowMajor_val_one, Shape.rowMajor_val_two]; show n.val = 0 * 1408 + n.val; omega)]
  refine Eq.trans (Ideal.multiReduction_add_single _ _ _ _ _ _) ?_
  refine Finset.sum_congr rfl fun k _ => congrArg y ?_
  funext a; exact Fin.ext (by rw [Shape.Reduces.lift_val]; fin_cases a <;> rfl)

/-- A score kept between its bounds, and the loss of one class and anchor with its sign turned. -/
def prob (s : EReal) : EReal := min 1 (max eps s)
def vari (a p : EReal) : EReal :=
  (if 0 < a then a * (1 - a) else Ideal.ofBits .f32 0x3F400000#32 * (p * p)) * Ideal.log (1 - p) + a * a * Ideal.log p

theorem probV_apply (p : Vec Ideal S1x80x1408 .f32) : probV p (ix2 c n) = prob (p (ix3 0 c n)) := by
  show min (Ideal.ofBits .f32 0x3F800000#32) (max eps (shapeCast S80x1408 p shapeCasts_S1x80x1408_S80x1408 (ix2 c n))) = _
  rw [ofBits_one, shapeCast_apply _ _ _ (ix3 0 c n) (by
    rw [Shape.rowMajor_val_two, Shape.rowMajor_val_three]; show (0 * 80 + c.val) * 1408 + n.val = c.val * 1408 + n.val; omega)]
  rfl

theorem lossV_apply (a p : FVec Ideal S80x1408 .f32) : lossV a p (ix2 c n) = vari (a (ix2 c n)) (p (ix2 c n)) := by
  show Scalar.select (Ideal.cmp .ogt (a _) (Ideal.ofBits .f32 0x00000000#32)) (a _ * (Ideal.ofBits .f32 0x3F800000#32 - a _))
    (Ideal.ofBits .f32 0x3F400000#32 * (p _ * p _)) * Ideal.log (Ideal.ofBits .f32 0x3F800000#32 - p _) + a _ * a _ * Ideal.log (p _) = _
  rw [ofBits_one, Ideal.ofBits_zero_f32]
  unfold vari
  by_cases h : 0 < a (ix2 c n) <;> simp [Ideal.cmp, h, Scalar.select]

theorem off6_apply (r0 r1 r2 r3 r4 r5 : FVec Ideal S1x1408 .f32) : off6 r0 r1 r2 r3 r4 r5 (ix2 0 n)
    = 0 - r0 (ix2 0 n) - r1 (ix2 0 n) - r2 (ix2 0 n) - r3 (ix2 0 n) - r4 (ix2 0 n) - r5 (ix2 0 n) := by
  show Ideal.ofBits .f32 0x00000000#32 - _ - _ - _ - _ - _ - _ = _
  rw [Ideal.ofBits_zero_f32]

end Cert.Tal

end
-- ==== Proof.Loss.lean ====
/- The classification loss of one class and anchor over the reals, in the reference's words and the kernel's, and its sums. -/
module

public import proofs.«01_k».proof.Proof.ReadK3
public import proofs.«01_k».proof.Proof.ReadBlock
public import proofs.«01_k».proof.Proof.Hat

@[expose] public section

noncomputable section

namespace Cert.Tal

open Idealize.ShloMosaic

theorem eps_real : ∃ e : ℝ, eps = e ∧ 0 < e ∧ e < 1 := by
  refine ⟨9007199 / 9007199254740992, ?_, by norm_num, by norm_num⟩
  unfold eps
  simp [Ideal.ofBits, Ideal.ieee]
  rw [← EReal.coe_mul]
  norm_num

theorem ofBits_weight : Ideal.ofBits .f32 0x3F400000#32 = ((3 / 4 : ℝ) : EReal) := by
  simp [Ideal.ofBits, Ideal.ieee]
  rw [← EReal.coe_mul]
  norm_num

theorem pow_two' (r : ℝ) : Ideal.pow (r : EReal) 2 = ((r * r : ℝ) : EReal) := by
  show ((Real.rpow r 2 : ℝ) : EReal) = _
  refine congrArg _ ((Real.rpow_natCast r 2).trans ?_)
  ring

/-- A score below one, kept between its bounds, is a real strictly between nought and one. -/
theorem prob_real (s : EReal) (h : s < 1) : ∃ p : ℝ, prob s = p ∧ 0 < p ∧ p < 1 := by
  obtain ⟨e, he, h0, h1⟩ := eps_real
  unfold prob
  rw [he]
  have hi : max (e : EReal) s < 1 := max_lt (by exact_mod_cast h1) h
  rw [min_eq_right hi.le]
  have lo : (e : EReal) ≤ max (e : EReal) s := le_max_left _ _
  generalize max (e : EReal) s = x at hi lo
  induction x with
  | bot => exact absurd lo (by simp)
  | top => exact absurd hi (by simp)
  | coe r => exact ⟨r, rfl, lt_of_lt_of_le h0 (by exact_mod_cast lo), by exact_mod_cast hi⟩

/-- The reference's loss of one class and anchor. -/
def refLoss (a p : EReal) : EReal :=
  -(a * Ideal.log p + (1 - a) * Ideal.log (1 - p)) * (Ideal.ofBits .f32 0x3F400000#32 * Ideal.pow p 2 * (1 - if 0 < a then 1 else 0) + a)

theorem loss_eq (a p : ℝ) (ha : 0 ≤ a) (h0 : 0 < p) (h1 : p < 1) :
    ∃ r : ℝ, vari (a : EReal) p = r ∧ refLoss (a : EReal) p = ((-r : ℝ) : EReal) := by
  have l1 : Ideal.log (p : EReal) = ((Real.log p : ℝ) : EReal) := by rw [Ideal.log_coe, if_neg (not_le.2 h0)]
  have l2 : Ideal.log (1 - (p : EReal)) = ((Real.log (1 - p) : ℝ) : EReal) := by
    rw [← EReal.coe_one, ← EReal.coe_sub, Ideal.log_coe, if_neg (not_le.2 (by linarith))]
  unfold vari refLoss
  rw [l1, l2, ofBits_weight, pow_two']
  rcases ha.eq_or_lt with rfl | hp
  · refine ⟨3 / 4 * (p * p) * Real.log (1 - p), ?_, ?_⟩
    · rw [if_neg (by simp)]
      simp only [EReal.coe_mul, EReal.coe_zero, zero_mul, add_zero]
    · rw [if_neg (by simp), EReal.coe_zero, ← EReal.coe_zero, ← EReal.coe_one]
      simp only [← EReal.coe_sub, ← EReal.coe_mul, ← EReal.coe_add, ← EReal.coe_neg]
      refine congrArg _ ?_
      ring
  · refine ⟨a * (1 - a) * Real.log (1 - p) + a * a * Real.log p, ?_, ?_⟩
    · rw [if_pos (by exact_mod_cast hp), ← EReal.coe_one]
      simp only [← EReal.coe_sub, ← EReal.coe_mul, ← EReal.coe_add]
    · rw [if_pos (by exact_mod_cast hp), ← EReal.coe_one]
      simp only [← EReal.coe_sub, ← EReal.coe_mul, ← EReal.coe_add, ← EReal.coe_neg]
      refine congrArg _ ?_
      ring

/-- Six runs of anchors, each lane taken off from nothing, and the lanes added up. -/
def offs (f : Fin 8448 → EReal) : EReal :=
  ∑ n : Fin 1408, (0 - f ⟨0 + n.val, by omega⟩ - f ⟨1408 + n.val, by omega⟩ - f ⟨2816 + n.val, by omega⟩ - f ⟨4224 + n.val, by omega⟩
    - f ⟨5632 + n.val, by omega⟩ - f ⟨7040 + n.val, by omega⟩)

theorem offs_real (f : Fin 8448 → ℝ) : offs (fun n => (f n : EReal)) = ∑ n, ((-f n : ℝ) : EReal) := by
  unfold offs
  rw [← sum_runs]
  refine Finset.sum_congr rfl fun n _ => ?_
  rw [zero_sub]
  simp only [EReal.coe_neg, sub_eq_add_neg]

end Cert.Tal

end
-- ==== Proof.Words4.lean ====
/- The words of the body's run that hold the class targets' sums and the classification loss, read as the steps of Vocab3. -/
module

public import proofs.«01_k».proof.Proof.Vocab3
public import proofs.«01_k».proof.Proof.Words2

@[expose] public section

set_option maxRecDepth 16384

noncomputable section

namespace Cert.Tal

open Cert.KernelIdeal Cert.KernelIdeal.Gen Idealize.ShloMosaic Idealize.ShloMosaic.TcCoe

variable {F : FTy → Type} [FloatOps F]

variable (c : Dev nD)
variable (arg1 : Memref sig .tc .vmem S1x80x8448 .f32) (harg1 : arg1.IsWhole)
variable (arg2 : Memref sig .tc .vmem S1x6x8448 .f32) (harg2 : arg2.IsWhole)
variable (arg3 : Memref sig .tc .vmem S1x4x17x8448 .f32) (harg3 : arg3.IsWhole)
variable (arg4 : Memref sig .tc .vmem S1x50x4 .f32) (harg4 : arg4.IsWhole)
variable (arg5 : Memref sig .tc .vmem S1x4x50 .f32) (harg5 : arg5.IsWhole)
variable (arg6 : Memref sig .tc .vmem S1x50x1 .f32) (harg6 : arg6.IsWhole)
variable (arg7 : Memref sig .tc .vmem S1x1x50 .f32) (harg7 : arg7.IsWhole)
variable (arg8 : Memref sig .tc .vmem S1x50x1 .f32) (harg8 : arg8.IsWhole)
variable (arg9 : Memref sig .tc .vmem S1x1x1 .f32) (harg9 : arg9.IsWhole)
variable (arg10 : Memref sig .tc .vmem S1x1x1 .f32) (harg10 : arg10.IsWhole)
variable (arg11 : Memref sig .tc .vmem S1x1x1 .f32) (harg11 : arg11.IsWhole)
variable (arg12 : Memref sig .tc .vmem S1x1x1 .f32) (harg12 : arg12.IsWhole)
variable (arg13 : Memref sig .tc .vmem S1x1x1 .f32) (harg13 : arg13.IsWhole)
variable (arg14 : Memref sig .tc .vmem S50x8448 .f32) (harg14 : arg14.IsWhole)
variable (arg15 : Memref sig .tc .vmem S50x8448 .f32) (harg15 : arg15.IsWhole)
variable (x0 : Vec F S1x80x8448 .f32) (x1 : Vec F S1x6x8448 .f32) (x2 : Vec F S1x4x17x8448 .f32) (x3 : Vec F S1x50x4 .f32) (x4 : Vec F S1x4x50 .f32) (x5 : Vec F S1x50x1 .f32) (x6 : Vec F S1x1x50 .f32) (x7 : Vec F S1x50x1 .f32)

/-- The scale of the ground truths; the scaled kept metrics, the class targets and the loss of the anchors of one run. -/
def scaleC (x0 : Vec F S1x80x8448 .f32) (x1 : Vec F S1x6x8448 .f32) (x3 : Vec F S1x50x4 .f32) (x5 x7 : Vec F S1x50x1 .f32) : FVec F S50x1 .f32 :=
  scaleV (thrC x0 x1 x3 x5 x7 13) (metC x0 x1 x3 x5 x7 0 (by decide)) (metC x0 x1 x3 x5 x7 1408 (by decide)) (metC x0 x1 x3 x5 x7 2816 (by decide)) (metC x0 x1 x3 x5 x7 4224 (by decide)) (metC x0 x1 x3 x5 x7 5632 (by decide)) (metC x0 x1 x3 x5 x7 7040 (by decide)) (iouV x3 (cut6 x1 0 (by decide))) (iouV x3 (cut6 x1 1408 (by decide))) (iouV x3 (cut6 x1 2816 (by decide))) (iouV x3 (cut6 x1 4224 (by decide))) (iouV x3 (cut6 x1 5632 (by decide))) (iouV x3 (cut6 x1 7040 (by decide)))
def normC (x0 : Vec F S1x80x8448 .f32) (x1 : Vec F S1x6x8448 .f32) (x3 : Vec F S1x50x4 .f32) (x5 x7 : Vec F S1x50x1 .f32) (o : ℕ) (h : o + 1408 ≤ 8448) : FVec F S50x1408 .f32 := normV (thrC x0 x1 x3 x5 x7 13) (metC x0 x1 x3 x5 x7 o h) (scaleC x0 x1 x3 x5 x7)
def targC (x0 : Vec F S1x80x8448 .f32) (x1 : Vec F S1x6x8448 .f32) (x3 : Vec F S1x50x4 .f32) (x5 : Vec F S1x50x1 .f32) (x6 : Vec F S1x1x50 .f32) (x7 : Vec F S1x50x1 .f32) (o : ℕ) (h : o + 1408 ≤ 8448) : FVec F S80x1408 .f32 := targV x6 (winV (colV x5) (normC x0 x1 x3 x5 x7 o h))
def lossC (x0 : Vec F S1x80x8448 .f32) (x1 : Vec F S1x6x8448 .f32) (x3 : Vec F S1x50x4 .f32) (x5 : Vec F S1x50x1 .f32) (x6 : Vec F S1x1x50 .f32) (x7 : Vec F S1x50x1 .f32) (o : ℕ) (h : o + 1408 ≤ 8448) : FVec F S80x1408 .f32 := lossV (targC x0 x1 x3 x5 x6 x7 o h) (probV (cut80 x0 o h))
def ascOut (x0 : Vec F S1x80x8448 .f32) (x1 : Vec F S1x6x8448 .f32) (x3 : Vec F S1x50x4 .f32) (x5 : Vec F S1x50x1 .f32) (x6 : Vec F S1x1x50 .f32) (x7 : Vec F S1x50x1 .f32) : FVec F S1x1x1 .f32 :=
  totV (acc6 (sum80 (targC x0 x1 x3 x5 x6 x7 0 (by decide))) (sum80 (targC x0 x1 x3 x5 x6 x7 1408 (by decide))) (sum80 (targC x0 x1 x3 x5 x6 x7 2816 (by decide))) (sum80 (targC x0 x1 x3 x5 x6 x7 4224 (by decide))) (sum80 (targC x0 x1 x3 x5 x6 x7 5632 (by decide))) (sum80 (targC x0 x1 x3 x5 x6 x7 7040 (by decide))))
def bceOut (x0 : Vec F S1x80x8448 .f32) (x1 : Vec F S1x6x8448 .f32) (x3 : Vec F S1x50x4 .f32) (x5 : Vec F S1x50x1 .f32) (x6 : Vec F S1x1x50 .f32) (x7 : Vec F S1x50x1 .f32) : FVec F S1x1x1 .f32 :=
  totV (off6 (sum80 (lossC x0 x1 x3 x5 x6 x7 0 (by decide))) (sum80 (lossC x0 x1 x3 x5 x6 x7 1408 (by decide))) (sum80 (lossC x0 x1 x3 x5 x6 x7 2816 (by decide))) (sum80 (lossC x0 x1 x3 x5 x6 x7 4224 (by decide))) (sum80 (lossC x0 x1 x3 x5 x6 x7 5632 (by decide))) (sum80 (lossC x0 x1 x3 x5 x6 x7 7040 (by decide))))

theorem w_r_9 : (kernelRun0_A.sl.r_9 (F := F) c arg7 harg7 x6) = hotT x6 := by
  unfold kernelRun0_A.sl.r_9 k0_pay14
  rw [rdR arg7 harg7 x6]
  rfl

theorem w_r_104 : (kernelRun0_A.sl.r_104 (F := F) c arg1 harg1 arg2 harg2 arg4 harg4 arg6 harg6 arg8 harg8 arg14 arg15 x0 x1 x3 x5 x7) = scaleC x0 x1 x3 x5 x7 := by
  unfold scaleC metC
  rw [← thr_last c arg1 harg1 arg2 harg2 arg4 harg4 arg6 harg6 arg8 harg8 arg14 x0 x1 x3 x5 x7, ← w_v463 c arg1 harg1 arg2 harg2 arg4 harg4 arg6 harg6 arg8 harg8 arg14 x0 x1 x3 x5 x7, ← w_v471 c arg1 harg1 arg2 harg2 arg4 harg4 arg6 harg6 arg8 harg8 arg14 x0 x1 x3 x5 x7, ← w_v479 c arg1 harg1 arg2 harg2 arg4 harg4 arg6 harg6 arg8 harg8 arg14 x0 x1 x3 x5 x7, ← w_v487 c arg1 harg1 arg2 harg2 arg4 harg4 arg6 harg6 arg8 harg8 arg14 x0 x1 x3 x5 x7, ← w_v495 c arg1 harg1 arg2 harg2 arg4 harg4 arg6 harg6 arg8 harg8 arg14 x0 x1 x3 x5 x7, ← w_v503 c arg1 harg1 arg2 harg2 arg4 harg4 arg6 harg6 arg8 harg8 arg14 x0 x1 x3 x5 x7, ← w_v1106 c arg2 harg2 arg4 harg4 arg15 x1 x3, ← w_v1123 c arg2 harg2 arg4 harg4 arg15 x1 x3, ← w_v1140 c arg2 harg2 arg4 harg4 arg15 x1 x3, ← w_v1157 c arg2 harg2 arg4 harg4 arg15 x1 x3, ← w_v1174 c arg2 harg2 arg4 harg4 arg15 x1 x3, ← w_v1191 c arg2 harg2 arg4 harg4 arg15 x1 x3]
  rfl

theorem w_r_124 : (kernelRun0_A.sl.r_124 (F := F) c arg1 harg1 arg2 harg2 arg4 harg4 arg6 harg6 arg8 harg8 arg14 arg15 x0 x1 x3 x5 x7) = normC x0 x1 x3 x5 x7 0 (by decide) := by
  unfold normC metC
  rw [← w_r_104 c arg1 harg1 arg2 harg2 arg4 harg4 arg6 harg6 arg8 harg8 arg14 arg15 x0 x1 x3 x5 x7, ← thr_last c arg1 harg1 arg2 harg2 arg4 harg4 arg6 harg6 arg8 harg8 arg14 x0 x1 x3 x5 x7, ← w_v463 c arg1 harg1 arg2 harg2 arg4 harg4 arg6 harg6 arg8 harg8 arg14 x0 x1 x3 x5 x7]
  rfl

theorem w_r_152 : (kernelRun0_A.sl.r_152 (F := F) c arg1 harg1 arg2 harg2 arg4 harg4 arg6 harg6 arg8 harg8 arg14 arg15 x0 x1 x3 x5 x7) = normC x0 x1 x3 x5 x7 1408 (by decide) := by
  unfold normC metC
  rw [← w_r_104 c arg1 harg1 arg2 harg2 arg4 harg4 arg6 harg6 arg8 harg8 arg14 arg15 x0 x1 x3 x5 x7, ← thr_last c arg1 harg1 arg2 harg2 arg4 harg4 arg6 harg6 arg8 harg8 arg14 x0 x1 x3 x5 x7, ← w_v471 c arg1 harg1 arg2 harg2 arg4 harg4 arg6 harg6 arg8 harg8 arg14 x0 x1 x3 x5 x7]
  rfl

theorem w_r_188 : (kernelRun0_A.sl.r_188 (F := F) c arg1 harg1 arg2 harg2 arg4 harg4 arg6 harg6 arg8 harg8 arg14 arg15 x0 x1 x3 x5 x7) = normC x0 x1 x3 x5 x7 2816 (by decide) := by
  unfold normC metC
  rw [← w_r_104 c arg1 harg1 arg2 harg2 arg4 harg4 arg6 harg6 arg8 harg8 arg14 arg15 x0 x1 x3 x5 x7, ← thr_last c arg1 harg1 arg2 harg2 arg4 harg4 arg6 harg6 arg8 harg8 arg14 x0 x1 x3 x5 x7, ← w_v479 c arg1 harg1 arg2 harg2 arg4 harg4 arg6 harg6 arg8 harg8 arg14 x0 x1 x3 x5 x7]
  rfl

theorem w_r_224 : (kernelRun0_A.sl.r_224 (F := F) c arg1 harg1 arg2 harg2 arg4 harg4 arg6 harg6 arg8 harg8 arg14 arg15 x0 x1 x3 x5 x7) = normC x0 x1 x3 x5 x7 4224 (by decide) := by
  unfold normC metC
  rw [← w_r_104 c arg1 harg1 arg2 harg2 arg4 harg4 arg6 harg6 arg8 harg8 arg14 arg15 x0 x1 x3 x5 x7, ← thr_last c arg1 harg1 arg2 harg2 arg4 harg4 arg6 harg6 arg8 harg8 arg14 x0 x1 x3 x5 x7, ← w_v487 c arg1 harg1 arg2 harg2 arg4 harg4 arg6 harg6 arg8 harg8 arg14 x0 x1 x3 x5 x7]
  rfl

theorem w_r_255 : (kernelRun0_A.sl.r_255 (F := F) c arg1 harg1 arg2 harg2 arg4 harg4 arg6 harg6 arg8 harg8 arg14 arg15 x0 x1 x3 x5 x7) = normC x0 x1 x3 x5 x7 5632 (by decide) := by
  unfold normC metC
  rw [← w_r_104 c arg1 harg1 arg2 harg2 arg4 harg4 arg6 harg6 arg8 harg8 arg14 arg15 x0 x1 x3 x5 x7, ← thr_last c arg1 harg1 arg2 harg2 arg4 harg4 arg6 harg6 arg8 harg8 arg14 x0 x1 x3 x5 x7, ← w_v495 c arg1 harg1 arg2 harg2 arg4 harg4 arg6 harg6 arg8 harg8 arg14 x0 x1 x3 x5 x7]
  rfl

theorem w_r_295 : (kernelRun0_A.sl.r_295 (F := F) c arg1 harg1 arg2 harg2 arg4 harg4 arg6 harg6 arg8 harg8 arg14 arg15 x0 x1 x3 x5 x7) = normC x0 x1 x3 x5 x7 7040 (by decide) := by
  unfold normC metC
  rw [← w_r_104 c arg1 harg1 arg2 harg2 arg4 harg4 arg6 harg6 arg8 harg8 arg14 arg15 x0 x1 x3 x5 x7, ← thr_last c arg1 harg1 arg2 harg2 arg4 harg4 arg6 harg6 arg8 harg8 arg14 x0 x1 x3 x5 x7, ← w_v503 c arg1 harg1 arg2 harg2 arg4 harg4 arg6 harg6 arg8 harg8 arg14 x0 x1 x3 x5 x7]
  rfl

theorem w_r_130 : (kernelRun0_A.sl.r_130 (F := F) c arg1 harg1 arg2 harg2 arg4 harg4 arg6 harg6 arg7 harg7 arg8 harg8 arg14 arg15 x0 x1 x3 x5 x6 x7) = addf (lit S1x1408 0x00000000#32) (sum80 (targC x0 x1 x3 x5 x6 x7 0 (by decide))) := by
  unfold targC targV
  rw [← w_r_124 c arg1 harg1 arg2 harg2 arg4 harg4 arg6 harg6 arg8 harg8 arg14 arg15 x0 x1 x3 x5 x7, ← w_r_9 c arg7 harg7 x6, ← w_r_1 c arg6 harg6 x5]
  rfl

theorem w_r_162 : (kernelRun0_A.sl.r_162 (F := F) c arg1 harg1 arg2 harg2 arg4 harg4 arg6 harg6 arg7 harg7 arg8 harg8 arg14 arg15 x0 x1 x3 x5 x6 x7) = addf (kernelRun0_A.sl.r_130 (F := F) c arg1 harg1 arg2 harg2 arg4 harg4 arg6 harg6 arg7 harg7 arg8 harg8 arg14 arg15 x0 x1 x3 x5 x6 x7) (sum80 (targC x0 x1 x3 x5 x6 x7 1408 (by decide))) := by
  unfold targC targV
  rw [← w_r_152 c arg1 harg1 arg2 harg2 arg4 harg4 arg6 harg6 arg8 harg8 arg14 arg15 x0 x1 x3 x5 x7, ← w_r_9 c arg7 harg7 x6, ← w_r_1 c arg6 harg6 x5]
  rfl

theorem w_r_194 : (kernelRun0_A.sl.r_194 (F := F) c arg1 harg1 arg2 harg2 arg4 harg4 arg6 harg6 arg7 harg7 arg8 harg8 arg14 arg15 x0 x1 x3 x5 x6 x7) = addf (kernelRun0_A.sl.r_162 (F := F) c arg1 harg1 arg2 harg2 arg4 harg4 arg6 harg6 arg7 harg7 arg8 harg8 arg14 arg15 x0 x1 x3 x5 x6 x7) (sum80 (targC x0 x1 x3 x5 x6 x7 2816 (by decide))) := by
  unfold targC targV
  rw [← w_r_188 c arg1 harg1 arg2 harg2 arg4 harg4 arg6 harg6 arg8 harg8 arg14 arg15 x0 x1 x3 x5 x7, ← w_r_9 c arg7 harg7 x6, ← w_r_1 c arg6 harg6 x5]
  rfl

theorem w_r_234 : (kernelRun0_A.sl.r_234 (F := F) c arg1 harg1 arg2 harg2 arg4 harg4 arg6 harg6 arg7 harg7 arg8 harg8 arg14 arg15 x0 x1 x3 x5 x6 x7) = addf (kernelRun0_A.sl.r_194 (F := F) c arg1 harg1 arg2 harg2 arg4 harg4 arg6 harg6 arg7 harg7 arg8 harg8 arg14 arg15 x0 x1 x3 x5 x6 x7) (sum80 (targC x0 x1 x3 x5 x6 x7 4224 (by decide))) := by
  unfold targC targV
  rw [← w_r_224 c arg1 harg1 arg2 harg2 arg4 harg4 arg6 harg6 arg8 harg8 arg14 arg15 x0 x1 x3 x5 x7, ← w_r_9 c arg7 harg7 x6, ← w_r_1 c arg6 harg6 x5]
  rfl

theorem w_r_267 : (kernelRun0_A.sl.r_267 (F := F) c arg1 harg1 arg2 harg2 arg4 harg4 arg6 harg6 arg7 harg7 arg8 harg8 arg14 arg15 x0 x1 x3 x5 x6 x7) = addf (kernelRun0_A.sl.r_234 (F := F) c arg1 harg1 arg2 harg2 arg4 harg4 arg6 harg6 arg7 harg7 arg8 harg8 arg14 arg15 x0 x1 x3 x5 x6 x7) (sum80 (targC x0 x1 x3 x5 x6 x7 5632 (by decide))) := by
  unfold targC targV
  rw [← w_r_255 c arg1 harg1 arg2 harg2 arg4 harg4 arg6 harg6 arg8 harg8 arg14 arg15 x0 x1 x3 x5 x7, ← w_r_9 c arg7 harg7 x6, ← w_r_1 c arg6 harg6 x5]
  rfl

theorem w_r_303 : (kernelRun0_A.sl.r_303 (F := F) c arg1 harg1 arg2 harg2 arg4 harg4 arg6 harg6 arg7 harg7 arg8 harg8 arg14 arg15 x0 x1 x3 x5 x6 x7) = addf (kernelRun0_A.sl.r_267 (F := F) c arg1 harg1 arg2 harg2 arg4 harg4 arg6 harg6 arg7 harg7 arg8 harg8 arg14 arg15 x0 x1 x3 x5 x6 x7) (sum80 (targC x0 x1 x3 x5 x6 x7 7040 (by decide))) := by
  unfold targC targV
  rw [← w_r_295 c arg1 harg1 arg2 harg2 arg4 harg4 arg6 harg6 arg8 harg8 arg14 arg15 x0 x1 x3 x5 x7, ← w_r_9 c arg7 harg7 x6, ← w_r_1 c arg6 harg6 x5]
  rfl

theorem w_r_129 : (kernelRun0_A.sl.r_129 (F := F) c arg1 harg1 arg2 harg2 arg4 harg4 arg6 harg6 arg7 harg7 arg8 harg8 arg14 arg15 x0 x1 x3 x5 x6 x7) = subf (lit S1x1408 0x00000000#32) (sum80 (lossC x0 x1 x3 x5 x6 x7 0 (by decide))) := by
  unfold lossC targC targV
  rw [← w_r_124 c arg1 harg1 arg2 harg2 arg4 harg4 arg6 harg6 arg8 harg8 arg14 arg15 x0 x1 x3 x5 x7, ← w_r_9 c arg7 harg7 x6, ← w_r_1 c arg6 harg6 x5, ← rd80 arg1 harg1 x0 0 (by decide) inb_S1x80x8448_S1x80x1408_0_0_0]
  rfl

theorem w_r_161 : (kernelRun0_A.sl.r_161 (F := F) c arg1 harg1 arg2 harg2 arg4 harg4 arg6 harg6 arg7 harg7 arg8 harg8 arg14 arg15 x0 x1 x3 x5 x6 x7) = subf (kernelRun0_A.sl.r_129 (F := F) c arg1 harg1 arg2 harg2 arg4 harg4 arg6 harg6 arg7 harg7 arg8 harg8 arg14 arg15 x0 x1 x3 x5 x6 x7) (sum80 (lossC x0 x1 x3 x5 x6 x7 1408 (by decide))) := by
  unfold lossC targC targV
  rw [← w_r_152 c arg1 harg1 arg2 harg2 arg4 harg4 arg6 harg6 arg8 harg8 arg14 arg15 x0 x1 x3 x5 x7, ← w_r_9 c arg7 harg7 x6, ← w_r_1 c arg6 harg6 x5, ← rd80 arg1 harg1 x0 1408 (by decide) inb_S1x80x8448_S1x80x1408_0_0_1408]
  rfl

theorem w_r_193 : (kernelRun0_A.sl.r_193 (F := F) c arg1 harg1 arg2 harg2 arg4 harg4 arg6 harg6 arg7 harg7 arg8 harg8 arg14 arg15 x0 x1 x3 x5 x6 x7) = subf (kernelRun0_A.sl.r_161 (F := F) c arg1 harg1 arg2 harg2 arg4 harg4 arg6 harg6 arg7 harg7 arg8 harg8 arg14 arg15 x0 x1 x3 x5 x6 x7) (sum80 (lossC x0 x1 x3 x5 x6 x7 2816 (by decide))) := by
  unfold lossC targC targV
  rw [← w_r_188 c arg1 harg1 arg2 harg2 arg4 harg4 arg6 harg6 arg8 harg8 arg14 arg15 x0 x1 x3 x5 x7, ← w_r_9 c arg7 harg7 x6, ← w_r_1 c arg6 harg6 x5, ← rd80 arg1 harg1 x0 2816 (by decide) inb_S1x80x8448_S1x80x1408_0_0_2816]
  rfl

theorem w_r_233 : (kernelRun0_A.sl.r_233 (F := F) c arg1 harg1 arg2 harg2 arg4 harg4 arg6 harg6 arg7 harg7 arg8 harg8 arg14 arg15 x0 x1 x3 x5 x6 x7) = subf (kernelRun0_A.sl.r_193 (F := F) c arg1 harg1 arg2 harg2 arg4 harg4 arg6 harg6 arg7 harg7 arg8 harg8 arg14 arg15 x0 x1 x3 x5 x6 x7) (sum80 (lossC x0 x1 x3 x5 x6 x7 4224 (by decide))) := by
  unfold lossC targC targV
  rw [← w_r_224 c arg1 harg1 arg2 harg2 arg4 harg4 arg6 harg6 arg8 harg8 arg14 arg15 x0 x1 x3 x5 x7, ← w_r_9 c arg7 harg7 x6, ← w_r_1 c arg6 harg6 x5, ← rd80 arg1 harg1 x0 4224 (by decide) inb_S1x80x8448_S1x80x1408_0_0_4224]
  rfl

theorem w_r_266 : (kernelRun0_A.sl.r_266 (F := F) c arg1 harg1 arg2 harg2 arg4 harg4 arg6 harg6 arg7 harg7 arg8 harg8 arg14 arg15 x0 x1 x3 x5 x6 x7) = subf (kernelRun0_A.sl.r_233 (F := F) c arg1 harg1 arg2 harg2 arg4 harg4 arg6 harg6 arg7 harg7 arg8 harg8 arg14 arg15 x0 x1 x3 x5 x6 x7) (sum80 (lossC x0 x1 x3 x5 x6 x7 5632 (by decide))) := by
  unfold lossC targC targV
  rw [← w_r_255 c arg1 harg1 arg2 harg2 arg4 harg4 arg6 harg6 arg8 harg8 arg14 arg15 x0 x1 x3 x5 x7, ← w_r_9 c arg7 harg7 x6, ← w_r_1 c arg6 harg6 x5, ← rd80 arg1 harg1 x0 5632 (by decide) inb_S1x80x8448_S1x80x1408_0_0_5632]
  rfl

theorem w_r_302 : (kernelRun0_A.sl.r_302 (F := F) c arg1 harg1 arg2 harg2 arg4 harg4 arg6 harg6 arg7 harg7 arg8 harg8 arg14 arg15 x0 x1 x3 x5 x6 x7) = subf (kernelRun0_A.sl.r_266 (F := F) c arg1 harg1 arg2 harg2 arg4 harg4 arg6 harg6 arg7 harg7 arg8 harg8 arg14 arg15 x0 x1 x3 x5 x6 x7) (sum80 (lossC x0 x1 x3 x5 x6 x7 7040 (by decide))) := by
  unfold lossC targC targV
  rw [← w_r_295 c arg1 harg1 arg2 harg2 arg4 harg4 arg6 harg6 arg8 harg8 arg14 arg15 x0 x1 x3 x5 x7, ← w_r_9 c arg7 harg7 x6, ← w_r_1 c arg6 harg6 x5, ← rd80 arg1 harg1 x0 7040 (by decide) inb_S1x80x8448_S1x80x1408_0_0_7040]
  rfl

theorem w_asc : k0_pay423 (kernelRun0_A.sl.r_303 (F := F) c arg1 harg1 arg2 harg2 arg4 harg4 arg6 harg6 arg7 harg7 arg8 harg8 arg14 arg15 x0 x1 x3 x5 x6 x7) = ascOut x0 x1 x3 x5 x6 x7 := by
  rw [w_r_303 c arg1 harg1 arg2 harg2 arg4 harg4 arg6 harg6 arg7 harg7 arg8 harg8 arg14 arg15 x0 x1 x3 x5 x6 x7, w_r_267 c arg1 harg1 arg2 harg2 arg4 harg4 arg6 harg6 arg7 harg7 arg8 harg8 arg14 arg15 x0 x1 x3 x5 x6 x7, w_r_234 c arg1 harg1 arg2 harg2 arg4 harg4 arg6 harg6 arg7 harg7 arg8 harg8 arg14 arg15 x0 x1 x3 x5 x6 x7, w_r_194 c arg1 harg1 arg2 harg2 arg4 harg4 arg6 harg6 arg7 harg7 arg8 harg8 arg14 arg15 x0 x1 x3 x5 x6 x7, w_r_162 c arg1 harg1 arg2 harg2 arg4 harg4 arg6 harg6 arg7 harg7 arg8 harg8 arg14 arg15 x0 x1 x3 x5 x6 x7, w_r_130 c arg1 harg1 arg2 harg2 arg4 harg4 arg6 harg6 arg7 harg7 arg8 harg8 arg14 arg15 x0 x1 x3 x5 x6 x7]
  rfl

theorem out_asc (i : grid0.Coords) (a1 : Memref sig .tc .vmem S1x80x8448 .f32) :
    out0_A_9 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = ascOut x0 x1 x3 x5 x6 x7 := by
  rw [← w_asc c arg1 harg1 arg2 harg2 arg4 harg4 arg6 harg6 arg7 harg7 arg8 harg8 arg14 arg15 x0 x1 x3 x5 x6 x7]
  unfold out0_A_9
  rw [View.read_writes_junk_eq_canon]
  unfold kernelRun0_A
  exact View.canon_cons_unit_lit' _ _ _ (by decide)

theorem w_bce : k0_pay422 (kernelRun0_A.sl.r_302 (F := F) c arg1 harg1 arg2 harg2 arg4 harg4 arg6 harg6 arg7 harg7 arg8 harg8 arg14 arg15 x0 x1 x3 x5 x6 x7) = bceOut x0 x1 x3 x5 x6 x7 := by
  rw [w_r_302 c arg1 harg1 arg2 harg2 arg4 harg4 arg6 harg6 arg7 harg7 arg8 harg8 arg14 arg15 x0 x1 x3 x5 x6 x7, w_r_266 c arg1 harg1 arg2 harg2 arg4 harg4 arg6 harg6 arg7 harg7 arg8 harg8 arg14 arg15 x0 x1 x3 x5 x6 x7, w_r_233 c arg1 harg1 arg2 harg2 arg4 harg4 arg6 harg6 arg7 harg7 arg8 harg8 arg14 arg15 x0 x1 x3 x5 x6 x7, w_r_193 c arg1 harg1 arg2 harg2 arg4 harg4 arg6 harg6 arg7 harg7 arg8 harg8 arg14 arg15 x0 x1 x3 x5 x6 x7, w_r_161 c arg1 harg1 arg2 harg2 arg4 harg4 arg6 harg6 arg7 harg7 arg8 harg8 arg14 arg15 x0 x1 x3 x5 x6 x7, w_r_129 c arg1 harg1 arg2 harg2 arg4 harg4 arg6 harg6 arg7 harg7 arg8 harg8 arg14 arg15 x0 x1 x3 x5 x6 x7]
  rfl

theorem out_bce (i : grid0.Coords) (a1 : Memref sig .tc .vmem S1x80x8448 .f32) :
    out0_A_8 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = bceOut x0 x1 x3 x5 x6 x7 := by
  rw [← w_bce c arg1 harg1 arg2 harg2 arg4 harg4 arg6 harg6 arg7 harg7 arg8 harg8 arg14 arg15 x0 x1 x3 x5 x6 x7]
  unfold out0_A_8
  rw [View.read_writes_junk_eq_canon]
  unfold kernelRun0_A
  exact View.canon_cons_unit_lit' _ _ _ (by decide)

end Cert.Tal

end
-- ==== Proof.Blocks3.lean ====
/- The sums of the class targets and of the classification loss of every batch element after the call, from the arguments. -/
module

public import proofs.«01_k».proof.Proof.Blocks2
public import proofs.«01_k».proof.Proof.Loss
public import proofs.«01_k».proof.Proof.Words4

@[expose] public section

set_option maxRecDepth 16384

noncomputable section

namespace Cert.Tal

open Cert.KernelIdeal Cert.KernelIdeal.Gen Idealize.ShloMosaic Idealize.ShloMosaic.TcCoe Idealize.SL.Sem

section Norm

variable (M I : Fin 50 → Fin 8448 → EReal)

/-- An overlap where the metric is kept; a box's scale; its scaled metrics; the target of an anchor and a class. -/
def keptI (n : Fin 8448) (g : Fin 50) : EReal := if thr (M g) 13 ≤ M g n ∧ 0 < M g n then I g n else 0
def scaleF (g : Fin 50) : EReal := Ideal.div (max 0 (⨆ n, keptI M I n g)) (max 0 (⨆ n, keptF M n g) + eps)
def normF (n : Fin 8448) (g : Fin 50) : EReal := keptF M n g * scaleF M I g
def targF (L L' : Fin 50 → EReal) (n : Fin 8448) (c : Fin 80) : EReal :=
  ∑ g, (if ((c.val : ℝ) : EReal) = L' g then (1 : EReal) else 0) * win L (normF M I n) g

end Norm

theorem over_apply (u v : FVec Ideal S50x1 .f32) (i : S50x1.Idx) :
    divf u (addf v (lit S50x1 0x3089705F#32)) i = Ideal.div (u i) (v i + eps) := rfl

theorem scaleV_apply (t : FVec Ideal S50x1 .f32) (A0 A1 A2 A3 A4 A5 I0 I1 I2 I3 I4 I5 : FVec Ideal S50x1408 .f32) (g : Fin 50) :
    scaleV t A0 A1 A2 A3 A4 A5 I0 I1 I2 I3 I4 I5 (ix2 g 0) = Ideal.div
      (top6 (maxRow (keptV t A0 I0)) (maxRow (keptV t A1 I1)) (maxRow (keptV t A2 I2)) (maxRow (keptV t A3 I3)) (maxRow (keptV t A4 I4)) (maxRow (keptV t A5 I5)) (ix2 g 0))
      (top6 (maxRow (topV t A0)) (maxRow (topV t A1)) (maxRow (topV t A2)) (maxRow (topV t A3)) (maxRow (topV t A4)) (maxRow (topV t A5)) (ix2 g 0) + eps) := by
  rw [scaleV]
  exact over_apply _ _ _

section Block

variable (x0 : Vec Ideal S1x80x8448 .f32) (x1 : Vec Ideal S1x6x8448 .f32) (x3 : Vec Ideal S1x50x4 .f32) (x5 : Vec Ideal S1x50x1 .f32)
  (x6 : Vec Ideal S1x1x50 .f32) (x7 : Vec Ideal S1x50x1 .f32)

def iouB (g : Fin 50) (n : Fin 8448) : EReal := iou (boxB x1 n) (gtK x3 g)
def labB (g : Fin 50) : EReal := x5 (ix3 0 g 0)
def rowB (g : Fin 50) : EReal := x6 (ix3 0 0 g)

theorem keptC_apply (o : ℕ) (h : o + 1408 ≤ 8448) (g : Fin 50) (n : Fin 1408) :
    keptV (thrC x0 x1 x3 x5 x7 13) (metC x0 x1 x3 x5 x7 o h) (iouV x3 (cut6 x1 o h)) (ix2 g n)
      = keptI (metB x0 x1 x3 x5 x7) (iouB x1 x3) ⟨o + n.val, by omega⟩ g := by
  rw [keptV_apply, thrC_apply, metC_apply, iouV_apply]
  rfl

theorem scaleC_apply (g : Fin 50) : scaleC x0 x1 x3 x5 x7 (ix2 g 0) = scaleF (metB x0 x1 x3 x5 x7) (iouB x1 x3) g := by
  have e1 : ∀ o (h : o + 1408 ≤ 8448), maxRow (keptV (thrC x0 x1 x3 x5 x7 13) (metC x0 x1 x3 x5 x7 o h) (iouV x3 (cut6 x1 o h))) (ix2 g 0)
      = ⨆ n : Fin 1408, (fun n => keptI (metB x0 x1 x3 x5 x7) (iouB x1 x3) n g) ⟨o + n.val, by omega⟩ := fun o h => by
    rw [maxRow_apply]
    exact iSup_congr fun n => keptC_apply x0 x1 x3 x5 x7 o h g n
  have e2 : ∀ o (h : o + 1408 ≤ 8448), maxRow (topV (thrC x0 x1 x3 x5 x7 13) (metC x0 x1 x3 x5 x7 o h)) (ix2 g 0)
      = ⨆ n : Fin 1408, (fun n => keptF (metB x0 x1 x3 x5 x7) n g) ⟨o + n.val, by omega⟩ := fun o h => by
    rw [maxRow_apply]
    exact iSup_congr fun n => topC_apply x0 x1 x3 x5 x7 o h g n
  rw [scaleC, scaleV_apply, top6_apply, top6_apply, e1, e1, e1, e1, e1, e1, e2, e2, e2, e2, e2, e2, sup_runs 0 (fun n => keptI (metB x0 x1 x3 x5 x7) (iouB x1 x3) n g),
    sup_runs 0 (fun n => keptF (metB x0 x1 x3 x5 x7) n g)]
  rfl

theorem normC_apply (o : ℕ) (h : o + 1408 ≤ 8448) (g : Fin 50) (n : Fin 1408) :
    normC x0 x1 x3 x5 x7 o h (ix2 g n) = normF (metB x0 x1 x3 x5 x7) (iouB x1 x3) ⟨o + n.val, by omega⟩ g := by
  show topV _ _ (ix2 g n) * gc _ (ix2 g n) = _
  rw [topC_apply, gc_apply, scaleC_apply]
  rfl

theorem targC_apply (o : ℕ) (h : o + 1408 ≤ 8448) (c : Fin 80) (n : Fin 1408) : targC x0 x1 x3 x5 x6 x7 o h (ix2 c n)
    = targF (metB x0 x1 x3 x5 x7) (iouB x1 x3) (labB x5) (rowB x6) ⟨o + n.val, by omega⟩ c := by
  unfold targC
  rw [targV_apply, targF]
  refine Finset.sum_congr rfl fun g _ => ?_
  rw [winV_apply]
  have e1 : (fun g => colV x5 (ix2 g 0)) = labB x5 := funext fun g => colV_apply g x5
  have e2 : (fun g => normC x0 x1 x3 x5 x7 o h (ix2 g n)) = normF (metB x0 x1 x3 x5 x7) (iouB x1 x3) ⟨o + n.val, by omega⟩ :=
    funext fun g => normC_apply x0 x1 x3 x5 x7 o h g n
  rw [e1, e2]
  rfl

def lossB (n : Fin 8448) : EReal :=
  ∑ c : Fin 80, vari (targF (metB x0 x1 x3 x5 x7) (iouB x1 x3) (labB x5) (rowB x6) n c) (prob (x0 (ix3 0 c n)))

theorem sumTarg (o : ℕ) (h : o + 1408 ≤ 8448) (n : Fin 1408) : sum80 (targC x0 x1 x3 x5 x6 x7 o h) (ix2 0 n)
    = (fun n => ∑ c, targF (metB x0 x1 x3 x5 x7) (iouB x1 x3) (labB x5) (rowB x6) n c) ⟨o + n.val, by omega⟩ := by
  rw [sum80_apply]
  exact Finset.sum_congr rfl fun c _ => targC_apply x0 x1 x3 x5 x6 x7 o h c n

theorem sumLoss (o : ℕ) (h : o + 1408 ≤ 8448) (n : Fin 1408) : sum80 (lossC x0 x1 x3 x5 x6 x7 o h) (ix2 0 n)
    = lossB x0 x1 x3 x5 x6 x7 ⟨o + n.val, by omega⟩ := by
  rw [sum80_apply]
  refine Finset.sum_congr rfl fun c _ => ?_
  unfold lossC
  rw [lossV_apply, targC_apply, probV_apply]
  rfl

theorem ascOut_apply (i : S1x1x1.Idx) : ascOut x0 x1 x3 x5 x6 x7 i = ∑ n : Fin 8448, ∑ c : Fin 80,
    targF (metB x0 x1 x3 x5 x7) (iouB x1 x3) (labB x5) (rowB x6) n c := by
  rw [ascOut, totV_apply, ← sum_runs]
  refine Finset.sum_congr rfl fun n _ => ?_
  rw [acc6_apply, sumTarg, sumTarg, sumTarg, sumTarg, sumTarg, sumTarg]

theorem bceOut_apply (i : S1x1x1.Idx) : bceOut x0 x1 x3 x5 x6 x7 i = offs (lossB x0 x1 x3 x5 x6 x7) := by
  rw [bceOut, totV_apply, offs]
  refine Finset.sum_congr rfl fun n _ => ?_
  rw [off6_apply, sumLoss, sumLoss, sumLoss, sumLoss, sumLoss, sumLoss]

end Block

section Args

variable (a0 : Vec Ideal S8x8448x80 .f32) (a1 : Vec Ideal S8x8448x4 .f32) (a3 : Vec Ideal S8448x2 .f32)
  (a4 : Vec Ideal S8x50x4 .f32) (a5 : Vec Ideal S8x50x1 .f32) (a6 : IVec S8x50x1 32) (b : Fin 8) (n : Fin 8448) (c : Fin 80)

/-- The class numbers of the boxes, the overlaps, the target of an anchor and a class, and the two sums, from the arguments. -/
def labA (g : Fin 50) : EReal := (((clsA a6 b g).val : ℝ) : EReal)
def iouA (g : Fin 50) (n : Fin 8448) : EReal := iou (boxA a1 b n) (gtA a4 b g)
def targA : EReal := targF (metA a0 a1 a3 a4 a5 a6 b) (iouA a1 a4 b) (labA a6 b) (labA a6 b) n c
def ascS : EReal := ∑ n : Fin 8448, ∑ c : Fin 80, targA a0 a1 a3 a4 a5 a6 b n c
def bceS : EReal := offs fun n => ∑ c : Fin 80, vari (targA a0 a1 a3 a4 a5 a6 b n c) (prob (a0 (ix3 b n c)))
def ascA : Vec Ideal S8x1x1 .f32 := fun i => ascS a0 a1 a3 a4 a5 a6 (i 0)
def bceA : Vec Ideal S8x1x1 .f32 := fun i => bceS a0 a1 a3 a4 a5 a6 (i 0)

end Args

variable (m : (ℓ : Loc nD τ sig) → Buf (Elt Ideal) ℓ) (c : Dev nD) (t : Fin cfg0.N)

theorem V_labelRow : V m c main_v16 =
    broadcastInDim S8x1x50 ![0, 2] bcast_S8x50_S8x1x50_0_2 (sitofp (F := Ideal) .f32 (labI (m ((c : Thread nD τ).loc main_arg6)))) := by
  dsimp only [V, V0, List.flatten_cons, List.flatten_nil, List.cons_append, List.nil_append, List.append_nil]
  after_results
  rfl

theorem at6 : ∀ t : Fin cfg0.N, win0_6.index t = ![(grid0.coords t 0).val, 0, 0] := by decide +kernel
theorem at8 : ∀ t : Fin cfg0.N, win0_8.index t = ![(grid0.coords t 0).val, 0, 0] := by decide +kernel
theorem at9 : ∀ t : Fin cfg0.N, win0_9.index t = ![(grid0.coords t 0).val, 0, 0] := by decide +kernel

theorem blk6 (g : Fin 50) : iblk m c 6 t (ix3 0 0 g) = (((clsA (m ((c : Thread nD τ).loc main_arg6)) (bt t) g).val : ℝ) : EReal) := by
  have e : iblk m c 6 t (ix3 0 0 g) = V m c main_v16 (ix3 (bt t) 0 g) := by blk_ext [iblk, at6 t, bt]
  rw [e, V_labelRow]
  refine (broadcastInDim_apply _ _ _ _ (ix2 (bt t) g) (fun a => by fin_cases a <;> rfl)).trans ?_
  show (((labI _ _).toInt : ℝ) : EReal) = _
  rw [labI_apply, clip_cls]
  norm_cast

theorem labB_eq : labB (iblk m c 5 t) = labA (m ((c : Thread nD τ).loc main_arg6)) (bt t) := funext fun g => blk5 m c t g
theorem rowB_eq : rowB (iblk m c 6 t) = labA (m ((c : Thread nD τ).loc main_arg6)) (bt t) := funext fun g => blk6 m c t g
theorem iouB_eq : iouB (iblk m c 1 t) (iblk m c 3 t) = iouA (m ((c : Thread nD τ).loc main_arg1)) (m ((c : Thread nD τ).loc main_arg4)) (bt t) :=
  funext fun g => funext fun n => by
    have eg : gtK (iblk m c 3 t) g = gtA (m ((c : Thread nD τ).loc main_arg4)) (bt t) g := funext fun k => blk3 m c t g k
    have eb : boxB (iblk m c 1 t) n = boxA (m ((c : Thread nD τ).loc main_arg1)) (bt t) n := funext fun k => by
      unfold boxB boxA; rw [blk1, boxArr_box]
    unfold iouB iouA
    rw [eg, eb]

theorem asc_blk (y : S1x1x1.Idx) :
    ascOut (iblk m c 0 t) (iblk m c 1 t) (iblk m c 3 t) (iblk m c 5 t) (iblk m c 6 t) (iblk m c 7 t) y
    = ascS (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) (bt t) := by
  rw [ascOut_apply, metB_fun, iouB_eq, labB_eq, rowB_eq]
  rfl

theorem bce_blk (y : S1x1x1.Idx) :
    bceOut (iblk m c 0 t) (iblk m c 1 t) (iblk m c 3 t) (iblk m c 5 t) (iblk m c 6 t) (iblk m c 7 t) y
    = bceS (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) (bt t) := by
  rw [bceOut_apply, bceS]
  refine congrArg offs (funext fun n => ?_)
  unfold lossB
  rw [metB_fun, iouB_eq, labB_eq, rowB_eq]
  refine Finset.sum_congr rfl fun k _ => ?_
  rw [blk0]
  rfl

theorem emb8 (y : S1x1x1.Idx) : (((cfg0.win 8).blk t).view.emb y) 0 = bt t := by
  apply Fin.ext
  blk_simp [at8 t, bt]

theorem emb9 (y : S1x1x1.Idx) : (((cfg0.win 9).blk t).view.emb y) 0 = bt t := by
  apply Fin.ext
  blk_simp [at9 t, bt]

theorem final_bce : (dats m 0 c).arrAt 8 cfg0.N
    = bceA (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  simp only [outsAt0]
  rw [out_bce (a1 := ms0_0 t)]
  exact (bce_blk m c t y).trans (congrArg _ (emb8 t y).symm)

theorem final_asc : (dats m 0 c).arrAt 9 cfg0.N
    = ascA (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  simp only [outsAt0]
  rw [out_asc (a1 := ms0_0 t)]
  exact (asc_blk m c t y).trans (congrArg _ (emb9 t y).symm)

end Cert.Tal

end
-- ==== Proof.RefAsc.lean ====
/- The class targets of the reference, and their sum, are the kernel's. -/
module

public import proofs.«01_k».proof.Proof.RefDfl
public import proofs.«01_k».proof.Proof.Blocks3

@[expose] public section

set_option maxRecDepth 16384

noncomputable section

namespace Cert.Tal

open Cert.ReferenceIdeal Cert.ReferenceIdeal.Gen Cert.ReferenceIdeal.Read Idealize.ShloMosaic Idealize.ShloMosaic.TcCoe

section Maths

variable (M I : Fin 50 → Fin 8448 → EReal) (n : Fin 8448) (g : Fin 50)

theorem eps_pos : 0 < eps := by
  obtain ⟨e, he, h0, -⟩ := eps_real
  rw [he]
  exact_mod_cast h0

theorem keptF_nonneg : 0 ≤ keptF M n g := by
  unfold keptF
  split
  · rename_i h; exact h.2.le
  · exact le_rfl

theorem base_pos : 0 < max 0 (⨆ n, keptF M n g) + eps :=
  lt_of_lt_of_le eps_pos (le_add_of_nonneg_left (le_max_left _ _))

theorem div_of_pos (x y : EReal) (h : 0 < y) : Ideal.div x y = x * y⁻¹ := by
  unfold Ideal.div
  rw [if_neg h.ne']

theorem scaleF_nonneg : 0 ≤ scaleF M I g := by
  unfold scaleF
  rw [div_of_pos _ _ (base_pos M g)]
  exact mul_nonneg (le_max_left _ _) (EReal.inv_nonneg_of_nonneg (base_pos M g).le)

theorem normF_nonneg : 0 ≤ normF M I n g := mul_nonneg (keptF_nonneg M n g) (scaleF_nonneg M I g)

/-- The reference's order of the factors gives the same. -/
theorem norm_order (T : EReal) (hT : T = max 0 (⨆ n, keptI M I n g)) (S : EReal) (hS : S = max 0 (⨆ n, keptF M n g)) :
    Ideal.div (keptF M n g) (S + eps) * T * (if thr (M g) 13 ≤ M g n ∧ 0 < M g n then (1 : EReal) else 0) = normF M I n g := by
  subst hT hS
  unfold normF scaleF
  rw [div_of_pos _ _ (base_pos M g), div_of_pos _ _ (base_pos M g)]
  by_cases h : thr (M g) 13 ≤ M g n ∧ 0 < M g n
  · rw [if_pos h, mul_one, mul_assoc, mul_comm (max 0 (⨆ n, keptI M I n g))]
  · rw [if_neg h, mul_zero]
    unfold keptF
    rw [if_neg h, zero_mul]

end Maths

variable {a0 : Vec Ideal S8x8448x80 .f32} {a1 : Vec Ideal S8x8448x4 .f32} {a3 : Vec Ideal S8448x2 .f32}
  {a4 : Vec Ideal S8x50x4 .f32} {a5 : Vec Ideal S8x50x1 .f32} {a6 : IVec S8x50x1 32} (b : Fin 8) (g : Fin 50) (n : Fin 8448) (c : Fin 80)

theorem v226_at : val_main_v226 (F := Ideal) a6 (ix2 b g) = clip (a6 (ix3 b g 0)) := by
  rw [val_main_v226_apply, val_main_call10_v4_apply, val_main_call10_v3_apply, val_main_c_34_apply,
    val_main_call10_v2_apply, val_main_call10_v1_apply, val_main_call10_v0_apply, val_main_c_33_apply, val_main_v225_apply]
  unfold clip
  exact congrArg (fun x => IntOp.minsi 79#32 (IntOp.maxsi 0#32 x)) (congrArg a6 (ext3 (q2 b g) (q3 b g) rfl))

theorem v227_at (h : Sep a0 a1 a3 a4 a5 a6) : val_main_v227 a0 a1 a3 a4 a5 a6 (ix3 b g n)
    = if thr (metA a0 a1 a3 a4 a5 a6 b g) 13 ≤ metA a0 a1 a3 a4 a5 a6 b g n ∧ 0 < metA a0 a1 a3 a4 a5 a6 b g n then (1 : EReal) else 0 := by
  rw [val_main_v227_apply]
  exact ind_u _ _ (mask_ref b g n h)

theorem v228_at : val_main_v228 a1 a4 (ix3 b g n) = iouA a1 a4 b g n := by
  rw [val_main_v228_apply, show idx_main_v228 (ix3 b g n) = ix3 b n g from ext3 rfl rfl rfl, v95_at]
  rfl

theorem v229_at (h : Sep a0 a1 a3 a4 a5 a6) : val_main_v229 a0 a1 a3 a4 a5 a6 (ix3 b g n)
    = keptI (metA a0 a1 a3 a4 a5 a6 b) (iouA a1 a4 b) n g := by
  rw [val_main_v229_apply, v228_at, v227_at b g n h]
  unfold keptI
  by_cases hk : thr (metA a0 a1 a3 a4 a5 a6 b g) 13 ≤ metA a0 a1 a3 a4 a5 a6 b g n ∧ 0 < metA a0 a1 a3 a4 a5 a6 b g n
  · rw [if_pos hk, if_pos hk]; exact mul_one _
  · rw [if_neg hk, if_neg hk]; exact mul_zero _

theorem redN : S8x50x8448.Reduces [2] S8x50 := by decide

theorem maxN (x : S8x50x8448.Idx → EReal) (init : S_.Idx → EReal) (hi : init (Shape.Idx.first h_S_) = ⊥) :
    Host.reduce (α := EReal) max x init reducesTo_S8x50x8448_S8x50_d2 h_S_ (ix2 b g) = ⨆ n : Fin 8448, x (ix3 b g n) := by
  rw [Host.reduce_eq_fold_single (α := EReal) max _ _ _ redN _ _, hi]
  refine (fold_max_eq_iSup _).trans ?_
  refine iSup_congr fun k => congrArg x ?_
  funext a; exact Fin.ext (by rw [Shape.Reduces.lift_val]; fin_cases a <;> rfl)

/-- Of every box some metric is not kept. -/
theorem unkept (h : Sep a0 a1 a3 a4 a5 a6) : ∃ n, ¬(thr (metA a0 a1 a3 a4 a5 a6 b g) 13 ≤ metA a0 a1 a3 a4 a5 a6 b g n ∧ 0 < metA a0 a1 a3 a4 a5 a6 b g n) := by
  refine ⟨ord (val_main_v105 a0 a1 a3 a4 a5 a6) b g ⟨13, by decide⟩, fun hk => ?_⟩
  obtain ⟨j, hj⟩ := (v117_at a0 a1 a3 a4 a5 a6 b g _).1 ((mask_ref b g _ h).2 hk)
  have e := ((v116_at a0 a1 a3 a4 a5 a6 b g _ j).1 hj).1
  have := congrArg Fin.val ((ord_bijective _ _ _).1 e)
  have h2 : j.val = 13 := this
  omega

theorem v230_at (h : Sep a0 a1 a3 a4 a5 a6) : val_main_v230 a0 a1 a3 a4 a5 a6 (ix2 b g)
    = max 0 (⨆ n, keptI (metA a0 a1 a3 a4 a5 a6 b) (iouA a1 a4 b) n g) := by
  refine ((maxN b g (val_main_v229 a0 a1 a3 a4 a5 a6) _ ofBits_neg_inf).trans (iSup_congr fun n => v229_at b g n h)).trans ?_
  obtain ⟨n, hn⟩ := unkept b g h
  refine (max_eq_right (le_iSup_of_le n (le_of_eq ?_))).symm
  unfold keptI
  rw [if_neg hn]

theorem v231_at (h : Sep a0 a1 a3 a4 a5 a6) : val_main_v231 a0 a1 a3 a4 a5 a6 (ix2 b g)
    = max 0 (⨆ n, keptF (metA a0 a1 a3 a4 a5 a6 b) n g) := by
  refine ((maxN b g (val_main_v118 a0 a1 a3 a4 a5 a6) _ ofBits_neg_inf).trans (iSup_congr fun n => v118_at b g n h)).trans ?_
  exact (max_eq_right ((keptF_nonneg (metA a0 a1 a3 a4 a5 a6 b) 0 g).trans (le_iSup (fun n => keptF (metA a0 a1 a3 a4 a5 a6 b) n g) 0))).symm

theorem v240_at (h : Sep a0 a1 a3 a4 a5 a6) : val_main_v240 a0 a1 a3 a4 a5 a6 (ix3 b g n)
    = normF (metA a0 a1 a3 a4 a5 a6 b) (iouA a1 a4 b) n g := by
  rw [val_main_v240_apply, val_main_v239_apply, val_main_v236_apply, v118_at b g n h, v227_at b g n h,
    val_main_v235_apply, val_main_v234_apply, val_main_v232_apply, val_main_v233_apply, val_main_cst_37_apply,
    val_main_v238_apply, val_main_v237_apply,
    show idx_main_v237 (idx_main_v238 (ix3 b g n)) = ix2 b g from ext2 rfl rfl,
    show idx_main_v232 (idx_main_v235 (ix3 b g n)) = ix2 b g from ext2 rfl rfl]
  exact norm_order _ _ n g _ (v230_at b g h) _ (v231_at b g h)

theorem class_toInt : ∀ c : Fin 80, (BitVec.ofNat 32 c.val).toInt = (c.val : ℤ) := by decide +kernel

theorem class_bit (x : BitVec 32) : clip x = BitVec.ofNat 32 c.val ↔ cls x = c := by
  constructor
  · intro h
    have h1 := clip_cls x
    rw [h, class_toInt] at h1
    exact Fin.ext (by exact_mod_cast h1.symm)
  · rintro rfl
    exact BitVec.eq_of_toInt_eq ((clip_cls x).trans (class_toInt _).symm)

theorem v246_at : val_main_v246 (F := Ideal) a6 (ix3 b g c) = 1#1 ↔ clsA a6 b g = c := by
  rw [val_main_v246_apply, bit_eq, val_main_v244_apply, val_main_v241_apply, val_main_v245_apply, val_main_v243_apply, val_main_v242_apply,
    show idx_main_v241 (idx_main_v244 (ix3 b g c)) = ix2 b g from ext2 rfl rfl, v226_at]
  exact class_bit c _

theorem v249_at (h : Sep a0 a1 a3 a4 a5 a6) : val_main_v249 a0 a1 a3 a4 a5 a6 (ix4 b g c n)
    = if clsA a6 b g = c then normF (metA a0 a1 a3 a4 a5 a6 b) (iouA a1 a4 b) n g else 0 := by
  rw [val_main_v249_apply, val_main_call11_v1_apply, val_main_v247_apply, val_main_call11_v2_apply, val_main_v248_apply,
    val_main_call11_v3_apply, val_main_call11_v0_apply, val_main_cst_38_apply,
    show idx_main_v247 (idx_main_call11_v1 (ix4 b g c n)) = ix3 b g c from ext3 rfl rfl rfl,
    show idx_main_v248 (idx_main_call11_v2 (ix4 b g c n)) = ix3 b g n from ext3 rfl rfl rfl, v240_at b g n h]
  rcases bit_cases (val_main_v246 (F := Ideal) a6 (ix3 b g c)) with hb | hb
  · rw [hb, if_pos ((v246_at b g c).1 hb)]; rfl
  · rw [hb, if_neg fun z => absurd (hb.symm.trans ((v246_at b g c).2 z)) (by decide)]
    exact Ideal.ofBits_zero .f32

theorem redG : S8x50x80x8448.Reduces [1] S8x80x8448 := by decide

theorem maxG (x : S8x50x80x8448.Idx → EReal) (init : S_.Idx → EReal) (hi : init (Shape.Idx.first h_S_) = ⊥) :
    Host.reduce (α := EReal) max x init reducesTo_S8x50x80x8448_S8x80x8448_d1 h_S_ (ix3 b c n) = ⨆ g : Fin 50, x (ix4 b g c n) := by
  rw [Host.reduce_eq_fold_single (α := EReal) max _ _ _ redG _ _, hi]
  refine (fold_max_eq_iSup _).trans ?_
  refine iSup_congr fun k => congrArg x ?_
  funext a; exact Fin.ext (by rw [Shape.Reduces.lift_val]; fin_cases a <;> rfl)

theorem v251_raw (h : Sep a0 a1 a3 a4 a5 a6) : val_main_v251 a0 a1 a3 a4 a5 a6 (ix3 b n c)
    = ⨆ g, if clsA a6 b g = c then normF (metA a0 a1 a3 a4 a5 a6 b) (iouA a1 a4 b) n g else 0 := by
  rw [val_main_v251_apply, show idx_main_v251 (ix3 b n c) = ix3 b c n from ext3 rfl rfl rfl]
  exact (maxG b n c (val_main_v249 a0 a1 a3 a4 a5 a6) _ ofBits_neg_inf).trans (iSup_congr fun g => v249_at b g n c h)

/-- The boxes are given in the order of their classes, and no two of one class scale an anchor's metric to the same positive number. -/
structure Runs (a0 : Vec Ideal S8x8448x80 .f32) (a1 : Vec Ideal S8x8448x4 .f32) (a3 : Vec Ideal S8448x2 .f32)
    (a4 : Vec Ideal S8x50x4 .f32) (a5 : Vec Ideal S8x50x1 .f32) (a6 : IVec S8x50x1 32) : Prop where
  rise : ∀ (b : Fin 8) (g g' : Fin 50), g.val ≤ g'.val → (clsA a6 b g).val ≤ (clsA a6 b g').val
  once : ∀ (b : Fin 8) (g g' : Fin 50) (n : Fin 8448), g ≠ g' → clsA a6 b g = clsA a6 b g' →
    normF (metA a0 a1 a3 a4 a5 a6 b) (iouA a1 a4 b) n g = normF (metA a0 a1 a3 a4 a5 a6 b) (iouA a1 a4 b) n g' →
    normF (metA a0 a1 a3 a4 a5 a6 b) (iouA a1 a4 b) n g ≤ 0

theorem labA_eq (g' : Fin 50) : labA a6 b g = labA a6 b g' ↔ clsA a6 b g = clsA a6 b g' := by
  unfold labA
  rw [EReal.coe_eq_coe_iff, Nat.cast_inj, Fin.ext_iff]

theorem labA_class : labA a6 b g = ((c.val : ℝ) : EReal) ↔ clsA a6 b g = c := by
  unfold labA
  rw [EReal.coe_eq_coe_iff, Nat.cast_inj, Fin.ext_iff]

/-- The reference's class target is the kernel's. -/
theorem v251_at (h : Sep a0 a1 a3 a4 a5 a6) (v : Runs a0 a1 a3 a4 a5 a6) : val_main_v251 a0 a1 a3 a4 a5 a6 (ix3 b n c)
    = targA a0 a1 a3 a4 a5 a6 b n c := by
  rw [v251_raw b n c h, targA, targF]
  refine Eq.trans ?_ (win_sum (L := labA a6 b) (N := normF (metA a0 a1 a3 a4 a5 a6 b) (iouA a1 a4 b) n) (fun g => normF_nonneg _ _ n g)
    (fun i j hij => by
      unfold labA
      exact_mod_cast v.rise b i j hij)
    (fun g g' hg hl hn => v.once b g g' n hg ((labA_eq b g g').1 hl) hn) _).symm
  refine iSup_congr fun g => ?_
  by_cases hc : clsA a6 b g = c
  · rw [if_pos hc, if_pos ((labA_class b g c).2 hc)]
  · rw [if_neg hc, if_neg fun z => hc ((labA_class b g c).1 z)]

theorem v252_at (h : Sep a0 a1 a3 a4 a5 a6) (v : Runs a0 a1 a3 a4 a5 a6) : val_main_v252 a0 a1 a3 a4 a5 a6 (ix2 b n)
    = ∑ c, targA a0 a1 a3 a4 a5 a6 b n c := by
  rw [val_main_v252_apply]
  have e1 : (val_main_cst_40 (F := Ideal)) (Shape.Idx.first h_S_) = (0 : EReal) := Ideal.ofBits_zero .f32
  refine (congrArg₂ (· + ·) e1 rfl).trans ?_
  rw [zero_add]
  refine Finset.sum_congr rfl fun c _ => ?_
  rw [show idx_main_v252 (ix2 b n) c = ix3 b n c from ext3 rfl rfl rfl]
  exact v251_at b n c h v

/-- The reference's sum of class targets is the kernel's. -/
theorem asc_ref (h : Sep a0 a1 a3 a4 a5 a6) (v : Runs a0 a1 a3 a4 a5 a6) : val_main_v254 a0 a1 a3 a4 a5 a6 = ascA a0 a1 a3 a4 a5 a6 := by
  funext i
  rw [val_main_v254_apply, val_main_v253_apply]
  have e0 : (val_main_cst_41 (F := Ideal)) (Shape.Idx.first h_S_) = (0 : EReal) := Ideal.ofBits_zero .f32
  refine (congrArg₂ (· + ·) e0 rfl).trans ?_
  rw [zero_add]
  show _ = ∑ n : Fin 8448, ∑ c : Fin 80, targA a0 a1 a3 a4 a5 a6 (i 0) n c
  refine Finset.sum_congr rfl fun n _ => ?_
  have hi : idx_main_v253 (idx_main_v254 i) n = ix2 (i 0) n := ext2 (by
    show (((i 0).val * 1 + (i 1).val) * 1 + (i 2).val) = _
    have h1 : (i 1).val < 1 := (i 1).isLt
    have h2 : (i 2).val < 1 := (i 2).isLt
    show _ = (i 0).val
    omega) rfl
  rw [hi]
  exact v252_at (i 0) n h v

end Cert.Tal

end
-- ==== Proof.PreSep.lean ====
/- What the precondition says of the arguments. -/
module

public import proofs.«01_k».proof.Proof.RefAsc
public import proofs.«01_k».proof.Pre_separated
public import Idealize.ShloMosaic.Lib.ReduceAll

@[expose] public section

set_option maxRecDepth 16384

noncomputable section

namespace Cert.Tal

open Cert.ReferenceIdeal Cert.ReferenceIdeal.Gen Cert.ReferenceIdeal.Read Idealize.ShloMosaic Idealize.ShloMosaic.TcCoe

/-- The facts the precondition's operations state of their shapes. -/
theorem preFacts : Cert.Pre_separated.Facts := by
  constructor <;> decide

attribute [local instance] preFacts

variable (a0 : Vec Ideal S8x8448x80 .f32) (a1 : Vec Ideal S8x8448x4 .f32) (a2 : Vec Ideal S8x8448x68 .f32) (a3 : Vec Ideal S8448x2 .f32)
  (a4 : Vec Ideal S8x50x4 .f32) (a5 : Vec Ideal S8x50x1 .f32) (a6 : IVec S8x50x1 32)

/-- The fourteen largest metrics of each box. -/
def vals14 : FVec Ideal Cert.Pre_separated.S8x50x14 .f32 :=
  (Host.topK Cert.Pre_separated.S8x50x14 2 (FloatOps.cmpfTotal (F := Ideal) (φ := .f32) .gt) (val_main_v105 a0 a1 a3 a4 a5 a6) preFacts.sliceFits_S8x50x8448_S8x50x14).1

def hi13 : FVec Ideal S8x50x13 .f32 := extractStridedSlice S8x50x13 ![0, 0, 0] (vals14 a0 a1 a3 a4 a5 a6) preFacts.slices_S8x50x14_S8x50x13_0_0_0
def lo13 : FVec Ideal S8x50x13 .f32 := extractStridedSlice S8x50x13 ![0, 0, 1] (vals14 a0 a1 a3 a4 a5 a6) preFacts.slices_S8x50x14_S8x50x13_0_0_1

/-- The bits saying of each two boxes that they do not keep an anchor with the same positive metric. -/
def pairBits (T : FVec Ideal S8x50x8448 .f32) : IVec Cert.Pre_separated.S8x50x50x8448 1 :=
  ori (ori (cmpf (F := Ideal) .une
      (broadcastInDim Cert.Pre_separated.S8x50x50x8448 ![0, 1, 2, 3] preFacts.bcast_S8x50x1x8448_S8x50x50x8448_0_1_2_3
        (broadcastInDim Cert.Pre_separated.S8x50x1x8448 ![0, 1, 3] preFacts.bcast_S8x50x8448_S8x50x1x8448_0_1_3 T))
      (broadcastInDim Cert.Pre_separated.S8x50x50x8448 ![0, 1, 2, 3] preFacts.bcast_S8x1x50x8448_S8x50x50x8448_0_1_2_3
        (broadcastInDim Cert.Pre_separated.S8x1x50x8448 ![0, 2, 3] preFacts.bcast_S8x50x8448_S8x1x50x8448_0_2_3 T)))
    (broadcastInDim Cert.Pre_separated.S8x50x50x8448 ![0, 1, 2, 3] preFacts.bcast_S8x50x1x8448_S8x50x50x8448_0_1_2_3
      (cmpf (F := Ideal) .ole (broadcastInDim Cert.Pre_separated.S8x50x1x8448 ![0, 1, 3] preFacts.bcast_S8x50x8448_S8x50x1x8448_0_1_3 T)
        (broadcastInDim Cert.Pre_separated.S8x50x1x8448 ![] preFacts.bcast_S_S8x50x1x8448 (constant S_ .f32 0x00000000#32)))))
    (broadcastInDim Cert.Pre_separated.S8x50x50x8448 ![0, 1, 2, 3] preFacts.bcast_S1x50x50x1_S8x50x50x8448_0_1_2_3
      (broadcastInDim Cert.Pre_separated.S1x50x50x1 ![1, 2] preFacts.bcast_S50x50_S1x50x50x1_1_2
        (cmpi .eq
          (broadcastInDim Cert.Pre_separated.S50x50 ![0, 1] preFacts.bcast_S50x1_S50x50_0_1
            (broadcastInDim Cert.Pre_separated.S50x1 ![0] preFacts.bcast_S50_S50x1_0 (iotaInDim Cert.Pre_separated.S50 32 0)))
          (broadcastInDim Cert.Pre_separated.S50x50 ![0, 1] preFacts.bcast_S1x50_S50x50_0_1
            (broadcastInDim Cert.Pre_separated.S1x50 ![1] preFacts.bcast_S50_S1x50_1 (iotaInDim Cert.Pre_separated.S50 32 0))))))

/-- The bits saying of each two boxes of one class that they do not scale an anchor's metric to the same positive number. -/
def classBits (T : FVec Ideal S8x50x8448 .f32) (L : IVec S8x50 32) : IVec Cert.Pre_separated.S8x50x50x8448 1 :=
  ori (ori (cmpf (F := Ideal) .une
      (broadcastInDim Cert.Pre_separated.S8x50x50x8448 ![0, 1, 2, 3] preFacts.bcast_S8x50x1x8448_S8x50x50x8448_0_1_2_3
        (broadcastInDim Cert.Pre_separated.S8x50x1x8448 ![0, 1, 3] preFacts.bcast_S8x50x8448_S8x50x1x8448_0_1_3 T))
      (broadcastInDim Cert.Pre_separated.S8x50x50x8448 ![0, 1, 2, 3] preFacts.bcast_S8x1x50x8448_S8x50x50x8448_0_1_2_3
        (broadcastInDim Cert.Pre_separated.S8x1x50x8448 ![0, 2, 3] preFacts.bcast_S8x50x8448_S8x1x50x8448_0_2_3 T)))
    (broadcastInDim Cert.Pre_separated.S8x50x50x8448 ![0, 1, 2, 3] preFacts.bcast_S8x50x1x8448_S8x50x50x8448_0_1_2_3
      (cmpf (F := Ideal) .ole (broadcastInDim Cert.Pre_separated.S8x50x1x8448 ![0, 1, 3] preFacts.bcast_S8x50x8448_S8x50x1x8448_0_1_3 T)
        (broadcastInDim Cert.Pre_separated.S8x50x1x8448 ![] preFacts.bcast_S_S8x50x1x8448 (constant S_ .f32 0x00000000#32)))))
    (broadcastInDim Cert.Pre_separated.S8x50x50x8448 ![0, 1, 2, 3] preFacts.bcast_S8x50x50x1_S8x50x50x8448_0_1_2_3
      (ori
        (broadcastInDim Cert.Pre_separated.S8x50x50x1 ![0, 1, 2] preFacts.bcast_S8x50x50_S8x50x50x1_0_1_2
          (cmpi .ne
            (broadcastInDim Cert.Pre_separated.S8x50x50 ![0, 1, 2] preFacts.bcast_S8x50x1_S8x50x50_0_1_2
              (broadcastInDim S8x50x1 ![0, 1] preFacts.bcast_S8x50_S8x50x1_0_1 L))
            (broadcastInDim Cert.Pre_separated.S8x50x50 ![0, 1, 2] preFacts.bcast_S8x1x50_S8x50x50_0_1_2
              (broadcastInDim S8x1x50 ![0, 2] preFacts.bcast_S8x50_S8x1x50_0_2 L))))
        (broadcastInDim Cert.Pre_separated.S8x50x50x1 ![0, 1, 2, 3] preFacts.bcast_S1x50x50x1_S8x50x50x1_0_1_2_3
          (broadcastInDim Cert.Pre_separated.S1x50x50x1 ![1, 2] preFacts.bcast_S50x50_S1x50x50x1_1_2
            (cmpi .eq
              (broadcastInDim Cert.Pre_separated.S50x50 ![0, 1] preFacts.bcast_S50x1_S50x50_0_1
                (broadcastInDim Cert.Pre_separated.S50x1 ![0] preFacts.bcast_S50_S50x1_0 (iotaInDim Cert.Pre_separated.S50 32 0)))
              (broadcastInDim Cert.Pre_separated.S50x50 ![0, 1] preFacts.bcast_S1x50_S50x50_0_1
                (broadcastInDim Cert.Pre_separated.S1x50 ![1] preFacts.bcast_S50_S1x50_1 (iotaInDim Cert.Pre_separated.S50 32 0))))))))

/-- The bits saying that the classes of the boxes do not fall. -/
def riseBits (L : IVec S8x50 32) : IVec Cert.Pre_separated.S8x49 1 :=
  cmpi .sle (extractStridedSlice Cert.Pre_separated.S8x49 ![0, 0] L preFacts.slices_S8x50_S8x49_0_0)
    (extractStridedSlice Cert.Pre_separated.S8x49 ![0, 1] L preFacts.slices_S8x50_S8x49_0_1)

theorem pre_eq : Cert.Pre_separated.fn (F := Ideal) a0 a1 a2 a3 a4 a5 a6
    = andi (andi (andi (andi (andi (andi (andi
        (Host.reduce IntOp.andi (cmpf (F := Ideal) .olt (Host.absf (val_main_v95 a1 a4)) (broadcastInDim S8x8448x50 ![] preFacts.bcast_S_S8x8448x50 (constant S_ .f32 0x7F800000#32)))
          (constantI S_ 1 1#1) preFacts.reducesTo_S8x8448x50_S_d0_1_2 h_S_)
        (Host.reduce IntOp.andi (cmpf (F := Ideal) .olt (val_main_v104 a0 a1 a3 a4 a5 a6) (broadcastInDim S8x8448x50 ![] preFacts.bcast_S_S8x8448x50 (constant S_ .f32 0x40000000#32)))
          (constantI S_ 1 1#1) preFacts.reducesTo_S8x8448x50_S_d0_1_2 h_S_))
      (Host.reduce IntOp.andi (ori (cmpf (F := Ideal) .ogt (hi13 a0 a1 a3 a4 a5 a6) (lo13 a0 a1 a3 a4 a5 a6))
          (cmpf (F := Ideal) .ole (lo13 a0 a1 a3 a4 a5 a6) (broadcastInDim S8x50x13 ![] preFacts.bcast_S_S8x50x13 (constant S_ .f32 0x00000000#32))))
        (constantI S_ 1 1#1) preFacts.reducesTo_S8x50x13_S_d0_1_2 h_S_))
      (Host.reduce IntOp.andi (pairBits (val_main_v118 a0 a1 a3 a4 a5 a6)) (constantI S_ 1 1#1) preFacts.reducesTo_S8x50x50x8448_S_d0_1_2_3 h_S_))
      (Host.reduce IntOp.andi (cmpf (F := Ideal) .olt (Host.absf a2) (broadcastInDim S8x8448x68 ![] preFacts.bcast_S_S8x8448x68 (constant S_ .f32 0x7F800000#32)))
        (constantI S_ 1 1#1) preFacts.reducesTo_S8x8448x68_S_d0_1_2 h_S_))
      (Host.reduce IntOp.andi (classBits (val_main_v240 a0 a1 a3 a4 a5 a6) (val_main_v226 (F := Ideal) a6)) (constantI S_ 1 1#1)
        preFacts.reducesTo_S8x50x50x8448_S_d0_1_2_3 h_S_))
      (Host.reduce IntOp.andi (riseBits (val_main_v226 (F := Ideal) a6)) (constantI S_ 1 1#1) preFacts.reducesTo_S8x49_S_d0_1 h_S_))
      (Host.reduce IntOp.andi (cmpf (F := Ideal) .olt a0 (broadcastInDim S8x8448x80 ![] preFacts.bcast_S_S8x8448x80 (constant S_ .f32 0x3F800000#32)))
        (constantI S_ 1 1#1) preFacts.reducesTo_S8x8448x80_S_d0_1_2 h_S_) := rfl

instance : Subsingleton S_.Idx := ⟨fun i j => funext fun a => a.elim0⟩

theorem bit_lt {u v : EReal} : Ideal.cmp .olt u v = 1#1 ↔ u < v := by
  show BitVec.ofBool (decide (u < v)) = 1#1 ↔ _
  by_cases h : u < v
  · simp [h]
  · simp [h]

theorem bit_le {u v : EReal} : Ideal.cmp .ole u v = 1#1 ↔ u ≤ v := by
  show BitVec.ofBool (decide (u ≤ v)) = 1#1 ↔ _
  by_cases h : u ≤ v
  · simp [h]
  · simp [h]

theorem real_of_abs {u : EReal} (h : Ideal.cmp .olt (max u (-u)) ⊤ = 1#1) : ∃ r : ℝ, u = r := by
  have := bit_lt.1 h
  induction u with
  | bot => simp at this
  | top => simp at this
  | coe r => exact ⟨r, rfl⟩

theorem two_bits : Ideal.ofBits .f32 0x40000000#32 = (2 : EReal) := by
  exact ofBits_two

theorem hi13_at (b : Fin 8) (g : Fin 50) (k : Fin 13) : hi13 a0 a1 a3 a4 a5 a6 (ix3 b g k)
    = row a0 a1 a3 a4 a5 a6 b g (ord (val_main_v105 a0 a1 a3 a4 a5 a6) b g ⟨k.val, by omega⟩) := by
  unfold hi13
  refine Eq.trans (extractStridedSlice_apply _ _ _ (ix3 b g k) (ix3 b g ⟨k.val, by omega⟩) (fun a => by fin_cases a <;> simp)) ?_
  exact topK_val _ b g 14 _ ⟨k.val, by omega⟩ (by show k.val < 8448; omega)

theorem lo13_at (b : Fin 8) (g : Fin 50) (k : Fin 13) : lo13 a0 a1 a3 a4 a5 a6 (ix3 b g k)
    = row a0 a1 a3 a4 a5 a6 b g (ord (val_main_v105 a0 a1 a3 a4 a5 a6) b g ⟨k.val + 1, by omega⟩) := by
  unfold lo13
  refine Eq.trans (extractStridedSlice_apply _ _ _ (ix3 b g k) (ix3 b g ⟨k.val + 1, by omega⟩) (fun a => by fin_cases a <;> simp [Nat.add_comm])) ?_
  exact topK_val _ b g 14 _ ⟨k.val + 1, by omega⟩ (by show k.val + 1 < 8448; omega)

theorem sep_of_pre (h : Cert.Pre_separated.fn (F := Ideal) a0 a1 a2 a3 a4 a5 a6 = fun _ => 1#1) : Sep a0 a1 a3 a4 a5 a6 := by
  rw [pre_eq] at h
  have h := congrFun h (fun a => a.elim0)
  obtain ⟨h, -⟩ := IntOp.andi_eq_one.1 h
  obtain ⟨h, -⟩ := IntOp.andi_eq_one.1 h
  obtain ⟨h, -⟩ := IntOp.andi_eq_one.1 h
  obtain ⟨h1234, -⟩ := IntOp.andi_eq_one.1 h
  obtain ⟨h123, -⟩ := IntOp.andi_eq_one.1 h1234
  obtain ⟨h12, h3⟩ := IntOp.andi_eq_one.1 h123
  obtain ⟨h1, h2⟩ := IntOp.andi_eq_one.1 h12
  have num : ∀ b g n, ∃ r : ℝ, iou (boxA a1 b n) (gtA a4 b g) = r := fun b g n => by
    have := Host.reduce_andi_all _ _ _ _ _ h1 (ix3 b n g)
    rw [← v95_at]
    exact real_of_abs ((congrArg (fun z => Ideal.cmp .olt _ z) ofBits_inf.symm).trans this)
  refine ⟨num, fun b g n => ?_, fun b g k hk => ?_⟩
  · have := Host.reduce_andi_all _ _ _ _ _ h2 (ix3 b n g)
    obtain ⟨r, hr⟩ := num b g n
    rw [← v104_at a0 a1 a3 a4 a5 a6 b g n r hr]
    exact bit_lt.1 ((congrArg (fun z => Ideal.cmp .olt _ z) two_bits.symm).trans this)
  · have := Host.reduce_andi_all _ _ _ _ _ h3 (ix3 b g ⟨k, hk⟩)
    rcases IntOp.ori_eq_one.1 this with h' | h'
    · left
      rw [← hi13_at a0 a1 a3 a4 a5 a6 b g ⟨k, hk⟩, ← lo13_at a0 a1 a3 a4 a5 a6 b g ⟨k, hk⟩]
      exact bit_gt.1 h'
    · right
      rw [← lo13_at a0 a1 a3 a4 a5 a6 b g ⟨k, hk⟩]
      exact bit_le.1 ((congrArg (fun z => Ideal.cmp .ole _ z) (Ideal.ofBits_zero .f32).symm).trans h')

theorem bit_ne {u v : EReal} : Ideal.cmp .une u v = 1#1 ↔ u ≠ v := by
  show BitVec.ofBool (decide (u ≠ v)) = 1#1 ↔ _
  by_cases h : u = v
  · simp [h]
  · simp [h]

theorem pairBits_at (T : FVec Ideal S8x50x8448 .f32) (b : Fin 8) (g g' : Fin 50) (n : Fin 8448)
    (hb : pairBits T (ix4 b g g' n) = 1#1) : T (ix3 b g n) ≠ T (ix3 b g' n) ∨ T (ix3 b g n) ≤ 0 ∨ g = g' := by
  have e1 : broadcastInDim Cert.Pre_separated.S8x50x1x8448 ![0, 1, 3] preFacts.bcast_S8x50x8448_S8x50x1x8448_0_1_3 T (ix4 b g 0 n) = T (ix3 b g n) :=
    broadcastInDim_apply _ _ _ _ (ix3 b g n) (fun a => by fin_cases a <;> rfl)
  have e2 : broadcastInDim Cert.Pre_separated.S8x1x50x8448 ![0, 2, 3] preFacts.bcast_S8x50x8448_S8x1x50x8448_0_2_3 T (ix4 b 0 g' n) = T (ix3 b g' n) :=
    broadcastInDim_apply _ _ _ _ (ix3 b g' n) (fun a => by fin_cases a <;> rfl)
  rcases IntOp.ori_eq_one.1 hb with h' | h'
  · rcases IntOp.ori_eq_one.1 h' with h'' | h''
    · left
      have := bit_ne.1 h''
      rwa [broadcastInDim_apply _ _ _ (ix4 b g g' n) (ix4 b g 0 n) (fun a => by fin_cases a <;> rfl), e1,
        broadcastInDim_apply _ _ _ (ix4 b g g' n) (ix4 b 0 g' n) (fun a => by fin_cases a <;> rfl), e2] at this
    · right; left
      rw [broadcastInDim_apply _ _ _ (ix4 b g g' n) (ix4 b g 0 n) (fun a => by fin_cases a <;> rfl)] at h''
      have := bit_le.1 ((congrArg (fun z => Ideal.cmp .ole _ z) (Ideal.ofBits_zero .f32).symm).trans h'')
      rwa [e1] at this
  · right; right
    rw [broadcastInDim_apply _ _ _ (ix4 b g g' n) (ix4 0 g g' 0) (fun a => by fin_cases a <;> rfl),
      broadcastInDim_apply _ _ _ (ix4 0 g g' 0) (ix2 g g') (fun a => by fin_cases a <;> rfl)] at h'
    have h2 : BitVec.ofBool (BitVec.ofNat 32 g.val == BitVec.ofNat 32 g'.val) = 1#1 := by
      refine Eq.trans ?_ h'
      show _ = IntOp.cmpi .eq _ _
      rw [broadcastInDim_apply _ _ _ (ix2 g g') (ix2 g 0) (fun a => by fin_cases a <;> rfl),
        broadcastInDim_apply _ _ _ (ix2 g g') (ix2 0 g') (fun a => by fin_cases a <;> rfl),
        broadcastInDim_apply _ _ _ (ix2 g 0) (ix1 g) (fun a => by fin_cases a; rfl),
        broadcastInDim_apply _ _ _ (ix2 0 g') (ix1 g') (fun a => by fin_cases a; rfl)]
      rfl
    have h3 : BitVec.ofNat 32 g.val = BitVec.ofNat 32 g'.val := by
      by_contra hn
      rw [beq_eq_false_iff_ne.mpr hn] at h2
      exact absurd h2 (by decide)
    have := congrArg BitVec.toNat h3
    rw [BitVec.toNat_ofNat, BitVec.toNat_ofNat] at this
    have := g.isLt
    have := g'.isLt
    exact Fin.ext (by omega)

theorem one_of_pre (h : Cert.Pre_separated.fn (F := Ideal) a0 a1 a2 a3 a4 a5 a6 = fun _ => 1#1) : OneBest a0 a1 a3 a4 a5 a6 := by
  have hs := sep_of_pre a0 a1 a2 a3 a4 a5 a6 h
  rw [pre_eq] at h
  have h := congrFun h (fun a => a.elim0)
  obtain ⟨h, -⟩ := IntOp.andi_eq_one.1 h
  obtain ⟨h, -⟩ := IntOp.andi_eq_one.1 h
  obtain ⟨h, -⟩ := IntOp.andi_eq_one.1 h
  obtain ⟨h1234, -⟩ := IntOp.andi_eq_one.1 h
  obtain ⟨-, h4⟩ := IntOp.andi_eq_one.1 h1234
  intro b g g' n hne he
  have := pairBits_at _ b g g' n (Host.reduce_andi_all _ _ _ _ _ h4 (ix4 b g g' n))
  rw [v118_at b g n hs, v118_at b g' n hs] at this
  rcases this with h' | h' | h'
  · exact absurd he h'
  · exact h'
  · exact absurd h' hne

theorem fin_of_pre (h : Cert.Pre_separated.fn (F := Ideal) a0 a1 a2 a3 a4 a5 a6 = fun _ => 1#1) (b : Fin 8) (n : Fin 8448) (s : Fin 4) (k : Fin 17) :
    ∃ r : ℝ, distA a2 b n s k = r := by
  rw [pre_eq] at h
  have h := congrFun h (fun a => a.elim0)
  obtain ⟨h, -⟩ := IntOp.andi_eq_one.1 h
  obtain ⟨h, -⟩ := IntOp.andi_eq_one.1 h
  obtain ⟨h, -⟩ := IntOp.andi_eq_one.1 h
  obtain ⟨-, h5⟩ := IntOp.andi_eq_one.1 h
  have := Host.reduce_andi_all _ _ _ _ _ h5 (ix3 b n ⟨s.val * 17 + k.val, by omega⟩)
  unfold distA
  exact real_of_abs ((congrArg (fun z => Ideal.cmp .olt _ z) ofBits_inf.symm).trans this)

theorem bit_of_eq {u v : BitVec 32} (h : IntOp.cmpi .ne u v = 1#1) : u ≠ v := by
  rintro rfl
  have h' : BitVec.ofBool (u != u) = 1#1 := h
  rw [bne_self_eq_false] at h'
  exact absurd h' (by decide)

theorem bit_sle {u v : BitVec 32} (h : IntOp.cmpi .sle u v = 1#1) : u.toInt ≤ v.toInt := by
  have h' : BitVec.ofBool (u.sle v) = 1#1 := h
  rw [BitVec.sle_eq_decide] at h'
  by_contra hn
  rw [decide_eq_false hn] at h'
  exact absurd h' (by decide)

theorem numBits_at (g g' : Fin 50) (hb : cmpi .eq
      (broadcastInDim Cert.Pre_separated.S50x50 ![0, 1] preFacts.bcast_S50x1_S50x50_0_1
        (broadcastInDim Cert.Pre_separated.S50x1 ![0] preFacts.bcast_S50_S50x1_0 (iotaInDim Cert.Pre_separated.S50 32 0)))
      (broadcastInDim Cert.Pre_separated.S50x50 ![0, 1] preFacts.bcast_S1x50_S50x50_0_1
        (broadcastInDim Cert.Pre_separated.S1x50 ![1] preFacts.bcast_S50_S1x50_1 (iotaInDim Cert.Pre_separated.S50 32 0))) (ix2 g g') = 1#1) : g = g' := by
  have h2 : IntOp.cmpi .eq (BitVec.ofNat 32 g.val) (BitVec.ofNat 32 g'.val) = 1#1 := by
    refine Eq.trans ?_ hb
    show _ = IntOp.cmpi .eq _ _
    rw [broadcastInDim_apply _ _ _ (ix2 g g') (ix2 g 0) (fun a => by fin_cases a <;> rfl),
      broadcastInDim_apply _ _ _ (ix2 g g') (ix2 0 g') (fun a => by fin_cases a <;> rfl),
      broadcastInDim_apply _ _ _ (ix2 g 0) (ix1 g) (fun a => by fin_cases a; rfl),
      broadcastInDim_apply _ _ _ (ix2 0 g') (ix1 g') (fun a => by fin_cases a; rfl)]
    rfl
  have := congrArg BitVec.toNat (bit_eq.1 h2)
  rw [BitVec.toNat_ofNat, BitVec.toNat_ofNat] at this
  have := g.isLt
  have := g'.isLt
  exact Fin.ext (by omega)

theorem classBits_at (T : FVec Ideal S8x50x8448 .f32) (L : IVec S8x50 32) (b : Fin 8) (g g' : Fin 50) (n : Fin 8448)
    (hb : classBits T L (ix4 b g g' n) = 1#1) :
    T (ix3 b g n) ≠ T (ix3 b g' n) ∨ T (ix3 b g n) ≤ 0 ∨ L (ix2 b g) ≠ L (ix2 b g') ∨ g = g' := by
  have e1 : broadcastInDim Cert.Pre_separated.S8x50x1x8448 ![0, 1, 3] preFacts.bcast_S8x50x8448_S8x50x1x8448_0_1_3 T (ix4 b g 0 n) = T (ix3 b g n) :=
    broadcastInDim_apply _ _ _ _ (ix3 b g n) (fun a => by fin_cases a <;> rfl)
  have e2 : broadcastInDim Cert.Pre_separated.S8x1x50x8448 ![0, 2, 3] preFacts.bcast_S8x50x8448_S8x1x50x8448_0_2_3 T (ix4 b 0 g' n) = T (ix3 b g' n) :=
    broadcastInDim_apply _ _ _ _ (ix3 b g' n) (fun a => by fin_cases a <;> rfl)
  rcases IntOp.ori_eq_one.1 hb with h' | h'
  · rcases IntOp.ori_eq_one.1 h' with h'' | h''
    · left
      have := bit_ne.1 h''
      rwa [broadcastInDim_apply _ _ _ (ix4 b g g' n) (ix4 b g 0 n) (fun a => by fin_cases a <;> rfl), e1,
        broadcastInDim_apply _ _ _ (ix4 b g g' n) (ix4 b 0 g' n) (fun a => by fin_cases a <;> rfl), e2] at this
    · right; left
      rw [broadcastInDim_apply _ _ _ (ix4 b g g' n) (ix4 b g 0 n) (fun a => by fin_cases a <;> rfl)] at h''
      have := bit_le.1 ((congrArg (fun z => Ideal.cmp .ole _ z) (Ideal.ofBits_zero .f32).symm).trans h'')
      rwa [e1] at this
  · right; right
    rw [broadcastInDim_apply _ _ _ (ix4 b g g' n) (ix4 b g g' 0) (fun a => by fin_cases a <;> rfl)] at h'
    rcases IntOp.ori_eq_one.1 h' with h'' | h''
    · left
      rw [broadcastInDim_apply _ _ _ (ix4 b g g' 0) (ix3 b g g') (fun a => by fin_cases a <;> rfl)] at h''
      have := bit_of_eq h''
      rwa [broadcastInDim_apply _ _ _ (ix3 b g g') (ix3 b g 0) (fun a => by fin_cases a <;> rfl),
        broadcastInDim_apply _ _ _ (ix3 b g g') (ix3 b 0 g') (fun a => by fin_cases a <;> rfl),
        broadcastInDim_apply _ _ _ (ix3 b g 0) (ix2 b g) (fun a => by fin_cases a <;> rfl),
        broadcastInDim_apply _ _ _ (ix3 b 0 g') (ix2 b g') (fun a => by fin_cases a <;> rfl)] at this
    · right
      rw [broadcastInDim_apply _ _ _ (ix4 b g g' 0) (ix4 0 g g' 0) (fun a => by fin_cases a <;> rfl),
        broadcastInDim_apply _ _ _ (ix4 0 g g' 0) (ix2 g g') (fun a => by fin_cases a <;> rfl)] at h''
      exact numBits_at g g' h''

theorem rise_step (h : Host.reduce IntOp.andi (riseBits (val_main_v226 (F := Ideal) a6)) (constantI S_ 1 1#1) preFacts.reducesTo_S8x49_S_d0_1 h_S_
    (fun a => a.elim0) = 1#1) (b : Fin 8) (k : ℕ) (hk : k + 1 < 50) : (clsA a6 b ⟨k, by omega⟩).val ≤ (clsA a6 b ⟨k + 1, hk⟩).val := by
  have := bit_sle (Host.reduce_andi_all _ _ _ _ _ h (ix2 b ⟨k, by omega⟩))
  rw [extractStridedSlice_apply _ _ _ _ (ix2 b ⟨k, by omega⟩) (fun a => by fin_cases a <;> simp),
    extractStridedSlice_apply _ _ _ _ (ix2 b ⟨k + 1, hk⟩) (fun a => by fin_cases a <;> simp [Nat.add_comm]), v226_at, v226_at, clip_cls, clip_cls] at this
  exact_mod_cast this

theorem rise_all (a6 : IVec S8x50x1 32) (b : Fin 8) (s : ∀ k (hk : k + 1 < 50), (clsA a6 b ⟨k, by omega⟩).val ≤ (clsA a6 b ⟨k + 1, hk⟩).val)
    (g : Fin 50) : ∀ (d : ℕ) (hd : g.val + d < 50), (clsA a6 b g).val ≤ (clsA a6 b ⟨g.val + d, hd⟩).val
  | 0, _ => le_rfl
  | d + 1, hd => (rise_all a6 b s g d (by omega)).trans (s (g.val + d) hd)

theorem runs_of_pre (h : Cert.Pre_separated.fn (F := Ideal) a0 a1 a2 a3 a4 a5 a6 = fun _ => 1#1) : Runs a0 a1 a3 a4 a5 a6 := by
  have hs := sep_of_pre a0 a1 a2 a3 a4 a5 a6 h
  rw [pre_eq] at h
  have h := congrFun h (fun a => a.elim0)
  obtain ⟨h67, -⟩ := IntOp.andi_eq_one.1 h
  obtain ⟨h6', h7⟩ := IntOp.andi_eq_one.1 h67
  obtain ⟨-, h6⟩ := IntOp.andi_eq_one.1 h6'
  refine ⟨fun b g g' hg => ?_, fun b g g' n hne hc he => ?_⟩
  · have := rise_all a6 b (rise_step a6 h7 b) g (g'.val - g.val) (by omega)
    rwa [show (⟨g.val + (g'.val - g.val), by omega⟩ : Fin 50) = g' from Fin.ext (by show g.val + (g'.val - g.val) = g'.val; omega)] at this
  · have := classBits_at _ _ b g g' n (Host.reduce_andi_all _ _ _ _ _ h6 (ix4 b g g' n))
    rw [v240_at b g n hs, v240_at b g' n hs, v226_at, v226_at] at this
    rcases this with h' | h' | h' | h'
    · exact absurd he h'
    · exact h'
    · refine absurd (BitVec.eq_of_toInt_eq ?_) h'
      rw [clip_cls, clip_cls]
      exact congrArg (fun c : Fin 80 => (c.val : ℤ)) hc
    · exact absurd h' hne

theorem below_one (h : Cert.Pre_separated.fn (F := Ideal) a0 a1 a2 a3 a4 a5 a6 = fun _ => 1#1) (b : Fin 8) (n : Fin 8448) (c : Fin 80) :
    a0 (ix3 b n c) < 1 := by
  rw [pre_eq] at h
  have h := congrFun h (fun a => a.elim0)
  obtain ⟨-, h8⟩ := IntOp.andi_eq_one.1 h
  have := Host.reduce_andi_all _ _ _ _ _ h8 (ix3 b n c)
  exact bit_lt.1 ((congrArg (fun z => Ideal.cmp .olt _ z) ofBits_one.symm).trans this)

end Cert.Tal

end
-- ==== Proof.Tail.lean ====
/- The operations after the call: the sums over the images and the final combination, from what the call leaves. -/
module

public import proofs.«01_k».proof.Proof.Blocks3

@[expose] public section

set_option maxRecDepth 16384

noncomputable section

namespace Cert.Tal

open Cert.KernelIdeal Cert.KernelIdeal.Gen Idealize.ShloMosaic Idealize.ShloMosaic.TcCoe Idealize.SL.Sem

section Tail

variable {F : FTy → Type} [FloatOps F]

/-- The sum of what the images give. -/
def allSum (x : FVec F S8x1x1 .f32) : FVec F S_ .f32 :=
  Host.reduceAdd x (constant S_ .f32 0x00000000#32) reducesTo_S8x1x1_S_d0_1_2 h_S_

/-- A sum that is at least one. -/
def atLeastOne (x : FVec F S_ .f32) : FVec F S_ .f32 := maximumf x (constant S_ .f32 0x3F800000#32)

/-- The loss of the five sums, each weight applied before its division. -/
def mixK (b a g f d : FVec F S_ .f32) : FVec F S_ .f32 :=
  addf (addf (Host.divf b (atLeastOne a)) (Host.divf (mulf (constant S_ .f32 0x40200000#32) g) (atLeastOne f)))
    (Host.divf (mulf (constant S_ .f32 0x3F000000#32) d) (atLeastOne f))

/-- The loss of what the images give. -/
def combine (b a g f d : FVec F S8x1x1 .f32) : FVec F S_ .f32 := mixK (allSum b) (allSum a) (allSum g) (allSum f) (allSum d)

variable (m : (ℓ : Loc nD τ sig) → Buf (Elt F) ℓ)

theorem arr_inj : Function.Injective (Pipeline.arrRef spec0) :=
  (by decide +kernel : ∀ w w', Pipeline.arrRef spec0 w = Pipeline.arrRef spec0 w' → w = w')

/-- What the arrays hold when the call is over. -/
def exitV (c : Dev nD) := Pipeline.withArrays (cfgs 0).spec c (V0 m c) fun w => (dats m 0 c).arrAt w (cfgs 0).N

theorem exit_arr (c : Dev nD) (w : Fin 13) : exitV m c (Proc.devRef .tc (Pipeline.arrRef spec0 w)) = (dats m 0 c).arrAt w cfg0.N :=
  Pipeline.withArrays_arr spec0 arr_inj c (V0 m c) _ w

theorem exit_bce (c : Dev nD) : exitV m c (Proc.devRef .tc main_v17_0) = (dats m 0 c).arrAt 8 cfg0.N := exit_arr m c 8
theorem exit_asc (c : Dev nD) : exitV m c (Proc.devRef .tc main_v17_1) = (dats m 0 c).arrAt 9 cfg0.N := exit_arr m c 9
theorem exit_giou (c : Dev nD) : exitV m c (Proc.devRef .tc main_v17_2) = (dats m 0 c).arrAt 10 cfg0.N := exit_arr m c 10
theorem exit_fg (c : Dev nD) : exitV m c (Proc.devRef .tc main_v17_3) = (dats m 0 c).arrAt 11 cfg0.N := exit_arr m c 11
theorem exit_dfl (c : Dev nD) : exitV m c (Proc.devRef .tc main_v17_4) = (dats m 0 c).arrAt 12 cfg0.N := exit_arr m c 12

theorem tail_read (W : Valuation τ sig (Elt F)) : StableHlo.after hostOps1 W (Proc.devRef .tc main_v31)
    = combine (W (Proc.devRef .tc main_v17_0)) (W (Proc.devRef .tc main_v17_1)) (W (Proc.devRef .tc main_v17_2))
      (W (Proc.devRef .tc main_v17_3)) (W (Proc.devRef .tc main_v17_4)) := by
  after_results
  rfl

theorem tail_loss (c : Dev nD) : Pipeline.afterTail₀ cfgs (dats m) 0 (V0 m) [hostOps1] c main_v31
    = combine ((dats m 0 c).arrAt 8 cfg0.N) ((dats m 0 c).arrAt 9 cfg0.N) ((dats m 0 c).arrAt 10 cfg0.N)
      ((dats m 0 c).arrAt 11 cfg0.N) ((dats m 0 c).arrAt 12 cfg0.N) := by
  rw [← exit_bce m c, ← exit_asc m c, ← exit_giou m c, ← exit_fg m c, ← exit_dfl m c]
  show StableHlo.after (List.flatten [hostOps1]) (exitV m c) (Proc.devRef .tc main_v31) = _
  rw [List.flatten_cons, List.flatten_nil, List.append_nil]
  exact tail_read _

/-- Every run ends with the loss combined from the call's five results, and the arguments as they were. -/
theorem run_loss (ρ : Dev nD → PrngReg) : θ_run defs (onTc (τ := τ) (main (F := F))) ⟨m, fun _ => 0, ρ⟩ fun r => ∀ c : Dev nD,
      r.2.mem ((c : Thread nD τ).loc main_v31) = combine ((dats m 0 c).arrAt 8 cfg0.N) ((dats m 0 c).arrAt 9 cfg0.N)
        ((dats m 0 c).arrAt 10 cfg0.N) ((dats m 0 c).arrAt 11 cfg0.N) ((dats m 0 c).arrAt 12 cfg0.N) :=
  (θ_run defs _ _).mono (fun r h c =>
    ((h c).2 main_v31 (Pipeline.mem_restRefs_of main_v31 (by decide) (by decide))).trans (tail_loss m c)) (run_main m ρ)

end Tail

/-- The loss, from the arguments. -/
def lossA (a0 : Vec Ideal S8x8448x80 .f32) (a1 : Vec Ideal S8x8448x4 .f32) (a2 : Vec Ideal S8x8448x68 .f32) (a3 : Vec Ideal S8448x2 .f32)
    (a4 : Vec Ideal S8x50x4 .f32) (a5 : Vec Ideal S8x50x1 .f32) (a6 : IVec S8x50x1 32) : Vec Ideal S_ .f32 :=
  combine (F := Ideal) (bceA a0 a1 a3 a4 a5 a6) (ascA a0 a1 a3 a4 a5 a6) (giouA a0 a1 a3 a4 a5 a6) (fgA a0 a1 a3 a4 a5 a6) (dflA a0 a1 a2 a3 a4 a5 a6)

/-- A weight may be applied before a division or after it, when the divisor is at least one. -/
theorem mul_over (w x y : EReal) (h : 1 ≤ y) : Ideal.div (w * x) y = w * Ideal.div x y := by
  have h0 : y ≠ 0 := (lt_of_lt_of_le zero_lt_one h).ne'
  unfold Ideal.div
  rw [if_neg h0, if_neg h0, mul_assoc]

end Cert.Tal

end
-- ==== Proof.RefBce.lean ====
/- The classification loss of the reference is the kernel's. -/
module

public import proofs.«01_k».proof.Proof.RefAsc

@[expose] public section

set_option maxRecDepth 16384

noncomputable section

namespace Cert.Tal

open Cert.ReferenceIdeal Cert.ReferenceIdeal.Gen Cert.ReferenceIdeal.Read Idealize.ShloMosaic Idealize.ShloMosaic.TcCoe

section Maths

theorem sup_real {ι : Type} [Finite ι] [Nonempty ι] (f : ι → EReal) (h : ∀ i, ∃ r : ℝ, f i = r) : ∃ r : ℝ, ⨆ i, f i = r := by
  obtain ⟨i, hi⟩ := exists_eq_ciSup_of_finite (f := f)
  obtain ⟨r, hr⟩ := h i
  exact ⟨r, hi.symm.trans hr⟩

theorem max_real {u : EReal} (h : ∃ r : ℝ, u = r) : ∃ r : ℝ, max 0 u = r := by
  obtain ⟨r, rfl⟩ := h
  exact ⟨max 0 r, by rw [← EReal.coe_zero, coe_max]⟩

variable (M I : Fin 50 → Fin 8448 → EReal) (hM : ∀ g n, M g n < 2) (hI : ∀ g n, ∃ r : ℝ, I g n = r) (n : Fin 8448) (g : Fin 50)

include hM in
theorem keptF_real : ∃ r : ℝ, keptF M n g = r := by
  unfold keptF
  split
  · rename_i h
    have h1 := h.2
    have h2 := hM g n
    generalize M g n = u at h1 h2
    induction u with
    | bot => exact absurd h1 (by simp)
    | top => exact absurd h2 (by simp)
    | coe r => exact ⟨r, rfl⟩
  · exact ⟨0, EReal.coe_zero.symm⟩

include hI in
theorem keptI_real : ∃ r : ℝ, keptI M I n g = r := by
  unfold keptI
  split
  · exact hI g n
  · exact ⟨0, EReal.coe_zero.symm⟩

include hM hI in
theorem scaleF_real : ∃ r : ℝ, scaleF M I g = r := by
  obtain ⟨s, hs⟩ := max_real (sup_real (fun n => keptI M I n g) fun n => keptI_real M I hI n g)
  obtain ⟨k, hk⟩ := max_real (sup_real (fun n => keptF M n g) fun n => keptF_real M hM n g)
  obtain ⟨e, he, -, -⟩ := eps_real
  unfold scaleF
  rw [div_of_pos _ _ (base_pos M g), hs, hk, he, ← EReal.coe_add, ← EReal.coe_inv, ← EReal.coe_mul]
  exact ⟨_, rfl⟩

include hM hI in
theorem normF_real : ∃ r : ℝ, normF M I n g = r := by
  obtain ⟨s, hs⟩ := scaleF_real M I hM hI g
  obtain ⟨k, hk⟩ := keptF_real M hM n g
  unfold normF
  rw [hs, hk, ← EReal.coe_mul]
  exact ⟨_, rfl⟩

end Maths

variable {a0 : Vec Ideal S8x8448x80 .f32} {a1 : Vec Ideal S8x8448x4 .f32} {a3 : Vec Ideal S8448x2 .f32}
  {a4 : Vec Ideal S8x50x4 .f32} {a5 : Vec Ideal S8x50x1 .f32} {a6 : IVec S8x50x1 32} (b : Fin 8) (n : Fin 8448) (c : Fin 80)

theorem targA_real (h : Sep a0 a1 a3 a4 a5 a6) (v : Runs a0 a1 a3 a4 a5 a6) : ∃ r : ℝ, targA a0 a1 a3 a4 a5 a6 b n c = r ∧ 0 ≤ r := by
  have e : targA a0 a1 a3 a4 a5 a6 b n c = ⨆ g, if clsA a6 b g = c then normF (metA a0 a1 a3 a4 a5 a6 b) (iouA a1 a4 b) n g else 0 :=
    (v251_at b n c h v).symm.trans (v251_raw b n c h)
  obtain ⟨r, hr⟩ := sup_real (fun g => if clsA a6 b g = c then normF (metA a0 a1 a3 a4 a5 a6 b) (iouA a1 a4 b) n g else 0) fun g => by
    split
    · exact normF_real _ _ (h.lt2 b) (h.num b) n g
    · exact ⟨0, EReal.coe_zero.symm⟩
  refine ⟨r, e.trans hr, ?_⟩
  have h0 : (0 : EReal) ≤ r := by
    rw [← hr]
    refine le_trans ?_ (le_iSup (fun g => if clsA a6 b g = c then normF (metA a0 a1 a3 a4 a5 a6 b) (iouA a1 a4 b) n g else 0) 0)
    by_cases hc : clsA a6 b 0 = c
    · exact (normF_nonneg _ _ n 0).trans (le_of_eq (if_pos hc).symm)
    · exact le_of_eq (if_neg hc).symm
  exact_mod_cast h0

theorem v255_at : val_main_v255 (F := Ideal) a0 (ix3 b n c) = prob (a0 (ix3 b n c)) := by
  rw [val_main_v255_apply, val_main_call12_v4_apply, val_main_call12_v3_apply, val_main_call12_v2_apply, val_main_call12_v1_apply,
    val_main_call12_v0_apply]
  exact congrArg (fun z : EReal => min z (max eps (a0 (ix3 b n c)))) ofBits_one

theorem v258_at (t : EReal) (ht : val_main_v251 a0 a1 a3 a4 a5 a6 (ix3 b n c) = t) :
    val_main_v258 a0 a1 a3 a4 a5 a6 (ix3 b n c) = if 0 < t then (1 : EReal) else 0 := by
  rw [val_main_v258_apply]
  refine ind_u _ _ ?_
  rw [val_main_v257_apply, ht, val_main_v256_apply]
  refine (iff_of_eq (congrArg (fun z => Ideal.cmp .ogt t z = 1#1) (Ideal.ofBits_zero .f32))).trans bit_gt

theorem v277_at (t : EReal) (ht : val_main_v251 a0 a1 a3 a4 a5 a6 (ix3 b n c) = t) :
    val_main_v277 a0 a1 a3 a4 a5 a6 (ix3 b n c) = refLoss t (prob (a0 (ix3 b n c))) := by
  rw [val_main_v277_apply, val_main_v276_apply, val_main_v275_apply, val_main_v268_apply, val_main_v274_apply, val_main_v267_apply,
    val_main_v273_apply, val_main_v272_apply, val_main_v270_apply, val_main_v266_apply, val_main_v265_apply, val_main_v262_apply,
    val_main_v264_apply, val_main_v260_apply, v258_at b n c t ht, ht, v255_at, val_main_v259_apply, val_main_v261_apply, val_main_v263_apply,
    val_main_v269_apply, val_main_v271_apply]
  have key : ∀ (o o' o'' d : EReal) (p : EReal), o = 1 → o' = 1 → o'' = 1 → d = 2 →
      -(t * Ideal.log p + (o - t) * Ideal.log (o' - p)) * (Ideal.ofBits .f32 0x3F400000#32 * Ideal.pow p d * (o'' - if 0 < t then 1 else 0) + t)
      = refLoss t p := by
    rintro _ _ _ _ p rfl rfl rfl rfl
    rfl
  exact key _ _ _ _ _ ofBits_one ofBits_one ofBits_one ofBits_two

/-- The reference's classification loss is the kernel's. -/
theorem v278_at (r : Fin 80 → ℝ) (hr : ∀ c, val_main_v277 a0 a1 a3 a4 a5 a6 (ix3 b n c) = ((-r c : ℝ) : EReal)) :
    val_main_v278 a0 a1 a3 a4 a5 a6 (ix2 b n) = ((-∑ c, r c : ℝ) : EReal) := by
  rw [val_main_v278_apply]
  have e1 : (val_main_cst_50 (F := Ideal)) (Shape.Idx.first h_S_) = (0 : EReal) := Ideal.ofBits_zero .f32
  refine (congrArg₂ (· + ·) e1 rfl).trans ?_
  rw [zero_add, ← Finset.sum_neg_distrib, ← coe_sum]
  refine Finset.sum_congr rfl fun c _ => ?_
  rw [show idx_main_v278 (ix2 b n) c = ix3 b n c from ext3 rfl rfl rfl]
  exact hr c

theorem v279_sum (h : Sep a0 a1 a3 a4 a5 a6) (v : Runs a0 a1 a3 a4 a5 a6) (l : ∀ b n c, a0 (ix3 b n c) < 1) :
    ∑ n, val_main_v278 a0 a1 a3 a4 a5 a6 (ix2 b n) = bceS a0 a1 a3 a4 a5 a6 b := by
  have key : ∀ n c, ∃ r : ℝ, vari (targA a0 a1 a3 a4 a5 a6 b n c) (prob (a0 (ix3 b n c))) = r ∧
      val_main_v277 a0 a1 a3 a4 a5 a6 (ix3 b n c) = ((-r : ℝ) : EReal) := fun n c => by
    obtain ⟨t, ht, h0⟩ := targA_real b n c h v
    obtain ⟨p, hp, hp0, hp1⟩ := prob_real _ (l b n c)
    obtain ⟨r, h1, h2⟩ := loss_eq t p h0 hp0 hp1
    refine ⟨r, ?_, ?_⟩
    · rw [ht, hp, h1]
    · rw [v277_at b n c _ ((v251_at b n c h v).trans ht), hp, h2]
  choose r h1 h2 using key
  unfold bceS
  have e : (fun n => ∑ c : Fin 80, vari (targA a0 a1 a3 a4 a5 a6 b n c) (prob (a0 (ix3 b n c)))) = fun n => ((∑ c, r n c : ℝ) : EReal) :=
    funext fun n => (Finset.sum_congr rfl fun c _ => h1 n c).trans (coe_sum Finset.univ (r n))
  rw [e, offs_real]
  exact Finset.sum_congr rfl fun n _ => v278_at b n (r n) (h2 n)

theorem bce_ref (h : Sep a0 a1 a3 a4 a5 a6) (v : Runs a0 a1 a3 a4 a5 a6) (l : ∀ b n c, a0 (ix3 b n c) < 1) :
    val_main_v280 a0 a1 a3 a4 a5 a6 = bceA a0 a1 a3 a4 a5 a6 := by
  funext i
  rw [val_main_v280_apply, val_main_v279_apply]
  have e0 : (val_main_cst_51 (F := Ideal)) (Shape.Idx.first h_S_) = (0 : EReal) := Ideal.ofBits_zero .f32
  refine (congrArg₂ (· + ·) e0 rfl).trans ?_
  rw [zero_add]
  refine Eq.trans ?_ (v279_sum (i 0) h v l)
  refine Finset.sum_congr rfl fun n _ => congrArg _ ?_
  exact ext2 (by
    show (((i 0).val * 1 + (i 1).val) * 1 + (i 2).val) = _
    have h1 : (i 1).val < 1 := (i 1).isLt
    have h2 : (i 2).val < 1 := (i 2).isLt
    show _ = (i 0).val
    omega) rfl

end Cert.Tal

end
-- ==== Proof.RefLoss.lean ====
/- The loss of the reference is the kernel's. -/
module

public import proofs.«01_k».proof.Proof.Tail
public import proofs.«01_k».proof.Proof.RefBce

@[expose] public section

set_option maxRecDepth 16384

noncomputable section

namespace Cert.Tal

open Cert.ReferenceIdeal Cert.ReferenceIdeal.Gen Cert.ReferenceIdeal.Read Idealize.ShloMosaic Idealize.ShloMosaic.TcCoe

section Steps

variable {F : FTy → Type} [FloatOps F]

/-- The loss of the five sums, each weight applied after its division. -/
def mixR (b a g f d : FVec F S_ .f32) : FVec F S_ .f32 :=
  addf (addf (Host.divf b (atLeastOne a)) (mulf (constant S_ .f32 0x40200000#32) (Host.divf g (atLeastOne f))))
    (mulf (constant S_ .f32 0x3F000000#32) (Host.divf d (atLeastOne f)))

variable {a0 : Vec F S8x8448x80 .f32} {a1 : Vec F S8x8448x4 .f32} {a2 : Vec F S8x8448x68 .f32} {a3 : Vec F S8448x2 .f32}
  {a4 : Vec F S8x50x4 .f32} {a5 : Vec F S8x50x1 .f32} {a6 : IVec S8x50x1 32}

theorem sum_bce : val_main_v281 (F := F) a0 a1 a3 a4 a5 a6 = allSum (val_main_v280 (F := F) a0 a1 a3 a4 a5 a6) := by
  unfold val_main_v281
  generalize val_main_v280 (F := F) a0 a1 a3 a4 a5 a6 = x
  rfl

theorem sum_asc : val_main_v282 (F := F) a0 a1 a3 a4 a5 a6 = allSum (val_main_v254 (F := F) a0 a1 a3 a4 a5 a6) := by
  unfold val_main_v282
  generalize val_main_v254 (F := F) a0 a1 a3 a4 a5 a6 = x
  rfl

theorem sum_giou : val_main_v283 (F := F) a0 a1 a3 a4 a5 a6 = allSum (val_main_v219 (F := F) a0 a1 a3 a4 a5 a6) := by
  unfold val_main_v283
  generalize val_main_v219 (F := F) a0 a1 a3 a4 a5 a6 = x
  rfl

theorem sum_fg : val_main_v284 (F := F) a0 a1 a3 a4 a5 a6 = allSum (val_main_v221 (F := F) a0 a1 a3 a4 a5 a6) := by
  unfold val_main_v284
  generalize val_main_v221 (F := F) a0 a1 a3 a4 a5 a6 = x
  rfl

theorem sum_dfl : val_main_v285 (F := F) a0 a1 a2 a3 a4 a5 a6 = allSum (val_main_v224 (F := F) a0 a1 a2 a3 a4 a5 a6) := by
  unfold val_main_v285
  generalize val_main_v224 (F := F) a0 a1 a2 a3 a4 a5 a6 = x
  rfl

theorem loss_mix : val_main_v294 (F := F) a0 a1 a2 a3 a4 a5 a6 = mixR (val_main_v281 (F := F) a0 a1 a3 a4 a5 a6)
    (val_main_v282 (F := F) a0 a1 a3 a4 a5 a6) (val_main_v283 (F := F) a0 a1 a3 a4 a5 a6) (val_main_v284 (F := F) a0 a1 a3 a4 a5 a6)
    (val_main_v285 (F := F) a0 a1 a2 a3 a4 a5 a6) := by
  unfold val_main_v294 val_main_v291 val_main_v293 val_main_v288 val_main_v290 val_main_v289 val_main_v292 val_main_v286 val_main_v287
  generalize val_main_v281 (F := F) a0 a1 a3 a4 a5 a6 = b
  generalize val_main_v282 (F := F) a0 a1 a3 a4 a5 a6 = a
  generalize val_main_v283 (F := F) a0 a1 a3 a4 a5 a6 = g
  generalize val_main_v284 (F := F) a0 a1 a3 a4 a5 a6 = f
  generalize val_main_v285 (F := F) a0 a1 a2 a3 a4 a5 a6 = d
  rfl

end Steps

/-- The weights of the loss's two last terms may be applied before the division or after it. -/
theorem mix_eq (b a g f d : FVec Ideal S_ .f32) : mixR (F := Ideal) b a g f d = mixK (F := Ideal) b a g f d := by
  funext i
  have h : (1 : EReal) ≤ atLeastOne (F := Ideal) f i := by
    show (1 : EReal) ≤ max _ (Ideal.ofBits .f32 0x3F800000#32)
    rw [ofBits_one]
    exact le_max_right _ _
  unfold mixR mixK
  generalize atLeastOne (F := Ideal) f = y at h
  generalize atLeastOne (F := Ideal) a = x
  exact congrArg₂ (fun p q : EReal => Ideal.div (b i) (x i) + p + q) (mul_over _ (g i) (y i) h).symm (mul_over _ (d i) (y i) h).symm

variable {a0 : Vec Ideal S8x8448x80 .f32} {a1 : Vec Ideal S8x8448x4 .f32} {a2 : Vec Ideal S8x8448x68 .f32} {a3 : Vec Ideal S8448x2 .f32}
  {a4 : Vec Ideal S8x50x4 .f32} {a5 : Vec Ideal S8x50x1 .f32} {a6 : IVec S8x50x1 32}

theorem loss_ref (h : Sep a0 a1 a3 a4 a5 a6) (u : OneBest a0 a1 a3 a4 a5 a6) (w : ∀ b n s k, ∃ r : ℝ, distA a2 b n s k = r)
    (v : Runs a0 a1 a3 a4 a5 a6) (l : ∀ b n c, a0 (ix3 b n c) < 1) :
    val_main_v294 (F := Ideal) a0 a1 a2 a3 a4 a5 a6 = lossA a0 a1 a2 a3 a4 a5 a6 := by
  rw [loss_mix, sum_bce, sum_asc, sum_giou, sum_fg, sum_dfl, bce_ref h v l, asc_ref h v, giou_ref h u, fg_ref h, dfl_ref h u w, mix_eq]
  unfold lossA combine
  generalize bceA a0 a1 a3 a4 a5 a6 = p
  generalize ascA a0 a1 a3 a4 a5 a6 = q
  generalize giouA a0 a1 a3 a4 a5 a6 = r
  generalize fgA a0 a1 a3 a4 a5 a6 = s
  generalize dflA a0 a1 a2 a3 a4 a5 a6 = t
  rfl

end Cert.Tal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.PreSep
public import proofs.«01_k».proof.Proof.RefLoss
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and no counter raised, from any memory. -/
theorem refFrame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run _ _ _).mono (fun r h => ⟨fun c => (h c).2, sem_eq_zero_of_no_sems (by decide) r.2⟩)
    (Cert.ReferenceIdeal.Value.run m ρ)

theorem value : letI := Cert.Tal.preFacts; Cert.algebraic_KernelIdeal_ReferenceIdeal_pre_separated := by
  intro m ρ m' ρ' hp hargs
  refine ⟨fun c => Cert.Tal.lossA (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6)), ?_, ?_⟩
  · refine (θ_run _ _ _).mono (fun r h c => ⟨((h.1 c).trans ?_), h.2 c⟩)
      (θ_run_and (Cert.Tal.run_loss m ρ) (Cert.KernelIdeal.Gen.unchanged m ρ))
    rw [Cert.Tal.final_bce m c, Cert.Tal.final_asc m c, Cert.Tal.final_giou m c, Cert.Tal.final_fg m c, Cert.Tal.final_dfl m c]
    rfl
  · refine (θ_run _ _ _).mono (fun r h c => ?_) (Cert.ReferenceIdeal.Value.run m' ρ')
    obtain ⟨h0, hk⟩ := h c
    obtain ⟨e0, e1, e2, e3, e4, e5, e6⟩ := hargs c
    have hs := Cert.Tal.sep_of_pre _ _ _ _ _ _ _ (hp c)
    have hu := Cert.Tal.one_of_pre _ _ _ _ _ _ _ (hp c)
    have hf := Cert.Tal.fin_of_pre _ _ _ _ _ _ _ (hp c)
    have hv := Cert.Tal.runs_of_pre _ _ _ _ _ _ _ (hp c)
    have hl := Cert.Tal.below_one _ _ _ _ _ _ _ (hp c)
    refine ⟨h0.trans ?_, hk⟩
    refine (Cert.ReferenceIdeal.Read.val_main_v294_eq _).trans ?_
    show Cert.ReferenceIdeal.Read.val_main_v294 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = _
    rw [e0, e1, e2, e3, e4, e5, e6]
    exact Cert.Tal.loss_ref hs hu hf hv hl

theorem claim : Cert.Claim := ⟨Cert.Kernel.Gen.facts, Cert.KernelIdeal.Gen.facts, Cert.ReferenceIdeal.Gen.facts, Cert.Tal.preFacts,
  fun m ρ _ => Cert.Kernel.Gen.frame m ρ, fun m ρ _ => Cert.KernelIdeal.Gen.frame m ρ, fun m ρ _ => Cert.KernelIdeal.Gen.frame m ρ,
  fun m ρ _ => refFrame m ρ, fun m ρ _ => refFrame m ρ, trivial, value⟩

end Cert.Proof

end
